-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_MlpNorm (m : (ℓ : Loc Cert.MlpNorm.nD Cert.MlpNorm.τ Cert.MlpNorm.sig) → Buf (Elt Bits) ℓ) : Prop :=
  True

def Pre_MlpNormIdeal (m : (ℓ : Loc Cert.MlpNormIdeal.nD Cert.MlpNormIdeal.τ Cert.MlpNormIdeal.sig) → Buf (Elt Ideal) ℓ) : Prop :=
  True

def Pre_MlpNormRefIdeal (m : (ℓ : Loc Cert.MlpNormRefIdeal.nD Cert.MlpNormRefIdeal.τ Cert.MlpNormRefIdeal.sig) → Buf (Elt Ideal) ℓ) : Prop :=
  True

def Pre_Cq (m : (ℓ : Loc Cert.Cq.nD Cert.Cq.τ Cert.Cq.sig) → Buf (Elt Bits) ℓ) : Prop :=
  True

def Pre_CqIdeal (m : (ℓ : Loc Cert.CqIdeal.nD Cert.CqIdeal.τ Cert.CqIdeal.sig) → Buf (Elt Ideal) ℓ) : Prop :=
  True

def Pre_CqRefIdeal (m : (ℓ : Loc Cert.CqRefIdeal.nD Cert.CqRefIdeal.τ Cert.CqRefIdeal.sig) → Buf (Elt Ideal) ℓ) : Prop :=
  True

def Pre_Ckv (m : (ℓ : Loc Cert.Ckv.nD Cert.Ckv.τ Cert.Ckv.sig) → Buf (Elt Bits) ℓ) : Prop :=
  True

def Pre_CkvIdeal (m : (ℓ : Loc Cert.CkvIdeal.nD Cert.CkvIdeal.τ Cert.CkvIdeal.sig) → Buf (Elt Ideal) ℓ) : Prop :=
  True

def Pre_CkvRefIdeal (m : (ℓ : Loc Cert.CkvRefIdeal.nD Cert.CkvRefIdeal.τ Cert.CkvRefIdeal.sig) → Buf (Elt Ideal) ℓ) : Prop :=
  True

def Pre_Co (m : (ℓ : Loc Cert.Co.nD Cert.Co.τ Cert.Co.sig) → Buf (Elt Bits) ℓ) : Prop :=
  True

def Pre_CoIdeal (m : (ℓ : Loc Cert.CoIdeal.nD Cert.CoIdeal.τ Cert.CoIdeal.sig) → Buf (Elt Ideal) ℓ) : Prop :=
  True

def Pre_CoRefIdeal (m : (ℓ : Loc Cert.CoRefIdeal.nD Cert.CoRefIdeal.τ Cert.CoRefIdeal.sig) → Buf (Elt Ideal) ℓ) : Prop :=
  True

def Pre_CoDx (m : (ℓ : Loc Cert.CoDx.nD Cert.CoDx.τ Cert.CoDx.sig) → Buf (Elt Bits) ℓ) : Prop :=
  True

def Pre_CoDxIdeal (m : (ℓ : Loc Cert.CoDxIdeal.nD Cert.CoDxIdeal.τ Cert.CoDxIdeal.sig) → Buf (Elt Ideal) ℓ) : Prop :=
  True

def Pre_CoDxRefIdeal (m : (ℓ : Loc Cert.CoDxRefIdeal.nD Cert.CoDxRefIdeal.τ Cert.CoDxRefIdeal.sig) → Buf (Elt Ideal) ℓ) : Prop :=
  True

def Pre_CoDw (m : (ℓ : Loc Cert.CoDw.nD Cert.CoDw.τ Cert.CoDw.sig) → Buf (Elt Bits) ℓ) : Prop :=
  True

def Pre_CoDwIdeal (m : (ℓ : Loc Cert.CoDwIdeal.nD Cert.CoDwIdeal.τ Cert.CoDwIdeal.sig) → Buf (Elt Ideal) ℓ) : Prop :=
  True

def Pre_CoDwRefIdeal (m : (ℓ : Loc Cert.CoDwRefIdeal.nD Cert.CoDwRefIdeal.τ Cert.CoDwRefIdeal.sig) → Buf (Elt Ideal) ℓ) : Prop :=
  True

def Pre_CqDw (m : (ℓ : Loc Cert.CqDw.nD Cert.CqDw.τ Cert.CqDw.sig) → Buf (Elt Bits) ℓ) : Prop :=
  True

def Pre_CqDwIdeal (m : (ℓ : Loc Cert.CqDwIdeal.nD Cert.CqDwIdeal.τ Cert.CqDwIdeal.sig) → Buf (Elt Ideal) ℓ) : Prop :=
  True

def Pre_CqDwRefIdeal (m : (ℓ : Loc Cert.CqDwRefIdeal.nD Cert.CqDwRefIdeal.τ Cert.CqDwRefIdeal.sig) → Buf (Elt Ideal) ℓ) : Prop :=
  True

def Pre_CqDx (m : (ℓ : Loc Cert.CqDx.nD Cert.CqDx.τ Cert.CqDx.sig) → Buf (Elt Bits) ℓ) : Prop :=
  True

def Pre_CqDxIdeal (m : (ℓ : Loc Cert.CqDxIdeal.nD Cert.CqDxIdeal.τ Cert.CqDxIdeal.sig) → Buf (Elt Ideal) ℓ) : Prop :=
  True

def Pre_CqDxRefIdeal (m : (ℓ : Loc Cert.CqDxRefIdeal.nD Cert.CqDxRefIdeal.τ Cert.CqDxRefIdeal.sig) → Buf (Elt Ideal) ℓ) : Prop :=
  True

def Pre_CkvDw (m : (ℓ : Loc Cert.CkvDw.nD Cert.CkvDw.τ Cert.CkvDw.sig) → Buf (Elt Bits) ℓ) : Prop :=
  True

def Pre_CkvDwIdeal (m : (ℓ : Loc Cert.CkvDwIdeal.nD Cert.CkvDwIdeal.τ Cert.CkvDwIdeal.sig) → Buf (Elt Ideal) ℓ) : Prop :=
  True

def Pre_CkvDwRefIdeal (m : (ℓ : Loc Cert.CkvDwRefIdeal.nD Cert.CkvDwRefIdeal.τ Cert.CkvDwRefIdeal.sig) → Buf (Elt Ideal) ℓ) : Prop :=
  True

def Pre_CkvDx (m : (ℓ : Loc Cert.CkvDx.nD Cert.CkvDx.τ Cert.CkvDx.sig) → Buf (Elt Bits) ℓ) : Prop :=
  True

def Pre_CkvDxIdeal (m : (ℓ : Loc Cert.CkvDxIdeal.nD Cert.CkvDxIdeal.τ Cert.CkvDxIdeal.sig) → Buf (Elt Ideal) ℓ) : Prop :=
  True

def Pre_CkvDxRefIdeal (m : (ℓ : Loc Cert.CkvDxRefIdeal.nD Cert.CkvDxRefIdeal.τ Cert.CkvDxRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MemNormBwd (m : (ℓ : Loc Cert.MemNormBwd.nD Cert.MemNormBwd.τ Cert.MemNormBwd.sig) → Buf (Elt Bits) ℓ) : Prop :=
  True

def Pre_MemNormBwdIdeal (m : (ℓ : Loc Cert.MemNormBwdIdeal.nD Cert.MemNormBwdIdeal.τ Cert.MemNormBwdIdeal.sig) → Buf (Elt Ideal) ℓ) : Prop :=
  True

def Pre_MemNormBwdRefIdeal (m : (ℓ : Loc Cert.MemNormBwdRefIdeal.nD Cert.MemNormBwdRefIdeal.τ Cert.MemNormBwdRefIdeal.sig) → Buf (Elt Ideal) ℓ) : Prop :=
  True

def Pre_CrossFwd (m : (ℓ : Loc Cert.CrossFwd.nD Cert.CrossFwd.τ Cert.CrossFwd.sig) → Buf (Elt Bits) ℓ) : Prop :=
  True

def Pre_CrossFwdIdeal (m : (ℓ : Loc Cert.CrossFwdIdeal.nD Cert.CrossFwdIdeal.τ Cert.CrossFwdIdeal.sig) → Buf (Elt Ideal) ℓ) : Prop :=
  True

def Pre_CrossFwdRefIdeal (m : (ℓ : Loc Cert.CrossFwdRefIdeal.nD Cert.CrossFwdRefIdeal.τ Cert.CrossFwdRefIdeal.sig) → Buf (Elt Ideal) ℓ) : Prop :=
  True

def Pre_KeyNorm (m : (ℓ : Loc Cert.KeyNorm.nD Cert.KeyNorm.τ Cert.KeyNorm.sig) → Buf (Elt Bits) ℓ) : Prop :=
  True

def Pre_KeyNormIdeal (m : (ℓ : Loc Cert.KeyNormIdeal.nD Cert.KeyNormIdeal.τ Cert.KeyNormIdeal.sig) → Buf (Elt Ideal) ℓ) : Prop :=
  True

def Pre_KeyNormRefIdeal (m : (ℓ : Loc Cert.KeyNormRefIdeal.nD Cert.KeyNormRefIdeal.τ Cert.KeyNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_MlpNorm [hMlpNorm : Cert.MlpNorm.Facts] : Prop :=
  ∀ (m : (ℓ : Loc Cert.MlpNorm.nD Cert.MlpNorm.τ Cert.MlpNorm.sig) → Buf (Elt Bits) ℓ) (g : Dev Cert.MlpNorm.nD → PrngReg), Pre_MlpNorm m →
    θ_run (Cert.MlpNorm.defs (F := Bits)) (onTc (τ := Cert.MlpNorm.τ) (Cert.MlpNorm.main (F := Bits))) ⟨m, fun _ => 0, g⟩ (fun r => (∀ c : Dev Cert.MlpNorm.nD,
      r.2.mem ((c.tc : Thread Cert.MlpNorm.nD Cert.MlpNorm.τ).loc Cert.MlpNorm.main_arg0) = m ((c.tc : Thread Cert.MlpNorm.nD Cert.MlpNorm.τ).loc Cert.MlpNorm.main_arg0)
      ∧ r.2.mem ((c.tc : Thread Cert.MlpNorm.nD Cert.MlpNorm.τ).loc Cert.MlpNorm.main_arg1) = m ((c.tc : Thread Cert.MlpNorm.nD Cert.MlpNorm.τ).loc Cert.MlpNorm.main_arg1)
      ∧ r.2.mem ((c.tc : Thread Cert.MlpNorm.nD Cert.MlpNorm.τ).loc Cert.MlpNorm.main_arg2) = m ((c.tc : Thread Cert.MlpNorm.nD Cert.MlpNorm.τ).loc Cert.MlpNorm.main_arg2)
      ∧ r.2.mem ((c.tc : Thread Cert.MlpNorm.nD Cert.MlpNorm.τ).loc Cert.MlpNorm.main_arg3) = m ((c.tc : Thread Cert.MlpNorm.nD Cert.MlpNorm.τ).loc Cert.MlpNorm.main_arg3))
      ∧ r.2.sem = fun _ => 0)

def quiescent_MlpNormIdeal [hMlpNormIdeal : Cert.MlpNormIdeal.Facts] : Prop :=
  ∀ (m : (ℓ : Loc Cert.MlpNormIdeal.nD Cert.MlpNormIdeal.τ Cert.MlpNormIdeal.sig) → Buf (Elt Ideal) ℓ) (g : Dev Cert.MlpNormIdeal.nD → PrngReg), Pre_MlpNormIdeal m →
    θ_run (Cert.MlpNormIdeal.defs (F := Ideal)) (onTc (τ := Cert.MlpNormIdeal.τ) (Cert.MlpNormIdeal.main (F := Ideal))) ⟨m, fun _ => 0, g⟩ (fun r => (∀ c : Dev Cert.MlpNormIdeal.nD,
      r.2.mem ((c.tc : Thread Cert.MlpNormIdeal.nD Cert.MlpNormIdeal.τ).loc Cert.MlpNormIdeal.main_arg0) = m ((c.tc : Thread Cert.MlpNormIdeal.nD Cert.MlpNormIdeal.τ).loc Cert.MlpNormIdeal.main_arg0)
      ∧ r.2.mem ((c.tc : Thread Cert.MlpNormIdeal.nD Cert.MlpNormIdeal.τ).loc Cert.MlpNormIdeal.main_arg1) = m ((c.tc : Thread Cert.MlpNormIdeal.nD Cert.MlpNormIdeal.τ).loc Cert.MlpNormIdeal.main_arg1)
      ∧ r.2.mem ((c.tc : Thread Cert.MlpNormIdeal.nD Cert.MlpNormIdeal.τ).loc Cert.MlpNormIdeal.main_arg2) = m ((c.tc : Thread Cert.MlpNormIdeal.nD Cert.MlpNormIdeal.τ).loc Cert.MlpNormIdeal.main_arg2)
      ∧ r.2.mem ((c.tc : Thread Cert.MlpNormIdeal.nD Cert.MlpNormIdeal.τ).loc Cert.MlpNormIdeal.main_arg3) = m ((c.tc : Thread Cert.MlpNormIdeal.nD Cert.MlpNormIdeal.τ).loc Cert.MlpNormIdeal.main_arg3))
      ∧ r.2.sem = fun _ => 0)

def quiescent_MlpNormRefIdeal [hMlpNormRefIdeal : Cert.MlpNormRefIdeal.Facts] : Prop :=
  ∀ (m : (ℓ : Loc Cert.MlpNormRefIdeal.nD Cert.MlpNormRefIdeal.τ Cert.MlpNormRefIdeal.sig) → Buf (Elt Ideal) ℓ) (g : Dev Cert.MlpNormRefIdeal.nD → PrngReg), Pre_MlpNormRefIdeal m →
    θ_run (Cert.MlpNormRefIdeal.defs (F := Ideal)) (onTc (τ := Cert.MlpNormRefIdeal.τ) (Cert.MlpNormRefIdeal.main (F := Ideal))) ⟨m, fun _ => 0, g⟩ (fun r => (∀ c : Dev Cert.MlpNormRefIdeal.nD,
      r.2.mem ((c.tc : Thread Cert.MlpNormRefIdeal.nD Cert.MlpNormRefIdeal.τ).loc Cert.MlpNormRefIdeal.main_arg0) = m ((c.tc : Thread Cert.MlpNormRefIdeal.nD Cert.MlpNormRefIdeal.τ).loc Cert.MlpNormRefIdeal.main_arg0)
      ∧ r.2.mem ((c.tc : Thread Cert.MlpNormRefIdeal.nD Cert.MlpNormRefIdeal.τ).loc Cert.MlpNormRefIdeal.main_arg1) = m ((c.tc : Thread Cert.MlpNormRefIdeal.nD Cert.MlpNormRefIdeal.τ).loc Cert.MlpNormRefIdeal.main_arg1)
      ∧ r.2.mem ((c.tc : Thread Cert.MlpNormRefIdeal.nD Cert.MlpNormRefIdeal.τ).loc Cert.MlpNormRefIdeal.main_arg2) = m ((c.tc : Thread Cert.MlpNormRefIdeal.nD Cert.MlpNormRefIdeal.τ).loc Cert.MlpNormRefIdeal.main_arg2)
      ∧ r.2.mem ((c.tc : Thread Cert.MlpNormRefIdeal.nD Cert.MlpNormRefIdeal.τ).loc Cert.MlpNormRefIdeal.main_arg3) = m ((c.tc : Thread Cert.MlpNormRefIdeal.nD Cert.MlpNormRefIdeal.τ).loc Cert.MlpNormRefIdeal.main_arg3))
      ∧ r.2.sem = fun _ => 0)

def quiescent_Cq [hCq : Cert.Cq.Facts] : Prop :=
  ∀ (m : (ℓ : Loc Cert.Cq.nD Cert.Cq.τ Cert.Cq.sig) → Buf (Elt Bits) ℓ) (g : Dev Cert.Cq.nD → PrngReg), Pre_Cq m →
    θ_run (Cert.Cq.defs (F := Bits)) (onTc (τ := Cert.Cq.τ) (Cert.Cq.main (F := Bits))) ⟨m, fun _ => 0, g⟩ (fun r => (∀ c : Dev Cert.Cq.nD,
      r.2.mem ((c.tc : Thread Cert.Cq.nD Cert.Cq.τ).loc Cert.Cq.main_arg0) = m ((c.tc : Thread Cert.Cq.nD Cert.Cq.τ).loc Cert.Cq.main_arg0)
      ∧ r.2.mem ((c.tc : Thread Cert.Cq.nD Cert.Cq.τ).loc Cert.Cq.main_arg1) = m ((c.tc : Thread Cert.Cq.nD Cert.Cq.τ).loc Cert.Cq.main_arg1))
      ∧ r.2.sem = fun _ => 0)

def quiescent_CqIdeal [hCqIdeal : Cert.CqIdeal.Facts] : Prop :=
  ∀ (m : (ℓ : Loc Cert.CqIdeal.nD Cert.CqIdeal.τ Cert.CqIdeal.sig) → Buf (Elt Ideal) ℓ) (g : Dev Cert.CqIdeal.nD → PrngReg), Pre_CqIdeal m →
    θ_run (Cert.CqIdeal.defs (F := Ideal)) (onTc (τ := Cert.CqIdeal.τ) (Cert.CqIdeal.main (F := Ideal))) ⟨m, fun _ => 0, g⟩ (fun r => (∀ c : Dev Cert.CqIdeal.nD,
      r.2.mem ((c.tc : Thread Cert.CqIdeal.nD Cert.CqIdeal.τ).loc Cert.CqIdeal.main_arg0) = m ((c.tc : Thread Cert.CqIdeal.nD Cert.CqIdeal.τ).loc Cert.CqIdeal.main_arg0)
      ∧ r.2.mem ((c.tc : Thread Cert.CqIdeal.nD Cert.CqIdeal.τ).loc Cert.CqIdeal.main_arg1) = m ((c.tc : Thread Cert.CqIdeal.nD Cert.CqIdeal.τ).loc Cert.CqIdeal.main_arg1))
      ∧ r.2.sem = fun _ => 0)

def quiescent_CqRefIdeal [hCqRefIdeal : Cert.CqRefIdeal.Facts] : Prop :=
  ∀ (m : (ℓ : Loc Cert.CqRefIdeal.nD Cert.CqRefIdeal.τ Cert.CqRefIdeal.sig) → Buf (Elt Ideal) ℓ) (g : Dev Cert.CqRefIdeal.nD → PrngReg), Pre_CqRefIdeal m →
    θ_run (Cert.CqRefIdeal.defs (F := Ideal)) (onTc (τ := Cert.CqRefIdeal.τ) (Cert.CqRefIdeal.main (F := Ideal))) ⟨m, fun _ => 0, g⟩ (fun r => (∀ c : Dev Cert.CqRefIdeal.nD,
      r.2.mem ((c.tc : Thread Cert.CqRefIdeal.nD Cert.CqRefIdeal.τ).loc Cert.CqRefIdeal.main_arg0) = m ((c.tc : Thread Cert.CqRefIdeal.nD Cert.CqRefIdeal.τ).loc Cert.CqRefIdeal.main_arg0)
      ∧ r.2.mem ((c.tc : Thread Cert.CqRefIdeal.nD Cert.CqRefIdeal.τ).loc Cert.CqRefIdeal.main_arg1) = m ((c.tc : Thread Cert.CqRefIdeal.nD Cert.CqRefIdeal.τ).loc Cert.CqRefIdeal.main_arg1))
      ∧ r.2.sem = fun _ => 0)

def quiescent_Ckv [hCkv : Cert.Ckv.Facts] : Prop :=
  ∀ (m : (ℓ : Loc Cert.Ckv.nD Cert.Ckv.τ Cert.Ckv.sig) → Buf (Elt Bits) ℓ) (g : Dev Cert.Ckv.nD → PrngReg), Pre_Ckv m →
    θ_run (Cert.Ckv.defs (F := Bits)) (onTc (τ := Cert.Ckv.τ) (Cert.Ckv.main (F := Bits))) ⟨m, fun _ => 0, g⟩ (fun r => (∀ c : Dev Cert.Ckv.nD,
      r.2.mem ((c.tc : Thread Cert.Ckv.nD Cert.Ckv.τ).loc Cert.Ckv.main_arg0) = m ((c.tc : Thread Cert.Ckv.nD Cert.Ckv.τ).loc Cert.Ckv.main_arg0)
      ∧ r.2.mem ((c.tc : Thread Cert.Ckv.nD Cert.Ckv.τ).loc Cert.Ckv.main_arg1) = m ((c.tc : Thread Cert.Ckv.nD Cert.Ckv.τ).loc Cert.Ckv.main_arg1))
      ∧ r.2.sem = fun _ => 0)

def quiescent_CkvIdeal [hCkvIdeal : Cert.CkvIdeal.Facts] : Prop :=
  ∀ (m : (ℓ : Loc Cert.CkvIdeal.nD Cert.CkvIdeal.τ Cert.CkvIdeal.sig) → Buf (Elt Ideal) ℓ) (g : Dev Cert.CkvIdeal.nD → PrngReg), Pre_CkvIdeal m →
    θ_run (Cert.CkvIdeal.defs (F := Ideal)) (onTc (τ := Cert.CkvIdeal.τ) (Cert.CkvIdeal.main (F := Ideal))) ⟨m, fun _ => 0, g⟩ (fun r => (∀ c : Dev Cert.CkvIdeal.nD,
      r.2.mem ((c.tc : Thread Cert.CkvIdeal.nD Cert.CkvIdeal.τ).loc Cert.CkvIdeal.main_arg0) = m ((c.tc : Thread Cert.CkvIdeal.nD Cert.CkvIdeal.τ).loc Cert.CkvIdeal.main_arg0)
      ∧ r.2.mem ((c.tc : Thread Cert.CkvIdeal.nD Cert.CkvIdeal.τ).loc Cert.CkvIdeal.main_arg1) = m ((c.tc : Thread Cert.CkvIdeal.nD Cert.CkvIdeal.τ).loc Cert.CkvIdeal.main_arg1))
      ∧ r.2.sem = fun _ => 0)

def quiescent_CkvRefIdeal [hCkvRefIdeal : Cert.CkvRefIdeal.Facts] : Prop :=
  ∀ (m : (ℓ : Loc Cert.CkvRefIdeal.nD Cert.CkvRefIdeal.τ Cert.CkvRefIdeal.sig) → Buf (Elt Ideal) ℓ) (g : Dev Cert.CkvRefIdeal.nD → PrngReg), Pre_CkvRefIdeal m →
    θ_run (Cert.CkvRefIdeal.defs (F := Ideal)) (onTc (τ := Cert.CkvRefIdeal.τ) (Cert.CkvRefIdeal.main (F := Ideal))) ⟨m, fun _ => 0, g⟩ (fun r => (∀ c : Dev Cert.CkvRefIdeal.nD,
      r.2.mem ((c.tc : Thread Cert.CkvRefIdeal.nD Cert.CkvRefIdeal.τ).loc Cert.CkvRefIdeal.main_arg0) = m ((c.tc : Thread Cert.CkvRefIdeal.nD Cert.CkvRefIdeal.τ).loc Cert.CkvRefIdeal.main_arg0)
      ∧ r.2.mem ((c.tc : Thread Cert.CkvRefIdeal.nD Cert.CkvRefIdeal.τ).loc Cert.CkvRefIdeal.main_arg1) = m ((c.tc : Thread Cert.CkvRefIdeal.nD Cert.CkvRefIdeal.τ).loc Cert.CkvRefIdeal.main_arg1))
      ∧ r.2.sem = fun _ => 0)

def quiescent_Co [hCo : Cert.Co.Facts] : Prop :=
  ∀ (m : (ℓ : Loc Cert.Co.nD Cert.Co.τ Cert.Co.sig) → Buf (Elt Bits) ℓ) (g : Dev Cert.Co.nD → PrngReg), Pre_Co m →
    θ_run (Cert.Co.defs (F := Bits)) (onTc (τ := Cert.Co.τ) (Cert.Co.main (F := Bits))) ⟨m, fun _ => 0, g⟩ (fun r => (∀ c : Dev Cert.Co.nD,
      r.2.mem ((c.tc : Thread Cert.Co.nD Cert.Co.τ).loc Cert.Co.main_arg0) = m ((c.tc : Thread Cert.Co.nD Cert.Co.τ).loc Cert.Co.main_arg0)
      ∧ r.2.mem ((c.tc : Thread Cert.Co.nD Cert.Co.τ).loc Cert.Co.main_arg1) = m ((c.tc : Thread Cert.Co.nD Cert.Co.τ).loc Cert.Co.main_arg1)
      ∧ r.2.mem ((c.tc : Thread Cert.Co.nD Cert.Co.τ).loc Cert.Co.main_arg2) = m ((c.tc : Thread Cert.Co.nD Cert.Co.τ).loc Cert.Co.main_arg2))
      ∧ r.2.sem = fun _ => 0)

def quiescent_CoIdeal [hCoIdeal : Cert.CoIdeal.Facts] : Prop :=
  ∀ (m : (ℓ : Loc Cert.CoIdeal.nD Cert.CoIdeal.τ Cert.CoIdeal.sig) → Buf (Elt Ideal) ℓ) (g : Dev Cert.CoIdeal.nD → PrngReg), Pre_CoIdeal m →
    θ_run (Cert.CoIdeal.defs (F := Ideal)) (onTc (τ := Cert.CoIdeal.τ) (Cert.CoIdeal.main (F := Ideal))) ⟨m, fun _ => 0, g⟩ (fun r => (∀ c : Dev Cert.CoIdeal.nD,
      r.2.mem ((c.tc : Thread Cert.CoIdeal.nD Cert.CoIdeal.τ).loc Cert.CoIdeal.main_arg0) = m ((c.tc : Thread Cert.CoIdeal.nD Cert.CoIdeal.τ).loc Cert.CoIdeal.main_arg0)
      ∧ r.2.mem ((c.tc : Thread Cert.CoIdeal.nD Cert.CoIdeal.τ).loc Cert.CoIdeal.main_arg1) = m ((c.tc : Thread Cert.CoIdeal.nD Cert.CoIdeal.τ).loc Cert.CoIdeal.main_arg1)
      ∧ r.2.mem ((c.tc : Thread Cert.CoIdeal.nD Cert.CoIdeal.τ).loc Cert.CoIdeal.main_arg2) = m ((c.tc : Thread Cert.CoIdeal.nD Cert.CoIdeal.τ).loc Cert.CoIdeal.main_arg2))
      ∧ r.2.sem = fun _ => 0)

def quiescent_CoRefIdeal [hCoRefIdeal : Cert.CoRefIdeal.Facts] : Prop :=
  ∀ (m : (ℓ : Loc Cert.CoRefIdeal.nD Cert.CoRefIdeal.τ Cert.CoRefIdeal.sig) → Buf (Elt Ideal) ℓ) (g : Dev Cert.CoRefIdeal.nD → PrngReg), Pre_CoRefIdeal m →
    θ_run (Cert.CoRefIdeal.defs (F := Ideal)) (onTc (τ := Cert.CoRefIdeal.τ) (Cert.CoRefIdeal.main (F := Ideal))) ⟨m, fun _ => 0, g⟩ (fun r => (∀ c : Dev Cert.CoRefIdeal.nD,
      r.2.mem ((c.tc : Thread Cert.CoRefIdeal.nD Cert.CoRefIdeal.τ).loc Cert.CoRefIdeal.main_arg0) = m ((c.tc : Thread Cert.CoRefIdeal.nD Cert.CoRefIdeal.τ).loc Cert.CoRefIdeal.main_arg0)
      ∧ r.2.mem ((c.tc : Thread Cert.CoRefIdeal.nD Cert.CoRefIdeal.τ).loc Cert.CoRefIdeal.main_arg1) = m ((c.tc : Thread Cert.CoRefIdeal.nD Cert.CoRefIdeal.τ).loc Cert.CoRefIdeal.main_arg1)
      ∧ r.2.mem ((c.tc : Thread Cert.CoRefIdeal.nD Cert.CoRefIdeal.τ).loc Cert.CoRefIdeal.main_arg2) = m ((c.tc : Thread Cert.CoRefIdeal.nD Cert.CoRefIdeal.τ).loc Cert.CoRefIdeal.main_arg2))
      ∧ r.2.sem = fun _ => 0)

def quiescent_CoDx [hCoDx : Cert.CoDx.Facts] : Prop :=
  ∀ (m : (ℓ : Loc Cert.CoDx.nD Cert.CoDx.τ Cert.CoDx.sig) → Buf (Elt Bits) ℓ) (g : Dev Cert.CoDx.nD → PrngReg), Pre_CoDx m →
    θ_run (Cert.CoDx.defs (F := Bits)) (onTc (τ := Cert.CoDx.τ) (Cert.CoDx.main (F := Bits))) ⟨m, fun _ => 0, g⟩ (fun r => (∀ c : Dev Cert.CoDx.nD,
      r.2.mem ((c.tc : Thread Cert.CoDx.nD Cert.CoDx.τ).loc Cert.CoDx.main_arg0) = m ((c.tc : Thread Cert.CoDx.nD Cert.CoDx.τ).loc Cert.CoDx.main_arg0)
      ∧ r.2.mem ((c.tc : Thread Cert.CoDx.nD Cert.CoDx.τ).loc Cert.CoDx.main_arg1) = m ((c.tc : Thread Cert.CoDx.nD Cert.CoDx.τ).loc Cert.CoDx.main_arg1))
      ∧ r.2.sem = fun _ => 0)

def quiescent_CoDxIdeal [hCoDxIdeal : Cert.CoDxIdeal.Facts] : Prop :=
  ∀ (m : (ℓ : Loc Cert.CoDxIdeal.nD Cert.CoDxIdeal.τ Cert.CoDxIdeal.sig) → Buf (Elt Ideal) ℓ) (g : Dev Cert.CoDxIdeal.nD → PrngReg), Pre_CoDxIdeal m →
    θ_run (Cert.CoDxIdeal.defs (F := Ideal)) (onTc (τ := Cert.CoDxIdeal.τ) (Cert.CoDxIdeal.main (F := Ideal))) ⟨m, fun _ => 0, g⟩ (fun r => (∀ c : Dev Cert.CoDxIdeal.nD,
      r.2.mem ((c.tc : Thread Cert.CoDxIdeal.nD Cert.CoDxIdeal.τ).loc Cert.CoDxIdeal.main_arg0) = m ((c.tc : Thread Cert.CoDxIdeal.nD Cert.CoDxIdeal.τ).loc Cert.CoDxIdeal.main_arg0)
      ∧ r.2.mem ((c.tc : Thread Cert.CoDxIdeal.nD Cert.CoDxIdeal.τ).loc Cert.CoDxIdeal.main_arg1) = m ((c.tc : Thread Cert.CoDxIdeal.nD Cert.CoDxIdeal.τ).loc Cert.CoDxIdeal.main_arg1))
      ∧ r.2.sem = fun _ => 0)

def quiescent_CoDxRefIdeal [hCoDxRefIdeal : Cert.CoDxRefIdeal.Facts] : Prop :=
  ∀ (m : (ℓ : Loc Cert.CoDxRefIdeal.nD Cert.CoDxRefIdeal.τ Cert.CoDxRefIdeal.sig) → Buf (Elt Ideal) ℓ) (g : Dev Cert.CoDxRefIdeal.nD → PrngReg), Pre_CoDxRefIdeal m →
    θ_run (Cert.CoDxRefIdeal.defs (F := Ideal)) (onTc (τ := Cert.CoDxRefIdeal.τ) (Cert.CoDxRefIdeal.main (F := Ideal))) ⟨m, fun _ => 0, g⟩ (fun r => (∀ c : Dev Cert.CoDxRefIdeal.nD,
      r.2.mem ((c.tc : Thread Cert.CoDxRefIdeal.nD Cert.CoDxRefIdeal.τ).loc Cert.CoDxRefIdeal.main_arg0) = m ((c.tc : Thread Cert.CoDxRefIdeal.nD Cert.CoDxRefIdeal.τ).loc Cert.CoDxRefIdeal.main_arg0)
      ∧ r.2.mem ((c.tc : Thread Cert.CoDxRefIdeal.nD Cert.CoDxRefIdeal.τ).loc Cert.CoDxRefIdeal.main_arg1) = m ((c.tc : Thread Cert.CoDxRefIdeal.nD Cert.CoDxRefIdeal.τ).loc Cert.CoDxRefIdeal.main_arg1))
      ∧ r.2.sem = fun _ => 0)

def quiescent_CoDw [hCoDw : Cert.CoDw.Facts] : Prop :=
  ∀ (m : (ℓ : Loc Cert.CoDw.nD Cert.CoDw.τ Cert.CoDw.sig) → Buf (Elt Bits) ℓ) (g : Dev Cert.CoDw.nD → PrngReg), Pre_CoDw m →
    θ_run (Cert.CoDw.defs (F := Bits)) (onTc (τ := Cert.CoDw.τ) (Cert.CoDw.main (F := Bits))) ⟨m, fun _ => 0, g⟩ (fun r => (∀ c : Dev Cert.CoDw.nD,
      r.2.mem ((c.tc : Thread Cert.CoDw.nD Cert.CoDw.τ).loc Cert.CoDw.main_arg0) = m ((c.tc : Thread Cert.CoDw.nD Cert.CoDw.τ).loc Cert.CoDw.main_arg0)
      ∧ r.2.mem ((c.tc : Thread Cert.CoDw.nD Cert.CoDw.τ).loc Cert.CoDw.main_arg1) = m ((c.tc : Thread Cert.CoDw.nD Cert.CoDw.τ).loc Cert.CoDw.main_arg1))
      ∧ r.2.sem = fun _ => 0)

def quiescent_CoDwIdeal [hCoDwIdeal : Cert.CoDwIdeal.Facts] : Prop :=
  ∀ (m : (ℓ : Loc Cert.CoDwIdeal.nD Cert.CoDwIdeal.τ Cert.CoDwIdeal.sig) → Buf (Elt Ideal) ℓ) (g : Dev Cert.CoDwIdeal.nD → PrngReg), Pre_CoDwIdeal m →
    θ_run (Cert.CoDwIdeal.defs (F := Ideal)) (onTc (τ := Cert.CoDwIdeal.τ) (Cert.CoDwIdeal.main (F := Ideal))) ⟨m, fun _ => 0, g⟩ (fun r => (∀ c : Dev Cert.CoDwIdeal.nD,
      r.2.mem ((c.tc : Thread Cert.CoDwIdeal.nD Cert.CoDwIdeal.τ).loc Cert.CoDwIdeal.main_arg0) = m ((c.tc : Thread Cert.CoDwIdeal.nD Cert.CoDwIdeal.τ).loc Cert.CoDwIdeal.main_arg0)
      ∧ r.2.mem ((c.tc : Thread Cert.CoDwIdeal.nD Cert.CoDwIdeal.τ).loc Cert.CoDwIdeal.main_arg1) = m ((c.tc : Thread Cert.CoDwIdeal.nD Cert.CoDwIdeal.τ).loc Cert.CoDwIdeal.main_arg1))
      ∧ r.2.sem = fun _ => 0)

def quiescent_CoDwRefIdeal [hCoDwRefIdeal : Cert.CoDwRefIdeal.Facts] : Prop :=
  ∀ (m : (ℓ : Loc Cert.CoDwRefIdeal.nD Cert.CoDwRefIdeal.τ Cert.CoDwRefIdeal.sig) → Buf (Elt Ideal) ℓ) (g : Dev Cert.CoDwRefIdeal.nD → PrngReg), Pre_CoDwRefIdeal m →
    θ_run (Cert.CoDwRefIdeal.defs (F := Ideal)) (onTc (τ := Cert.CoDwRefIdeal.τ) (Cert.CoDwRefIdeal.main (F := Ideal))) ⟨m, fun _ => 0, g⟩ (fun r => (∀ c : Dev Cert.CoDwRefIdeal.nD,
      r.2.mem ((c.tc : Thread Cert.CoDwRefIdeal.nD Cert.CoDwRefIdeal.τ).loc Cert.CoDwRefIdeal.main_arg0) = m ((c.tc : Thread Cert.CoDwRefIdeal.nD Cert.CoDwRefIdeal.τ).loc Cert.CoDwRefIdeal.main_arg0)
      ∧ r.2.mem ((c.tc : Thread Cert.CoDwRefIdeal.nD Cert.CoDwRefIdeal.τ).loc Cert.CoDwRefIdeal.main_arg1) = m ((c.tc : Thread Cert.CoDwRefIdeal.nD Cert.CoDwRefIdeal.τ).loc Cert.CoDwRefIdeal.main_arg1))
      ∧ r.2.sem = fun _ => 0)

def quiescent_CqDw [hCqDw : Cert.CqDw.Facts] : Prop :=
  ∀ (m : (ℓ : Loc Cert.CqDw.nD Cert.CqDw.τ Cert.CqDw.sig) → Buf (Elt Bits) ℓ) (g : Dev Cert.CqDw.nD → PrngReg), Pre_CqDw m →
    θ_run (Cert.CqDw.defs (F := Bits)) (onTc (τ := Cert.CqDw.τ) (Cert.CqDw.main (F := Bits))) ⟨m, fun _ => 0, g⟩ (fun r => (∀ c : Dev Cert.CqDw.nD,
      r.2.mem ((c.tc : Thread Cert.CqDw.nD Cert.CqDw.τ).loc Cert.CqDw.main_arg0) = m ((c.tc : Thread Cert.CqDw.nD Cert.CqDw.τ).loc Cert.CqDw.main_arg0)
      ∧ r.2.mem ((c.tc : Thread Cert.CqDw.nD Cert.CqDw.τ).loc Cert.CqDw.main_arg1) = m ((c.tc : Thread Cert.CqDw.nD Cert.CqDw.τ).loc Cert.CqDw.main_arg1))
      ∧ r.2.sem = fun _ => 0)

def quiescent_CqDwIdeal [hCqDwIdeal : Cert.CqDwIdeal.Facts] : Prop :=
  ∀ (m : (ℓ : Loc Cert.CqDwIdeal.nD Cert.CqDwIdeal.τ Cert.CqDwIdeal.sig) → Buf (Elt Ideal) ℓ) (g : Dev Cert.CqDwIdeal.nD → PrngReg), Pre_CqDwIdeal m →
    θ_run (Cert.CqDwIdeal.defs (F := Ideal)) (onTc (τ := Cert.CqDwIdeal.τ) (Cert.CqDwIdeal.main (F := Ideal))) ⟨m, fun _ => 0, g⟩ (fun r => (∀ c : Dev Cert.CqDwIdeal.nD,
      r.2.mem ((c.tc : Thread Cert.CqDwIdeal.nD Cert.CqDwIdeal.τ).loc Cert.CqDwIdeal.main_arg0) = m ((c.tc : Thread Cert.CqDwIdeal.nD Cert.CqDwIdeal.τ).loc Cert.CqDwIdeal.main_arg0)
      ∧ r.2.mem ((c.tc : Thread Cert.CqDwIdeal.nD Cert.CqDwIdeal.τ).loc Cert.CqDwIdeal.main_arg1) = m ((c.tc : Thread Cert.CqDwIdeal.nD Cert.CqDwIdeal.τ).loc Cert.CqDwIdeal.main_arg1))
      ∧ r.2.sem = fun _ => 0)

def quiescent_CqDwRefIdeal [hCqDwRefIdeal : Cert.CqDwRefIdeal.Facts] : Prop :=
  ∀ (m : (ℓ : Loc Cert.CqDwRefIdeal.nD Cert.CqDwRefIdeal.τ Cert.CqDwRefIdeal.sig) → Buf (Elt Ideal) ℓ) (g : Dev Cert.CqDwRefIdeal.nD → PrngReg), Pre_CqDwRefIdeal m →
    θ_run (Cert.CqDwRefIdeal.defs (F := Ideal)) (onTc (τ := Cert.CqDwRefIdeal.τ) (Cert.CqDwRefIdeal.main (F := Ideal))) ⟨m, fun _ => 0, g⟩ (fun r => (∀ c : Dev Cert.CqDwRefIdeal.nD,
      r.2.mem ((c.tc : Thread Cert.CqDwRefIdeal.nD Cert.CqDwRefIdeal.τ).loc Cert.CqDwRefIdeal.main_arg0) = m ((c.tc : Thread Cert.CqDwRefIdeal.nD Cert.CqDwRefIdeal.τ).loc Cert.CqDwRefIdeal.main_arg0)
      ∧ r.2.mem ((c.tc : Thread Cert.CqDwRefIdeal.nD Cert.CqDwRefIdeal.τ).loc Cert.CqDwRefIdeal.main_arg1) = m ((c.tc : Thread Cert.CqDwRefIdeal.nD Cert.CqDwRefIdeal.τ).loc Cert.CqDwRefIdeal.main_arg1))
      ∧ r.2.sem = fun _ => 0)

def quiescent_CqDx [hCqDx : Cert.CqDx.Facts] : Prop :=
  ∀ (m : (ℓ : Loc Cert.CqDx.nD Cert.CqDx.τ Cert.CqDx.sig) → Buf (Elt Bits) ℓ) (g : Dev Cert.CqDx.nD → PrngReg), Pre_CqDx m →
    θ_run (Cert.CqDx.defs (F := Bits)) (onTc (τ := Cert.CqDx.τ) (Cert.CqDx.main (F := Bits))) ⟨m, fun _ => 0, g⟩ (fun r => (∀ c : Dev Cert.CqDx.nD,
      r.2.mem ((c.tc : Thread Cert.CqDx.nD Cert.CqDx.τ).loc Cert.CqDx.main_arg0) = m ((c.tc : Thread Cert.CqDx.nD Cert.CqDx.τ).loc Cert.CqDx.main_arg0)
      ∧ r.2.mem ((c.tc : Thread Cert.CqDx.nD Cert.CqDx.τ).loc Cert.CqDx.main_arg1) = m ((c.tc : Thread Cert.CqDx.nD Cert.CqDx.τ).loc Cert.CqDx.main_arg1))
      ∧ r.2.sem = fun _ => 0)

def quiescent_CqDxIdeal [hCqDxIdeal : Cert.CqDxIdeal.Facts] : Prop :=
  ∀ (m : (ℓ : Loc Cert.CqDxIdeal.nD Cert.CqDxIdeal.τ Cert.CqDxIdeal.sig) → Buf (Elt Ideal) ℓ) (g : Dev Cert.CqDxIdeal.nD → PrngReg), Pre_CqDxIdeal m →
    θ_run (Cert.CqDxIdeal.defs (F := Ideal)) (onTc (τ := Cert.CqDxIdeal.τ) (Cert.CqDxIdeal.main (F := Ideal))) ⟨m, fun _ => 0, g⟩ (fun r => (∀ c : Dev Cert.CqDxIdeal.nD,
      r.2.mem ((c.tc : Thread Cert.CqDxIdeal.nD Cert.CqDxIdeal.τ).loc Cert.CqDxIdeal.main_arg0) = m ((c.tc : Thread Cert.CqDxIdeal.nD Cert.CqDxIdeal.τ).loc Cert.CqDxIdeal.main_arg0)
      ∧ r.2.mem ((c.tc : Thread Cert.CqDxIdeal.nD Cert.CqDxIdeal.τ).loc Cert.CqDxIdeal.main_arg1) = m ((c.tc : Thread Cert.CqDxIdeal.nD Cert.CqDxIdeal.τ).loc Cert.CqDxIdeal.main_arg1))
      ∧ r.2.sem = fun _ => 0)

def quiescent_CqDxRefIdeal [hCqDxRefIdeal : Cert.CqDxRefIdeal.Facts] : Prop :=
  ∀ (m : (ℓ : Loc Cert.CqDxRefIdeal.nD Cert.CqDxRefIdeal.τ Cert.CqDxRefIdeal.sig) → Buf (Elt Ideal) ℓ) (g : Dev Cert.CqDxRefIdeal.nD → PrngReg), Pre_CqDxRefIdeal m →
    θ_run (Cert.CqDxRefIdeal.defs (F := Ideal)) (onTc (τ := Cert.CqDxRefIdeal.τ) (Cert.CqDxRefIdeal.main (F := Ideal))) ⟨m, fun _ => 0, g⟩ (fun r => (∀ c : Dev Cert.CqDxRefIdeal.nD,
      r.2.mem ((c.tc : Thread Cert.CqDxRefIdeal.nD Cert.CqDxRefIdeal.τ).loc Cert.CqDxRefIdeal.main_arg0) = m ((c.tc : Thread Cert.CqDxRefIdeal.nD Cert.CqDxRefIdeal.τ).loc Cert.CqDxRefIdeal.main_arg0)
      ∧ r.2.mem ((c.tc : Thread Cert.CqDxRefIdeal.nD Cert.CqDxRefIdeal.τ).loc Cert.CqDxRefIdeal.main_arg1) = m ((c.tc : Thread Cert.CqDxRefIdeal.nD Cert.CqDxRefIdeal.τ).loc Cert.CqDxRefIdeal.main_arg1))
      ∧ r.2.sem = fun _ => 0)

def quiescent_CkvDw [hCkvDw : Cert.CkvDw.Facts] : Prop :=
  ∀ (m : (ℓ : Loc Cert.CkvDw.nD Cert.CkvDw.τ Cert.CkvDw.sig) → Buf (Elt Bits) ℓ) (g : Dev Cert.CkvDw.nD → PrngReg), Pre_CkvDw m →
    θ_run (Cert.CkvDw.defs (F := Bits)) (onTc (τ := Cert.CkvDw.τ) (Cert.CkvDw.main (F := Bits))) ⟨m, fun _ => 0, g⟩ (fun r => (∀ c : Dev Cert.CkvDw.nD,
      r.2.mem ((c.tc : Thread Cert.CkvDw.nD Cert.CkvDw.τ).loc Cert.CkvDw.main_arg0) = m ((c.tc : Thread Cert.CkvDw.nD Cert.CkvDw.τ).loc Cert.CkvDw.main_arg0)
      ∧ r.2.mem ((c.tc : Thread Cert.CkvDw.nD Cert.CkvDw.τ).loc Cert.CkvDw.main_arg1) = m ((c.tc : Thread Cert.CkvDw.nD Cert.CkvDw.τ).loc Cert.CkvDw.main_arg1))
      ∧ r.2.sem = fun _ => 0)

def quiescent_CkvDwIdeal [hCkvDwIdeal : Cert.CkvDwIdeal.Facts] : Prop :=
  ∀ (m : (ℓ : Loc Cert.CkvDwIdeal.nD Cert.CkvDwIdeal.τ Cert.CkvDwIdeal.sig) → Buf (Elt Ideal) ℓ) (g : Dev Cert.CkvDwIdeal.nD → PrngReg), Pre_CkvDwIdeal m →
    θ_run (Cert.CkvDwIdeal.defs (F := Ideal)) (onTc (τ := Cert.CkvDwIdeal.τ) (Cert.CkvDwIdeal.main (F := Ideal))) ⟨m, fun _ => 0, g⟩ (fun r => (∀ c : Dev Cert.CkvDwIdeal.nD,
      r.2.mem ((c.tc : Thread Cert.CkvDwIdeal.nD Cert.CkvDwIdeal.τ).loc Cert.CkvDwIdeal.main_arg0) = m ((c.tc : Thread Cert.CkvDwIdeal.nD Cert.CkvDwIdeal.τ).loc Cert.CkvDwIdeal.main_arg0)
      ∧ r.2.mem ((c.tc : Thread Cert.CkvDwIdeal.nD Cert.CkvDwIdeal.τ).loc Cert.CkvDwIdeal.main_arg1) = m ((c.tc : Thread Cert.CkvDwIdeal.nD Cert.CkvDwIdeal.τ).loc Cert.CkvDwIdeal.main_arg1))
      ∧ r.2.sem = fun _ => 0)

def quiescent_CkvDwRefIdeal [hCkvDwRefIdeal : Cert.CkvDwRefIdeal.Facts] : Prop :=
  ∀ (m : (ℓ : Loc Cert.CkvDwRefIdeal.nD Cert.CkvDwRefIdeal.τ Cert.CkvDwRefIdeal.sig) → Buf (Elt Ideal) ℓ) (g : Dev Cert.CkvDwRefIdeal.nD → PrngReg), Pre_CkvDwRefIdeal m →
    θ_run (Cert.CkvDwRefIdeal.defs (F := Ideal)) (onTc (τ := Cert.CkvDwRefIdeal.τ) (Cert.CkvDwRefIdeal.main (F := Ideal))) ⟨m, fun _ => 0, g⟩ (fun r => (∀ c : Dev Cert.CkvDwRefIdeal.nD,
      r.2.mem ((c.tc : Thread Cert.CkvDwRefIdeal.nD Cert.CkvDwRefIdeal.τ).loc Cert.CkvDwRefIdeal.main_arg0) = m ((c.tc : Thread Cert.CkvDwRefIdeal.nD Cert.CkvDwRefIdeal.τ).loc Cert.CkvDwRefIdeal.main_arg0)
      ∧ r.2.mem ((c.tc : Thread Cert.CkvDwRefIdeal.nD Cert.CkvDwRefIdeal.τ).loc Cert.CkvDwRefIdeal.main_arg1) = m ((c.tc : Thread Cert.CkvDwRefIdeal.nD Cert.CkvDwRefIdeal.τ).loc Cert.CkvDwRefIdeal.main_arg1))
      ∧ r.2.sem = fun _ => 0)

def quiescent_CkvDx [hCkvDx : Cert.CkvDx.Facts] : Prop :=
  ∀ (m : (ℓ : Loc Cert.CkvDx.nD Cert.CkvDx.τ Cert.CkvDx.sig) → Buf (Elt Bits) ℓ) (g : Dev Cert.CkvDx.nD → PrngReg), Pre_CkvDx m →
    θ_run (Cert.CkvDx.defs (F := Bits)) (onTc (τ := Cert.CkvDx.τ) (Cert.CkvDx.main (F := Bits))) ⟨m, fun _ => 0, g⟩ (fun r => (∀ c : Dev Cert.CkvDx.nD,
      r.2.mem ((c.tc : Thread Cert.CkvDx.nD Cert.CkvDx.τ).loc Cert.CkvDx.main_arg0) = m ((c.tc : Thread Cert.CkvDx.nD Cert.CkvDx.τ).loc Cert.CkvDx.main_arg0)
      ∧ r.2.mem ((c.tc : Thread Cert.CkvDx.nD Cert.CkvDx.τ).loc Cert.CkvDx.main_arg1) = m ((c.tc : Thread Cert.CkvDx.nD Cert.CkvDx.τ).loc Cert.CkvDx.main_arg1))
      ∧ r.2.sem = fun _ => 0)

def quiescent_CkvDxIdeal [hCkvDxIdeal : Cert.CkvDxIdeal.Facts] : Prop :=
  ∀ (m : (ℓ : Loc Cert.CkvDxIdeal.nD Cert.CkvDxIdeal.τ Cert.CkvDxIdeal.sig) → Buf (Elt Ideal) ℓ) (g : Dev Cert.CkvDxIdeal.nD → PrngReg), Pre_CkvDxIdeal m →
    θ_run (Cert.CkvDxIdeal.defs (F := Ideal)) (onTc (τ := Cert.CkvDxIdeal.τ) (Cert.CkvDxIdeal.main (F := Ideal))) ⟨m, fun _ => 0, g⟩ (fun r => (∀ c : Dev Cert.CkvDxIdeal.nD,
      r.2.mem ((c.tc : Thread Cert.CkvDxIdeal.nD Cert.CkvDxIdeal.τ).loc Cert.CkvDxIdeal.main_arg0) = m ((c.tc : Thread Cert.CkvDxIdeal.nD Cert.CkvDxIdeal.τ).loc Cert.CkvDxIdeal.main_arg0)
      ∧ r.2.mem ((c.tc : Thread Cert.CkvDxIdeal.nD Cert.CkvDxIdeal.τ).loc Cert.CkvDxIdeal.main_arg1) = m ((c.tc : Thread Cert.CkvDxIdeal.nD Cert.CkvDxIdeal.τ).loc Cert.CkvDxIdeal.main_arg1))
      ∧ r.2.sem = fun _ => 0)

def quiescent_CkvDxRefIdeal [hCkvDxRefIdeal : Cert.CkvDxRefIdeal.Facts] : Prop :=
  ∀ (m : (ℓ : Loc Cert.CkvDxRefIdeal.nD Cert.CkvDxRefIdeal.τ Cert.CkvDxRefIdeal.sig) → Buf (Elt Ideal) ℓ) (g : Dev Cert.CkvDxRefIdeal.nD → PrngReg), Pre_CkvDxRefIdeal m →
    θ_run (Cert.CkvDxRefIdeal.defs (F := Ideal)) (onTc (τ := Cert.CkvDxRefIdeal.τ) (Cert.CkvDxRefIdeal.main (F := Ideal))) ⟨m, fun _ => 0, g⟩ (fun r => (∀ c : Dev Cert.CkvDxRefIdeal.nD,
      r.2.mem ((c.tc : Thread Cert.CkvDxRefIdeal.nD Cert.CkvDxRefIdeal.τ).loc Cert.CkvDxRefIdeal.main_arg0) = m ((c.tc : Thread Cert.CkvDxRefIdeal.nD Cert.CkvDxRefIdeal.τ).loc Cert.CkvDxRefIdeal.main_arg0)
      ∧ r.2.mem ((c.tc : Thread Cert.CkvDxRefIdeal.nD Cert.CkvDxRefIdeal.τ).loc Cert.CkvDxRefIdeal.main_arg1) = m ((c.tc : Thread Cert.CkvDxRefIdeal.nD Cert.CkvDxRefIdeal.τ).loc Cert.CkvDxRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_MemNormBwd [hMemNormBwd : Cert.MemNormBwd.Facts] : Prop :=
  ∀ (m : (ℓ : Loc Cert.MemNormBwd.nD Cert.MemNormBwd.τ Cert.MemNormBwd.sig) → Buf (Elt Bits) ℓ) (g : Dev Cert.MemNormBwd.nD → PrngReg), Pre_MemNormBwd m →
    θ_run (Cert.MemNormBwd.defs (F := Bits)) (onTc (τ := Cert.MemNormBwd.τ) (Cert.MemNormBwd.main (F := Bits))) ⟨m, fun _ => 0, g⟩ (fun r => (∀ c : Dev Cert.MemNormBwd.nD,
      r.2.mem ((c.tc : Thread Cert.MemNormBwd.nD Cert.MemNormBwd.τ).loc Cert.MemNormBwd.main_arg0) = m ((c.tc : Thread Cert.MemNormBwd.nD Cert.MemNormBwd.τ).loc Cert.MemNormBwd.main_arg0)
      ∧ r.2.mem ((c.tc : Thread Cert.MemNormBwd.nD Cert.MemNormBwd.τ).loc Cert.MemNormBwd.main_arg1) = m ((c.tc : Thread Cert.MemNormBwd.nD Cert.MemNormBwd.τ).loc Cert.MemNormBwd.main_arg1)
      ∧ r.2.mem ((c.tc : Thread Cert.MemNormBwd.nD Cert.MemNormBwd.τ).loc Cert.MemNormBwd.main_arg2) = m ((c.tc : Thread Cert.MemNormBwd.nD Cert.MemNormBwd.τ).loc Cert.MemNormBwd.main_arg2))
      ∧ r.2.sem = fun _ => 0)

def quiescent_MemNormBwdIdeal [hMemNormBwdIdeal : Cert.MemNormBwdIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ r.2.sem = fun _ => 0)

def quiescent_MemNormBwdRefIdeal [hMemNormBwdRefIdeal : Cert.MemNormBwdRefIdeal.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2))
      ∧ r.2.sem = fun _ => 0)

def quiescent_CrossFwd [hCrossFwd : Cert.CrossFwd.Facts] : Prop :=
  ∀ (m : (ℓ : Loc Cert.CrossFwd.nD Cert.CrossFwd.τ Cert.CrossFwd.sig) → Buf (Elt Bits) ℓ) (g : Dev Cert.CrossFwd.nD → PrngReg), Pre_CrossFwd m →
    θ_run (Cert.CrossFwd.defs (F := Bits)) (onTc (τ := Cert.CrossFwd.τ) (Cert.CrossFwd.main (F := Bits))) ⟨m, fun _ => 0, g⟩ (fun r => (∀ c : Dev Cert.CrossFwd.nD,
      r.2.mem ((c.tc : Thread Cert.CrossFwd.nD Cert.CrossFwd.τ).loc Cert.CrossFwd.main_arg0) = m ((c.tc : Thread Cert.CrossFwd.nD Cert.CrossFwd.τ).loc Cert.CrossFwd.main_arg0)
      ∧ r.2.mem ((c.tc : Thread Cert.CrossFwd.nD Cert.CrossFwd.τ).loc Cert.CrossFwd.main_arg1) = m ((c.tc : Thread Cert.CrossFwd.nD Cert.CrossFwd.τ).loc Cert.CrossFwd.main_arg1)
      ∧ r.2.mem ((c.tc : Thread Cert.CrossFwd.nD Cert.CrossFwd.τ).loc Cert.CrossFwd.main_arg2) = m ((c.tc : Thread Cert.CrossFwd.nD Cert.CrossFwd.τ).loc Cert.CrossFwd.main_arg2)
      ∧ r.2.mem ((c.tc : Thread Cert.CrossFwd.nD Cert.CrossFwd.τ).loc Cert.CrossFwd.main_arg3) = m ((c.tc : Thread Cert.CrossFwd.nD Cert.CrossFwd.τ).loc Cert.CrossFwd.main_arg3))
      ∧ r.2.sem = fun _ => 0)

def quiescent_CrossFwdIdeal [hCrossFwdIdeal : Cert.CrossFwdIdeal.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg), Pre_CrossFwdIdeal m →
    θ_run (Cert.CrossFwdIdeal.defs (F := Ideal)) (onTc (τ := Cert.CrossFwdIdeal.τ) (Cert.CrossFwdIdeal.main (F := Ideal))) ⟨m, fun _ => 0, g⟩ (fun r => (∀ c : Dev Cert.CrossFwdIdeal.nD,
      r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
      ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1)
      ∧ r.2.mem ((c.tc : Thread Cert.CrossFwdIdeal.nD Cert.CrossFwdIdeal.τ).loc Cert.CrossFwdIdeal.main_arg2) = m ((c.tc : Thread Cert.CrossFwdIdeal.nD Cert.CrossFwdIdeal.τ).loc Cert.CrossFwdIdeal.main_arg2)
      ∧ r.2.mem ((c.tc : Thread Cert.CrossFwdIdeal.nD Cert.CrossFwdIdeal.τ).loc Cert.CrossFwdIdeal.main_arg3) = m ((c.tc : Thread Cert.CrossFwdIdeal.nD Cert.CrossFwdIdeal.τ).loc Cert.CrossFwdIdeal.main_arg3))
      ∧ r.2.sem = fun _ => 0)

def quiescent_CrossFwdRefIdeal [hCrossFwdRefIdeal : Cert.CrossFwdRefIdeal.Facts] : Prop :=
  ∀ (m : (ℓ : Loc Cert.CrossFwdRefIdeal.nD Cert.CrossFwdRefIdeal.τ Cert.CrossFwdRefIdeal.sig) → Buf (Elt Ideal) ℓ) (g : Dev Cert.CrossFwdRefIdeal.nD → PrngReg), Pre_CrossFwdRefIdeal m →
    θ_run (Cert.CrossFwdRefIdeal.defs (F := Ideal)) (onTc (τ := Cert.CrossFwdRefIdeal.τ) (Cert.CrossFwdRefIdeal.main (F := Ideal))) ⟨m, fun _ => 0, g⟩ (fun r => (∀ c : Dev Cert.CrossFwdRefIdeal.nD,
      r.2.mem ((c.tc : Thread Cert.CrossFwdRefIdeal.nD Cert.CrossFwdRefIdeal.τ).loc Cert.CrossFwdRefIdeal.main_arg0) = m ((c.tc : Thread Cert.CrossFwdRefIdeal.nD Cert.CrossFwdRefIdeal.τ).loc Cert.CrossFwdRefIdeal.main_arg0)
      ∧ r.2.mem ((c.tc : Thread Cert.CrossFwdRefIdeal.nD Cert.CrossFwdRefIdeal.τ).loc Cert.CrossFwdRefIdeal.main_arg1) = m ((c.tc : Thread Cert.CrossFwdRefIdeal.nD Cert.CrossFwdRefIdeal.τ).loc Cert.CrossFwdRefIdeal.main_arg1)
      ∧ r.2.mem ((c.tc : Thread Cert.CrossFwdRefIdeal.nD Cert.CrossFwdRefIdeal.τ).loc Cert.CrossFwdRefIdeal.main_arg2) = m ((c.tc : Thread Cert.CrossFwdRefIdeal.nD Cert.CrossFwdRefIdeal.τ).loc Cert.CrossFwdRefIdeal.main_arg2)
      ∧ r.2.mem ((c.tc : Thread Cert.CrossFwdRefIdeal.nD Cert.CrossFwdRefIdeal.τ).loc Cert.CrossFwdRefIdeal.main_arg3) = m ((c.tc : Thread Cert.CrossFwdRefIdeal.nD Cert.CrossFwdRefIdeal.τ).loc Cert.CrossFwdRefIdeal.main_arg3))
      ∧ r.2.sem = fun _ => 0)

def quiescent_KeyNorm [hKeyNorm : Cert.KeyNorm.Facts] : Prop :=
  ∀ (m : (ℓ : Loc Cert.KeyNorm.nD Cert.KeyNorm.τ Cert.KeyNorm.sig) → Buf (Elt Bits) ℓ) (g : Dev Cert.KeyNorm.nD → PrngReg), Pre_KeyNorm m →
    θ_run (Cert.KeyNorm.defs (F := Bits)) (onTc (τ := Cert.KeyNorm.τ) (Cert.KeyNorm.main (F := Bits))) ⟨m, fun _ => 0, g⟩ (fun r => (∀ c : Dev Cert.KeyNorm.nD,
      r.2.mem ((c.tc : Thread Cert.KeyNorm.nD Cert.KeyNorm.τ).loc Cert.KeyNorm.main_arg0) = m ((c.tc : Thread Cert.KeyNorm.nD Cert.KeyNorm.τ).loc Cert.KeyNorm.main_arg0)
      ∧ r.2.mem ((c.tc : Thread Cert.KeyNorm.nD Cert.KeyNorm.τ).loc Cert.KeyNorm.main_arg1) = m ((c.tc : Thread Cert.KeyNorm.nD Cert.KeyNorm.τ).loc Cert.KeyNorm.main_arg1)
      ∧ r.2.mem ((c.tc : Thread Cert.KeyNorm.nD Cert.KeyNorm.τ).loc Cert.KeyNorm.main_arg2) = m ((c.tc : Thread Cert.KeyNorm.nD Cert.KeyNorm.τ).loc Cert.KeyNorm.main_arg2)
      ∧ r.2.mem ((c.tc : Thread Cert.KeyNorm.nD Cert.KeyNorm.τ).loc Cert.KeyNorm.main_arg3) = m ((c.tc : Thread Cert.KeyNorm.nD Cert.KeyNorm.τ).loc Cert.KeyNorm.main_arg3))
      ∧ r.2.sem = fun _ => 0)

def quiescent_KeyNormIdeal [hKeyNormIdeal : Cert.KeyNormIdeal.Facts] : Prop :=
  ∀ (m : (ℓ : Loc Cert.KeyNormIdeal.nD Cert.KeyNormIdeal.τ Cert.KeyNormIdeal.sig) → Buf (Elt Ideal) ℓ) (g : Dev Cert.KeyNormIdeal.nD → PrngReg), Pre_KeyNormIdeal m →
    θ_run (Cert.KeyNormIdeal.defs (F := Ideal)) (onTc (τ := Cert.KeyNormIdeal.τ) (Cert.KeyNormIdeal.main (F := Ideal))) ⟨m, fun _ => 0, g⟩ (fun r => (∀ c : Dev Cert.KeyNormIdeal.nD,
      r.2.mem ((c.tc : Thread Cert.KeyNormIdeal.nD Cert.KeyNormIdeal.τ).loc Cert.KeyNormIdeal.main_arg0) = m ((c.tc : Thread Cert.KeyNormIdeal.nD Cert.KeyNormIdeal.τ).loc Cert.KeyNormIdeal.main_arg0)
      ∧ r.2.mem ((c.tc : Thread Cert.KeyNormIdeal.nD Cert.KeyNormIdeal.τ).loc Cert.KeyNormIdeal.main_arg1) = m ((c.tc : Thread Cert.KeyNormIdeal.nD Cert.KeyNormIdeal.τ).loc Cert.KeyNormIdeal.main_arg1)
      ∧ r.2.mem ((c.tc : Thread Cert.KeyNormIdeal.nD Cert.KeyNormIdeal.τ).loc Cert.KeyNormIdeal.main_arg2) = m ((c.tc : Thread Cert.KeyNormIdeal.nD Cert.KeyNormIdeal.τ).loc Cert.KeyNormIdeal.main_arg2)
      ∧ r.2.mem ((c.tc : Thread Cert.KeyNormIdeal.nD Cert.KeyNormIdeal.τ).loc Cert.KeyNormIdeal.main_arg3) = m ((c.tc : Thread Cert.KeyNormIdeal.nD Cert.KeyNormIdeal.τ).loc Cert.KeyNormIdeal.main_arg3))
      ∧ r.2.sem = fun _ => 0)

def quiescent_KeyNormRefIdeal [hKeyNormRefIdeal : Cert.KeyNormRefIdeal.Facts] : Prop :=
  ∀ (m : (ℓ : Loc Cert.KeyNormRefIdeal.nD Cert.KeyNormRefIdeal.τ Cert.KeyNormRefIdeal.sig) → Buf (Elt Ideal) ℓ) (g : Dev Cert.KeyNormRefIdeal.nD → PrngReg), Pre_KeyNormRefIdeal m →
    θ_run (Cert.KeyNormRefIdeal.defs (F := Ideal)) (onTc (τ := Cert.KeyNormRefIdeal.τ) (Cert.KeyNormRefIdeal.main (F := Ideal))) ⟨m, fun _ => 0, g⟩ (fun r => (∀ c : Dev Cert.KeyNormRefIdeal.nD,
      r.2.mem ((c.tc : Thread Cert.KeyNormRefIdeal.nD Cert.KeyNormRefIdeal.τ).loc Cert.KeyNormRefIdeal.main_arg0) = m ((c.tc : Thread Cert.KeyNormRefIdeal.nD Cert.KeyNormRefIdeal.τ).loc Cert.KeyNormRefIdeal.main_arg0)
      ∧ r.2.mem ((c.tc : Thread Cert.KeyNormRefIdeal.nD Cert.KeyNormRefIdeal.τ).loc Cert.KeyNormRefIdeal.main_arg1) = m ((c.tc : Thread Cert.KeyNormRefIdeal.nD Cert.KeyNormRefIdeal.τ).loc Cert.KeyNormRefIdeal.main_arg1)
      ∧ r.2.mem ((c.tc : Thread Cert.KeyNormRefIdeal.nD Cert.KeyNormRefIdeal.τ).loc Cert.KeyNormRefIdeal.main_arg2) = m ((c.tc : Thread Cert.KeyNormRefIdeal.nD Cert.KeyNormRefIdeal.τ).loc Cert.KeyNormRefIdeal.main_arg2)
      ∧ r.2.mem ((c.tc : Thread Cert.KeyNormRefIdeal.nD Cert.KeyNormRefIdeal.τ).loc Cert.KeyNormRefIdeal.main_arg3) = m ((c.tc : Thread Cert.KeyNormRefIdeal.nD Cert.KeyNormRefIdeal.τ).loc Cert.KeyNormRefIdeal.main_arg3))
      ∧ r.2.sem = fun _ => 0)

def preserves_Kernel_KernelIdeal : Prop :=
  True

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v5)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v5) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v14) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v6) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v10) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v12) = v0 c
          ∧ r.2.mem ((c.tc : Thread Cert.UpRefIdeal.nD Cert.UpRefIdeal.τ).loc Cert.UpRefIdeal.main_v17) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v18) = v0 c
          ∧ r.2.mem ((c.tc : Thread Cert.DownRefIdeal.nD Cert.DownRefIdeal.τ).loc Cert.DownRefIdeal.main_v19) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v2) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v3) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v35) = v1 c
          ∧ r.2.mem ((c.tc : Thread Cert.NormBwdRefIdeal.nD Cert.NormBwdRefIdeal.τ).loc Cert.NormBwdRefIdeal.main_v17) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_MlpNorm_MlpNormIdeal : Prop :=
  True

def algebraic_MlpNormIdeal_MlpNormRefIdeal [hMlpNormIdeal : Cert.MlpNormIdeal.Facts] [hMlpNormRefIdeal : Cert.MlpNormRefIdeal.Facts] : Prop :=
  ∀ (m : (ℓ : Loc Cert.MlpNormIdeal.nD Cert.MlpNormIdeal.τ Cert.MlpNormIdeal.sig) → Buf (Elt Ideal) ℓ) (g : Dev Cert.MlpNormIdeal.nD → PrngReg)
    (m' : (ℓ : Loc Cert.MlpNormRefIdeal.nD Cert.MlpNormRefIdeal.τ Cert.MlpNormRefIdeal.sig) → Buf (Elt Ideal) ℓ) (g' : Dev Cert.MlpNormRefIdeal.nD → PrngReg), Pre_MlpNormIdeal m →
    (∀ c : Dev Cert.MlpNormIdeal.nD,
      m' ((c.tc : Thread Cert.MlpNormRefIdeal.nD Cert.MlpNormRefIdeal.τ).loc Cert.MlpNormRefIdeal.main_arg0) = m ((c.tc : Thread Cert.MlpNormIdeal.nD Cert.MlpNormIdeal.τ).loc Cert.MlpNormIdeal.main_arg0)
      ∧ m' ((c.tc : Thread Cert.MlpNormRefIdeal.nD Cert.MlpNormRefIdeal.τ).loc Cert.MlpNormRefIdeal.main_arg1) = m ((c.tc : Thread Cert.MlpNormIdeal.nD Cert.MlpNormIdeal.τ).loc Cert.MlpNormIdeal.main_arg1)
      ∧ m' ((c.tc : Thread Cert.MlpNormRefIdeal.nD Cert.MlpNormRefIdeal.τ).loc Cert.MlpNormRefIdeal.main_arg2) = m ((c.tc : Thread Cert.MlpNormIdeal.nD Cert.MlpNormIdeal.τ).loc Cert.MlpNormIdeal.main_arg2)
      ∧ m' ((c.tc : Thread Cert.MlpNormRefIdeal.nD Cert.MlpNormRefIdeal.τ).loc Cert.MlpNormRefIdeal.main_arg3) = m ((c.tc : Thread Cert.MlpNormIdeal.nD Cert.MlpNormIdeal.τ).loc Cert.MlpNormIdeal.main_arg3)) →
    ∃ (v0 : (c : Dev Cert.MlpNormIdeal.nD) → Buf (Elt Ideal) ((c.tc : Thread Cert.MlpNormIdeal.nD Cert.MlpNormIdeal.τ).loc Cert.MlpNormIdeal.main_v0_0)) (v1 : (c : Dev Cert.MlpNormIdeal.nD) → Buf (Elt Ideal) ((c.tc : Thread Cert.MlpNormIdeal.nD Cert.MlpNormIdeal.τ).loc Cert.MlpNormIdeal.main_v0_1)) (v2 : (c : Dev Cert.MlpNormIdeal.nD) → Buf (Elt Ideal) ((c.tc : Thread Cert.MlpNormIdeal.nD Cert.MlpNormIdeal.τ).loc Cert.MlpNormIdeal.main_v0_2)) (v3 : (c : Dev Cert.MlpNormIdeal.nD) → Buf (Elt Ideal) ((c.tc : Thread Cert.MlpNormIdeal.nD Cert.MlpNormIdeal.τ).loc Cert.MlpNormIdeal.main_v0_3)),
      θ_run (Cert.MlpNormIdeal.defs (F := Ideal)) (onTc (τ := Cert.MlpNormIdeal.τ) (Cert.MlpNormIdeal.main (F := Ideal))) ⟨m, fun _ => 0, g⟩ (fun r => ∀ c : Dev Cert.MlpNormIdeal.nD,
          r.2.mem ((c.tc : Thread Cert.MlpNormIdeal.nD Cert.MlpNormIdeal.τ).loc Cert.MlpNormIdeal.main_v0_0) = v0 c
          ∧ r.2.mem ((c.tc : Thread Cert.MlpNormIdeal.nD Cert.MlpNormIdeal.τ).loc Cert.MlpNormIdeal.main_v0_1) = v1 c
          ∧ r.2.mem ((c.tc : Thread Cert.MlpNormIdeal.nD Cert.MlpNormIdeal.τ).loc Cert.MlpNormIdeal.main_v0_2) = v2 c
          ∧ r.2.mem ((c.tc : Thread Cert.MlpNormIdeal.nD Cert.MlpNormIdeal.τ).loc Cert.MlpNormIdeal.main_v0_3) = v3 c
          ∧ r.2.mem ((c.tc : Thread Cert.MlpNormIdeal.nD Cert.MlpNormIdeal.τ).loc Cert.MlpNormIdeal.main_arg0) = m ((c.tc : Thread Cert.MlpNormIdeal.nD Cert.MlpNormIdeal.τ).loc Cert.MlpNormIdeal.main_arg0)
          ∧ r.2.mem ((c.tc : Thread Cert.MlpNormIdeal.nD Cert.MlpNormIdeal.τ).loc Cert.MlpNormIdeal.main_arg1) = m ((c.tc : Thread Cert.MlpNormIdeal.nD Cert.MlpNormIdeal.τ).loc Cert.MlpNormIdeal.main_arg1)
          ∧ r.2.mem ((c.tc : Thread Cert.MlpNormIdeal.nD Cert.MlpNormIdeal.τ).loc Cert.MlpNormIdeal.main_arg2) = m ((c.tc : Thread Cert.MlpNormIdeal.nD Cert.MlpNormIdeal.τ).loc Cert.MlpNormIdeal.main_arg2)
          ∧ r.2.mem ((c.tc : Thread Cert.MlpNormIdeal.nD Cert.MlpNormIdeal.τ).loc Cert.MlpNormIdeal.main_arg3) = m ((c.tc : Thread Cert.MlpNormIdeal.nD Cert.MlpNormIdeal.τ).loc Cert.MlpNormIdeal.main_arg3))
      ∧ θ_run (Cert.MlpNormRefIdeal.defs (F := Ideal)) (onTc (τ := Cert.MlpNormRefIdeal.τ) (Cert.MlpNormRefIdeal.main (F := Ideal))) ⟨m', fun _ => 0, g'⟩ (fun r => ∀ c : Dev Cert.MlpNormRefIdeal.nD,
          r.2.mem ((c.tc : Thread Cert.MlpNormRefIdeal.nD Cert.MlpNormRefIdeal.τ).loc Cert.MlpNormRefIdeal.main_v34) = v0 c
          ∧ r.2.mem ((c.tc : Thread Cert.MlpNormRefIdeal.nD Cert.MlpNormRefIdeal.τ).loc Cert.MlpNormRefIdeal.main_v43) = v1 c
          ∧ r.2.mem ((c.tc : Thread Cert.MlpNormRefIdeal.nD Cert.MlpNormRefIdeal.τ).loc Cert.MlpNormRefIdeal.main_v17) = v2 c
          ∧ r.2.mem ((c.tc : Thread Cert.MlpNormRefIdeal.nD Cert.MlpNormRefIdeal.τ).loc Cert.MlpNormRefIdeal.main_v44) = v3 c
          ∧ r.2.mem ((c.tc : Thread Cert.MlpNormRefIdeal.nD Cert.MlpNormRefIdeal.τ).loc Cert.MlpNormRefIdeal.main_arg0) = m' ((c.tc : Thread Cert.MlpNormRefIdeal.nD Cert.MlpNormRefIdeal.τ).loc Cert.MlpNormRefIdeal.main_arg0)
          ∧ r.2.mem ((c.tc : Thread Cert.MlpNormRefIdeal.nD Cert.MlpNormRefIdeal.τ).loc Cert.MlpNormRefIdeal.main_arg1) = m' ((c.tc : Thread Cert.MlpNormRefIdeal.nD Cert.MlpNormRefIdeal.τ).loc Cert.MlpNormRefIdeal.main_arg1)
          ∧ r.2.mem ((c.tc : Thread Cert.MlpNormRefIdeal.nD Cert.MlpNormRefIdeal.τ).loc Cert.MlpNormRefIdeal.main_arg2) = m' ((c.tc : Thread Cert.MlpNormRefIdeal.nD Cert.MlpNormRefIdeal.τ).loc Cert.MlpNormRefIdeal.main_arg2)
          ∧ r.2.mem ((c.tc : Thread Cert.MlpNormRefIdeal.nD Cert.MlpNormRefIdeal.τ).loc Cert.MlpNormRefIdeal.main_arg3) = m' ((c.tc : Thread Cert.MlpNormRefIdeal.nD Cert.MlpNormRefIdeal.τ).loc Cert.MlpNormRefIdeal.main_arg3))

def preserves_Cq_CqIdeal : Prop :=
  True

def algebraic_CqIdeal_CqRefIdeal [hCqIdeal : Cert.CqIdeal.Facts] [hCqRefIdeal : Cert.CqRefIdeal.Facts] : Prop :=
  ∀ (m : (ℓ : Loc Cert.CqIdeal.nD Cert.CqIdeal.τ Cert.CqIdeal.sig) → Buf (Elt Ideal) ℓ) (g : Dev Cert.CqIdeal.nD → PrngReg)
    (m' : (ℓ : Loc Cert.CqRefIdeal.nD Cert.CqRefIdeal.τ Cert.CqRefIdeal.sig) → Buf (Elt Ideal) ℓ) (g' : Dev Cert.CqRefIdeal.nD → PrngReg), Pre_CqIdeal m →
    (∀ c : Dev Cert.CqIdeal.nD,
      m' ((c.tc : Thread Cert.CqRefIdeal.nD Cert.CqRefIdeal.τ).loc Cert.CqRefIdeal.main_arg0) = m ((c.tc : Thread Cert.CqIdeal.nD Cert.CqIdeal.τ).loc Cert.CqIdeal.main_arg0)
      ∧ m' ((c.tc : Thread Cert.CqRefIdeal.nD Cert.CqRefIdeal.τ).loc Cert.CqRefIdeal.main_arg1) = m ((c.tc : Thread Cert.CqIdeal.nD Cert.CqIdeal.τ).loc Cert.CqIdeal.main_arg1)) →
    ∃ (v0 : (c : Dev Cert.CqIdeal.nD) → Buf (Elt Ideal) ((c.tc : Thread Cert.CqIdeal.nD Cert.CqIdeal.τ).loc Cert.CqIdeal.main_v0)),
      θ_run (Cert.CqIdeal.defs (F := Ideal)) (onTc (τ := Cert.CqIdeal.τ) (Cert.CqIdeal.main (F := Ideal))) ⟨m, fun _ => 0, g⟩ (fun r => ∀ c : Dev Cert.CqIdeal.nD,
          r.2.mem ((c.tc : Thread Cert.CqIdeal.nD Cert.CqIdeal.τ).loc Cert.CqIdeal.main_v0) = v0 c
          ∧ r.2.mem ((c.tc : Thread Cert.CqIdeal.nD Cert.CqIdeal.τ).loc Cert.CqIdeal.main_arg0) = m ((c.tc : Thread Cert.CqIdeal.nD Cert.CqIdeal.τ).loc Cert.CqIdeal.main_arg0)
          ∧ r.2.mem ((c.tc : Thread Cert.CqIdeal.nD Cert.CqIdeal.τ).loc Cert.CqIdeal.main_arg1) = m ((c.tc : Thread Cert.CqIdeal.nD Cert.CqIdeal.τ).loc Cert.CqIdeal.main_arg1))
      ∧ θ_run (Cert.CqRefIdeal.defs (F := Ideal)) (onTc (τ := Cert.CqRefIdeal.τ) (Cert.CqRefIdeal.main (F := Ideal))) ⟨m', fun _ => 0, g'⟩ (fun r => ∀ c : Dev Cert.CqRefIdeal.nD,
          r.2.mem ((c.tc : Thread Cert.CqRefIdeal.nD Cert.CqRefIdeal.τ).loc Cert.CqRefIdeal.main_v2) = v0 c
          ∧ r.2.mem ((c.tc : Thread Cert.CqRefIdeal.nD Cert.CqRefIdeal.τ).loc Cert.CqRefIdeal.main_arg0) = m' ((c.tc : Thread Cert.CqRefIdeal.nD Cert.CqRefIdeal.τ).loc Cert.CqRefIdeal.main_arg0)
          ∧ r.2.mem ((c.tc : Thread Cert.CqRefIdeal.nD Cert.CqRefIdeal.τ).loc Cert.CqRefIdeal.main_arg1) = m' ((c.tc : Thread Cert.CqRefIdeal.nD Cert.CqRefIdeal.τ).loc Cert.CqRefIdeal.main_arg1))

def preserves_Ckv_CkvIdeal : Prop :=
  True

def algebraic_CkvIdeal_CkvRefIdeal [hCkvIdeal : Cert.CkvIdeal.Facts] [hCkvRefIdeal : Cert.CkvRefIdeal.Facts] : Prop :=
  ∀ (m : (ℓ : Loc Cert.CkvIdeal.nD Cert.CkvIdeal.τ Cert.CkvIdeal.sig) → Buf (Elt Ideal) ℓ) (g : Dev Cert.CkvIdeal.nD → PrngReg)
    (m' : (ℓ : Loc Cert.CkvRefIdeal.nD Cert.CkvRefIdeal.τ Cert.CkvRefIdeal.sig) → Buf (Elt Ideal) ℓ) (g' : Dev Cert.CkvRefIdeal.nD → PrngReg), Pre_CkvIdeal m →
    (∀ c : Dev Cert.CkvIdeal.nD,
      m' ((c.tc : Thread Cert.CkvRefIdeal.nD Cert.CkvRefIdeal.τ).loc Cert.CkvRefIdeal.main_arg0) = m ((c.tc : Thread Cert.CkvIdeal.nD Cert.CkvIdeal.τ).loc Cert.CkvIdeal.main_arg0)
      ∧ m' ((c.tc : Thread Cert.CkvRefIdeal.nD Cert.CkvRefIdeal.τ).loc Cert.CkvRefIdeal.main_arg1) = m ((c.tc : Thread Cert.CkvIdeal.nD Cert.CkvIdeal.τ).loc Cert.CkvIdeal.main_arg1)) →
    ∃ (v0 : (c : Dev Cert.CkvIdeal.nD) → Buf (Elt Ideal) ((c.tc : Thread Cert.CkvIdeal.nD Cert.CkvIdeal.τ).loc Cert.CkvIdeal.main_v0)),
      θ_run (Cert.CkvIdeal.defs (F := Ideal)) (onTc (τ := Cert.CkvIdeal.τ) (Cert.CkvIdeal.main (F := Ideal))) ⟨m, fun _ => 0, g⟩ (fun r => ∀ c : Dev Cert.CkvIdeal.nD,
          r.2.mem ((c.tc : Thread Cert.CkvIdeal.nD Cert.CkvIdeal.τ).loc Cert.CkvIdeal.main_v0) = v0 c
          ∧ r.2.mem ((c.tc : Thread Cert.CkvIdeal.nD Cert.CkvIdeal.τ).loc Cert.CkvIdeal.main_arg0) = m ((c.tc : Thread Cert.CkvIdeal.nD Cert.CkvIdeal.τ).loc Cert.CkvIdeal.main_arg0)
          ∧ r.2.mem ((c.tc : Thread Cert.CkvIdeal.nD Cert.CkvIdeal.τ).loc Cert.CkvIdeal.main_arg1) = m ((c.tc : Thread Cert.CkvIdeal.nD Cert.CkvIdeal.τ).loc Cert.CkvIdeal.main_arg1))
      ∧ θ_run (Cert.CkvRefIdeal.defs (F := Ideal)) (onTc (τ := Cert.CkvRefIdeal.τ) (Cert.CkvRefIdeal.main (F := Ideal))) ⟨m', fun _ => 0, g'⟩ (fun r => ∀ c : Dev Cert.CkvRefIdeal.nD,
          r.2.mem ((c.tc : Thread Cert.CkvRefIdeal.nD Cert.CkvRefIdeal.τ).loc Cert.CkvRefIdeal.main_v2) = v0 c
          ∧ r.2.mem ((c.tc : Thread Cert.CkvRefIdeal.nD Cert.CkvRefIdeal.τ).loc Cert.CkvRefIdeal.main_arg0) = m' ((c.tc : Thread Cert.CkvRefIdeal.nD Cert.CkvRefIdeal.τ).loc Cert.CkvRefIdeal.main_arg0)
          ∧ r.2.mem ((c.tc : Thread Cert.CkvRefIdeal.nD Cert.CkvRefIdeal.τ).loc Cert.CkvRefIdeal.main_arg1) = m' ((c.tc : Thread Cert.CkvRefIdeal.nD Cert.CkvRefIdeal.τ).loc Cert.CkvRefIdeal.main_arg1))

def preserves_Co_CoIdeal : Prop :=
  True

def algebraic_CoIdeal_CoRefIdeal [hCoIdeal : Cert.CoIdeal.Facts] [hCoRefIdeal : Cert.CoRefIdeal.Facts] : Prop :=
  ∀ (m : (ℓ : Loc Cert.CoIdeal.nD Cert.CoIdeal.τ Cert.CoIdeal.sig) → Buf (Elt Ideal) ℓ) (g : Dev Cert.CoIdeal.nD → PrngReg)
    (m' : (ℓ : Loc Cert.CoRefIdeal.nD Cert.CoRefIdeal.τ Cert.CoRefIdeal.sig) → Buf (Elt Ideal) ℓ) (g' : Dev Cert.CoRefIdeal.nD → PrngReg), Pre_CoIdeal m →
    (∀ c : Dev Cert.CoIdeal.nD,
      m' ((c.tc : Thread Cert.CoRefIdeal.nD Cert.CoRefIdeal.τ).loc Cert.CoRefIdeal.main_arg0) = m ((c.tc : Thread Cert.CoIdeal.nD Cert.CoIdeal.τ).loc Cert.CoIdeal.main_arg0)
      ∧ m' ((c.tc : Thread Cert.CoRefIdeal.nD Cert.CoRefIdeal.τ).loc Cert.CoRefIdeal.main_arg1) = m ((c.tc : Thread Cert.CoIdeal.nD Cert.CoIdeal.τ).loc Cert.CoIdeal.main_arg1)
      ∧ m' ((c.tc : Thread Cert.CoRefIdeal.nD Cert.CoRefIdeal.τ).loc Cert.CoRefIdeal.main_arg2) = m ((c.tc : Thread Cert.CoIdeal.nD Cert.CoIdeal.τ).loc Cert.CoIdeal.main_arg2)) →
    ∃ (v0 : (c : Dev Cert.CoIdeal.nD) → Buf (Elt Ideal) ((c.tc : Thread Cert.CoIdeal.nD Cert.CoIdeal.τ).loc Cert.CoIdeal.main_v0)),
      θ_run (Cert.CoIdeal.defs (F := Ideal)) (onTc (τ := Cert.CoIdeal.τ) (Cert.CoIdeal.main (F := Ideal))) ⟨m, fun _ => 0, g⟩ (fun r => ∀ c : Dev Cert.CoIdeal.nD,
          r.2.mem ((c.tc : Thread Cert.CoIdeal.nD Cert.CoIdeal.τ).loc Cert.CoIdeal.main_v0) = v0 c
          ∧ r.2.mem ((c.tc : Thread Cert.CoIdeal.nD Cert.CoIdeal.τ).loc Cert.CoIdeal.main_arg0) = m ((c.tc : Thread Cert.CoIdeal.nD Cert.CoIdeal.τ).loc Cert.CoIdeal.main_arg0)
          ∧ r.2.mem ((c.tc : Thread Cert.CoIdeal.nD Cert.CoIdeal.τ).loc Cert.CoIdeal.main_arg1) = m ((c.tc : Thread Cert.CoIdeal.nD Cert.CoIdeal.τ).loc Cert.CoIdeal.main_arg1)
          ∧ r.2.mem ((c.tc : Thread Cert.CoIdeal.nD Cert.CoIdeal.τ).loc Cert.CoIdeal.main_arg2) = m ((c.tc : Thread Cert.CoIdeal.nD Cert.CoIdeal.τ).loc Cert.CoIdeal.main_arg2))
      ∧ θ_run (Cert.CoRefIdeal.defs (F := Ideal)) (onTc (τ := Cert.CoRefIdeal.τ) (Cert.CoRefIdeal.main (F := Ideal))) ⟨m', fun _ => 0, g'⟩ (fun r => ∀ c : Dev Cert.CoRefIdeal.nD,
          r.2.mem ((c.tc : Thread Cert.CoRefIdeal.nD Cert.CoRefIdeal.τ).loc Cert.CoRefIdeal.main_v5) = v0 c
          ∧ r.2.mem ((c.tc : Thread Cert.CoRefIdeal.nD Cert.CoRefIdeal.τ).loc Cert.CoRefIdeal.main_arg0) = m' ((c.tc : Thread Cert.CoRefIdeal.nD Cert.CoRefIdeal.τ).loc Cert.CoRefIdeal.main_arg0)
          ∧ r.2.mem ((c.tc : Thread Cert.CoRefIdeal.nD Cert.CoRefIdeal.τ).loc Cert.CoRefIdeal.main_arg1) = m' ((c.tc : Thread Cert.CoRefIdeal.nD Cert.CoRefIdeal.τ).loc Cert.CoRefIdeal.main_arg1)
          ∧ r.2.mem ((c.tc : Thread Cert.CoRefIdeal.nD Cert.CoRefIdeal.τ).loc Cert.CoRefIdeal.main_arg2) = m' ((c.tc : Thread Cert.CoRefIdeal.nD Cert.CoRefIdeal.τ).loc Cert.CoRefIdeal.main_arg2))

def preserves_CoDx_CoDxIdeal : Prop :=
  True

def algebraic_CoDxIdeal_CoDxRefIdeal [hCoDxIdeal : Cert.CoDxIdeal.Facts] [hCoDxRefIdeal : Cert.CoDxRefIdeal.Facts] : Prop :=
  ∀ (m : (ℓ : Loc Cert.CoDxIdeal.nD Cert.CoDxIdeal.τ Cert.CoDxIdeal.sig) → Buf (Elt Ideal) ℓ) (g : Dev Cert.CoDxIdeal.nD → PrngReg)
    (m' : (ℓ : Loc Cert.CoDxRefIdeal.nD Cert.CoDxRefIdeal.τ Cert.CoDxRefIdeal.sig) → Buf (Elt Ideal) ℓ) (g' : Dev Cert.CoDxRefIdeal.nD → PrngReg), Pre_CoDxIdeal m →
    (∀ c : Dev Cert.CoDxIdeal.nD,
      m' ((c.tc : Thread Cert.CoDxRefIdeal.nD Cert.CoDxRefIdeal.τ).loc Cert.CoDxRefIdeal.main_arg0) = m ((c.tc : Thread Cert.CoDxIdeal.nD Cert.CoDxIdeal.τ).loc Cert.CoDxIdeal.main_arg0)
      ∧ m' ((c.tc : Thread Cert.CoDxRefIdeal.nD Cert.CoDxRefIdeal.τ).loc Cert.CoDxRefIdeal.main_arg1) = m ((c.tc : Thread Cert.CoDxIdeal.nD Cert.CoDxIdeal.τ).loc Cert.CoDxIdeal.main_arg1)) →
    ∃ (v0 : (c : Dev Cert.CoDxIdeal.nD) → Buf (Elt Ideal) ((c.tc : Thread Cert.CoDxIdeal.nD Cert.CoDxIdeal.τ).loc Cert.CoDxIdeal.main_v0)),
      θ_run (Cert.CoDxIdeal.defs (F := Ideal)) (onTc (τ := Cert.CoDxIdeal.τ) (Cert.CoDxIdeal.main (F := Ideal))) ⟨m, fun _ => 0, g⟩ (fun r => ∀ c : Dev Cert.CoDxIdeal.nD,
          r.2.mem ((c.tc : Thread Cert.CoDxIdeal.nD Cert.CoDxIdeal.τ).loc Cert.CoDxIdeal.main_v0) = v0 c
          ∧ r.2.mem ((c.tc : Thread Cert.CoDxIdeal.nD Cert.CoDxIdeal.τ).loc Cert.CoDxIdeal.main_arg0) = m ((c.tc : Thread Cert.CoDxIdeal.nD Cert.CoDxIdeal.τ).loc Cert.CoDxIdeal.main_arg0)
          ∧ r.2.mem ((c.tc : Thread Cert.CoDxIdeal.nD Cert.CoDxIdeal.τ).loc Cert.CoDxIdeal.main_arg1) = m ((c.tc : Thread Cert.CoDxIdeal.nD Cert.CoDxIdeal.τ).loc Cert.CoDxIdeal.main_arg1))
      ∧ θ_run (Cert.CoDxRefIdeal.defs (F := Ideal)) (onTc (τ := Cert.CoDxRefIdeal.τ) (Cert.CoDxRefIdeal.main (F := Ideal))) ⟨m', fun _ => 0, g'⟩ (fun r => ∀ c : Dev Cert.CoDxRefIdeal.nD,
          r.2.mem ((c.tc : Thread Cert.CoDxRefIdeal.nD Cert.CoDxRefIdeal.τ).loc Cert.CoDxRefIdeal.main_v6) = v0 c
          ∧ r.2.mem ((c.tc : Thread Cert.CoDxRefIdeal.nD Cert.CoDxRefIdeal.τ).loc Cert.CoDxRefIdeal.main_arg0) = m' ((c.tc : Thread Cert.CoDxRefIdeal.nD Cert.CoDxRefIdeal.τ).loc Cert.CoDxRefIdeal.main_arg0)
          ∧ r.2.mem ((c.tc : Thread Cert.CoDxRefIdeal.nD Cert.CoDxRefIdeal.τ).loc Cert.CoDxRefIdeal.main_arg1) = m' ((c.tc : Thread Cert.CoDxRefIdeal.nD Cert.CoDxRefIdeal.τ).loc Cert.CoDxRefIdeal.main_arg1))

def preserves_CoDw_CoDwIdeal : Prop :=
  True

def algebraic_CoDwIdeal_CoDwRefIdeal [hCoDwIdeal : Cert.CoDwIdeal.Facts] [hCoDwRefIdeal : Cert.CoDwRefIdeal.Facts] : Prop :=
  ∀ (m : (ℓ : Loc Cert.CoDwIdeal.nD Cert.CoDwIdeal.τ Cert.CoDwIdeal.sig) → Buf (Elt Ideal) ℓ) (g : Dev Cert.CoDwIdeal.nD → PrngReg)
    (m' : (ℓ : Loc Cert.CoDwRefIdeal.nD Cert.CoDwRefIdeal.τ Cert.CoDwRefIdeal.sig) → Buf (Elt Ideal) ℓ) (g' : Dev Cert.CoDwRefIdeal.nD → PrngReg), Pre_CoDwIdeal m →
    (∀ c : Dev Cert.CoDwIdeal.nD,
      m' ((c.tc : Thread Cert.CoDwRefIdeal.nD Cert.CoDwRefIdeal.τ).loc Cert.CoDwRefIdeal.main_arg0) = m ((c.tc : Thread Cert.CoDwIdeal.nD Cert.CoDwIdeal.τ).loc Cert.CoDwIdeal.main_arg0)
      ∧ m' ((c.tc : Thread Cert.CoDwRefIdeal.nD Cert.CoDwRefIdeal.τ).loc Cert.CoDwRefIdeal.main_arg1) = m ((c.tc : Thread Cert.CoDwIdeal.nD Cert.CoDwIdeal.τ).loc Cert.CoDwIdeal.main_arg1)) →
    ∃ (v0 : (c : Dev Cert.CoDwIdeal.nD) → Buf (Elt Ideal) ((c.tc : Thread Cert.CoDwIdeal.nD Cert.CoDwIdeal.τ).loc Cert.CoDwIdeal.main_v0)),
      θ_run (Cert.CoDwIdeal.defs (F := Ideal)) (onTc (τ := Cert.CoDwIdeal.τ) (Cert.CoDwIdeal.main (F := Ideal))) ⟨m, fun _ => 0, g⟩ (fun r => ∀ c : Dev Cert.CoDwIdeal.nD,
          r.2.mem ((c.tc : Thread Cert.CoDwIdeal.nD Cert.CoDwIdeal.τ).loc Cert.CoDwIdeal.main_v0) = v0 c
          ∧ r.2.mem ((c.tc : Thread Cert.CoDwIdeal.nD Cert.CoDwIdeal.τ).loc Cert.CoDwIdeal.main_arg0) = m ((c.tc : Thread Cert.CoDwIdeal.nD Cert.CoDwIdeal.τ).loc Cert.CoDwIdeal.main_arg0)
          ∧ r.2.mem ((c.tc : Thread Cert.CoDwIdeal.nD Cert.CoDwIdeal.τ).loc Cert.CoDwIdeal.main_arg1) = m ((c.tc : Thread Cert.CoDwIdeal.nD Cert.CoDwIdeal.τ).loc Cert.CoDwIdeal.main_arg1))
      ∧ θ_run (Cert.CoDwRefIdeal.defs (F := Ideal)) (onTc (τ := Cert.CoDwRefIdeal.τ) (Cert.CoDwRefIdeal.main (F := Ideal))) ⟨m', fun _ => 0, g'⟩ (fun r => ∀ c : Dev Cert.CoDwRefIdeal.nD,
          r.2.mem ((c.tc : Thread Cert.CoDwRefIdeal.nD Cert.CoDwRefIdeal.τ).loc Cert.CoDwRefIdeal.main_v10) = v0 c
          ∧ r.2.mem ((c.tc : Thread Cert.CoDwRefIdeal.nD Cert.CoDwRefIdeal.τ).loc Cert.CoDwRefIdeal.main_arg0) = m' ((c.tc : Thread Cert.CoDwRefIdeal.nD Cert.CoDwRefIdeal.τ).loc Cert.CoDwRefIdeal.main_arg0)
          ∧ r.2.mem ((c.tc : Thread Cert.CoDwRefIdeal.nD Cert.CoDwRefIdeal.τ).loc Cert.CoDwRefIdeal.main_arg1) = m' ((c.tc : Thread Cert.CoDwRefIdeal.nD Cert.CoDwRefIdeal.τ).loc Cert.CoDwRefIdeal.main_arg1))

def preserves_CqDw_CqDwIdeal : Prop :=
  True

def algebraic_CqDwIdeal_CqDwRefIdeal [hCqDwIdeal : Cert.CqDwIdeal.Facts] [hCqDwRefIdeal : Cert.CqDwRefIdeal.Facts] : Prop :=
  ∀ (m : (ℓ : Loc Cert.CqDwIdeal.nD Cert.CqDwIdeal.τ Cert.CqDwIdeal.sig) → Buf (Elt Ideal) ℓ) (g : Dev Cert.CqDwIdeal.nD → PrngReg)
    (m' : (ℓ : Loc Cert.CqDwRefIdeal.nD Cert.CqDwRefIdeal.τ Cert.CqDwRefIdeal.sig) → Buf (Elt Ideal) ℓ) (g' : Dev Cert.CqDwRefIdeal.nD → PrngReg), Pre_CqDwIdeal m →
    (∀ c : Dev Cert.CqDwIdeal.nD,
      m' ((c.tc : Thread Cert.CqDwRefIdeal.nD Cert.CqDwRefIdeal.τ).loc Cert.CqDwRefIdeal.main_arg0) = m ((c.tc : Thread Cert.CqDwIdeal.nD Cert.CqDwIdeal.τ).loc Cert.CqDwIdeal.main_arg0)
      ∧ m' ((c.tc : Thread Cert.CqDwRefIdeal.nD Cert.CqDwRefIdeal.τ).loc Cert.CqDwRefIdeal.main_arg1) = m ((c.tc : Thread Cert.CqDwIdeal.nD Cert.CqDwIdeal.τ).loc Cert.CqDwIdeal.main_arg1)) →
    ∃ (v0 : (c : Dev Cert.CqDwIdeal.nD) → Buf (Elt Ideal) ((c.tc : Thread Cert.CqDwIdeal.nD Cert.CqDwIdeal.τ).loc Cert.CqDwIdeal.main_v0)),
      θ_run (Cert.CqDwIdeal.defs (F := Ideal)) (onTc (τ := Cert.CqDwIdeal.τ) (Cert.CqDwIdeal.main (F := Ideal))) ⟨m, fun _ => 0, g⟩ (fun r => ∀ c : Dev Cert.CqDwIdeal.nD,
          r.2.mem ((c.tc : Thread Cert.CqDwIdeal.nD Cert.CqDwIdeal.τ).loc Cert.CqDwIdeal.main_v0) = v0 c
          ∧ r.2.mem ((c.tc : Thread Cert.CqDwIdeal.nD Cert.CqDwIdeal.τ).loc Cert.CqDwIdeal.main_arg0) = m ((c.tc : Thread Cert.CqDwIdeal.nD Cert.CqDwIdeal.τ).loc Cert.CqDwIdeal.main_arg0)
          ∧ r.2.mem ((c.tc : Thread Cert.CqDwIdeal.nD Cert.CqDwIdeal.τ).loc Cert.CqDwIdeal.main_arg1) = m ((c.tc : Thread Cert.CqDwIdeal.nD Cert.CqDwIdeal.τ).loc Cert.CqDwIdeal.main_arg1))
      ∧ θ_run (Cert.CqDwRefIdeal.defs (F := Ideal)) (onTc (τ := Cert.CqDwRefIdeal.τ) (Cert.CqDwRefIdeal.main (F := Ideal))) ⟨m', fun _ => 0, g'⟩ (fun r => ∀ c : Dev Cert.CqDwRefIdeal.nD,
          r.2.mem ((c.tc : Thread Cert.CqDwRefIdeal.nD Cert.CqDwRefIdeal.τ).loc Cert.CqDwRefIdeal.main_v6) = v0 c
          ∧ r.2.mem ((c.tc : Thread Cert.CqDwRefIdeal.nD Cert.CqDwRefIdeal.τ).loc Cert.CqDwRefIdeal.main_arg0) = m' ((c.tc : Thread Cert.CqDwRefIdeal.nD Cert.CqDwRefIdeal.τ).loc Cert.CqDwRefIdeal.main_arg0)
          ∧ r.2.mem ((c.tc : Thread Cert.CqDwRefIdeal.nD Cert.CqDwRefIdeal.τ).loc Cert.CqDwRefIdeal.main_arg1) = m' ((c.tc : Thread Cert.CqDwRefIdeal.nD Cert.CqDwRefIdeal.τ).loc Cert.CqDwRefIdeal.main_arg1))

def preserves_CqDx_CqDxIdeal : Prop :=
  True

def algebraic_CqDxIdeal_CqDxRefIdeal [hCqDxIdeal : Cert.CqDxIdeal.Facts] [hCqDxRefIdeal : Cert.CqDxRefIdeal.Facts] : Prop :=
  ∀ (m : (ℓ : Loc Cert.CqDxIdeal.nD Cert.CqDxIdeal.τ Cert.CqDxIdeal.sig) → Buf (Elt Ideal) ℓ) (g : Dev Cert.CqDxIdeal.nD → PrngReg)
    (m' : (ℓ : Loc Cert.CqDxRefIdeal.nD Cert.CqDxRefIdeal.τ Cert.CqDxRefIdeal.sig) → Buf (Elt Ideal) ℓ) (g' : Dev Cert.CqDxRefIdeal.nD → PrngReg), Pre_CqDxIdeal m →
    (∀ c : Dev Cert.CqDxIdeal.nD,
      m' ((c.tc : Thread Cert.CqDxRefIdeal.nD Cert.CqDxRefIdeal.τ).loc Cert.CqDxRefIdeal.main_arg0) = m ((c.tc : Thread Cert.CqDxIdeal.nD Cert.CqDxIdeal.τ).loc Cert.CqDxIdeal.main_arg0)
      ∧ m' ((c.tc : Thread Cert.CqDxRefIdeal.nD Cert.CqDxRefIdeal.τ).loc Cert.CqDxRefIdeal.main_arg1) = m ((c.tc : Thread Cert.CqDxIdeal.nD Cert.CqDxIdeal.τ).loc Cert.CqDxIdeal.main_arg1)) →
    ∃ (v0 : (c : Dev Cert.CqDxIdeal.nD) → Buf (Elt Ideal) ((c.tc : Thread Cert.CqDxIdeal.nD Cert.CqDxIdeal.τ).loc Cert.CqDxIdeal.main_v0)),
      θ_run (Cert.CqDxIdeal.defs (F := Ideal)) (onTc (τ := Cert.CqDxIdeal.τ) (Cert.CqDxIdeal.main (F := Ideal))) ⟨m, fun _ => 0, g⟩ (fun r => ∀ c : Dev Cert.CqDxIdeal.nD,
          r.2.mem ((c.tc : Thread Cert.CqDxIdeal.nD Cert.CqDxIdeal.τ).loc Cert.CqDxIdeal.main_v0) = v0 c
          ∧ r.2.mem ((c.tc : Thread Cert.CqDxIdeal.nD Cert.CqDxIdeal.τ).loc Cert.CqDxIdeal.main_arg0) = m ((c.tc : Thread Cert.CqDxIdeal.nD Cert.CqDxIdeal.τ).loc Cert.CqDxIdeal.main_arg0)
          ∧ r.2.mem ((c.tc : Thread Cert.CqDxIdeal.nD Cert.CqDxIdeal.τ).loc Cert.CqDxIdeal.main_arg1) = m ((c.tc : Thread Cert.CqDxIdeal.nD Cert.CqDxIdeal.τ).loc Cert.CqDxIdeal.main_arg1))
      ∧ θ_run (Cert.CqDxRefIdeal.defs (F := Ideal)) (onTc (τ := Cert.CqDxRefIdeal.τ) (Cert.CqDxRefIdeal.main (F := Ideal))) ⟨m', fun _ => 0, g'⟩ (fun r => ∀ c : Dev Cert.CqDxRefIdeal.nD,
          r.2.mem ((c.tc : Thread Cert.CqDxRefIdeal.nD Cert.CqDxRefIdeal.τ).loc Cert.CqDxRefIdeal.main_v4) = v0 c
          ∧ r.2.mem ((c.tc : Thread Cert.CqDxRefIdeal.nD Cert.CqDxRefIdeal.τ).loc Cert.CqDxRefIdeal.main_arg0) = m' ((c.tc : Thread Cert.CqDxRefIdeal.nD Cert.CqDxRefIdeal.τ).loc Cert.CqDxRefIdeal.main_arg0)
          ∧ r.2.mem ((c.tc : Thread Cert.CqDxRefIdeal.nD Cert.CqDxRefIdeal.τ).loc Cert.CqDxRefIdeal.main_arg1) = m' ((c.tc : Thread Cert.CqDxRefIdeal.nD Cert.CqDxRefIdeal.τ).loc Cert.CqDxRefIdeal.main_arg1))

def preserves_CkvDw_CkvDwIdeal : Prop :=
  True

def algebraic_CkvDwIdeal_CkvDwRefIdeal [hCkvDwIdeal : Cert.CkvDwIdeal.Facts] [hCkvDwRefIdeal : Cert.CkvDwRefIdeal.Facts] : Prop :=
  ∀ (m : (ℓ : Loc Cert.CkvDwIdeal.nD Cert.CkvDwIdeal.τ Cert.CkvDwIdeal.sig) → Buf (Elt Ideal) ℓ) (g : Dev Cert.CkvDwIdeal.nD → PrngReg)
    (m' : (ℓ : Loc Cert.CkvDwRefIdeal.nD Cert.CkvDwRefIdeal.τ Cert.CkvDwRefIdeal.sig) → Buf (Elt Ideal) ℓ) (g' : Dev Cert.CkvDwRefIdeal.nD → PrngReg), Pre_CkvDwIdeal m →
    (∀ c : Dev Cert.CkvDwIdeal.nD,
      m' ((c.tc : Thread Cert.CkvDwRefIdeal.nD Cert.CkvDwRefIdeal.τ).loc Cert.CkvDwRefIdeal.main_arg0) = m ((c.tc : Thread Cert.CkvDwIdeal.nD Cert.CkvDwIdeal.τ).loc Cert.CkvDwIdeal.main_arg0)
      ∧ m' ((c.tc : Thread Cert.CkvDwRefIdeal.nD Cert.CkvDwRefIdeal.τ).loc Cert.CkvDwRefIdeal.main_arg1) = m ((c.tc : Thread Cert.CkvDwIdeal.nD Cert.CkvDwIdeal.τ).loc Cert.CkvDwIdeal.main_arg1)) →
    ∃ (v0 : (c : Dev Cert.CkvDwIdeal.nD) → Buf (Elt Ideal) ((c.tc : Thread Cert.CkvDwIdeal.nD Cert.CkvDwIdeal.τ).loc Cert.CkvDwIdeal.main_v0)),
      θ_run (Cert.CkvDwIdeal.defs (F := Ideal)) (onTc (τ := Cert.CkvDwIdeal.τ) (Cert.CkvDwIdeal.main (F := Ideal))) ⟨m, fun _ => 0, g⟩ (fun r => ∀ c : Dev Cert.CkvDwIdeal.nD,
          r.2.mem ((c.tc : Thread Cert.CkvDwIdeal.nD Cert.CkvDwIdeal.τ).loc Cert.CkvDwIdeal.main_v0) = v0 c
          ∧ r.2.mem ((c.tc : Thread Cert.CkvDwIdeal.nD Cert.CkvDwIdeal.τ).loc Cert.CkvDwIdeal.main_arg0) = m ((c.tc : Thread Cert.CkvDwIdeal.nD Cert.CkvDwIdeal.τ).loc Cert.CkvDwIdeal.main_arg0)
          ∧ r.2.mem ((c.tc : Thread Cert.CkvDwIdeal.nD Cert.CkvDwIdeal.τ).loc Cert.CkvDwIdeal.main_arg1) = m ((c.tc : Thread Cert.CkvDwIdeal.nD Cert.CkvDwIdeal.τ).loc Cert.CkvDwIdeal.main_arg1))
      ∧ θ_run (Cert.CkvDwRefIdeal.defs (F := Ideal)) (onTc (τ := Cert.CkvDwRefIdeal.τ) (Cert.CkvDwRefIdeal.main (F := Ideal))) ⟨m', fun _ => 0, g'⟩ (fun r => ∀ c : Dev Cert.CkvDwRefIdeal.nD,
          r.2.mem ((c.tc : Thread Cert.CkvDwRefIdeal.nD Cert.CkvDwRefIdeal.τ).loc Cert.CkvDwRefIdeal.main_v6) = v0 c
          ∧ r.2.mem ((c.tc : Thread Cert.CkvDwRefIdeal.nD Cert.CkvDwRefIdeal.τ).loc Cert.CkvDwRefIdeal.main_arg0) = m' ((c.tc : Thread Cert.CkvDwRefIdeal.nD Cert.CkvDwRefIdeal.τ).loc Cert.CkvDwRefIdeal.main_arg0)
          ∧ r.2.mem ((c.tc : Thread Cert.CkvDwRefIdeal.nD Cert.CkvDwRefIdeal.τ).loc Cert.CkvDwRefIdeal.main_arg1) = m' ((c.tc : Thread Cert.CkvDwRefIdeal.nD Cert.CkvDwRefIdeal.τ).loc Cert.CkvDwRefIdeal.main_arg1))

def preserves_CkvDx_CkvDxIdeal : Prop :=
  True

def algebraic_CkvDxIdeal_CkvDxRefIdeal [hCkvDxIdeal : Cert.CkvDxIdeal.Facts] [hCkvDxRefIdeal : Cert.CkvDxRefIdeal.Facts] : Prop :=
  ∀ (m : (ℓ : Loc Cert.CkvDxIdeal.nD Cert.CkvDxIdeal.τ Cert.CkvDxIdeal.sig) → Buf (Elt Ideal) ℓ) (g : Dev Cert.CkvDxIdeal.nD → PrngReg)
    (m' : (ℓ : Loc Cert.CkvDxRefIdeal.nD Cert.CkvDxRefIdeal.τ Cert.CkvDxRefIdeal.sig) → Buf (Elt Ideal) ℓ) (g' : Dev Cert.CkvDxRefIdeal.nD → PrngReg), Pre_CkvDxIdeal m →
    (∀ c : Dev Cert.CkvDxIdeal.nD,
      m' ((c.tc : Thread Cert.CkvDxRefIdeal.nD Cert.CkvDxRefIdeal.τ).loc Cert.CkvDxRefIdeal.main_arg0) = m ((c.tc : Thread Cert.CkvDxIdeal.nD Cert.CkvDxIdeal.τ).loc Cert.CkvDxIdeal.main_arg0)
      ∧ m' ((c.tc : Thread Cert.CkvDxRefIdeal.nD Cert.CkvDxRefIdeal.τ).loc Cert.CkvDxRefIdeal.main_arg1) = m ((c.tc : Thread Cert.CkvDxIdeal.nD Cert.CkvDxIdeal.τ).loc Cert.CkvDxIdeal.main_arg1)) →
    ∃ (v0 : (c : Dev Cert.CkvDxIdeal.nD) → Buf (Elt Ideal) ((c.tc : Thread Cert.CkvDxIdeal.nD Cert.CkvDxIdeal.τ).loc Cert.CkvDxIdeal.main_v0)),
      θ_run (Cert.CkvDxIdeal.defs (F := Ideal)) (onTc (τ := Cert.CkvDxIdeal.τ) (Cert.CkvDxIdeal.main (F := Ideal))) ⟨m, fun _ => 0, g⟩ (fun r => ∀ c : Dev Cert.CkvDxIdeal.nD,
          r.2.mem ((c.tc : Thread Cert.CkvDxIdeal.nD Cert.CkvDxIdeal.τ).loc Cert.CkvDxIdeal.main_v0) = v0 c
          ∧ r.2.mem ((c.tc : Thread Cert.CkvDxIdeal.nD Cert.CkvDxIdeal.τ).loc Cert.CkvDxIdeal.main_arg0) = m ((c.tc : Thread Cert.CkvDxIdeal.nD Cert.CkvDxIdeal.τ).loc Cert.CkvDxIdeal.main_arg0)
          ∧ r.2.mem ((c.tc : Thread Cert.CkvDxIdeal.nD Cert.CkvDxIdeal.τ).loc Cert.CkvDxIdeal.main_arg1) = m ((c.tc : Thread Cert.CkvDxIdeal.nD Cert.CkvDxIdeal.τ).loc Cert.CkvDxIdeal.main_arg1))
      ∧ θ_run (Cert.CkvDxRefIdeal.defs (F := Ideal)) (onTc (τ := Cert.CkvDxRefIdeal.τ) (Cert.CkvDxRefIdeal.main (F := Ideal))) ⟨m', fun _ => 0, g'⟩ (fun r => ∀ c : Dev Cert.CkvDxRefIdeal.nD,
          r.2.mem ((c.tc : Thread Cert.CkvDxRefIdeal.nD Cert.CkvDxRefIdeal.τ).loc Cert.CkvDxRefIdeal.main_v4) = v0 c
          ∧ r.2.mem ((c.tc : Thread Cert.CkvDxRefIdeal.nD Cert.CkvDxRefIdeal.τ).loc Cert.CkvDxRefIdeal.main_arg0) = m' ((c.tc : Thread Cert.CkvDxRefIdeal.nD Cert.CkvDxRefIdeal.τ).loc Cert.CkvDxRefIdeal.main_arg0)
          ∧ r.2.mem ((c.tc : Thread Cert.CkvDxRefIdeal.nD Cert.CkvDxRefIdeal.τ).loc Cert.CkvDxRefIdeal.main_arg1) = m' ((c.tc : Thread Cert.CkvDxRefIdeal.nD Cert.CkvDxRefIdeal.τ).loc Cert.CkvDxRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v12) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_MemNormBwd_MemNormBwdIdeal : Prop :=
  True

def algebraic_MemNormBwdIdeal_MemNormBwdRefIdeal [hMemNormBwdIdeal : Cert.MemNormBwdIdeal.Facts] [hMemNormBwdRefIdeal : Cert.MemNormBwdRefIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg)
    (m' : (ℓ : Loc Cert.MemNormBwdRefIdeal.nD Cert.MemNormBwdRefIdeal.τ Cert.MemNormBwdRefIdeal.sig) → Buf (Elt Ideal) ℓ) (g' : Dev Cert.MemNormBwdRefIdeal.nD → PrngReg), Pre_MemNormBwdIdeal m →
    (∀ c : Dev Cert.MemNormBwdIdeal.nD,
      m' ((c.tc : Thread Cert.MemNormBwdRefIdeal.nD Cert.MemNormBwdRefIdeal.τ).loc Cert.MemNormBwdRefIdeal.main_arg0) = m ((c.tc : Thread Cert.MemNormBwdIdeal.nD Cert.MemNormBwdIdeal.τ).loc Cert.MemNormBwdIdeal.main_arg0)
      ∧ m' ((c.tc : Thread Cert.MemNormBwdRefIdeal.nD Cert.MemNormBwdRefIdeal.τ).loc Cert.MemNormBwdRefIdeal.main_arg1) = m ((c.tc : Thread Cert.MemNormBwdIdeal.nD Cert.MemNormBwdIdeal.τ).loc Cert.MemNormBwdIdeal.main_arg1)
      ∧ m' ((c.tc : Thread Cert.MemNormBwdRefIdeal.nD Cert.MemNormBwdRefIdeal.τ).loc Cert.MemNormBwdRefIdeal.main_arg2) = m ((c.tc : Thread Cert.MemNormBwdIdeal.nD Cert.MemNormBwdIdeal.τ).loc Cert.MemNormBwdIdeal.main_arg2)) →
    ∃ (v0 : (c : Dev Cert.MemNormBwdIdeal.nD) → Buf (Elt Ideal) ((c.tc : Thread Cert.MemNormBwdIdeal.nD Cert.MemNormBwdIdeal.τ).loc Cert.MemNormBwdIdeal.main_v0)),
      θ_run (Cert.MemNormBwdIdeal.defs (F := Ideal)) (onTc (τ := Cert.MemNormBwdIdeal.τ) (Cert.MemNormBwdIdeal.main (F := Ideal))) ⟨m, fun _ => 0, g⟩ (fun r => ∀ c : Dev Cert.MemNormBwdIdeal.nD,
          r.2.mem ((c.tc : Thread Cert.MemNormBwdIdeal.nD Cert.MemNormBwdIdeal.τ).loc Cert.MemNormBwdIdeal.main_v0) = v0 c
          ∧ r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
          ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
          ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ θ_run (Cert.MemNormBwdRefIdeal.defs (F := Ideal)) (onTc (τ := Cert.MemNormBwdRefIdeal.τ) (Cert.MemNormBwdRefIdeal.main (F := Ideal))) ⟨m', fun _ => 0, g'⟩ (fun r => ∀ c : Dev Cert.MemNormBwdRefIdeal.nD,
          r.2.mem ((c.tc : Thread Cert.MemNormBwdRefIdeal.nD Cert.MemNormBwdRefIdeal.τ).loc Cert.MemNormBwdRefIdeal.main_v14) = v0 c
          ∧ r.2.mem ((c.tc : Thread Cert.MemNormBwdRefIdeal.nD Cert.MemNormBwdRefIdeal.τ).loc Cert.MemNormBwdRefIdeal.main_arg0) = m' ((c.tc : Thread Cert.MemNormBwdRefIdeal.nD Cert.MemNormBwdRefIdeal.τ).loc Cert.MemNormBwdRefIdeal.main_arg0)
          ∧ r.2.mem ((c.tc : Thread Cert.MemNormBwdRefIdeal.nD Cert.MemNormBwdRefIdeal.τ).loc Cert.MemNormBwdRefIdeal.main_arg1) = m' ((c.tc : Thread Cert.MemNormBwdRefIdeal.nD Cert.MemNormBwdRefIdeal.τ).loc Cert.MemNormBwdRefIdeal.main_arg1)
          ∧ r.2.mem ((c.tc : Thread Cert.MemNormBwdRefIdeal.nD Cert.MemNormBwdRefIdeal.τ).loc Cert.MemNormBwdRefIdeal.main_arg2) = m' ((c.tc : Thread Cert.MemNormBwdRefIdeal.nD Cert.MemNormBwdRefIdeal.τ).loc Cert.MemNormBwdRefIdeal.main_arg2))

def preserves_CrossFwd_CrossFwdIdeal : Prop :=
  True

def algebraic_CrossFwdIdeal_CrossFwdRefIdeal [hCrossFwdIdeal : Cert.CrossFwdIdeal.Facts] [hCrossFwdRefIdeal : Cert.CrossFwdRefIdeal.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg)
    (m' : (ℓ : Loc Cert.CrossFwdRefIdeal.nD Cert.CrossFwdRefIdeal.τ Cert.CrossFwdRefIdeal.sig) → Buf (Elt Ideal) ℓ) (g' : Dev Cert.CrossFwdRefIdeal.nD → PrngReg), Pre_CrossFwdIdeal m →
    (∀ c : Dev Cert.CrossFwdIdeal.nD,
      m' ((c.tc : Thread Cert.CrossFwdRefIdeal.nD Cert.CrossFwdRefIdeal.τ).loc Cert.CrossFwdRefIdeal.main_arg0) = m ((c.tc : Thread Cert.CrossFwdIdeal.nD Cert.CrossFwdIdeal.τ).loc Cert.CrossFwdIdeal.main_arg0)
      ∧ m' ((c.tc : Thread Cert.CrossFwdRefIdeal.nD Cert.CrossFwdRefIdeal.τ).loc Cert.CrossFwdRefIdeal.main_arg1) = m ((c.tc : Thread Cert.CrossFwdIdeal.nD Cert.CrossFwdIdeal.τ).loc Cert.CrossFwdIdeal.main_arg1)
      ∧ m' ((c.tc : Thread Cert.CrossFwdRefIdeal.nD Cert.CrossFwdRefIdeal.τ).loc Cert.CrossFwdRefIdeal.main_arg2) = m ((c.tc : Thread Cert.CrossFwdIdeal.nD Cert.CrossFwdIdeal.τ).loc Cert.CrossFwdIdeal.main_arg2)
      ∧ m' ((c.tc : Thread Cert.CrossFwdRefIdeal.nD Cert.CrossFwdRefIdeal.τ).loc Cert.CrossFwdRefIdeal.main_arg3) = m ((c.tc : Thread Cert.CrossFwdIdeal.nD Cert.CrossFwdIdeal.τ).loc Cert.CrossFwdIdeal.main_arg3)) →
    ∃ (v0 : (c : Dev Cert.CrossFwdIdeal.nD) → Buf (Elt Ideal) ((c.tc : Thread Cert.CrossFwdIdeal.nD Cert.CrossFwdIdeal.τ).loc Cert.CrossFwdIdeal.main_v0)),
      θ_run (Cert.CrossFwdIdeal.defs (F := Ideal)) (onTc (τ := Cert.CrossFwdIdeal.τ) (Cert.CrossFwdIdeal.main (F := Ideal))) ⟨m, fun _ => 0, g⟩ (fun r => ∀ c : Dev Cert.CrossFwdIdeal.nD,
          r.2.mem ((c.tc : Thread Cert.CrossFwdIdeal.nD Cert.CrossFwdIdeal.τ).loc Cert.CrossFwdIdeal.main_v0) = v0 c
          ∧ r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
          ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1)
          ∧ r.2.mem ((c.tc : Thread Cert.CrossFwdIdeal.nD Cert.CrossFwdIdeal.τ).loc Cert.CrossFwdIdeal.main_arg2) = m ((c.tc : Thread Cert.CrossFwdIdeal.nD Cert.CrossFwdIdeal.τ).loc Cert.CrossFwdIdeal.main_arg2)
          ∧ r.2.mem ((c.tc : Thread Cert.CrossFwdIdeal.nD Cert.CrossFwdIdeal.τ).loc Cert.CrossFwdIdeal.main_arg3) = m ((c.tc : Thread Cert.CrossFwdIdeal.nD Cert.CrossFwdIdeal.τ).loc Cert.CrossFwdIdeal.main_arg3))
      ∧ θ_run (Cert.CrossFwdRefIdeal.defs (F := Ideal)) (onTc (τ := Cert.CrossFwdRefIdeal.τ) (Cert.CrossFwdRefIdeal.main (F := Ideal))) ⟨m', fun _ => 0, g'⟩ (fun r => ∀ c : Dev Cert.CrossFwdRefIdeal.nD,
          r.2.mem ((c.tc : Thread Cert.CrossFwdRefIdeal.nD Cert.CrossFwdRefIdeal.τ).loc Cert.CrossFwdRefIdeal.main_v50) = v0 c
          ∧ r.2.mem ((c.tc : Thread Cert.CrossFwdRefIdeal.nD Cert.CrossFwdRefIdeal.τ).loc Cert.CrossFwdRefIdeal.main_arg0) = m' ((c.tc : Thread Cert.CrossFwdRefIdeal.nD Cert.CrossFwdRefIdeal.τ).loc Cert.CrossFwdRefIdeal.main_arg0)
          ∧ r.2.mem ((c.tc : Thread Cert.CrossFwdRefIdeal.nD Cert.CrossFwdRefIdeal.τ).loc Cert.CrossFwdRefIdeal.main_arg1) = m' ((c.tc : Thread Cert.CrossFwdRefIdeal.nD Cert.CrossFwdRefIdeal.τ).loc Cert.CrossFwdRefIdeal.main_arg1)
          ∧ r.2.mem ((c.tc : Thread Cert.CrossFwdRefIdeal.nD Cert.CrossFwdRefIdeal.τ).loc Cert.CrossFwdRefIdeal.main_arg2) = m' ((c.tc : Thread Cert.CrossFwdRefIdeal.nD Cert.CrossFwdRefIdeal.τ).loc Cert.CrossFwdRefIdeal.main_arg2)
          ∧ r.2.mem ((c.tc : Thread Cert.CrossFwdRefIdeal.nD Cert.CrossFwdRefIdeal.τ).loc Cert.CrossFwdRefIdeal.main_arg3) = m' ((c.tc : Thread Cert.CrossFwdRefIdeal.nD Cert.CrossFwdRefIdeal.τ).loc Cert.CrossFwdRefIdeal.main_arg3))

def preserves_KeyNorm_KeyNormIdeal : Prop :=
  True

def algebraic_KeyNormIdeal_KeyNormRefIdeal [hKeyNormIdeal : Cert.KeyNormIdeal.Facts] [hKeyNormRefIdeal : Cert.KeyNormRefIdeal.Facts] : Prop :=
  ∀ (m : (ℓ : Loc Cert.KeyNormIdeal.nD Cert.KeyNormIdeal.τ Cert.KeyNormIdeal.sig) → Buf (Elt Ideal) ℓ) (g : Dev Cert.KeyNormIdeal.nD → PrngReg)
    (m' : (ℓ : Loc Cert.KeyNormRefIdeal.nD Cert.KeyNormRefIdeal.τ Cert.KeyNormRefIdeal.sig) → Buf (Elt Ideal) ℓ) (g' : Dev Cert.KeyNormRefIdeal.nD → PrngReg), Pre_KeyNormIdeal m →
    (∀ c : Dev Cert.KeyNormIdeal.nD,
      m' ((c.tc : Thread Cert.KeyNormRefIdeal.nD Cert.KeyNormRefIdeal.τ).loc Cert.KeyNormRefIdeal.main_arg0) = m ((c.tc : Thread Cert.KeyNormIdeal.nD Cert.KeyNormIdeal.τ).loc Cert.KeyNormIdeal.main_arg0)
      ∧ m' ((c.tc : Thread Cert.KeyNormRefIdeal.nD Cert.KeyNormRefIdeal.τ).loc Cert.KeyNormRefIdeal.main_arg1) = m ((c.tc : Thread Cert.KeyNormIdeal.nD Cert.KeyNormIdeal.τ).loc Cert.KeyNormIdeal.main_arg1)
      ∧ m' ((c.tc : Thread Cert.KeyNormRefIdeal.nD Cert.KeyNormRefIdeal.τ).loc Cert.KeyNormRefIdeal.main_arg2) = m ((c.tc : Thread Cert.KeyNormIdeal.nD Cert.KeyNormIdeal.τ).loc Cert.KeyNormIdeal.main_arg2)
      ∧ m' ((c.tc : Thread Cert.KeyNormRefIdeal.nD Cert.KeyNormRefIdeal.τ).loc Cert.KeyNormRefIdeal.main_arg3) = m ((c.tc : Thread Cert.KeyNormIdeal.nD Cert.KeyNormIdeal.τ).loc Cert.KeyNormIdeal.main_arg3)) →
    ∃ (v0 : (c : Dev Cert.KeyNormIdeal.nD) → Buf (Elt Ideal) ((c.tc : Thread Cert.KeyNormIdeal.nD Cert.KeyNormIdeal.τ).loc Cert.KeyNormIdeal.main_v0_0)) (v1 : (c : Dev Cert.KeyNormIdeal.nD) → Buf (Elt Ideal) ((c.tc : Thread Cert.KeyNormIdeal.nD Cert.KeyNormIdeal.τ).loc Cert.KeyNormIdeal.main_v0_1)),
      θ_run (Cert.KeyNormIdeal.defs (F := Ideal)) (onTc (τ := Cert.KeyNormIdeal.τ) (Cert.KeyNormIdeal.main (F := Ideal))) ⟨m, fun _ => 0, g⟩ (fun r => ∀ c : Dev Cert.KeyNormIdeal.nD,
          r.2.mem ((c.tc : Thread Cert.KeyNormIdeal.nD Cert.KeyNormIdeal.τ).loc Cert.KeyNormIdeal.main_v0_0) = v0 c
          ∧ r.2.mem ((c.tc : Thread Cert.KeyNormIdeal.nD Cert.KeyNormIdeal.τ).loc Cert.KeyNormIdeal.main_v0_1) = v1 c
          ∧ r.2.mem ((c.tc : Thread Cert.KeyNormIdeal.nD Cert.KeyNormIdeal.τ).loc Cert.KeyNormIdeal.main_arg0) = m ((c.tc : Thread Cert.KeyNormIdeal.nD Cert.KeyNormIdeal.τ).loc Cert.KeyNormIdeal.main_arg0)
          ∧ r.2.mem ((c.tc : Thread Cert.KeyNormIdeal.nD Cert.KeyNormIdeal.τ).loc Cert.KeyNormIdeal.main_arg1) = m ((c.tc : Thread Cert.KeyNormIdeal.nD Cert.KeyNormIdeal.τ).loc Cert.KeyNormIdeal.main_arg1)
          ∧ r.2.mem ((c.tc : Thread Cert.KeyNormIdeal.nD Cert.KeyNormIdeal.τ).loc Cert.KeyNormIdeal.main_arg2) = m ((c.tc : Thread Cert.KeyNormIdeal.nD Cert.KeyNormIdeal.τ).loc Cert.KeyNormIdeal.main_arg2)
          ∧ r.2.mem ((c.tc : Thread Cert.KeyNormIdeal.nD Cert.KeyNormIdeal.τ).loc Cert.KeyNormIdeal.main_arg3) = m ((c.tc : Thread Cert.KeyNormIdeal.nD Cert.KeyNormIdeal.τ).loc Cert.KeyNormIdeal.main_arg3))
      ∧ θ_run (Cert.KeyNormRefIdeal.defs (F := Ideal)) (onTc (τ := Cert.KeyNormRefIdeal.τ) (Cert.KeyNormRefIdeal.main (F := Ideal))) ⟨m', fun _ => 0, g'⟩ (fun r => ∀ c : Dev Cert.KeyNormRefIdeal.nD,
          r.2.mem ((c.tc : Thread Cert.KeyNormRefIdeal.nD Cert.KeyNormRefIdeal.τ).loc Cert.KeyNormRefIdeal.main_v46) = v0 c
          ∧ r.2.mem ((c.tc : Thread Cert.KeyNormRefIdeal.nD Cert.KeyNormRefIdeal.τ).loc Cert.KeyNormRefIdeal.main_v28) = v1 c
          ∧ r.2.mem ((c.tc : Thread Cert.KeyNormRefIdeal.nD Cert.KeyNormRefIdeal.τ).loc Cert.KeyNormRefIdeal.main_arg0) = m' ((c.tc : Thread Cert.KeyNormRefIdeal.nD Cert.KeyNormRefIdeal.τ).loc Cert.KeyNormRefIdeal.main_arg0)
          ∧ r.2.mem ((c.tc : Thread Cert.KeyNormRefIdeal.nD Cert.KeyNormRefIdeal.τ).loc Cert.KeyNormRefIdeal.main_arg1) = m' ((c.tc : Thread Cert.KeyNormRefIdeal.nD Cert.KeyNormRefIdeal.τ).loc Cert.KeyNormRefIdeal.main_arg1)
          ∧ r.2.mem ((c.tc : Thread Cert.KeyNormRefIdeal.nD Cert.KeyNormRefIdeal.τ).loc Cert.KeyNormRefIdeal.main_arg2) = m' ((c.tc : Thread Cert.KeyNormRefIdeal.nD Cert.KeyNormRefIdeal.τ).loc Cert.KeyNormRefIdeal.main_arg2)
          ∧ r.2.mem ((c.tc : Thread Cert.KeyNormRefIdeal.nD Cert.KeyNormRefIdeal.τ).loc Cert.KeyNormRefIdeal.main_arg3) = m' ((c.tc : Thread Cert.KeyNormRefIdeal.nD Cert.KeyNormRefIdeal.τ).loc Cert.KeyNormRefIdeal.main_arg3))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hProjIn : Cert.ProjIn.Facts) (hProjInIdeal : Cert.ProjInIdeal.Facts) (hProjInRefIdeal : Cert.ProjInRefIdeal.Facts) (hProjOut : Cert.ProjOut.Facts) (hProjOutIdeal : Cert.ProjOutIdeal.Facts) (hProjOutRefIdeal : Cert.ProjOutRefIdeal.Facts) (hNormBwd : Cert.NormBwd.Facts) (hNormBwdIdeal : Cert.NormBwdIdeal.Facts) (hNormBwdRefIdeal : Cert.NormBwdRefIdeal.Facts) (hMlpNorm : Cert.MlpNorm.Facts) (hMlpNormIdeal : Cert.MlpNormIdeal.Facts) (hMlpNormRefIdeal : Cert.MlpNormRefIdeal.Facts) (hCq : Cert.Cq.Facts) (hCqIdeal : Cert.CqIdeal.Facts) (hCqRefIdeal : Cert.CqRefIdeal.Facts) (hCkv : Cert.Ckv.Facts) (hCkvIdeal : Cert.CkvIdeal.Facts) (hCkvRefIdeal : Cert.CkvRefIdeal.Facts) (hCo : Cert.Co.Facts) (hCoIdeal : Cert.CoIdeal.Facts) (hCoRefIdeal : Cert.CoRefIdeal.Facts) (hCoDx : Cert.CoDx.Facts) (hCoDxIdeal : Cert.CoDxIdeal.Facts) (hCoDxRefIdeal : Cert.CoDxRefIdeal.Facts) (hCoDw : Cert.CoDw.Facts) (hCoDwIdeal : Cert.CoDwIdeal.Facts) (hCoDwRefIdeal : Cert.CoDwRefIdeal.Facts) (hCqDw : Cert.CqDw.Facts) (hCqDwIdeal : Cert.CqDwIdeal.Facts) (hCqDwRefIdeal : Cert.CqDwRefIdeal.Facts) (hCqDx : Cert.CqDx.Facts) (hCqDxIdeal : Cert.CqDxIdeal.Facts) (hCqDxRefIdeal : Cert.CqDxRefIdeal.Facts) (hCkvDw : Cert.CkvDw.Facts) (hCkvDwIdeal : Cert.CkvDwIdeal.Facts) (hCkvDwRefIdeal : Cert.CkvDwRefIdeal.Facts) (hCkvDx : Cert.CkvDx.Facts) (hCkvDxIdeal : Cert.CkvDxIdeal.Facts) (hCkvDxRefIdeal : Cert.CkvDxRefIdeal.Facts) (hNorm : Cert.Norm.Facts) (hNormIdeal : Cert.NormIdeal.Facts) (hNormRefIdeal : Cert.NormRefIdeal.Facts) (hMemNorm : Cert.MemNorm.Facts) (hMemNormIdeal : Cert.MemNormIdeal.Facts) (hMemNormRefIdeal : Cert.MemNormRefIdeal.Facts) (hMemNormBwd : Cert.MemNormBwd.Facts) (hMemNormBwdIdeal : Cert.MemNormBwdIdeal.Facts) (hMemNormBwdRefIdeal : Cert.MemNormBwdRefIdeal.Facts) (hCrossFwd : Cert.CrossFwd.Facts) (hCrossFwdIdeal : Cert.CrossFwdIdeal.Facts) (hCrossFwdRefIdeal : Cert.CrossFwdRefIdeal.Facts) (hKeyNorm : Cert.KeyNorm.Facts) (hKeyNormIdeal : Cert.KeyNormIdeal.Facts) (hKeyNormRefIdeal : Cert.KeyNormRefIdeal.Facts) (hPre_finite_gains : Cert.Pre_finite_gains.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_MlpNorm (hMlpNorm := hMlpNorm)
    ∧ quiescent_MlpNormIdeal (hMlpNormIdeal := hMlpNormIdeal)
    ∧ quiescent_MlpNormRefIdeal (hMlpNormRefIdeal := hMlpNormRefIdeal)
    ∧ quiescent_Cq (hCq := hCq)
    ∧ quiescent_CqIdeal (hCqIdeal := hCqIdeal)
    ∧ quiescent_CqRefIdeal (hCqRefIdeal := hCqRefIdeal)
    ∧ quiescent_Ckv (hCkv := hCkv)
    ∧ quiescent_CkvIdeal (hCkvIdeal := hCkvIdeal)
    ∧ quiescent_CkvRefIdeal (hCkvRefIdeal := hCkvRefIdeal)
    ∧ quiescent_Co (hCo := hCo)
    ∧ quiescent_CoIdeal (hCoIdeal := hCoIdeal)
    ∧ quiescent_CoRefIdeal (hCoRefIdeal := hCoRefIdeal)
    ∧ quiescent_CoDx (hCoDx := hCoDx)
    ∧ quiescent_CoDxIdeal (hCoDxIdeal := hCoDxIdeal)
    ∧ quiescent_CoDxRefIdeal (hCoDxRefIdeal := hCoDxRefIdeal)
    ∧ quiescent_CoDw (hCoDw := hCoDw)
    ∧ quiescent_CoDwIdeal (hCoDwIdeal := hCoDwIdeal)
    ∧ quiescent_CoDwRefIdeal (hCoDwRefIdeal := hCoDwRefIdeal)
    ∧ quiescent_CqDw (hCqDw := hCqDw)
    ∧ quiescent_CqDwIdeal (hCqDwIdeal := hCqDwIdeal)
    ∧ quiescent_CqDwRefIdeal (hCqDwRefIdeal := hCqDwRefIdeal)
    ∧ quiescent_CqDx (hCqDx := hCqDx)
    ∧ quiescent_CqDxIdeal (hCqDxIdeal := hCqDxIdeal)
    ∧ quiescent_CqDxRefIdeal (hCqDxRefIdeal := hCqDxRefIdeal)
    ∧ quiescent_CkvDw (hCkvDw := hCkvDw)
    ∧ quiescent_CkvDwIdeal (hCkvDwIdeal := hCkvDwIdeal)
    ∧ quiescent_CkvDwRefIdeal (hCkvDwRefIdeal := hCkvDwRefIdeal)
    ∧ quiescent_CkvDx (hCkvDx := hCkvDx)
    ∧ quiescent_CkvDxIdeal (hCkvDxIdeal := hCkvDxIdeal)
    ∧ quiescent_CkvDxRefIdeal (hCkvDxRefIdeal := hCkvDxRefIdeal)
    ∧ quiescent_Norm (hNorm := hNorm)
    ∧ quiescent_NormIdeal (hNormIdeal := hNormIdeal)
    ∧ quiescent_NormRefIdeal (hNormRefIdeal := hNormRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MemNormBwd (hMemNormBwd := hMemNormBwd)
    ∧ quiescent_MemNormBwdIdeal (hMemNormBwdIdeal := hMemNormBwdIdeal)
    ∧ quiescent_MemNormBwdRefIdeal (hMemNormBwdRefIdeal := hMemNormBwdRefIdeal)
    ∧ quiescent_CrossFwd (hCrossFwd := hCrossFwd)
    ∧ quiescent_CrossFwdIdeal (hCrossFwdIdeal := hCrossFwdIdeal)
    ∧ quiescent_CrossFwdRefIdeal (hCrossFwdRefIdeal := hCrossFwdRefIdeal)
    ∧ quiescent_KeyNorm (hKeyNorm := hKeyNorm)
    ∧ quiescent_KeyNormIdeal (hKeyNormIdeal := hKeyNormIdeal)
    ∧ quiescent_KeyNormRefIdeal (hKeyNormRefIdeal := hKeyNormRefIdeal)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_ProjIn_ProjInIdeal
    ∧ algebraic_ProjInIdeal_ProjInRefIdeal (hProjInIdeal := hProjInIdeal) (hProjInRefIdeal := hProjInRefIdeal)
    ∧ preserves_ProjOut_ProjOutIdeal
    ∧ algebraic_ProjOutIdeal_ProjOutRefIdeal (hProjOutIdeal := hProjOutIdeal) (hProjOutRefIdeal := hProjOutRefIdeal)
    ∧ preserves_NormBwd_NormBwdIdeal
    ∧ algebraic_NormBwdIdeal_NormBwdRefIdeal (hNormBwdIdeal := hNormBwdIdeal) (hNormBwdRefIdeal := hNormBwdRefIdeal)
    ∧ preserves_MlpNorm_MlpNormIdeal
    ∧ algebraic_MlpNormIdeal_MlpNormRefIdeal (hMlpNormIdeal := hMlpNormIdeal) (hMlpNormRefIdeal := hMlpNormRefIdeal)
    ∧ preserves_Cq_CqIdeal
    ∧ algebraic_CqIdeal_CqRefIdeal (hCqIdeal := hCqIdeal) (hCqRefIdeal := hCqRefIdeal)
    ∧ preserves_Ckv_CkvIdeal
    ∧ algebraic_CkvIdeal_CkvRefIdeal (hCkvIdeal := hCkvIdeal) (hCkvRefIdeal := hCkvRefIdeal)
    ∧ preserves_Co_CoIdeal
    ∧ algebraic_CoIdeal_CoRefIdeal (hCoIdeal := hCoIdeal) (hCoRefIdeal := hCoRefIdeal)
    ∧ preserves_CoDx_CoDxIdeal
    ∧ algebraic_CoDxIdeal_CoDxRefIdeal (hCoDxIdeal := hCoDxIdeal) (hCoDxRefIdeal := hCoDxRefIdeal)
    ∧ preserves_CoDw_CoDwIdeal
    ∧ algebraic_CoDwIdeal_CoDwRefIdeal (hCoDwIdeal := hCoDwIdeal) (hCoDwRefIdeal := hCoDwRefIdeal)
    ∧ preserves_CqDw_CqDwIdeal
    ∧ algebraic_CqDwIdeal_CqDwRefIdeal (hCqDwIdeal := hCqDwIdeal) (hCqDwRefIdeal := hCqDwRefIdeal)
    ∧ preserves_CqDx_CqDxIdeal
    ∧ algebraic_CqDxIdeal_CqDxRefIdeal (hCqDxIdeal := hCqDxIdeal) (hCqDxRefIdeal := hCqDxRefIdeal)
    ∧ preserves_CkvDw_CkvDwIdeal
    ∧ algebraic_CkvDwIdeal_CkvDwRefIdeal (hCkvDwIdeal := hCkvDwIdeal) (hCkvDwRefIdeal := hCkvDwRefIdeal)
    ∧ preserves_CkvDx_CkvDxIdeal
    ∧ algebraic_CkvDxIdeal_CkvDxRefIdeal (hCkvDxIdeal := hCkvDxIdeal) (hCkvDxRefIdeal := hCkvDxRefIdeal)
    ∧ preserves_Norm_NormIdeal
    ∧ algebraic_NormIdeal_NormRefIdeal (hNormIdeal := hNormIdeal) (hNormRefIdeal := hNormRefIdeal)
    ∧ preserves_MemNorm_MemNormIdeal
    ∧ algebraic_MemNormIdeal_MemNormRefIdeal (hMemNormIdeal := hMemNormIdeal) (hMemNormRefIdeal := hMemNormRefIdeal)
    ∧ preserves_MemNormBwd_MemNormBwdIdeal
    ∧ algebraic_MemNormBwdIdeal_MemNormBwdRefIdeal (hMemNormBwdIdeal := hMemNormBwdIdeal) (hMemNormBwdRefIdeal := hMemNormBwdRefIdeal)
    ∧ preserves_CrossFwd_CrossFwdIdeal
    ∧ algebraic_CrossFwdIdeal_CrossFwdRefIdeal (hCrossFwdIdeal := hCrossFwdIdeal) (hCrossFwdRefIdeal := hCrossFwdRefIdeal)
    ∧ preserves_KeyNorm_KeyNormIdeal
    ∧ algebraic_KeyNormIdeal_KeyNormRefIdeal (hKeyNormIdeal := hKeyNormIdeal) (hKeyNormRefIdeal := hKeyNormRefIdeal)
-- ==== Pre_finite_gains.lean ====
abbrev S2048x512 : Shape := ⟨2, ![2048, 512]⟩
abbrev S256x1024 : Shape := ⟨2, ![256, 1024]⟩
abbrev S1x128 : Shape := ⟨2, ![1, 128]⟩
abbrev S_ : Shape := ⟨0, ![]⟩

class Facts : Prop where
  bcast_S_S1x128 : S_.BroadcastsInDim S1x128 (![] : Fin 0 → Fin S1x128.rank)

variable [Facts]

def fn {F : FTy → Type} [FloatOps F] (main_arg0 : FVec F S2048x512 .f32) (main_arg1 : FVec F S2048x512 .f32) (main_arg2 : FVec F S256x1024 .f32) (main_arg3 : FVec F S1x128 .f32) (main_arg4 : FVec F S1x128 .f32) : IVec S1x128 1 :=
  let main_v0 : FVec F S1x128 .f32 := Host.absf main_arg3
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S1x128 .f32 := Host.absf main_arg4
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : IVec S1x128 1 := andi main_v2 main_v5
  main_v6
-- ==== Kernel.lean ====
abbrev S2048x512 : Shape := ⟨2, ![2048, 512]⟩
abbrev S256x1024 : Shape := ⟨2, ![256, 1024]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S256x1024, .f32⟩
  | .hbm, ⟨3, _⟩ => ⟨S1x128, .f32⟩
  | .hbm, ⟨4, _⟩ => ⟨S1x128, .f32⟩
  | .hbm, ⟨5, _⟩ => ⟨S2048x512, .bf16⟩
  | .hbm, ⟨6, _⟩ => ⟨S256x512, .f32⟩
  | .hbm, ⟨7, _⟩ => ⟨S256x512, .f32⟩
  | .hbm, ⟨8, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S1x128, .f32⟩
  | .local _ .vmem, ⟨6, _⟩ => ⟨S1x128, .f32⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v327 : BitVec 1 := Scalar.cmpi .eq arg0 c0_i32
  let v328 : BitVec 32 := Scalar.extui v327
  let c0_i32_130 : BitVec 32 := 0#32
  let v329 : BitVec 1 := Scalar.cmpi .ne v328 c0_i32_130
  v329

def k0_cond2 (i : grid0.Coords) : BitVec 1 :=
  let arg0 : BitVec 32 := BitVec.ofNat 32 (i 0).val
  let c0_i32_131 : BitVec 32 := 0#32
  let v330 : BitVec 1 := Scalar.cmpi .sgt arg0 c0_i32_131
  let v331 : BitVec 32 := Scalar.extui v330
  let c0_i32_132 : BitVec 32 := 0#32
  let v332 : BitVec 1 := Scalar.cmpi .ne v331 c0_i32_132
  v332

def k0_cond3 (i : grid0.Coords) : BitVec 1 :=
  let arg0 : BitVec 32 := BitVec.ofNat 32 (i 0).val
  let c0_i32_133 : BitVec 32 := 0#32
  let v334 : BitVec 1 := Scalar.cmpi .eq arg0 c0_i32_133
  let v335 : BitVec 32 := Scalar.extui v334
  let c0_i32_134 : BitVec 32 := 0#32
  let v336 : BitVec 1 := Scalar.cmpi .ne v335 c0_i32_134
  v336

def k0_cond4 (i : grid0.Coords) : BitVec 1 :=
  let arg0 : BitVec 32 := BitVec.ofNat 32 (i 0).val
  let c0_i32_135 : BitVec 32 := 0#32
  let v337 : BitVec 1 := Scalar.cmpi .sgt arg0 c0_i32_135
  let v338 : BitVec 32 := Scalar.extui v337
  let c0_i32_136 : BitVec 32 := 0#32
  let v339 : BitVec 1 := Scalar.cmpi .ne v338 c0_i32_136
  v339

def k0_cond5 (i : grid0.Coords) : BitVec 1 :=
  let arg0 : BitVec 32 := BitVec.ofNat 32 (i 0).val
  let c0_i32_137 : BitVec 32 := 0#32
  let v340 : BitVec 1 := Scalar.cmpi .eq arg0 c0_i32_137
  let v341 : BitVec 32 := Scalar.extui v340
  let c0_i32_138 : BitVec 32 := 0#32
  let v342 : BitVec 1 := Scalar.cmpi .ne v341 c0_i32_138
  v342

def k0_cond6 (i : grid0.Coords) : BitVec 1 :=
  let arg0 : BitVec 32 := BitVec.ofNat 32 (i 0).val
  let c0_i32_139 : BitVec 32 := 0#32
  let v343 : BitVec 1 := Scalar.cmpi .sgt arg0 c0_i32_139
  let v344 : BitVec 32 := Scalar.extui v343
  let c0_i32_140 : BitVec 32 := 0#32
  let v345 : BitVec 1 := Scalar.cmpi .ne v344 c0_i32_140
  v345

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2048x512 : Shape := ⟨2, ![2048, 512]⟩
abbrev S256x1024 : Shape := ⟨2, ![256, 1024]⟩
abbrev S1x128 : Shape := ⟨2, ![1, 128]⟩
abbrev S256x512 : Shape := ⟨2, ![256, 512]⟩
abbrev S256x4x128 : Shape := ⟨3, ![256, 4, 128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩
abbrev S2048x4x128 : Shape := ⟨3, ![2048, 4, 128]⟩
abbrev S2048x4 : Shape := ⟨2, ![2048, 4]⟩
abbrev S2048x4x1 : Shape := ⟨3, ![2048, 4, 1]⟩
abbrev S4x2048x256 : Shape := ⟨3, ![4, 2048, 256]⟩
abbrev S4x2048 : Shape := ⟨2, ![4, 2048]⟩
abbrev S4x2048x1 : Shape := ⟨3, ![4, 2048, 1]⟩
abbrev S4x128x2048 : Shape := ⟨3, ![4, 128, 2048]⟩
abbrev S4x128x256 : Shape := ⟨3, ![4, 128, 256]⟩
abbrev S4x256x128 : Shape := ⟨3, ![4, 256, 128]⟩
abbrev S4x2048x128 : Shape := ⟨3, ![4, 2048, 128]⟩
abbrev S128 : Shape := ⟨1, ![128]⟩

abbrev nBuf : Space → Nat
  | .hbm => 149
  | .vmem => 0
  | .smem => 0
  | _ => 0

abbrev hbmTy0_0 (i : Nat) : BufTy := match i % 128 with
  | 0 => ⟨S2048x512, .f32⟩
  | 1 => ⟨S2048x512, .f32⟩
  | 2 => ⟨S256x1024, .f32⟩
  | 3 => ⟨S1x128, .f32⟩
  | 4 => ⟨S1x128, .f32⟩
  | 5 => ⟨S256x512, .f32⟩
  | 6 => ⟨S256x512, .f32⟩
  | 7 => ⟨S256x4x128, .f32⟩
  | 8 => ⟨S256x4x128, .f32⟩
  | 9 => ⟨S_, .f32⟩
  | 10 => ⟨S256x4, .f32⟩
  | 11 => ⟨S256x4x1, .f32⟩
  | 12 => ⟨S_, .f32⟩
  | 13 => ⟨S256x4x1, .f32⟩
  | 14 => ⟨S256x4x1, .f32⟩
  | 15 => ⟨S_, .f32⟩
  | 16 => ⟨S256x4x1, .f32⟩
  | 17 => ⟨S256x4x1, .f32⟩
  | 18 => ⟨S256x4x1, .f32⟩
  | 19 => ⟨S256x4x128, .f32⟩
  | 20 => ⟨S256x4x128, .f32⟩
  | 21 => ⟨S1x1x128, .f32⟩
  | 22 => ⟨S256x4x128, .f32⟩
  | 23 => ⟨S256x4x128, .f32⟩
  | 24 => ⟨S256x512, .f32⟩
  | 25 => ⟨S2048x4x128, .f32⟩
  | 26 => ⟨S2048x4x128, .f32⟩
  | 27 => ⟨S_, .f32⟩
  | 28 => ⟨S2048x4, .f32⟩
  | 29 => ⟨S2048x4x1, .f32⟩
  | 30 => ⟨S_, .f32⟩
  | 31 => ⟨S2048x4x1, .f32⟩
  | 32 => ⟨S2048x4x1, .f32⟩
  | 33 => ⟨S_, .f32⟩
  | 34 => ⟨S2048x4x1, .f32⟩
  | 35 => ⟨S2048x4x1, .f32⟩
  | 36 => ⟨S2048x4x1, .f32⟩
  | 37 => ⟨S2048x4x1, .f32⟩
  | 38 => ⟨S_, .f32⟩
  | 39 => ⟨S2048x4x1, .f32⟩
  | 40 => ⟨S2048x4x1, .f32⟩
  | 41 => ⟨S2048x4x128, .f32⟩
  | 42 => ⟨S2048x4x128, .f32⟩
  | 43 => ⟨S1x1x128, .f32⟩
  | 44 => ⟨S2048x4x128, .f32⟩
  | 45 => ⟨S2048x4x128, .f32⟩
  | 46 => ⟨S_, .f32⟩
  | 47 => ⟨S2048x4x128, .f32⟩
  | 48 => ⟨S2048x4x128, .f32⟩
  | 49 => ⟨S256x4x128, .f32⟩
  | 50 => ⟨S256x4x128, .f32⟩
  | 51 => ⟨S4x2048x256, .f32⟩
  | 52 => ⟨S_, .f32⟩
  | 53 => ⟨S4x2048, .f32⟩
  | 54 => ⟨S4x2048x1, .f32⟩
  | 55 => ⟨S4x2048x256, .f32⟩
  | 56 => ⟨S4x2048x256, .i1⟩
  | 57 => ⟨S4x2048x256, .f32⟩
  | 58 => ⟨S_, .f32⟩
  | 59 => ⟨S4x2048, .f32⟩
  | 60 => ⟨S_, .f32⟩
  | 61 => ⟨S4x2048, .f32⟩
  | 62 => ⟨S4x2048, .f32⟩
  | 63 => ⟨S_, .f32⟩
  | 64 => ⟨S4x2048, .f32⟩
  | 65 => ⟨S4x2048, .i1⟩
  | 66 => ⟨S_, .f32⟩
  | 67 => ⟨S4x2048, .f32⟩
  | 68 => ⟨S4x2048, .i1⟩
  | 69 => ⟨S_, .f32⟩
  | 70 => ⟨S4x2048, .f32⟩
  | 71 => ⟨S_, .f32⟩
  | 72 => ⟨S4x2048, .f32⟩
  | 73 => ⟨S_, .f32⟩
  | 74 => ⟨S4x2048, .f32⟩
  | 75 => ⟨S4x2048, .f32⟩
  | 76 => ⟨S4x2048, .f32⟩
  | 77 => ⟨S4x2048x1, .f32⟩
  | 78 => ⟨S4x2048x256, .f32⟩
  | 79 => ⟨S4x2048x256, .f32⟩
  | 80 => ⟨S4x2048x256, .f32⟩
  | 81 => ⟨S_, .f32⟩
  | 82 => ⟨S4x2048, .f32⟩
  | 83 => ⟨S4x2048x1, .f32⟩
  | 84 => ⟨S4x2048x256, .f32⟩
  | 85 => ⟨S4x2048x256, .f32⟩
  | 86 => ⟨S4x2048x1, .f32⟩
  | 87 => ⟨S_, .f32⟩
  | 88 => ⟨S4x2048x1, .f32⟩
  | 89 => ⟨S4x2048x1, .f32⟩
  | 90 => ⟨S4x128x2048, .f32⟩
  | 91 => ⟨S2048x4x128, .f32⟩
  | 92 => ⟨S2048x512, .f32⟩
  | 93 => ⟨S2048x4x128, .f32⟩
  | 94 => ⟨S4x128x2048, .f32⟩
  | 95 => ⟨S4x2048x256, .f32⟩
  | 96 => ⟨S4x128x256, .f32⟩
  | 97 => ⟨S256x4x128, .f32⟩
  | 98 => ⟨S4x2048x256, .f32⟩
  | 99 => ⟨S4x2048x256, .f32⟩
  | 100 => ⟨S4x2048x256, .f32⟩
  | 101 => ⟨S_, .f32⟩
  | 102 => ⟨S4x2048, .f32⟩
  | 103 => ⟨S4x2048x1, .f32⟩
  | 104 => ⟨S4x2048x1, .f32⟩
  | 105 => ⟨S4x2048x256, .f32⟩
  | 106 => ⟨S4x2048x256, .f32⟩
  | 107 => ⟨S_, .f32⟩
  | 108 => ⟨S4x2048, .f32⟩
  | 109 => ⟨S4x2048x256, .f32⟩
  | 110 => ⟨S4x2048x256, .f32⟩
  | 111 => ⟨S4x2048x256, .f32⟩
  | 112 => ⟨S4x256x128, .f32⟩
  | 113 => ⟨S256x4x128, .f32⟩
  | 114 => ⟨S4x2048x128, .f32⟩
  | 115 => ⟨S2048x4x128, .f32⟩
  | 116 => ⟨S256x512, .f32⟩
  | 117 => ⟨S256x512, .f32⟩
  | 118 => ⟨S_, .f32⟩
  | 119 => ⟨S2048x4x128, .f32⟩
  | 120 => ⟨S2048x4x128, .f32⟩
  | 121 => ⟨S2048x4x128, .f32⟩
  | 122 => ⟨S_, .f32⟩
  | 123 => ⟨S128, .f32⟩
  | 124 => ⟨S1x1x128, .f32⟩
  | 125 => ⟨S2048x4x128, .f32⟩
  | 126 => ⟨S2048x4x128, .f32⟩
  | 127 => ⟨S_, .f32⟩
  | _ => ⟨S2048x512, .f32⟩

abbrev hbmTy0_1 (i : Nat) : BufTy := match i % 128 with
  | 0 => ⟨S128, .f32⟩
  | 1 => ⟨S1x128, .f32⟩
  | 2 => ⟨S2048x4x128, .f32⟩
  | 3 => ⟨S_, .f32⟩
  | 4 => ⟨S2048x4, .f32⟩
  | 5 => ⟨S2048x4x1, .f32⟩
  | 6 => ⟨S2048x4x128, .f32⟩
  | 7 => ⟨S2048x4x128, .f32⟩
  | 8 => ⟨S2048x4x1, .f32⟩
  | 9 => ⟨S_, .f32⟩
  | 10 => ⟨S2048x4x1, .f32⟩
  | 11 => ⟨S2048x4x1, .f32⟩
  | 12 => ⟨S_, .f32⟩
  | 13 => ⟨S2048x4, .f32⟩
  | 14 => ⟨S2048x4x128, .f32⟩
  | 15 => ⟨S2048x4x128, .f32⟩
  | 16 => ⟨S2048x4x128, .f32⟩
  | 17 => ⟨S2048x4x128, .f32⟩
  | 18 => ⟨S2048x4x128, .f32⟩
  | 19 => ⟨S2048x512, .f32⟩
  | 20 => ⟨S2048x512, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_17 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_18 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_19 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_20 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_21 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_22 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_23 : Ref sig .tc := ⟨.hbm, 137, rfl⟩
abbrev main_v108 : Ref sig .tc := ⟨.hbm, 138, rfl⟩
abbrev main_v109 : Ref sig .tc := ⟨.hbm, 139, rfl⟩
abbrev main_cst_24 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩

abbrev nD : Nat := 1
abbrev τ : Topo := Topo.v7x

variable {F : FTy → Type} [FloatOps F]
-- ==== DownDx.lean ====
abbrev S2048x2048 : Shape := ⟨2, ![2048, 2048]⟩
abbrev S8192x2048 : Shape := ⟨2, ![8192, 2048]⟩
abbrev S2048x8192 : Shape := ⟨2, ![2048, 8192]⟩
abbrev S_ : Shape := ⟨0, ![]⟩
abbrev S1024x2048 : Shape := ⟨2, ![1024, 2048]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .bf16⟩
  | .hbm, ⟨10, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S2048x2048 : Shape := ⟨2, ![2048, 2048]⟩
abbrev S8192x2048 : Shape := ⟨2, ![8192, 2048]⟩
abbrev S2048x8192 : Shape := ⟨2, ![2048, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S8192x2048, .f32⟩
  | .hbm, ⟨16, _⟩ => ⟨S2048x2048, .f32⟩
  | .hbm, ⟨17, _⟩ => ⟨S2048x2048, .f32⟩
  | .hbm, ⟨18, _⟩ => ⟨S2048x8192, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownDw.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S2048x8192 : Shape := ⟨2, ![2048, 8192]⟩
abbrev S8x2048x1024 : Shape := ⟨3, ![8, 2048, 1024]⟩
abbrev S2048x2048 : Shape := ⟨2, ![2048, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8x2048x1024, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2048x8192 : Shape := ⟨2, ![2048, 8192]⟩
abbrev S8x2048x1024 : Shape := ⟨3, ![8, 2048, 1024]⟩
abbrev S_ : Shape := ⟨0, ![]⟩
abbrev S2048x2048 : Shape := ⟨2, ![2048, 2048]⟩
abbrev S2048x8x1024 : Shape := ⟨3, ![2048, 8, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8x2048x1024, .bf16⟩
  | .hbm, ⟨2, _⟩ => ⟨S_, .f32⟩
  | .hbm, ⟨3, _⟩ => ⟨S2048x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S2048x2048 : Shape := ⟨2, ![2048, 2048]⟩
abbrev S2048x8192 : Shape := ⟨2, ![2048, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x2048 : Shape := ⟨2, ![2048, 2048]⟩
abbrev S2048x8192 : Shape := ⟨2, ![2048, 8192]⟩
abbrev S_ : Shape := ⟨0, ![]⟩
abbrev S8x2048x1024 : Shape := ⟨3, ![8, 2048, 1024]⟩
abbrev S2048x8x1024 : Shape := ⟨3, ![2048, 8, 1024]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S8x2048x1024, .f32⟩
  | .hbm, ⟨4, _⟩ => ⟨S2048x2048, .f32⟩
  | .hbm, ⟨5, _⟩ => ⟨S2048x8x1024, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S8192x2048, .f32⟩
  | .hbm, ⟨10, _⟩ => ⟨S2048x8192, .f32⟩
  | .hbm, ⟨11, _⟩ => ⟨S2048x8x1024, .f32⟩
  | .hbm, ⟨12, _⟩ => ⟨S8x2048x1024, .f32⟩
  | .hbm, ⟨13, _⟩ => ⟨S8x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InDx.lean ====
abbrev S2048x6400 : Shape := ⟨2, ![2048, 6400]⟩
abbrev S2048x2048 : Shape := ⟨2, ![2048, 2048]⟩
abbrev S1024x3200 : Shape := ⟨2, ![1024, 3200]⟩
abbrev S512x3200 : Shape := ⟨2, ![512, 3200]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x6400, .bf16⟩
  | .hbm, ⟨1, _⟩ => ⟨S2048x6400, .bf16⟩
  | .hbm, ⟨2, _⟩ => ⟨S2048x2048, .f32⟩
  | .local _ .vmem, ⟨0, _⟩ => ⟨S1024x3200, .bf16⟩
  | .local _ .vmem, ⟨1, _⟩ => ⟨S1024x3200, .bf16⟩
  | .local _ .vmem, ⟨2, _⟩ => ⟨S512x3200, .bf16⟩
  | .local _ .vmem, ⟨3, _⟩ => ⟨S512x3200, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S2048x6400 : Shape := ⟨2, ![2048, 6400]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6400, .bf16⟩
  | .hbm, ⟨1, _⟩ => ⟨S2048x6400, .bf16⟩
  | .hbm, ⟨2, _⟩ => ⟨S_, .f32⟩
  | .hbm, ⟨3, _⟩ => ⟨S2048x2048, .f32⟩
  | .hbm, ⟨4, _⟩ => ⟨S2048x6400, .f32⟩
  | .hbm, ⟨5, _⟩ => ⟨S2048x6400, .f32⟩
  | .hbm, ⟨6, _⟩ => ⟨S2048x6400, .f32⟩
  | .hbm, ⟨7, _⟩ => ⟨S2048x2048, .f32⟩
  | _, _ => ⟨S2048x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S2048x2048 : Shape := ⟨2, ![2048, 2048]⟩
abbrev S2048x6400 : Shape := ⟨2, ![2048, 6400]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6400, .bf16⟩
  | .hbm, ⟨2, _⟩ => ⟨S2048x6400, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S2048x2048 : Shape := ⟨2, ![2048, 2048]⟩
abbrev S2048x6400 : Shape := ⟨2, ![2048, 6400]⟩
abbrev S_ : Shape := ⟨0, ![]⟩
abbrev S6400x2048 : Shape := ⟨2, ![6400, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6400, .bf16⟩
  | .hbm, ⟨2, _⟩ => ⟨S_, .f32⟩
  | .hbm, ⟨3, _⟩ => ⟨S2048x6400, .f32⟩
  | .hbm, ⟨4, _⟩ => ⟨S2048x2048, .f32⟩
  | .hbm, ⟨5, _⟩ => ⟨S2048x6400, .f32⟩
  | .hbm, ⟨6, _⟩ => ⟨S2048x6400, .f32⟩
  | .hbm, ⟨7, _⟩ => ⟨S6400x2048, .f32⟩
  | .hbm, ⟨8, _⟩ => ⟨S2048x6400, .f32⟩
  | .hbm, ⟨9, _⟩ => ⟨S2048x6400, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S2048x2048 : Shape := ⟨2, ![2048, 2048]⟩
abbrev S8x2048x1024 : Shape := ⟨3, ![8, 2048, 1024]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S2048x2048 : Shape := ⟨2, ![2048, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .f32⟩
  | .hbm, ⟨10, _⟩ => ⟨S_, .f32⟩
  | .hbm, ⟨11, _⟩ => ⟨S2048x8192, .f32⟩
  | .hbm, ⟨12, _⟩ => ⟨S2048x8192, .i1⟩
  | .hbm, ⟨13, _⟩ => ⟨S_, .f32⟩
  | .hbm, ⟨14, _⟩ => ⟨S2048x8192, .f32⟩
  | .hbm, ⟨15, _⟩ => ⟨S2048x8192, .f32⟩
  | .hbm, ⟨16, _⟩ => ⟨S_, .f32⟩
  | .hbm, ⟨17, _⟩ => ⟨S2048x8192, .f32⟩
  | .hbm, ⟨18, _⟩ => ⟨S2048x8192, .f32⟩
  | .hbm, ⟨19, _⟩ => ⟨S2048x8192, .bf16⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S_, .f32⟩
  | .hbm, ⟨24, _⟩ => ⟨S2048x8192, .f32⟩
  | .hbm, ⟨25, _⟩ => ⟨S2048x8192, .f32⟩
  | .hbm, ⟨26, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Down.lean ====
abbrev S2048x8192 : Shape := ⟨2, ![2048, 8192]⟩
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S2048 : Shape := ⟨1, ![2048]⟩

abbrev nBuf : Space → Nat
  | .hbm => 32
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .hbm, ⟨4, _⟩ => ⟨S2048x8192, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== ProjIn.lean ====
abbrev S2048x2048 : Shape := ⟨2, ![2048, 2048]⟩
abbrev S2048x6400 : Shape := ⟨2, ![2048, 6400]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6400, .bf16⟩
  | .hbm, ⟨2, _⟩ => ⟨S2048x6400, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S2048x2048 : Shape := ⟨2, ![2048, 2048]⟩
abbrev S2048x6400 : Shape := ⟨2, ![2048, 6400]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6400, .bf16⟩
  | .hbm, ⟨2, _⟩ => ⟨S2048x2048, .f32⟩
  | .hbm, ⟨3, _⟩ => ⟨S2048x6400, .f32⟩
  | .hbm, ⟨4, _⟩ => ⟨S2048x6400, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjOut.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjOutRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== MlpNorm.lean ====
abbrev S2048x2048 : Shape := ⟨2, ![2048, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32_22 : BitVec 32 := 0#32
  let v46 : BitVec 1 := Scalar.cmpi .eq arg0 c0_i32_22
  let v47 : BitVec 32 := Scalar.extui v46
  let c0_i32_23 : BitVec 32 := 0#32
  let v48 : BitVec 1 := Scalar.cmpi .ne v47 c0_i32_23
  v48

def k0_cond4 (i : grid0.Coords) : BitVec 1 :=
  let arg0 : BitVec 32 := BitVec.ofNat 32 (i 0).val
  let c0_i32_24 : BitVec 32 := 0#32
  let v49 : BitVec 1 := Scalar.cmpi .sgt arg0 c0_i32_24
  let v50 : BitVec 32 := Scalar.extui v49
  let c0_i32_25 : BitVec 32 := 0#32
  let v51 : BitVec 1 := Scalar.cmpi .ne v50 c0_i32_25
  v51

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_19 : BitVec 32 := 0#32
  let v42 : BitVec 1 := Scalar.cmpi .ne v41 c0_i32_19
  v42

def k0_cond2 (i : grid0.Coords) : BitVec 1 :=
  let arg0 : BitVec 32 := BitVec.ofNat 32 (i 0).val
  let c0_i32_20 : BitVec 32 := 0#32
  let v43 : BitVec 1 := Scalar.cmpi .sgt arg0 c0_i32_20
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpNormRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S2048x2048, .bf16⟩
  | .hbm, ⟨61, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Cq.lean ====
abbrev S2048x2048 : Shape := ⟨2, ![2048, 2048]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CqRefIdeal.lean ====
abbrev S2048x2048 : Shape := ⟨2, ![2048, 2048]⟩
abbrev S2048x512 : Shape := ⟨2, ![2048, 512]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x2048, .f32⟩
  | .hbm, ⟨3, _⟩ => ⟨S2048x512, .f32⟩
  | .hbm, ⟨4, _⟩ => ⟨S2048x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ckv.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .local _ .vmem, ⟨0, _⟩ => ⟨S256x2048, .bf16⟩
  | .local _ .vmem, ⟨1, _⟩ => ⟨S2048x1024, .bf16⟩
  | .local _ .vmem, ⟨2, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CkvRefIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Co.lean ====
abbrev S2048x512 : Shape := ⟨2, ![2048, 512]⟩
abbrev S8x512x256 : Shape := ⟨3, ![8, 512, 256]⟩
abbrev S2048x2048 : Shape := ⟨2, ![2048, 2048]⟩
abbrev S1024x512 : Shape := ⟨2, ![1024, 512]⟩
abbrev S1x512x256 : Shape := ⟨3, ![1, 512, 256]⟩
abbrev S1024x256 : Shape := ⟨2, ![1024, 256]⟩
abbrev S512x256 : Shape := ⟨2, ![512, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S8x512x256, .bf16⟩
  | .hbm, ⟨2, _⟩ => ⟨S2048x2048, .f32⟩
  | .hbm, ⟨3, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x256, .bf16⟩
  | .local _ .vmem, ⟨3, _⟩ => ⟨S1x512x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CoRefIdeal.lean ====
abbrev S2048x512 : Shape := ⟨2, ![2048, 512]⟩
abbrev S8x512x256 : Shape := ⟨3, ![8, 512, 256]⟩
abbrev S2048x2048 : Shape := ⟨2, ![2048, 2048]⟩
abbrev S512x8x256 : Shape := ⟨3, ![512, 8, 256]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S8x512x256, .bf16⟩
  | .hbm, ⟨2, _⟩ => ⟨S2048x2048, .f32⟩
  | .hbm, ⟨3, _⟩ => ⟨S2048x512, .f32⟩
  | .hbm, ⟨4, _⟩ => ⟨S8x512x256, .f32⟩
  | .hbm, ⟨5, _⟩ => ⟨S512x8x256, .f32⟩
  | .hbm, ⟨6, _⟩ => ⟨S512x2048, .f32⟩
  | .hbm, ⟨7, _⟩ => ⟨S2048x2048, .f32⟩
  | .hbm, ⟨8, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CoDx.lean ====
abbrev S2048x2048 : Shape := ⟨2, ![2048, 2048]⟩
abbrev S8x512x256 : Shape := ⟨3, ![8, 512, 256]⟩
abbrev S2048x512 : Shape := ⟨2, ![2048, 512]⟩
abbrev S1024x256 : Shape := ⟨2, ![1024, 256]⟩
abbrev S1x512x256 : Shape := ⟨3, ![1, 512, 256]⟩
abbrev S1024x512 : Shape := ⟨2, ![1024, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x512x256, .bf16⟩
  | .hbm, ⟨2, _⟩ => ⟨S2048x512, .f32⟩
  | .local _ .vmem, ⟨0, _⟩ => ⟨S1024x256, .bf16⟩
  | .local _ .vmem, ⟨1, _⟩ => ⟨S1024x256, .bf16⟩
  | .local _ .vmem, ⟨2, _⟩ => ⟨S1x512x256, .bf16⟩
  | .local _ .vmem, ⟨3, _⟩ => ⟨S1x512x256, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CoDxRefIdeal.lean ====
abbrev S2048x2048 : Shape := ⟨2, ![2048, 2048]⟩
abbrev S8x512x256 : Shape := ⟨3, ![8, 512, 256]⟩
abbrev S_ : Shape := ⟨0, ![]⟩
abbrev S2048x512 : Shape := ⟨2, ![2048, 512]⟩
abbrev S512x8x256 : Shape := ⟨3, ![512, 8, 256]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x512x256, .bf16⟩
  | .hbm, ⟨2, _⟩ => ⟨S_, .f32⟩
  | .hbm, ⟨3, _⟩ => ⟨S2048x512, .f32⟩
  | .hbm, ⟨4, _⟩ => ⟨S8x512x256, .f32⟩
  | .hbm, ⟨5, _⟩ => ⟨S512x8x256, .f32⟩
  | .hbm, ⟨6, _⟩ => ⟨S512x2048, .f32⟩
  | .hbm, ⟨7, _⟩ => ⟨S2048x2048, .f32⟩
  | .hbm, ⟨8, _⟩ => ⟨S2048x2048, .f32⟩
  | .hbm, ⟨9, _⟩ => ⟨S2048x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CoDw.lean ====
abbrev S2048x512 : Shape := ⟨2, ![2048, 512]⟩
abbrev S2048x2048 : Shape := ⟨2, ![2048, 2048]⟩
abbrev S8x512x256 : Shape := ⟨3, ![8, 512, 256]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S8x512x256, .bf16⟩
  | .local _ .vmem, ⟨0, _⟩ => ⟨S2048x512, .bf16⟩
  | .local _ .vmem, ⟨1, _⟩ => ⟨S2048x256, .bf16⟩
  | .local _ .vmem, ⟨2, _⟩ => ⟨S2048x256, .bf16⟩
  | .local _ .vmem, ⟨3, _⟩ => ⟨S1x512x256, .bf16⟩
  | .local _ .vmem, ⟨4, _⟩ => ⟨S1x512x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CoDwRefIdeal.lean ====
abbrev S2048x512 : Shape := ⟨2, ![2048, 512]⟩
abbrev S2048x2048 : Shape := ⟨2, ![2048, 2048]⟩
abbrev S_ : Shape := ⟨0, ![]⟩
abbrev S8x512x256 : Shape := ⟨3, ![8, 512, 256]⟩
abbrev S512x8x256 : Shape := ⟨3, ![512, 8, 256]⟩
abbrev S512x2048 : Shape := ⟨2, ![512, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S_, .f32⟩
  | .hbm, ⟨3, _⟩ => ⟨S8x512x256, .f32⟩
  | .hbm, ⟨4, _⟩ => ⟨S2048x512, .f32⟩
  | .hbm, ⟨5, _⟩ => ⟨S512x8x256, .f32⟩
  | .hbm, ⟨6, _⟩ => ⟨S512x2048, .f32⟩
  | .hbm, ⟨7, _⟩ => ⟨S2048x2048, .f32⟩
  | .hbm, ⟨8, _⟩ => ⟨S2048x2048, .f32⟩
  | .hbm, ⟨9, _⟩ => ⟨S2048x512, .f32⟩
  | .hbm, ⟨10, _⟩ => ⟨S512x2048, .f32⟩
  | .hbm, ⟨11, _⟩ => ⟨S512x8x256, .f32⟩
  | .hbm, ⟨12, _⟩ => ⟨S8x512x256, .f32⟩
  | .hbm, ⟨13, _⟩ => ⟨S8x512x256, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== CqDw.lean ====
abbrev S2048x2048 : Shape := ⟨2, ![2048, 2048]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CqDwRefIdeal.lean ====
abbrev S2048x2048 : Shape := ⟨2, ![2048, 2048]⟩
abbrev S2048x512 : Shape := ⟨2, ![2048, 512]⟩
abbrev S_ : Shape := ⟨0, ![]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S_, .f32⟩
  | .hbm, ⟨3, _⟩ => ⟨S2048x512, .f32⟩
  | .hbm, ⟨4, _⟩ => ⟨S2048x2048, .f32⟩
  | .hbm, ⟨5, _⟩ => ⟨S2048x512, .f32⟩
  | .hbm, ⟨6, _⟩ => ⟨S2048x512, .f32⟩
  | .hbm, ⟨7, _⟩ => ⟨S512x2048, .f32⟩
  | .hbm, ⟨8, _⟩ => ⟨S2048x512, .f32⟩
  | .hbm, ⟨9, _⟩ => ⟨S2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CqDx.lean ====
abbrev S2048x512 : Shape := ⟨2, ![2048, 512]⟩
abbrev S2048x2048 : Shape := ⟨2, ![2048, 2048]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CqDxRefIdeal.lean ====
abbrev S2048x512 : Shape := ⟨2, ![2048, 512]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S_, .f32⟩
  | .hbm, ⟨3, _⟩ => ⟨S2048x2048, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== CkvDw.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CkvDwRefIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S256x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CkvDx.lean ====
abbrev S256x1024 : Shape := ⟨2, ![256, 1024]⟩
abbrev S2048x1024 : Shape := ⟨2, ![2048, 1024]⟩
abbrev S256x2048 : Shape := ⟨2, ![256, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S2048x1024, .bf16⟩
  | .hbm, ⟨2, _⟩ => ⟨S256x2048, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CkvDxRefIdeal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S2048x1024, .bf16⟩
  | .hbm, ⟨2, _⟩ => ⟨S_, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S256x1024, .f32⟩
  | .hbm, ⟨7, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemNorm.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemNormBwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemNormBwdRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 22
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S2048, .f32⟩
  | .hbm, ⟨21, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== CrossFwd.lean ====
abbrev S2048x512 : Shape := ⟨2, ![2048, 512]⟩
abbrev S256x1024 : Shape := ⟨2, ![256, 1024]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 5
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S2048x512, .bf16⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S1x128, .f32⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CrossFwdRefIdeal.lean ====
abbrev S2048x512 : Shape := ⟨2, ![2048, 512]⟩
abbrev S256x1024 : Shape := ⟨2, ![256, 1024]⟩
abbrev S1x128 : Shape := ⟨2, ![1, 128]⟩
abbrev S256x512 : Shape := ⟨2, ![256, 512]⟩
abbrev S256x4x128 : Shape := ⟨3, ![256, 4, 128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩
abbrev S2048x4x128 : Shape := ⟨3, ![2048, 4, 128]⟩
abbrev S2048x4 : Shape := ⟨2, ![2048, 4]⟩
abbrev S2048x4x1 : Shape := ⟨3, ![2048, 4, 1]⟩
abbrev S4x2048x256 : Shape := ⟨3, ![4, 2048, 256]⟩
abbrev S4x2048 : Shape := ⟨2, ![4, 2048]⟩
abbrev S4x2048x1 : Shape := ⟨3, ![4, 2048, 1]⟩
abbrev S4x128x2048 : Shape := ⟨3, ![4, 128, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S256x512, .f32⟩
  | .hbm, ⟨5, _⟩ => ⟨S256x4x128, .f32⟩
  | .hbm, ⟨6, _⟩ => ⟨S256x4x128, .f32⟩
  | .hbm, ⟨7, _⟩ => ⟨S_, .f32⟩
  | .hbm, ⟨8, _⟩ => ⟨S256x4, .f32⟩
  | .hbm, ⟨9, _⟩ => ⟨S256x4x1, .f32⟩
  | .hbm, ⟨10, _⟩ => ⟨S_, .f32⟩
  | .hbm, ⟨11, _⟩ => ⟨S256x4x1, .f32⟩
  | .hbm, ⟨12, _⟩ => ⟨S256x4x1, .f32⟩
  | .hbm, ⟨13, _⟩ => ⟨S_, .f32⟩
  | .hbm, ⟨14, _⟩ => ⟨S256x4x1, .f32⟩
  | .hbm, ⟨15, _⟩ => ⟨S256x4x1, .f32⟩
  | .hbm, ⟨16, _⟩ => ⟨S256x4x1, .f32⟩
  | .hbm, ⟨17, _⟩ => ⟨S256x4x128, .f32⟩
  | .hbm, ⟨18, _⟩ => ⟨S256x4x128, .f32⟩
  | .hbm, ⟨19, _⟩ => ⟨S1x1x128, .f32⟩
  | .hbm, ⟨20, _⟩ => ⟨S256x4x128, .f32⟩
  | .hbm, ⟨21, _⟩ => ⟨S256x4x128, .f32⟩
  | .hbm, ⟨22, _⟩ => ⟨S256x512, .f32⟩
  | .hbm, ⟨23, _⟩ => ⟨S256x512, .f32⟩
  | .hbm, ⟨24, _⟩ => ⟨S2048x4x128, .f32⟩
  | .hbm, ⟨25, _⟩ => ⟨S2048x4x128, .f32⟩
  | .hbm, ⟨26, _⟩ => ⟨S_, .f32⟩
  | .hbm, ⟨27, _⟩ => ⟨S2048x4, .f32⟩
  | .hbm, ⟨28, _⟩ => ⟨S2048x4x1, .f32⟩
  | .hbm, ⟨29, _⟩ => ⟨S_, .f32⟩
  | .hbm, ⟨30, _⟩ => ⟨S2048x4x1, .f32⟩
  | .hbm, ⟨31, _⟩ => ⟨S2048x4x1, .f32⟩
  | .hbm, ⟨32, _⟩ => ⟨S_, .f32⟩
  | .hbm, ⟨33, _⟩ => ⟨S2048x4x1, .f32⟩
  | .hbm, ⟨34, _⟩ => ⟨S2048x4x1, .f32⟩
  | .hbm, ⟨35, _⟩ => ⟨S2048x4x1, .f32⟩
  | .hbm, ⟨36, _⟩ => ⟨S2048x4x128, .f32⟩
  | .hbm, ⟨37, _⟩ => ⟨S2048x4x128, .f32⟩
  | .hbm, ⟨38, _⟩ => ⟨S1x1x128, .f32⟩
  | .hbm, ⟨39, _⟩ => ⟨S2048x4x128, .f32⟩
  | .hbm, ⟨40, _⟩ => ⟨S2048x4x128, .f32⟩
  | .hbm, ⟨41, _⟩ => ⟨S_, .f32⟩
  | .hbm, ⟨42, _⟩ => ⟨S2048x4x128, .f32⟩
  | .hbm, ⟨43, _⟩ => ⟨S2048x4x128, .f32⟩
  | .hbm, ⟨44, _⟩ => ⟨S256x4x128, .f32⟩
  | .hbm, ⟨45, _⟩ => ⟨S256x4x128, .f32⟩
  | .hbm, ⟨46, _⟩ => ⟨S4x2048x256, .f32⟩
  | .hbm, ⟨47, _⟩ => ⟨S_, .f32⟩
  | .hbm, ⟨48, _⟩ => ⟨S4x2048, .f32⟩
  | .hbm, ⟨49, _⟩ => ⟨S_, .f32⟩
  | .hbm, ⟨50, _⟩ => ⟨S4x2048, .f32⟩
  | .hbm, ⟨51, _⟩ => ⟨S4x2048, .f32⟩
  | .hbm, ⟨52, _⟩ => ⟨S4x2048x1, .f32⟩
  | .hbm, ⟨53, _⟩ => ⟨S4x2048x256, .f32⟩
  | .hbm, ⟨54, _⟩ => ⟨S4x2048x256, .f32⟩
  | .hbm, ⟨55, _⟩ => ⟨S4x2048x256, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S4x2048x256, .f32⟩
  | .hbm, ⟨60, _⟩ => ⟨S4x2048x256, .f32⟩
  | .hbm, ⟨61, _⟩ => ⟨S4x128x2048, .f32⟩
  | .hbm, ⟨62, _⟩ => ⟨S2048x4x128, .f32⟩
  | .hbm, ⟨63, _⟩ => ⟨S2048x512, .f32⟩
  | .hbm, ⟨64, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== KeyNorm.lean ====
abbrev S256x1024 : Shape := ⟨2, ![256, 1024]⟩
abbrev S256x512 : Shape := ⟨2, ![256, 512]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x512, .f32⟩
  | .hbm, ⟨3, _⟩ => ⟨S1x128, .f32⟩
  | .hbm, ⟨4, _⟩ => ⟨S256x1024, .bf16⟩
  | .hbm, ⟨5, _⟩ => ⟨S1x128, .f32⟩
  | .local _ .vmem, ⟨0, _⟩ => ⟨S256x1024, .f32⟩
  | .local _ .vmem, ⟨1, _⟩ => ⟨S256x512, .f32⟩
  | .local _ .vmem, ⟨2, _⟩ => ⟨S256x512, .f32⟩
  | .local _ .vmem, ⟨3, _⟩ => ⟨S1x128, .f32⟩
  | .local _ .vmem, ⟨4, _⟩ => ⟨S256x1024, .bf16⟩
  | .local _ .vmem, ⟨5, _⟩ => ⟨S1x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KeyNormRefIdeal.lean ====
abbrev S256x1024 : Shape := ⟨2, ![256, 1024]⟩
abbrev S256x512 : Shape := ⟨2, ![256, 512]⟩
abbrev S1x128 : Shape := ⟨2, ![1, 128]⟩
abbrev S256x4x128 : Shape := ⟨3, ![256, 4, 128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩
abbrev S128 : Shape := ⟨1, ![128]⟩

abbrev nBuf : Space → Nat
  | .hbm => 62
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x512, .f32⟩
  | .hbm, ⟨3, _⟩ => ⟨S1x128, .f32⟩
  | .hbm, ⟨4, _⟩ => ⟨S256x512, .f32⟩
  | .hbm, ⟨5, _⟩ => ⟨S256x4x128, .f32⟩
  | .hbm, ⟨6, _⟩ => ⟨S256x4x128, .f32⟩
  | .hbm, ⟨7, _⟩ => ⟨S_, .f32⟩
  | .hbm, ⟨8, _⟩ => ⟨S256x4, .f32⟩
  | .hbm, ⟨9, _⟩ => ⟨S256x4x1, .f32⟩
  | .hbm, ⟨10, _⟩ => ⟨S_, .f32⟩
  | .hbm, ⟨11, _⟩ => ⟨S256x4x1, .f32⟩
  | .hbm, ⟨12, _⟩ => ⟨S256x4x1, .f32⟩
  | .hbm, ⟨13, _⟩ => ⟨S_, .f32⟩
  | .hbm, ⟨14, _⟩ => ⟨S256x4x1, .f32⟩
  | .hbm, ⟨15, _⟩ => ⟨S256x4x1, .f32⟩
  | .hbm, ⟨16, _⟩ => ⟨S256x4x1, .f32⟩
  | .hbm, ⟨17, _⟩ => ⟨S256x4x1, .f32⟩
  | .hbm, ⟨18, _⟩ => ⟨S_, .f32⟩
  | .hbm, ⟨19, _⟩ => ⟨S256x4x1, .f32⟩
  | .hbm, ⟨20, _⟩ => ⟨S256x4x1, .f32⟩
  | .hbm, ⟨21, _⟩ => ⟨S256x4x128, .f32⟩
  | .hbm, ⟨22, _⟩ => ⟨S256x4x128, .f32⟩
  | .hbm, ⟨23, _⟩ => ⟨S1x1x128, .f32⟩
  | .hbm, ⟨24, _⟩ => ⟨S256x4x128, .f32⟩
  | .hbm, ⟨25, _⟩ => ⟨S256x4x128, .f32⟩
  | .hbm, ⟨26, _⟩ => ⟨S256x512, .f32⟩
  | .hbm, ⟨27, _⟩ => ⟨S256x512, .f32⟩
  | .hbm, ⟨28, _⟩ => ⟨S_, .f32⟩
  | .hbm, ⟨29, _⟩ => ⟨S256x1024, .f32⟩
  | .hbm, ⟨30, _⟩ => ⟨S256x4x128, .f32⟩
  | .hbm, ⟨31, _⟩ => ⟨S256x4x128, .f32⟩
  | .hbm, ⟨32, _⟩ => ⟨S_, .f32⟩
  | .hbm, ⟨33, _⟩ => ⟨S128, .f32⟩
  | .hbm, ⟨34, _⟩ => ⟨S1x1x128, .f32⟩
  | .hbm, ⟨35, _⟩ => ⟨S256x4x128, .f32⟩
  | .hbm, ⟨36, _⟩ => ⟨S256x4x128, .f32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S256x4x128, .f32⟩
  | .hbm, ⟨41, _⟩ => ⟨S_, .f32⟩
  | .hbm, ⟨42, _⟩ => ⟨S256x4, .f32⟩
  | .hbm, ⟨43, _⟩ => ⟨S256x4x1, .f32⟩
  | .hbm, ⟨44, _⟩ => ⟨S256x4x128, .f32⟩
  | .hbm, ⟨45, _⟩ => ⟨S256x4x128, .f32⟩
  | .hbm, ⟨46, _⟩ => ⟨S256x4x1, .f32⟩
  | .hbm, ⟨47, _⟩ => ⟨S_, .f32⟩
  | .hbm, ⟨48, _⟩ => ⟨S256x4x1, .f32⟩
  | .hbm, ⟨49, _⟩ => ⟨S256x4x1, .f32⟩
  | .hbm, ⟨50, _⟩ => ⟨S_, .f32⟩
  | .hbm, ⟨51, _⟩ => ⟨S256x4, .f32⟩
  | .hbm, ⟨52, _⟩ => ⟨S256x4x128, .f32⟩
  | .hbm, ⟨53, _⟩ => ⟨S256x4x128, .f32⟩
  | .hbm, ⟨54, _⟩ => ⟨S256x4x128, .f32⟩
  | .hbm, ⟨55, _⟩ => ⟨S256x4x128, .f32⟩
  | .hbm, ⟨56, _⟩ => ⟨S256x4x128, .f32⟩
  | .hbm, ⟨57, _⟩ => ⟨S256x512, .f32⟩
  | .hbm, ⟨58, _⟩ => ⟨S_, .f32⟩
  | .hbm, ⟨59, _⟩ => ⟨S256x1024, .f32⟩
  | .hbm, ⟨60, _⟩ => ⟨S256x1024, .f32⟩
  | .hbm, ⟨61, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Proof.CrossHead.lean ====
module

public import proofs.«01_k».proof.Proof.Gen.KernelIdeal.Skeleton
public import Idealize.ShloMosaic.Lib.Pointwise
public import Idealize.ShloMosaic.Lib.ValueIdx
public import Idealize.ShloMosaic.Lib.Pipeline.Value
public import Idealize.ShloMosaic.Lib.Pipeline.ValueKit.Tiles

@[expose] public section

noncomputable section

/-! ## One head of the cross-attention's gradient on one block of 256 query rows, as vectors

The kernel's body does the same operations once per head on columns `128 h … 128 h + 127` of its blocks. Here they are
written once, over one head's query rows `q`, keys `k`, values `v`, cotangent rows `o` and the two norm gains. -/

namespace Cert.Cross

open Cert.KernelIdeal Cert.KernelIdeal.Gen Idealize.ShloMosaic

variable {F : FTy → Type} [FloatOps F]

/-- Each row's `rsqrt(mean(x²) + eps)`. -/
def rinv (x : FVec F S256x128 .f32) : FVec F S256x1 .f32 :=
  rsqrt (addf (divf (shapeCast S256x1 (multiReduction .add [1] S256 (mulf x x) 0x00000000#32 reduces_S256x128_S256 (.inl rfl) rfl) shapeCasts_S256_S256x1)
    (broadcast S256x1 (Scalar.ofBits .f32 0x43000000#32))) (broadcast S256x1 (Scalar.ofBits .f32 0x358637BD#32)))

/-- The rows divided by their root mean square. -/
def nrm (x : FVec F S256x128 .f32) : FVec F S256x128 .f32 :=
  mulf x (broadcastTo S256x128 (rinv x) broadcasts_S256x1_S256x128)

/-- The normalised, gained and scaled queries. -/
def qry (q : FVec F S256x128 .f32) (gq : FVec F S1x128 .f32) : FVec F S256x128 .bf16 :=
  truncf .bf16 (mulf (mulf (nrm q) (broadcastTo S256x128 gq broadcasts_S1x128_S256x128)) (broadcast S256x128 (Scalar.ofBits .f32 0x3DB504F3#32))) bitsLt_bf16_f32

/-- The normalised and gained keys. -/
def key (k : FVec F S256x128 .f32) (gk : FVec F S1x128 .f32) : FVec F S256x128 .bf16 :=
  truncf .bf16 (mulf (nrm k) (broadcastTo S256x128 gk broadcasts_S1x128_S256x128)) bitsLt_bf16_f32

/-- The scores of every query row against every memory row. -/
def scores (q k : FVec F S256x128 .f32) (gq gk : FVec F S1x128 .f32) : FVec F S256x256 .f32 :=
  matmul dot_S256x128_S256x128_S256x256_1_1_0_0_n_n none (qry q gq) (key k gk) (constant S256x256 .f32 0x00000000#32)

/-- The exponentials of the scores less their row's greatest. -/
def expo (s : FVec F S256x256 .f32) : FVec F S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- The attention weights: each row of exponentials over its sum. -/
def soft (s : FVec F S256x256 .f32) : FVec F S256x256 .f32 :=
  divf (expo s) (broadcastTo S256x256 (shapeCast S256x1 (multiReduction .add [1] S256 (expo s) 0x00000000#32 reduces_S256x256_S256 (.inl rfl) rfl) shapeCasts_S256_S256x1) broadcasts_S256x1_S256x256)

/-- The gradient of the weights: cotangent rows against value rows. -/
def dsoft (v o : FVec F S256x128 .f32) : FVec F S256x256 .f32 :=
  matmul dot_S256x128_S256x128_S256x256_1_1_0_0_n_n none (truncf .bf16 o bitsLt_bf16_f32) (truncf .bf16 v bitsLt_bf16_f32) (constant S256x256 .f32 0x00000000#32)

/-- The gradient of the scores from the weights `p` and the weights' gradient `d`. -/
def dscores (p d : FVec F S256x256 .f32) : FVec F S256x256 .bf16 :=
  truncf .bf16 (mulf p (subf d (broadcastTo S256x256 (shapeCast S256x1 (multiReduction .add [1] S256 (mulf d p) 0x00000000#32 reduces_S256x256_S256 (.inl rfl) rfl) shapeCasts_S256_S256x1) broadcasts_S256x1_S256x256))) bitsLt_bf16_f32

/-- The gradient of the scores of one head. -/
def dscr (q k v o : FVec F S256x128 .f32) (gq gk : FVec F S1x128 .f32) : FVec F S256x256 .bf16 :=
  dscores (soft (scores q k gq gk)) (dsoft v o)

/-- The gradient of the scaled, gained queries. -/
def dqry (q k v o : FVec F S256x128 .f32) (gq gk : FVec F S1x128 .f32) : FVec F S256x128 .f32 :=
  matmul dot_S256x256_S256x128_S256x128_1_0_0_1_n_n none (dscr q k v o gq gk) (key k gk) (constant S256x128 .f32 0x00000000#32)

/-- The gradient of the normalised queries. -/
def dnrm (q k v o : FVec F S256x128 .f32) (gq gk : FVec F S1x128 .f32) : FVec F S256x128 .f32 :=
  mulf (dqry q k v o gq gk) (broadcastTo S256x128 (mulf gq (broadcast S1x128 (Scalar.ofBits .f32 0x3DB504F3#32))) broadcasts_S1x128_S256x128)

/-- The block of the queries' gradient. -/
def dqBlk (q k v o : FVec F S256x128 .f32) (gq gk : FVec F S1x128 .f32) : FVec F S256x128 .bf16 :=
  truncf .bf16 (mulf (broadcastTo S256x128 (rinv q) broadcasts_S256x1_S256x128)
    (subf (dnrm q k v o gq gk) (mulf (nrm q) (broadcastTo S256x128 (divf
      (shapeCast S256x1 (multiReduction .add [1] S256 (mulf (dnrm q k v o gq gk) (nrm q)) 0x00000000#32 reduces_S256x128_S256 (.inl rfl) rfl) shapeCasts_S256_S256x1)
      (broadcast S256x1 (Scalar.ofBits .f32 0x43000000#32))) broadcasts_S256x1_S256x128)))) bitsLt_bf16_f32

/-- The block's part of the normalised keys' gradient. -/
def dkBlk (q k v o : FVec F S256x128 .f32) (gq gk : FVec F S1x128 .f32) : FVec F S256x128 .f32 :=
  matmul dot_S256x256_S256x128_S256x128_0_0_1_1_n_n none (dscr q k v o gq gk) (qry q gq) (constant S256x128 .f32 0x00000000#32)

/-- The block's part of the values' gradient. -/
def dvBlk (q k o : FVec F S256x128 .f32) (gq gk : FVec F S1x128 .f32) : FVec F S256x128 .f32 :=
  matmul dot_S256x256_S256x128_S256x128_0_0_1_1_n_n none (truncf .bf16 (soft (scores q k gq gk)) bitsLt_bf16_f32) (truncf .bf16 o bitsLt_bf16_f32) (constant S256x128 .f32 0x00000000#32)

/-- The block's part of the query gain's gradient. -/
def dgBlk (q k v o : FVec F S256x128 .f32) (gq gk : FVec F S1x128 .f32) : FVec F S1x128 .f32 :=
  shapeCast S1x128 (multiReduction .add [0] S128 (mulf (mulf (dqry q k v o gq gk) (broadcast S256x128 (Scalar.ofBits .f32 0x3DB504F3#32))) (nrm q)) 0x00000000#32 reduces_S256x128_S128 (.inl rfl) rfl) shapeCasts_S128_S1x128

/-! ### The heads' columns -/

/-- Column `d` of head `h` among the 512. -/
def col (h : Fin 4) (d : Fin 128) : Fin 512 := ⟨128 * h + d, by omega⟩
/-- Column `d` of head `h`'s keys among the 1024. -/
def colK (h : Fin 4) (d : Fin 128) : Fin 1024 := ⟨128 * h + d, by omega⟩
/-- Column `d` of head `h`'s values among the 1024. -/
def colV (h : Fin 4) (d : Fin 128) : Fin 1024 := ⟨512 + (128 * h + d), by omega⟩

/-- Head `h`'s columns of a block of rows. -/
def colsOf (x : FVec F S256x512 .f32) (h : Fin 4) : FVec F S256x128 .f32 := fun i => x (ix2 (i 0) (col h (i 1)))
/-- Head `h`'s keys. -/
def keysOf (x : FVec F S256x1024 .f32) (h : Fin 4) : FVec F S256x128 .f32 := fun i => x (ix2 (i 0) (colK h (i 1)))
/-- Head `h`'s values. -/
def valsOf (x : FVec F S256x1024 .f32) (h : Fin 4) : FVec F S256x128 .f32 := fun i => x (ix2 (i 0) (colV h (i 1)))

/-- Four heads' blocks side by side. -/
def side (f : Fin 4 → FVec F S256x128 .f32) : FVec F S256x512 .f32 :=
  concatenate S256x512 1 [⟨S256x128, f 0⟩, ⟨S256x128, f 1⟩, ⟨S256x128, f 2⟩, ⟨S256x128, f 3⟩] concatenates_S256x128_S256x128_S256x128_S256x128_S256x512_d1

/-- Side by side, head `h`'s columns are its block. -/
theorem side_apply (f : Fin 4 → FVec F S256x128 .f32) (i : Fin 256) (h : Fin 4) (d : Fin 128) :
    side f (ix2 i (col h d)) = f h (ix2 i d) :=
  concatenate_ofFn_apply (s₁ := S256x128) (t := S256x512) 1 f concatenates_S256x128_S256x128_S256x128_S256x128_S256x512_d1 rfl 128 rfl (ix2 i (col h d)) h
    (by show (128 * h.val + d.val) / 128 = h.val; omega) (ix2 i d) (by show d.val = (128 * h.val + d.val) % 128; omega)
    (fun b hb => by match b with | ⟨0, _⟩ => rfl | ⟨1, _⟩ => exact absurd rfl hb)

/-- A slice at head `h`'s columns. -/
theorem slice_eq (x : FVec F S256x512 .f32) (o : Nat) (hs) (h : Fin 4) (ho : o = 128 * h) :
    extractStridedSlice S256x128 ![0, o] x hs = colsOf x h := by
  subst ho
  funext i
  refine congrArg x (funext fun a => Fin.ext ?_)
  match a with
  | ⟨0, _⟩ => exact Nat.zero_add _
  | ⟨1, _⟩ => rfl

/-- A load of head `h`'s columns. -/
theorem ld_cols (x : FVec F S256x512 .f32) (o : Nat) (hs) (h : Fin 4) (ho : o = 128 * h) :
    View.ld (Val := Elt F) (e' := .f32) x (Rect.unit (s := S256x512) ![0, o] ![256, 128] hs) = colsOf x h := by
  rw [View.ld_unit]; exact slice_eq x o _ h ho

/-- A load of head `h`'s keys. -/
theorem ld_keys (x : FVec F S256x1024 .f32) (o : Nat) (hs) (h : Fin 4) (ho : o = 128 * h) :
    View.ld (Val := Elt F) (e' := .f32) x (Rect.unit (s := S256x1024) ![0, o] ![256, 128] hs) = keysOf x h := by
  subst ho
  funext i
  refine View.ld_unit_apply_of _ _ _ _ _ _ fun a => ?_
  match a with
  | ⟨0, _⟩ => exact (Nat.zero_add _).symm
  | ⟨1, _⟩ => rfl

/-- A load of head `h`'s values. -/
theorem ld_vals (x : FVec F S256x1024 .f32) (o : Nat) (hs) (h : Fin 4) (ho : o = 512 + 128 * h) :
    View.ld (Val := Elt F) (e' := .f32) x (Rect.unit (s := S256x1024) ![0, o] ![256, 128] hs) = valsOf x h := by
  subst ho
  funext i
  refine View.ld_unit_apply_of _ _ _ _ _ _ fun a => ?_
  match a with
  | ⟨0, _⟩ => exact (Nat.zero_add _).symm
  | ⟨1, _⟩ => exact (Nat.add_assoc _ _ _).symm

/-! ### The block's four results, all heads together -/

/-- The keys' gradient from one block of rows. -/
def dkAll (x0 x1 : FVec F S256x512 .f32) (x2 : FVec F S256x1024 .f32) (x3 x4 : FVec F S1x128 .f32) : FVec F S256x512 .f32 :=
  side fun h => dkBlk (colsOf x0 h) (keysOf x2 h) (valsOf x2 h) (colsOf x1 h) x3 x4

/-- The values' gradient from one block of rows. -/
def dvAll (x0 x1 : FVec F S256x512 .f32) (x2 : FVec F S256x1024 .f32) (x3 x4 : FVec F S1x128 .f32) : FVec F S256x512 .f32 :=
  side fun h => dvBlk (colsOf x0 h) (keysOf x2 h) (colsOf x1 h) x3 x4

/-- Head `h`'s part of the query gain's gradient from one block of rows. -/
def dgHead (x0 x1 : FVec F S256x512 .f32) (x2 : FVec F S256x1024 .f32) (x3 x4 : FVec F S1x128 .f32) (h : Fin 4) : FVec F S1x128 .f32 :=
  dgBlk (colsOf x0 h) (keysOf x2 h) (valsOf x2 h) (colsOf x1 h) x3 x4

/-- The query gain's gradient from one block of rows, head after head. -/
def dgAll (x0 x1 : FVec F S256x512 .f32) (x2 : FVec F S256x1024 .f32) (x3 x4 : FVec F S1x128 .f32) : FVec F S1x128 .f32 :=
  addf (addf (addf (addf (broadcast S1x128 (Scalar.ofBits .f32 0x00000000#32)) (dgHead x0 x1 x2 x3 x4 0)) (dgHead x0 x1 x2 x3 x4 1))
    (dgHead x0 x1 x2 x3 x4 2)) (dgHead x0 x1 x2 x3 x4 3)

/-- Head `h`'s block of the queries' gradient. -/
def dqHead (x0 x1 : FVec F S256x512 .f32) (x2 : FVec F S256x1024 .f32) (x3 x4 : FVec F S1x128 .f32) (h : Fin 4) : FVec F S256x128 .bf16 :=
  dqBlk (colsOf x0 h) (keysOf x2 h) (valsOf x2 h) (colsOf x1 h) x3 x4

/-- The block of the queries' gradient, all heads together. -/
def dqAll (x0 x1 : FVec F S256x512 .f32) (x2 : FVec F S256x1024 .f32) (x3 x4 : FVec F S1x128 .f32) : FVec F S256x512 .bf16 := fun y =>
  dqHead x0 x1 x2 x3 x4 ⟨(y 1).val / 128, by have : (y 1).val < 512 := (y 1).isLt; omega⟩ (ix2 (y 0) ⟨(y 1).val % 128, Nat.mod_lt _ (by decide)⟩)

/-- Head `h`'s columns of it are head `h`'s block. -/
theorem dqAll_apply (x0 x1 : FVec F S256x512 .f32) (x2 : FVec F S256x1024 .f32) (x3 x4 : FVec F S1x128 .f32) (i : Fin 256) (h : Fin 4) (d : Fin 128) :
    dqAll x0 x1 x2 x3 x4 (ix2 i (col h d)) = dqHead x0 x1 x2 x3 x4 h (ix2 i d) := by
  unfold dqAll
  have e1 : (⟨(col h d).val / 128, by have := (col h d).isLt; omega⟩ : Fin 4) = h := Fin.ext (by show (128 * h.val + d.val) / 128 = h.val; omega)
  have e2 : (⟨(col h d).val % 128, Nat.mod_lt _ (by decide)⟩ : Fin 128) = d := Fin.ext (by show (128 * h.val + d.val) % 128 = d.val; omega)
  show dqHead x0 x1 x2 x3 x4 ⟨(col h d).val / 128, _⟩ (ix2 i ⟨(col h d).val % 128, _⟩) = _
  rw [e1, e2]

/-- … so the rectangle of head `h`'s columns reads head `h`'s block. -/
theorem dqAll_rect (x0 x1 : FVec F S256x512 .f32) (x2 : FVec F S256x1024 .f32) (x3 x4 : FVec F S1x128 .f32) (o : Nat) (hs) (h : Fin 4) (ho : o = 128 * h)
    (x : S256x128.Idx) :
    dqHead x0 x1 x2 x3 x4 h x = dqAll x0 x1 x2 x3 x4 ((Rect.unit (s := S256x512) ![0, o] ![256, 128] hs).emb x) := by
  subst ho
  obtain ⟨i, d, rfl⟩ : ∃ (i : Fin 256) (d : Fin 128), x = ix2 i d := ⟨x 0, x 1, eq_ix2 x⟩
  refine (dqAll_apply x0 x1 x2 x3 x4 i h d).symm.trans (congrArg _ (funext fun a => Fin.ext ?_))
  match a with
  | ⟨0, _⟩ => show i.val = 0 + 1 * i.val; omega
  | ⟨1, _⟩ => show 128 * h.val + d.val = 128 * h.val + 1 * d.val; omega

end Cert.Cross

end
-- ==== Proof.CrossBody.lean ====
module

public import proofs.«01_k».proof.Proof.CrossHead
public import proofs.«01_k».proof.Proof.Gen.KernelIdeal.Value
public import Idealize.ShloMosaic.Lib.Tactic

@[expose] public section

noncomputable section

/-! ## What the kernel's body leaves in its output blocks at each point -/

namespace Cert.Cross

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by match a with | ⟨0, _⟩ => rfl | ⟨1, _⟩ => rfl

variable (c : Dev nD) (i : grid0.Coords)
  (a1 : Memref sig .tc .vmem S256x512 .f32) (h1 : a1.IsWhole) (a2 : Memref sig .tc .vmem S256x512 .f32) (h2 : a2.IsWhole)
  (a3 : Memref sig .tc .vmem S256x1024 .f32) (h3 : a3.IsWhole) (a4 : Memref sig .tc .vmem S1x128 .f32) (h4 : a4.IsWhole)
  (a5 : Memref sig .tc .vmem S1x128 .f32) (h5 : a5.IsWhole) (a6 : Memref sig .tc .vmem S256x512 .bf16) (h6 : a6.IsWhole)
  (a7 : Memref sig .tc .vmem S256x512 .f32) (h7 : a7.IsWhole) (a8 : Memref sig .tc .vmem S256x512 .f32) (h8 : a8.IsWhole)
  (a9 : Memref sig .tc .vmem S1x128 .f32) (h9 : a9.IsWhole)
  (x0 x1 : FVec F S256x512 .f32) (x2 : FVec F S256x1024 .f32) (x3 x4 : FVec F S1x128 .f32)

set_option maxHeartbeats 4000000 in
/-- The first point leaves the block's gradient of the keys. -/
theorem out_A6 (c0 : cond0_0 i) (c1 : ¬cond0_1 i) (c2 : cond0_2 i) (c3 : ¬cond0_3 i) (c4 : cond0_4 i) (c5 : ¬cond0_5 i) :
    out0_A_6 c i a1 h1 a2 h2 a3 h3 a4 h4 a5 h5 a6 h6 a7 h7 a8 h8 a9 h9 c0 c1 c2 c3 c4 c5 x0 x1 x2 x3 x4 = dkAll x0 x1 x2 x3 x4 := by
  unfold out0_A_6
  rw [View.read_writes_eq_canon _ _ _ (cover0_A_6 c i a1 h1 a2 h2 a3 h3 a4 h4 a5 h5 a6 h6 a7 h7 a8 h8 a9 h9 c0 c1 c2 c3 c4 c5 x0 x1 x2 x3 x4)]
  unfold kernelRun0_A
  dsimp only
  sl_unfold_words
  rw [View.canon_unit_zero (S := S256x512) hz]
  simp only [View.readAt_eq_ld, h1.read_unread, h2.read_unread, h3.read_unread, h4.read_unread, h5.read_unread,
    View.ld_unit_zero (S := S256x512) hz, View.ld_unit_zero (S := S1x128) hz]
  simp only [ld_keys x2 0 _ 0 rfl, ld_keys x2 128 _ 1 rfl, ld_keys x2 256 _ 2 rfl, ld_keys x2 384 _ 3 rfl, ld_vals x2 512 _ 0 rfl, ld_vals x2 640 _ 1 rfl,
    ld_vals x2 768 _ 2 rfl, ld_vals x2 896 _ 3 rfl, ld_cols x1 0 _ 0 rfl, ld_cols x1 128 _ 1 rfl, ld_cols x1 256 _ 2 rfl, ld_cols x1 384 _ 3 rfl]
  unfold dkAll
  unfold side
  dsimp only
  rw [← slice_eq x0 0 slices_S256x512_o0_0_S256x128 0 rfl, ← slice_eq x0 128 slices_S256x512_o0_128_S256x128 1 rfl,
    ← slice_eq x0 256 slices_S256x512_o0_256_S256x128 2 rfl, ← slice_eq x0 384 slices_S256x512_o0_384_S256x128 3 rfl]
  rfl

set_option maxHeartbeats 4000000 in
/-- The first point leaves the block's gradient of the values. -/
theorem out_A7 (c0 : cond0_0 i) (c1 : ¬cond0_1 i) (c2 : cond0_2 i) (c3 : ¬cond0_3 i) (c4 : cond0_4 i) (c5 : ¬cond0_5 i) :
    out0_A_7 c i a1 h1 a2 h2 a3 h3 a4 h4 a5 h5 a6 h6 a7 h7 a8 h8 a9 h9 c0 c1 c2 c3 c4 c5 x0 x1 x2 x3 x4 = dvAll x0 x1 x2 x3 x4 := by
  unfold out0_A_7
  rw [View.read_writes_eq_canon _ _ _ (cover0_A_7 c i a1 h1 a2 h2 a3 h3 a4 h4 a5 h5 a6 h6 a7 h7 a8 h8 a9 h9 c0 c1 c2 c3 c4 c5 x0 x1 x2 x3 x4)]
  unfold kernelRun0_A
  dsimp only
  sl_unfold_words
  rw [View.canon_unit_zero (S := S256x512) hz]
  simp only [View.readAt_eq_ld, h1.read_unread, h2.read_unread, h3.read_unread, h4.read_unread, h5.read_unread,
    View.ld_unit_zero (S := S256x512) hz, View.ld_unit_zero (S := S1x128) hz]
  simp only [ld_keys x2 0 _ 0 rfl, ld_keys x2 128 _ 1 rfl, ld_keys x2 256 _ 2 rfl, ld_keys x2 384 _ 3 rfl, ld_vals x2 512 _ 0 rfl, ld_vals x2 640 _ 1 rfl,
    ld_vals x2 768 _ 2 rfl, ld_vals x2 896 _ 3 rfl, ld_cols x1 0 _ 0 rfl, ld_cols x1 128 _ 1 rfl, ld_cols x1 256 _ 2 rfl, ld_cols x1 384 _ 3 rfl]
  unfold dvAll
  unfold side
  dsimp only
  rw [← slice_eq x0 0 slices_S256x512_o0_0_S256x128 0 rfl, ← slice_eq x0 128 slices_S256x512_o0_128_S256x128 1 rfl,
    ← slice_eq x0 256 slices_S256x512_o0_256_S256x128 2 rfl, ← slice_eq x0 384 slices_S256x512_o0_384_S256x128 3 rfl]
  rfl

set_option maxHeartbeats 4000000 in
/-- The first point leaves the block's gradient of the query gain. -/
theorem out_A8 (c0 : cond0_0 i) (c1 : ¬cond0_1 i) (c2 : cond0_2 i) (c3 : ¬cond0_3 i) (c4 : cond0_4 i) (c5 : ¬cond0_5 i) :
    out0_A_8 c i a1 h1 a2 h2 a3 h3 a4 h4 a5 h5 a6 h6 a7 h7 a8 h8 a9 h9 c0 c1 c2 c3 c4 c5 x0 x1 x2 x3 x4 = dgAll x0 x1 x2 x3 x4 := by
  unfold out0_A_8
  rw [View.read_writes_eq_canon _ _ _ (cover0_A_8 c i a1 h1 a2 h2 a3 h3 a4 h4 a5 h5 a6 h6 a7 h7 a8 h8 a9 h9 c0 c1 c2 c3 c4 c5 x0 x1 x2 x3 x4)]
  unfold kernelRun0_A
  dsimp only
  sl_unfold_words
  rw [View.canon_unit_zero (S := S1x128) hz]
  simp only [View.readAt_eq_ld, h1.read_unread, h2.read_unread, h3.read_unread, h4.read_unread, h5.read_unread,
    View.ld_unit_zero (S := S256x512) hz, View.ld_unit_zero (S := S1x128) hz]
  simp only [ld_keys x2 0 _ 0 rfl, ld_keys x2 128 _ 1 rfl, ld_keys x2 256 _ 2 rfl, ld_keys x2 384 _ 3 rfl, ld_vals x2 512 _ 0 rfl, ld_vals x2 640 _ 1 rfl,
    ld_vals x2 768 _ 2 rfl, ld_vals x2 896 _ 3 rfl, ld_cols x1 0 _ 0 rfl, ld_cols x1 128 _ 1 rfl, ld_cols x1 256 _ 2 rfl, ld_cols x1 384 _ 3 rfl]
  unfold dgAll dgHead
  rw [← slice_eq x0 0 slices_S256x512_o0_0_S256x128 0 rfl, ← slice_eq x0 128 slices_S256x512_o0_128_S256x128 1 rfl,
    ← slice_eq x0 256 slices_S256x512_o0_256_S256x128 2 rfl, ← slice_eq x0 384 slices_S256x512_o0_384_S256x128 3 rfl]
  rfl

set_option maxHeartbeats 4000000 in
/-- A later point adds its block's gradient of the keys to what the point before left. -/
theorem out_B6 (c0 : ¬cond0_0 i) (c1 : cond0_1 i) (c2 : ¬cond0_2 i) (c3 : cond0_3 i) (c4 : ¬cond0_4 i) (c5 : cond0_5 i)
    (p6 p7 : FVec F S256x512 .f32) (p8 : FVec F S1x128 .f32) :
    out0_B_6 c i a1 h1 a2 h2 a3 h3 a4 h4 a5 h5 a6 h6 a7 h7 a8 h8 a9 h9 c0 c1 c2 c3 c4 c5 x0 x1 x2 x3 x4 p6 p7 p8 = addf p6 (dkAll x0 x1 x2 x3 x4) := by
  unfold out0_B_6
  rw [View.read_writes_eq_canon _ _ _ (cover0_B_6 c i a1 h1 a2 h2 a3 h3 a4 h4 a5 h5 a6 h6 a7 h7 a8 h8 a9 h9 c0 c1 c2 c3 c4 c5 x0 x1 x2 x3 x4 p6 p7 p8)]
  unfold kernelRun0_B
  dsimp only
  sl_unfold_words
  rw [View.canon_unit_zero (S := S256x512) hz]
  simp only [View.readAt_eq_ld, h1.read_unread, h2.read_unread, h3.read_unread, h4.read_unread, h5.read_unread, h7.read_unread,
    View.ld_unit_zero (S := S256x512) hz, View.ld_unit_zero (S := S1x128) hz]
  unfold k0_pay1
  simp only [shapeCast_self]
  refine congrArg (addf _) ?_
  simp only [ld_keys x2 0 _ 0 rfl, ld_keys x2 128 _ 1 rfl, ld_keys x2 256 _ 2 rfl, ld_keys x2 384 _ 3 rfl, ld_vals x2 512 _ 0 rfl, ld_vals x2 640 _ 1 rfl,
    ld_vals x2 768 _ 2 rfl, ld_vals x2 896 _ 3 rfl, ld_cols x1 0 _ 0 rfl, ld_cols x1 128 _ 1 rfl, ld_cols x1 256 _ 2 rfl, ld_cols x1 384 _ 3 rfl]
  unfold dkAll
  unfold side
  dsimp only
  rw [← slice_eq x0 0 slices_S256x512_o0_0_S256x128 0 rfl, ← slice_eq x0 128 slices_S256x512_o0_128_S256x128 1 rfl,
    ← slice_eq x0 256 slices_S256x512_o0_256_S256x128 2 rfl, ← slice_eq x0 384 slices_S256x512_o0_384_S256x128 3 rfl]
  rfl

set_option maxHeartbeats 4000000 in
/-- A later point adds its block's gradient of the values to what the point before left. -/
theorem out_B7 (c0 : ¬cond0_0 i) (c1 : cond0_1 i) (c2 : ¬cond0_2 i) (c3 : cond0_3 i) (c4 : ¬cond0_4 i) (c5 : cond0_5 i)
    (p6 p7 : FVec F S256x512 .f32) (p8 : FVec F S1x128 .f32) :
    out0_B_7 c i a1 h1 a2 h2 a3 h3 a4 h4 a5 h5 a6 h6 a7 h7 a8 h8 a9 h9 c0 c1 c2 c3 c4 c5 x0 x1 x2 x3 x4 p6 p7 p8 = addf p7 (dvAll x0 x1 x2 x3 x4) := by
  unfold out0_B_7
  rw [View.read_writes_eq_canon _ _ _ (cover0_B_7 c i a1 h1 a2 h2 a3 h3 a4 h4 a5 h5 a6 h6 a7 h7 a8 h8 a9 h9 c0 c1 c2 c3 c4 c5 x0 x1 x2 x3 x4 p6 p7 p8)]
  unfold kernelRun0_B
  dsimp only
  sl_unfold_words
  rw [View.canon_unit_zero (S := S256x512) hz]
  simp only [View.readAt_eq_ld, h1.read_unread, h2.read_unread, h3.read_unread, h4.read_unread, h5.read_unread, h8.read_unread,
    View.ld_unit_zero (S := S256x512) hz, View.ld_unit_zero (S := S1x128) hz]
  unfold k0_pay3
  simp only [shapeCast_self]
  refine congrArg (addf _) ?_
  simp only [ld_keys x2 0 _ 0 rfl, ld_keys x2 128 _ 1 rfl, ld_keys x2 256 _ 2 rfl, ld_keys x2 384 _ 3 rfl, ld_vals x2 512 _ 0 rfl, ld_vals x2 640 _ 1 rfl,
    ld_vals x2 768 _ 2 rfl, ld_vals x2 896 _ 3 rfl, ld_cols x1 0 _ 0 rfl, ld_cols x1 128 _ 1 rfl, ld_cols x1 256 _ 2 rfl, ld_cols x1 384 _ 3 rfl]
  unfold dvAll
  unfold side
  dsimp only
  rw [← slice_eq x0 0 slices_S256x512_o0_0_S256x128 0 rfl, ← slice_eq x0 128 slices_S256x512_o0_128_S256x128 1 rfl,
    ← slice_eq x0 256 slices_S256x512_o0_256_S256x128 2 rfl, ← slice_eq x0 384 slices_S256x512_o0_384_S256x128 3 rfl]
  rfl

set_option maxHeartbeats 4000000 in
/-- A later point adds its block's gradient of the query gain to what the point before left. -/
theorem out_B8 (c0 : ¬cond0_0 i) (c1 : cond0_1 i) (c2 : ¬cond0_2 i) (c3 : cond0_3 i) (c4 : ¬cond0_4 i) (c5 : cond0_5 i)
    (p6 p7 : FVec F S256x512 .f32) (p8 : FVec F S1x128 .f32) :
    out0_B_8 c i a1 h1 a2 h2 a3 h3 a4 h4 a5 h5 a6 h6 a7 h7 a8 h8 a9 h9 c0 c1 c2 c3 c4 c5 x0 x1 x2 x3 x4 p6 p7 p8 = addf p8 (dgAll x0 x1 x2 x3 x4) := by
  unfold out0_B_8
  rw [View.read_writes_eq_canon _ _ _ (cover0_B_8 c i a1 h1 a2 h2 a3 h3 a4 h4 a5 h5 a6 h6 a7 h7 a8 h8 a9 h9 c0 c1 c2 c3 c4 c5 x0 x1 x2 x3 x4 p6 p7 p8)]
  unfold kernelRun0_B
  dsimp only
  sl_unfold_words
  rw [View.canon_unit_zero (S := S1x128) hz]
  simp only [View.readAt_eq_ld, h1.read_unread, h2.read_unread, h3.read_unread, h4.read_unread, h5.read_unread, h9.read_unread,
    View.ld_unit_zero (S := S256x512) hz, View.ld_unit_zero (S := S1x128) hz]
  unfold k0_pay4
  simp only [shapeCast_self]
  refine congrArg (addf _) ?_
  simp only [ld_keys x2 0 _ 0 rfl, ld_keys x2 128 _ 1 rfl, ld_keys x2 256 _ 2 rfl, ld_keys x2 384 _ 3 rfl, ld_vals x2 512 _ 0 rfl, ld_vals x2 640 _ 1 rfl,
    ld_vals x2 768 _ 2 rfl, ld_vals x2 896 _ 3 rfl, ld_cols x1 0 _ 0 rfl, ld_cols x1 128 _ 1 rfl, ld_cols x1 256 _ 2 rfl, ld_cols x1 384 _ 3 rfl]
  unfold dgAll dgHead
  rw [← slice_eq x0 0 slices_S256x512_o0_0_S256x128 0 rfl, ← slice_eq x0 128 slices_S256x512_o0_128_S256x128 1 rfl,
    ← slice_eq x0 256 slices_S256x512_o0_256_S256x128 2 rfl, ← slice_eq x0 384 slices_S256x512_o0_384_S256x128 3 rfl]
  rfl

set_option maxHeartbeats 4000000 in
/-- Every point leaves its block of the queries' gradient (case A). -/
theorem out_A5 (c0 : cond0_0 i) (c1 : ¬cond0_1 i) (c2 : cond0_2 i) (c3 : ¬cond0_3 i) (c4 : cond0_4 i) (c5 : ¬cond0_5 i) :
    out0_A_5 c i a1 h1 a2 h2 a3 h3 a4 h4 a5 h5 a6 h6 a7 h7 a8 h8 a9 h9 c0 c1 c2 c3 c4 c5 x0 x1 x2 x3 x4 = dqAll x0 x1 x2 x3 x4 := by
  unfold out0_A_5
  rw [View.read_writes_eq_canon _ _ _ (cover0_A_5 c i a1 h1 a2 h2 a3 h3 a4 h4 a5 h5 a6 h6 a7 h7 a8 h8 a9 h9 c0 c1 c2 c3 c4 c5 x0 x1 x2 x3 x4)]
  funext y
  refine View.canon_apply_of_pieces _ _ ?_ y (cover0_A_5 c i a1 h1 a2 h2 a3 h3 a4 h4 a5 h5 a6 h6 a7 h7 a8 h8 a9 h9 c0 c1 c2 c3 c4 c5 x0 x1 x2 x3 x4 y)
  unfold kernelRun0_A
  dsimp only
  sl_unfold_words
  simp only [View.readAt_eq_ld, h1.read_unread, h2.read_unread, h3.read_unread, h4.read_unread, h5.read_unread,
    View.ld_unit_zero (S := S256x512) hz, View.ld_unit_zero (S := S1x128) hz]
  simp only [ld_keys x2 0 _ 0 rfl, ld_keys x2 128 _ 1 rfl, ld_keys x2 256 _ 2 rfl, ld_keys x2 384 _ 3 rfl, ld_vals x2 512 _ 0 rfl, ld_vals x2 640 _ 1 rfl,
    ld_vals x2 768 _ 2 rfl, ld_vals x2 896 _ 3 rfl, ld_cols x1 0 _ 0 rfl, ld_cols x1 128 _ 1 rfl, ld_cols x1 256 _ 2 rfl, ld_cols x1 384 _ 3 rfl]
  intro p hp x
  simp only [List.mem_cons, List.not_mem_nil, or_false] at hp
  rcases hp with rfl | rfl | rfl | rfl
  · refine Eq.trans ?_ (dqAll_rect x0 x1 x2 x3 x4 384 inb_S256x512_S256x128_0_384 3 rfl x)
    unfold dqHead
    rw [← slice_eq x0 384 slices_S256x512_o0_384_S256x128 3 rfl]
    rfl
  · refine Eq.trans ?_ (dqAll_rect x0 x1 x2 x3 x4 256 inb_S256x512_S256x128_0_256 2 rfl x)
    unfold dqHead
    rw [← slice_eq x0 256 slices_S256x512_o0_256_S256x128 2 rfl]
    rfl
  · refine Eq.trans ?_ (dqAll_rect x0 x1 x2 x3 x4 128 inb_S256x512_S256x128_0_128 1 rfl x)
    unfold dqHead
    rw [← slice_eq x0 128 slices_S256x512_o0_128_S256x128 1 rfl]
    rfl
  · refine Eq.trans ?_ (dqAll_rect x0 x1 x2 x3 x4 0 inb_S256x512_S256x128_0_0 0 rfl x)
    unfold dqHead
    rw [← slice_eq x0 0 slices_S256x512_o0_0_S256x128 0 rfl]
    rfl

set_option maxHeartbeats 4000000 in
/-- Every point leaves its block of the queries' gradient (case B). -/
theorem out_B5 (c0 : ¬cond0_0 i) (c1 : cond0_1 i) (c2 : ¬cond0_2 i) (c3 : cond0_3 i) (c4 : ¬cond0_4 i) (c5 : cond0_5 i)
    (p6 p7 : FVec F S256x512 .f32) (p8 : FVec F S1x128 .f32) :
    out0_B_5 c i a1 h1 a2 h2 a3 h3 a4 h4 a5 h5 a6 h6 a7 h7 a8 h8 a9 h9 c0 c1 c2 c3 c4 c5 x0 x1 x2 x3 x4 p6 p7 p8 = dqAll x0 x1 x2 x3 x4 := by
  unfold out0_B_5
  rw [View.read_writes_eq_canon _ _ _ (cover0_B_5 c i a1 h1 a2 h2 a3 h3 a4 h4 a5 h5 a6 h6 a7 h7 a8 h8 a9 h9 c0 c1 c2 c3 c4 c5 x0 x1 x2 x3 x4 p6 p7 p8)]
  funext y
  refine View.canon_apply_of_pieces _ _ ?_ y (cover0_B_5 c i a1 h1 a2 h2 a3 h3 a4 h4 a5 h5 a6 h6 a7 h7 a8 h8 a9 h9 c0 c1 c2 c3 c4 c5 x0 x1 x2 x3 x4 p6 p7 p8 y)
  unfold kernelRun0_B
  dsimp only
  sl_unfold_words
  simp only [View.readAt_eq_ld, h1.read_unread, h2.read_unread, h3.read_unread, h4.read_unread, h5.read_unread,
    View.ld_unit_zero (S := S256x512) hz, View.ld_unit_zero (S := S1x128) hz]
  simp only [ld_keys x2 0 _ 0 rfl, ld_keys x2 128 _ 1 rfl, ld_keys x2 256 _ 2 rfl, ld_keys x2 384 _ 3 rfl, ld_vals x2 512 _ 0 rfl, ld_vals x2 640 _ 1 rfl,
    ld_vals x2 768 _ 2 rfl, ld_vals x2 896 _ 3 rfl, ld_cols x1 0 _ 0 rfl, ld_cols x1 128 _ 1 rfl, ld_cols x1 256 _ 2 rfl, ld_cols x1 384 _ 3 rfl]
  intro p hp x
  simp only [List.mem_cons, List.not_mem_nil, or_false] at hp
  rcases hp with rfl | rfl | rfl | rfl
  · refine Eq.trans ?_ (dqAll_rect x0 x1 x2 x3 x4 384 inb_S256x512_S256x128_0_384 3 rfl x)
    unfold dqHead
    rw [← slice_eq x0 384 slices_S256x512_o0_384_S256x128 3 rfl]
    rfl
  · refine Eq.trans ?_ (dqAll_rect x0 x1 x2 x3 x4 256 inb_S256x512_S256x128_0_256 2 rfl x)
    unfold dqHead
    rw [← slice_eq x0 256 slices_S256x512_o0_256_S256x128 2 rfl]
    rfl
  · refine Eq.trans ?_ (dqAll_rect x0 x1 x2 x3 x4 128 inb_S256x512_S256x128_0_128 1 rfl x)
    unfold dqHead
    rw [← slice_eq x0 128 slices_S256x512_o0_128_S256x128 1 rfl]
    rfl
  · refine Eq.trans ?_ (dqAll_rect x0 x1 x2 x3 x4 0 inb_S256x512_S256x128_0_0 0 rfl x)
    unfold dqHead
    rw [← slice_eq x0 0 slices_S256x512_o0_0_S256x128 0 rfl]
    rfl

end Cert.Cross

end
-- ==== Proof.CrossSpec.lean ====
module

public import proofs.«01_k».proof.Proof.CrossHead

@[expose] public section

noncomputable section

/-! ## One head of the cross-attention's gradient, row by row over the extended reals

`x` and `o` are one query row and its cotangent row, `K` and `V` the memory's key and value rows, `gq` and `gk` the gains. -/

namespace Cert.Cross

open Cert.KernelIdeal Cert.KernelIdeal.Gen Idealize.ShloMosaic

/-- The row length, 128. -/
def c128 : EReal := Ideal.ofBits .f32 0x43000000#32
/-- The small constant under the root. -/
def cEps : EReal := Ideal.ofBits .f32 0x358637BD#32
/-- The score scale, 128 to the power −1/2. -/
def cScale : EReal := Ideal.ofBits .f32 0x3DB504F3#32
/-- What a row's greatest entry starts from. -/
def cBot : EReal := Ideal.ofBits .f32 0xFF800000#32

/-- The mean square plus the small constant. -/
def rM (x : Fin 128 → EReal) : EReal := Ideal.div (∑ j, x j * x j) c128 + cEps
/-- The reciprocal root mean square. -/
def rR (x : Fin 128 → EReal) : EReal := Ideal.rsqrt (rM x)
/-- The normalised row. -/
def rN (x : Fin 128 → EReal) (d : Fin 128) : EReal := x d * rR x
/-- The normalised, gained and scaled query row. -/
def rQ (x g : Fin 128 → EReal) (d : Fin 128) : EReal := rN x d * g d * cScale
/-- The normalised and gained key row. -/
def rK (x g : Fin 128 → EReal) (d : Fin 128) : EReal := rN x d * g d
/-- The scores of a query row against the memory. -/
def rS (x : Fin 128 → EReal) (K : Fin 256 → Fin 128 → EReal) (gq gk : Fin 128 → EReal) (m : Fin 256) : EReal :=
  ∑ d, rQ x gq d * rK (K m) gk d
/-- The greatest entry of a row. -/
def rTop (s : Fin 256 → EReal) : EReal := Finset.fold max cBot s Finset.univ
/-- The exponentials of a row less its greatest entry. -/
def rE (s : Fin 256 → EReal) (m : Fin 256) : EReal := Ideal.exp (s m - rTop s)
/-- The sum of the exponentials. -/
def rZ (s : Fin 256 → EReal) : EReal := ∑ m, rE s m
/-- The weights. -/
def rP (s : Fin 256 → EReal) (m : Fin 256) : EReal := Ideal.div (rE s m) (rZ s)
/-- The gradient of the weights. -/
def rDP (o : Fin 128 → EReal) (V : Fin 256 → Fin 128 → EReal) (m : Fin 256) : EReal := ∑ d, o d * V m d
/-- The gradient of the scores, from weights and their gradient. -/
def rDS (p d : Fin 256 → EReal) (m : Fin 256) : EReal := p m * (d m - ∑ m', d m' * p m')
/-- The gradient of the scaled, gained query row, from the gradient of the scores. -/
def rDQ (s : Fin 256 → EReal) (K : Fin 256 → Fin 128 → EReal) (gk : Fin 128 → EReal) (d : Fin 128) : EReal := ∑ m, s m * rK (K m) gk d
/-- The gradient of a normalised row carried back through the normalisation. -/
def rDX (x dn : Fin 128 → EReal) (d : Fin 128) : EReal := rR x * (dn d - rN x d * Ideal.div (∑ j, dn j * rN x j) c128)

/-- The gradient of one query row's scores. -/
def hDS (x : Fin 128 → EReal) (K V : Fin 256 → Fin 128 → EReal) (o gq gk : Fin 128 → EReal) : Fin 256 → EReal :=
  rDS (rP (rS x K gq gk)) (rDP o V)
/-- The gradient of one scaled, gained query row. -/
def hDQ (x : Fin 128 → EReal) (K V : Fin 256 → Fin 128 → EReal) (o gq gk : Fin 128 → EReal) : Fin 128 → EReal :=
  rDQ (hDS x K V o gq gk) K gk
/-- The gradient of one query row. -/
def hDX (x : Fin 128 → EReal) (K V : Fin 256 → Fin 128 → EReal) (o gq gk : Fin 128 → EReal) : Fin 128 → EReal :=
  rDX x fun d => hDQ x K V o gq gk d * (gq d * cScale)
/-- One query row's part of its gain's gradient. -/
def hDG (x : Fin 128 → EReal) (K V : Fin 256 → Fin 128 → EReal) (o gq gk : Fin 128 → EReal) (d : Fin 128) : EReal :=
  hDQ x K V o gq gk d * cScale * rN x d
/-- One query row's part of the keys' gradient. -/
def hDK (x : Fin 128 → EReal) (K V : Fin 256 → Fin 128 → EReal) (o gq gk : Fin 128 → EReal) (m : Fin 256) (d : Fin 128) : EReal :=
  hDS x K V o gq gk m * rQ x gq d
/-- One query row's part of the values' gradient. -/
def hDV (x : Fin 128 → EReal) (K : Fin 256 → Fin 128 → EReal) (o gq gk : Fin 128 → EReal) (m : Fin 256) (d : Fin 128) : EReal :=
  rP (rS x K gq gk) m * o d

/-! ### The vector functions at an index -/

/-- Row `i` of a block. -/
abbrev row {n : Nat} (x : FVec Ideal ⟨2, ![n, 128]⟩ .f32) (i : Fin n) : Fin 128 → EReal := fun d => x (ix2 i d)

theorem rinv_apply (x : FVec Ideal S256x128 .f32) (i : Fin 256) : rinv x (ix2 i 0) = rR (row x i) := by
  pointwise [rinv]; rfl

theorem nrm_apply (x : FVec Ideal S256x128 .f32) (i : Fin 256) (d : Fin 128) : nrm x (ix2 i d) = rN (row x i) d := by
  pointwise [nrm, rinv]; rfl

theorem qry_apply (x : FVec Ideal S256x128 .f32) (g : FVec Ideal S1x128 .f32) (i : Fin 256) (d : Fin 128) :
    qry x g (ix2 i d) = rQ (row x i) (row g 0) d := by
  pointwise [qry]; rw [nrm_apply]; rfl

theorem key_apply (x : FVec Ideal S256x128 .f32) (g : FVec Ideal S1x128 .f32) (i : Fin 256) (d : Fin 128) :
    key x g (ix2 i d) = rK (row x i) (row g 0) d := by
  pointwise [key]; rw [nrm_apply]; rfl

theorem scores_apply (q k : FVec Ideal S256x128 .f32) (gq gk : FVec Ideal S1x128 .f32) (i m : Fin 256) :
    scores q k gq gk (ix2 i m) = rS (row q i) (row k) (row gq 0) (row gk 0) m := by
  pointwise [scores]; simp only [qry_apply, key_apply]; rfl

theorem expo_apply (s : FVec Ideal S256x256 .f32) (i m : Fin 256) : expo s (ix2 i m) = rE (fun m => s (ix2 i m)) m := by
  pointwise [expo]; rfl

theorem soft_apply (s : FVec Ideal S256x256 .f32) (i m : Fin 256) : soft s (ix2 i m) = rP (fun m => s (ix2 i m)) m := by
  pointwise [soft]; simp only [expo_apply]; rfl

theorem dsoft_apply (v o : FVec Ideal S256x128 .f32) (i m : Fin 256) : dsoft v o (ix2 i m) = rDP (row o i) (row v) m := by
  pointwise [dsoft]; rfl

theorem dscores_apply (p d : FVec Ideal S256x256 .f32) (i m : Fin 256) :
    dscores p d (ix2 i m) = rDS (fun m => p (ix2 i m)) (fun m => d (ix2 i m)) m := by
  pointwise [dscores]; rfl

variable (q k v o : FVec Ideal S256x128 .f32) (gq gk : FVec Ideal S1x128 .f32)

theorem dscr_apply (i m : Fin 256) : dscr q k v o gq gk (ix2 i m) = hDS (row q i) (row k) (row v) (row o i) (row gq 0) (row gk 0) m := by
  unfold dscr; rw [dscores_apply]; simp only [soft_apply, dsoft_apply, scores_apply]; rfl

theorem dqry_apply (i : Fin 256) (d : Fin 128) :
    dqry q k v o gq gk (ix2 i d) = hDQ (row q i) (row k) (row v) (row o i) (row gq 0) (row gk 0) d := by
  pointwise [dqry]; simp only [dscr_apply, key_apply]; rfl

/-- The block of the queries' gradient, at an index. -/
theorem dqBlk_apply (i : Fin 256) (d : Fin 128) :
    dqBlk q k v o gq gk (ix2 i d) = hDX (row q i) (row k) (row v) (row o i) (row gq 0) (row gk 0) d := by
  pointwise [dqBlk, dnrm]; simp only [dqry_apply, nrm_apply, rinv_apply]; rfl

/-- The block's part of the keys' gradient, at an index. -/
theorem dkBlk_apply (m : Fin 256) (d : Fin 128) :
    dkBlk q k v o gq gk (ix2 m d) = ∑ i, hDK (row q i) (row k) (row v) (row o i) (row gq 0) (row gk 0) m d := by
  pointwise [dkBlk]; simp only [dscr_apply, qry_apply]; rfl

/-- The block's part of the values' gradient, at an index. -/
theorem dvBlk_apply (m : Fin 256) (d : Fin 128) :
    dvBlk q k o gq gk (ix2 m d) = ∑ i, hDV (row q i) (row k) (row o i) (row gq 0) (row gk 0) m d := by
  pointwise [dvBlk]; simp only [soft_apply, scores_apply]; rfl

/-- The block's part of the query gain's gradient, at an index. -/
theorem dgBlk_apply (d : Fin 128) :
    dgBlk q k v o gq gk (ix2 0 d) = ∑ i, hDG (row q i) (row k) (row v) (row o i) (row gq 0) (row gk 0) d := by
  pointwise [dgBlk]; simp only [dqry_apply, nrm_apply]; rfl

end Cert.Cross

end
-- ==== Proof.RowBlocks.lean ====
module

public import Idealize.ShloMosaic.Lib.Pointwise
public import Idealize.ShloMosaic.Lib.ValueIdx

@[expose] public section

noncomputable section

/-! ## 2048 rows taken in eight blocks of 256, with sums carried from block to block -/

namespace Cert.RowBlocks

open Idealize.ShloMosaic

/-- Row `i` of block `t`. -/
def grow (t : Fin 8) (i : Fin 256) : Fin 2048 := ⟨256 * t + i, by omega⟩

/-- A sum over all rows, block by block. -/
theorem sum_grow (f : Fin 2048 → EReal) : ∑ t, ∑ i, f (grow t i) = ∑ s, f s := by
  rw [← Finset.sum_product']
  refine Fintype.sum_equiv (finProdFinEquiv (m := 8) (n := 256)) _ _ fun p => congrArg f (Fin.ext ?_)
  show 256 * p.1.val + p.2.val = p.2.val + 256 * p.1.val
  omega

/-- A running sum of vectors. -/
def acc {S : Shape} (f : ℕ → FVec Ideal S .f32) : ℕ → FVec Ideal S .f32
  | 0 => f 0
  | n + 1 => addf (acc f n) (f (n + 1))

theorem acc_apply {S : Shape} (f : ℕ → FVec Ideal S .f32) (y : S.Idx) : ∀ n, acc f n y = ∑ t ∈ Finset.range (n + 1), f t y
  | 0 => by simp [acc]
  | n + 1 => by rw [Finset.sum_range_succ, ← acc_apply f y n]; rfl

/-- The running sum after the last block, when each block adds its rows' part, is the sum over all rows. -/
theorem acc_rows {S : Shape} (f : ℕ → FVec Ideal S .f32) (y : S.Idx) (g : Fin 2048 → EReal)
    (e : ∀ t : Fin 8, f t.val y = ∑ i, g (grow t i)) : acc f 7 y = ∑ s, g s := by
  rw [acc_apply, Finset.sum_range, ← sum_grow]
  exact Finset.sum_congr rfl fun t _ => e t

end Cert.RowBlocks

end
-- ==== Proof.CrossRun.lean ====
module

public import proofs.«01_k».proof.Proof.CrossBody
public import proofs.«01_k».proof.Proof.CrossSpec
public import proofs.«01_k».proof.Proof.RowBlocks

@[expose] public section

noncomputable section

/-! ## What the kernel's run leaves in its four result arrays -/

namespace Cert.Cross

open Cert.KernelIdeal Cert.KernelIdeal.Gen Idealize.ShloMosaic Idealize.ShloMosaic.TcCoe Idealize.SL.Sem
open Idealize.ShloMosaic.Pipeline (Dat)
open Cert.RowBlocks

/-! ### The arrays' rows, head by head -/

/-- Head `h`'s columns of row `s`. -/
def xr (A : S2048x512.Idx → EReal) (s : Fin 2048) (h : Fin 4) : Fin 128 → EReal := fun d => A (ix2 s (col h d))
/-- Head `h`'s keys. -/
def kr (B : S256x1024.Idx → EReal) (h : Fin 4) : Fin 256 → Fin 128 → EReal := fun m d => B (ix2 m (colK h d))
/-- Head `h`'s values. -/
def vr (B : S256x1024.Idx → EReal) (h : Fin 4) : Fin 256 → Fin 128 → EReal := fun m d => B (ix2 m (colV h d))
/-- A gain. -/
def gr (G : S1x128.Idx → EReal) : Fin 128 → EReal := fun d => G (ix2 0 d)

variable (m : (ℓ : Loc nD τ sig) → Buf (Elt Ideal) ℓ) (c : Dev nD)

/-- The query rows, the cotangent rows, the keys and values, and the two gains. -/
abbrev Aq : S2048x512.Idx → EReal := m ((c : Thread nD τ).loc main_arg0)
abbrev Ao : S2048x512.Idx → EReal := m ((c : Thread nD τ).loc main_arg1)
abbrev Akv : S256x1024.Idx → EReal := m ((c : Thread nD τ).loc main_arg2)
abbrev Agq : S1x128.Idx → EReal := m ((c : Thread nD τ).loc main_arg3)
abbrev Agk : S1x128.Idx → EReal := m ((c : Thread nD τ).loc main_arg4)

theorem idx0 : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

theorem idx2 : ∀ t : Fin cfg0.N, (∀ a, win0_2.index t a = 0) ∧ (∀ a, win0_3.index t a = 0) ∧ (∀ a, win0_4.index t a = 0) :=
  (by decide +kernel : ∀ t : Fin grid0.N, (∀ a, win0_2.index t a = 0) ∧ (∀ a, win0_3.index t a = 0) ∧ (∀ a, win0_4.index t a = 0))

theorem lt8 (t : Fin cfg0.N) : t.val < 8 := lt_of_lt_of_eq t.isLt N_0

/-- The block of query rows at point `t`. -/
theorem iblk_q (t : Fin cfg0.N) (i : Fin 256) (k : Fin 512) : (iblk m c 0 t : FVec Ideal S256x512 .f32) (ix2 i k) = Aq m c (ix2 (grow ⟨t.val, lt8 t⟩ i) k) := by
  unfold iblk
  rw [View.read_apply]
  show V m c main_arg0 _ = m (c.tc.loc main_arg0) _
  unfold V
  congr 1
  funext a
  apply Fin.ext
  match a with
  | ⟨0, _⟩ => show win0_0.index t 0 * 256 + 1 * i.val = 256 * t.val + i.val; rw [(idx0 t).1]; omega
  | ⟨1, _⟩ => show win0_0.index t 1 * 512 + 1 * k.val = k.val; rw [(idx0 t).2.1]; omega

/-- The block of cotangent rows at point `t`. -/
theorem iblk_o (t : Fin cfg0.N) (i : Fin 256) (k : Fin 512) : (iblk m c 1 t : FVec Ideal S256x512 .f32) (ix2 i k) = Ao m c (ix2 (grow ⟨t.val, lt8 t⟩ i) k) := by
  unfold iblk
  rw [View.read_apply]
  show V m c main_arg1 _ = m (c.tc.loc main_arg1) _
  unfold V
  congr 1
  funext a
  apply Fin.ext
  match a with
  | ⟨0, _⟩ => show win0_1.index t 0 * 256 + 1 * i.val = 256 * t.val + i.val; rw [(idx0 t).2.2.1]; omega
  | ⟨1, _⟩ => show win0_1.index t 1 * 512 + 1 * k.val = k.val; rw [(idx0 t).2.2.2]; omega

/-- Every point sees all keys and values, and both gains. -/
theorem iblk_kv (t : Fin cfg0.N) : (iblk m c 2 t : FVec Ideal S256x1024 .f32) = Akv m c := by
  funext y
  unfold iblk
  rw [View.read_apply]
  show V m c main_arg2 _ = m (c.tc.loc main_arg2) _
  unfold V
  congr 1
  funext a
  apply Fin.ext
  show win0_2.index t a * _ + 1 * (y a).val = (y a).val
  rw [(idx2 t).1]; omega

theorem iblk_gq (t : Fin cfg0.N) : (iblk m c 3 t : FVec Ideal S1x128 .f32) = Agq m c := by
  funext y
  unfold iblk
  rw [View.read_apply]
  show V m c main_arg3 _ = m (c.tc.loc main_arg3) _
  unfold V
  congr 1
  funext a
  apply Fin.ext
  show win0_3.index t a * _ + 1 * (y a).val = (y a).val
  rw [(idx2 t).2.1]; omega

theorem iblk_gk (t : Fin cfg0.N) : (iblk m c 4 t : FVec Ideal S1x128 .f32) = Agk m c := by
  funext y
  unfold iblk
  rw [View.read_apply]
  show V m c main_arg4 _ = m (c.tc.loc main_arg4) _
  unfold V
  congr 1
  funext a
  apply Fin.ext
  show win0_4.index t a * _ + 1 * (y a).val = (y a).val
  rw [(idx2 t).2.2]; omega

/-! ### A point's values over the whole arrays -/

theorem row_cols (t : Fin cfg0.N) (h : Fin 4) (i : Fin 256) : row (colsOf (iblk m c 0 t) h) i = xr (Aq m c) (grow ⟨t.val, lt8 t⟩ i) h :=
  funext fun d => iblk_q m c t i (col h d)

theorem row_cots (t : Fin cfg0.N) (h : Fin 4) (i : Fin 256) : row (colsOf (iblk m c 1 t) h) i = xr (Ao m c) (grow ⟨t.val, lt8 t⟩ i) h :=
  funext fun d => iblk_o m c t i (col h d)

/-- One query row's gradient, its part of the gain's, the keys' and the values', over the arrays. -/
def aDX (s : Fin 2048) (h : Fin 4) (d : Fin 128) : EReal :=
  hDX (xr (Aq m c) s h) (kr (Akv m c) h) (vr (Akv m c) h) (xr (Ao m c) s h) (gr (Agq m c)) (gr (Agk m c)) d
def aDG (d : Fin 128) (h : Fin 4) (s : Fin 2048) : EReal :=
  hDG (xr (Aq m c) s h) (kr (Akv m c) h) (vr (Akv m c) h) (xr (Ao m c) s h) (gr (Agq m c)) (gr (Agk m c)) d
def aDK (k : Fin 256) (h : Fin 4) (d : Fin 128) (s : Fin 2048) : EReal :=
  hDK (xr (Aq m c) s h) (kr (Akv m c) h) (vr (Akv m c) h) (xr (Ao m c) s h) (gr (Agq m c)) (gr (Agk m c)) k d
def aDV (k : Fin 256) (h : Fin 4) (d : Fin 128) (s : Fin 2048) : EReal :=
  hDV (xr (Aq m c) s h) (kr (Akv m c) h) (xr (Ao m c) s h) (gr (Agq m c)) (gr (Agk m c)) k d

theorem dq_at (t : Fin cfg0.N) (h : Fin 4) (i : Fin 256) (d : Fin 128) :
    dqHead (F := Ideal) (iblk m c 0 t) (iblk m c 1 t) (iblk m c 2 t) (iblk m c 3 t) (iblk m c 4 t) h (ix2 i d) = aDX m c (grow ⟨t.val, lt8 t⟩ i) h d := by
  unfold dqHead aDX
  rw [dqBlk_apply, row_cols, row_cots, iblk_kv, iblk_gq, iblk_gk]
  rfl

theorem dk_at (t : Fin cfg0.N) (k : Fin 256) (h : Fin 4) (d : Fin 128) :
    dkAll (F := Ideal) (iblk m c 0 t) (iblk m c 1 t) (iblk m c 2 t) (iblk m c 3 t) (iblk m c 4 t) (ix2 k (col h d))
      = ∑ i, aDK m c k h d (grow ⟨t.val, lt8 t⟩ i) := by
  unfold dkAll
  rw [side_apply, dkBlk_apply]
  simp only [row_cols, row_cots]
  rw [iblk_kv, iblk_gq, iblk_gk]
  rfl

theorem dv_at (t : Fin cfg0.N) (k : Fin 256) (h : Fin 4) (d : Fin 128) :
    dvAll (F := Ideal) (iblk m c 0 t) (iblk m c 1 t) (iblk m c 2 t) (iblk m c 3 t) (iblk m c 4 t) (ix2 k (col h d))
      = ∑ i, aDV m c k h d (grow ⟨t.val, lt8 t⟩ i) := by
  unfold dvAll
  rw [side_apply, dvBlk_apply]
  simp only [row_cols, row_cots]
  rw [iblk_kv, iblk_gq, iblk_gk]
  rfl

theorem dg_at (t : Fin cfg0.N) (d : Fin 128) :
    dgAll (F := Ideal) (iblk m c 0 t) (iblk m c 1 t) (iblk m c 2 t) (iblk m c 3 t) (iblk m c 4 t) (ix2 0 d)
      = ∑ h, ∑ i, aDG m c d h (grow ⟨t.val, lt8 t⟩ i) := by
  have e : ∀ h : Fin 4, dgHead (F := Ideal) (iblk m c 0 t) (iblk m c 1 t) (iblk m c 2 t) (iblk m c 3 t) (iblk m c 4 t) h (ix2 0 d)
      = ∑ i, aDG m c d h (grow ⟨t.val, lt8 t⟩ i) := fun h => by
    unfold dgHead
    rw [dgBlk_apply]
    simp only [row_cols, row_cots]
    rw [iblk_kv, iblk_gq, iblk_gk]
    rfl
  unfold dgAll
  simp only [addf_apply, e, Fin.sum_univ_four]
  show Ideal.ofBits .f32 0x00000000#32 + _ + _ + _ + _ = _
  rw [show Ideal.ofBits .f32 0x00000000#32 = 0 from by simp [Ideal.ofBits, Ideal.ieee], zero_add]

/-! ### The running sums -/

/-- Point `n`. -/
def pt (n : ℕ) : Fin cfg0.N := ⟨n % 8, lt_of_lt_of_eq (Nat.mod_lt _ (by decide)) N_0.symm⟩

theorem pt_eq (n : ℕ) (h : n < cfg0.N) : (⟨n, h⟩ : Fin cfg0.N) = pt n :=
  Fin.ext (Nat.mod_eq_of_lt (lt_of_lt_of_eq h N_0)).symm

def dkPt (t : Fin cfg0.N) := dkAll (F := Ideal) (iblk m c 0 t) (iblk m c 1 t) (iblk m c 2 t) (iblk m c 3 t) (iblk m c 4 t)
def dvPt (t : Fin cfg0.N) := dvAll (F := Ideal) (iblk m c 0 t) (iblk m c 1 t) (iblk m c 2 t) (iblk m c 3 t) (iblk m c 4 t)
def dgPt (t : Fin cfg0.N) := dgAll (F := Ideal) (iblk m c 0 t) (iblk m c 1 t) (iblk m c 2 t) (iblk m c 3 t) (iblk m c 4 t)
def dqPt (t : Fin cfg0.N) := dqAll (F := Ideal) (iblk m c 0 t) (iblk m c 1 t) (iblk m c 2 t) (iblk m c 3 t) (iblk m c 4 t)

/-- What the output blocks hold after point `n`: the queries' gradient of its block, and running sums of the other three. -/
theorem outs_eq : ∀ (n : ℕ) (h : n < cfg0.N), outsAt0 m c n h
    = (dqPt m c (pt n), acc (fun n => dkPt m c (pt n)) n, acc (fun n => dvPt m c (pt n)) n, acc (fun n => dgPt m c (pt n)) n)
  | 0, h => by
    refine (outsAt0_A m c ⟨0, h⟩ rfl (Nat.not_succ_le_zero 0) rfl (Nat.not_succ_le_zero 0) rfl (Nat.not_succ_le_zero 0)).trans ?_
    rw [out_A5, out_A6, out_A7, out_A8, pt_eq 0 h]
    rfl
  | n + 1, h => by
    have hN : cfg0.N = 8 := N_0
    have h0 : ¬(⟨n + 1, h⟩ : Fin cfg0.N).val % 8 = 0 := by dsimp only; omega
    have h1 : 1 ≤ (⟨n + 1, h⟩ : Fin cfg0.N).val := Nat.succ_le_succ (Nat.zero_le n)
    refine (outsAt0_B m c ⟨n + 1, h⟩ h0 h1 h0 h1 h0 h1).trans ?_
    rw [out_B5, out_B6, out_B7, out_B8, pt_eq (n + 1) h]
    have e := outs_eq n (Nat.lt_of_succ_lt h)
    have e' : ∀ k (hk : k < cfg0.N), k = n → outsAt0 m c k hk
        = (dqPt m c (pt n), acc (fun n => dkPt m c (pt n)) n, acc (fun n => dvPt m c (pt n)) n, acc (fun n => dgPt m c (pt n)) n) := by
      rintro k hk rfl; exact e
    rw [e' ((pt (n + 1)).val - 1) _ (by show (n + 1) % 8 - 1 = n; omega)]
    rfl

/-! ### The four final arrays -/

/-- The queries' gradient as an array. -/
def dqArr : S2048x512.Idx → EReal := fun y =>
  aDX m c (y 0) ⟨(y 1).val / 128, by have : (y 1).val < 512 := (y 1).isLt; omega⟩ ⟨(y 1).val % 128, Nat.mod_lt _ (by decide)⟩

theorem dqArr_apply (s : Fin 2048) (h : Fin 4) (d : Fin 128) : dqArr m c (ix2 s (col h d)) = aDX m c s h d := by
  unfold dqArr
  congr 1
  · apply Fin.ext; show (128 * h.val + d.val) / 128 = h.val; omega
  · apply Fin.ext; show (128 * h.val + d.val) % 128 = d.val; omega

theorem idx5 : ∀ t : Fin cfg0.N, win0_5.index t 0 = t.val ∧ win0_5.index t 1 = 0 ∧ win0_5.size 0 = 256 ∧ win0_5.size 1 = 512
    ∧ win0_5.xsize (grid0.coords t) 0 = 256 ∧ win0_5.xsize (grid0.coords t) 1 = 512 :=
  (by decide +kernel : ∀ t : Fin grid0.N, win0_5.index t 0 = t.val ∧ win0_5.index t 1 = 0 ∧ win0_5.size 0 = 256 ∧ win0_5.size 1 = 512
    ∧ win0_5.xsize (grid0.coords t) 0 = 256 ∧ win0_5.xsize (grid0.coords t) 1 = 512)

theorem flushed_dq (t : Fin cfg0.N) : (dats m 0 c).flushed 5 t = ((cfg0.win 5).blk t).view.read (Elt Ideal) (dqArr m c) := by
  rw [Value.flushed5, outs_eq]
  funext j
  rw [View.read_apply]
  obtain ⟨i, k, rfl⟩ : ∃ (i : Fin 256) (k : Fin 512), j = ix2 i k := ⟨j 0, j 1, eq_ix2 j⟩
  obtain ⟨h, d, rfl⟩ : ∃ (h : Fin 4) (d : Fin 128), k = col h d :=
    ⟨⟨k.val / 128, by omega⟩, ⟨k.val % 128, by omega⟩, Fin.ext (by show k.val = 128 * (k.val / 128) + k.val % 128; omega)⟩
  refine (?_ : dqPt m c (pt t.val) (ix2 i (col h d)) = _)
  rw [← pt_eq t.val t.isLt]
  refine (dqAll_apply ..).trans ((dq_at m c t h i d).trans ((dqArr_apply m c _ h d).symm.trans (congrArg (dqArr m c) ?_)))
  funext a
  apply Fin.ext
  match a with
  | ⟨0, _⟩ => show 256 * t.val + i.val = win0_5.index t 0 * 256 + 1 * i.val; rw [(idx5 t).1]; omega
  | ⟨1, _⟩ => show (col h d).val = win0_5.index t 1 * 512 + 1 * (col h d).val; rw [(idx5 t).2.1]; omega

theorem final_dq : (dats m 0 c).arrAt 5 cfg0.N = dqArr m c :=
  (dats m 0 c).arrAt_eq_of_cover 5 (dqArr m c) (fun t _ => flushed_dq m c t) fun i => by
    have h0 : (i 0 : Nat) < 2048 := (i 0).isLt
    have h1 : (i 1 : Nat) < 512 := (i 1).isLt
    let t : Fin cfg0.N := ⟨(i 0 : Nat) / 256, lt_of_lt_of_eq (by omega) N_0.symm⟩
    refine ⟨t, flush0_5 t, ?_⟩
    show i ∈ ((View.whole main_v0_0).slice (win0_5.rect t)).set
    rw [View.set_slice_whole, Rect.mem_set_unit]
    intro a
    have e := idx5 t
    have ht : t.val = (i 0 : Nat) / 256 := rfl
    match a with
    | ⟨0, _⟩ => show win0_5.index t 0 * win0_5.size 0 ≤ (i 0 : Nat) ∧ (i 0 : Nat) < win0_5.index t 0 * win0_5.size 0 + win0_5.xsize (grid0.coords t) 0
                rw [e.1, e.2.2.1, e.2.2.2.2.1]; omega
    | ⟨1, _⟩ => show win0_5.index t 1 * win0_5.size 1 ≤ (i 1 : Nat) ∧ (i 1 : Nat) < win0_5.index t 1 * win0_5.size 1 + win0_5.xsize (grid0.coords t) 1
                rw [e.2.1, e.2.2.2.1, e.2.2.2.2.2]; omega

theorem last_eq (t : Fin cfg0.N) (h : t.val % 8 = 7) : t = t0_7 := by
  have := lt8 t
  exact Fin.ext (show t.val = 7 by omega)

theorem final_dk : (dats m 0 c).arrAt 6 cfg0.N = acc (fun n => dkPt m c (pt n)) 7 :=
  (dats m 0 c).arrAt_eq_of_cover 6 (acc (fun n => dkPt m c (pt n)) 7)
    (fun t hf => by
      obtain rfl := last_eq t ((flush0_6 t).mp hf)
      rw [Value.flushed6, outs_eq]
      have hz' : (fun a => win0_6.index t0_7 a * main_v0_1.ty.shape.size a) = fun _ => 0 := funext fun a => by fin_cases a <;> decide
      exact (Memref.read_access_unit_zero (Elt Ideal) main_v0_1 hz' (fun a => by rw [congrFun hz' a]; simp) _).symm)
    fun i => ⟨t0_7, (flush0_6 t0_7).mpr rfl, by
      show i ∈ ((View.whole main_v0_1).slice (win0_6.rect t0_7)).set
      rw [View.set_slice_whole, Rect.mem_set_unit]
      intro a
      have h0 : (i 0 : Nat) < 256 := (i 0).isLt
      have h1 : (i 1 : Nat) < 512 := (i 1).isLt
      match a with
      | ⟨0, _⟩ => show win0_6.index t0_7 0 * win0_6.size 0 ≤ (i 0 : Nat) ∧ (i 0 : Nat) < win0_6.index t0_7 0 * win0_6.size 0 + win0_6.xsize (grid0.coords t0_7) 0
                  rw [show win0_6.index t0_7 0 * win0_6.size 0 = 0 from by decide +kernel, show win0_6.xsize (grid0.coords t0_7) 0 = 256 from by decide +kernel]; omega
      | ⟨1, _⟩ => show win0_6.index t0_7 1 * win0_6.size 1 ≤ (i 1 : Nat) ∧ (i 1 : Nat) < win0_6.index t0_7 1 * win0_6.size 1 + win0_6.xsize (grid0.coords t0_7) 1
                  rw [show win0_6.index t0_7 1 * win0_6.size 1 = 0 from by decide +kernel, show win0_6.xsize (grid0.coords t0_7) 1 = 512 from by decide +kernel]; omega⟩

theorem final_dv : (dats m 0 c).arrAt 7 cfg0.N = acc (fun n => dvPt m c (pt n)) 7 :=
  (dats m 0 c).arrAt_eq_of_cover 7 (acc (fun n => dvPt m c (pt n)) 7)
    (fun t hf => by
      obtain rfl := last_eq t ((flush0_7 t).mp hf)
      rw [Value.flushed7, outs_eq]
      have hz' : (fun a => win0_7.index t0_7 a * main_v0_2.ty.shape.size a) = fun _ => 0 := funext fun a => by fin_cases a <;> decide
      exact (Memref.read_access_unit_zero (Elt Ideal) main_v0_2 hz' (fun a => by rw [congrFun hz' a]; simp) _).symm)
    fun i => ⟨t0_7, (flush0_7 t0_7).mpr rfl, by
      show i ∈ ((View.whole main_v0_2).slice (win0_7.rect t0_7)).set
      rw [View.set_slice_whole, Rect.mem_set_unit]
      intro a
      have h0 : (i 0 : Nat) < 256 := (i 0).isLt
      have h1 : (i 1 : Nat) < 512 := (i 1).isLt
      match a with
      | ⟨0, _⟩ => show win0_7.index t0_7 0 * win0_7.size 0 ≤ (i 0 : Nat) ∧ (i 0 : Nat) < win0_7.index t0_7 0 * win0_7.size 0 + win0_7.xsize (grid0.coords t0_7) 0
                  rw [show win0_7.index t0_7 0 * win0_7.size 0 = 0 from by decide +kernel, show win0_7.xsize (grid0.coords t0_7) 0 = 256 from by decide +kernel]; omega
      | ⟨1, _⟩ => show win0_7.index t0_7 1 * win0_7.size 1 ≤ (i 1 : Nat) ∧ (i 1 : Nat) < win0_7.index t0_7 1 * win0_7.size 1 + win0_7.xsize (grid0.coords t0_7) 1
                  rw [show win0_7.index t0_7 1 * win0_7.size 1 = 0 from by decide +kernel, show win0_7.xsize (grid0.coords t0_7) 1 = 512 from by decide +kernel]; omega⟩

theorem final_dg : (dats m 0 c).arrAt 8 cfg0.N = acc (fun n => dgPt m c (pt n)) 7 :=
  (dats m 0 c).arrAt_eq_of_cover 8 (acc (fun n => dgPt m c (pt n)) 7)
    (fun t hf => by
      obtain rfl := last_eq t ((flush0_8 t).mp hf)
      rw [Value.flushed8, outs_eq]
      have hz' : (fun a => win0_8.index t0_7 a * main_v0_3.ty.shape.size a) = fun _ => 0 := funext fun a => by fin_cases a <;> decide
      exact (Memref.read_access_unit_zero (Elt Ideal) main_v0_3 hz' (fun a => by rw [congrFun hz' a]; simp) _).symm)
    fun i => ⟨t0_7, (flush0_8 t0_7).mpr rfl, by
      show i ∈ ((View.whole main_v0_3).slice (win0_8.rect t0_7)).set
      rw [View.set_slice_whole, Rect.mem_set_unit]
      intro a
      have h0 : (i 0 : Nat) < 1 := (i 0).isLt
      have h1 : (i 1 : Nat) < 128 := (i 1).isLt
      match a with
      | ⟨0, _⟩ => show win0_8.index t0_7 0 * win0_8.size 0 ≤ (i 0 : Nat) ∧ (i 0 : Nat) < win0_8.index t0_7 0 * win0_8.size 0 + win0_8.xsize (grid0.coords t0_7) 0
                  rw [show win0_8.index t0_7 0 * win0_8.size 0 = 0 from by decide +kernel, show win0_8.xsize (grid0.coords t0_7) 0 = 1 from by decide +kernel]; omega
      | ⟨1, _⟩ => show win0_8.index t0_7 1 * win0_8.size 1 ≤ (i 1 : Nat) ∧ (i 1 : Nat) < win0_8.index t0_7 1 * win0_8.size 1 + win0_8.xsize (grid0.coords t0_7) 1
                  rw [show win0_8.index t0_7 1 * win0_8.size 1 = 0 from by decide +kernel, show win0_8.xsize (grid0.coords t0_7) 1 = 128 from by decide +kernel]; omega⟩

/-! ### Read at an index -/

theorem acc_last {S : Shape} (f : Fin cfg0.N → FVec Ideal S .f32) (y : S.Idx) (g : Fin 2048 → EReal)
    (e : ∀ t : Fin cfg0.N, f t y = ∑ i, g (grow ⟨t.val, lt8 t⟩ i)) : acc (fun n => f (pt n)) 7 y = ∑ s, g s := by
  refine acc_rows _ _ _ fun t => ?_
  have ht : (⟨(pt t.val).val, lt8 (pt t.val)⟩ : Fin 8) = t := Fin.ext (Nat.mod_eq_of_lt t.isLt)
  exact (e (pt t.val)).trans (Finset.sum_congr rfl fun i _ => congrArg (fun u => g (grow u i)) ht)

/-- The keys' gradient: a sum over all query rows. -/
theorem dk_final (k : Fin 256) (h : Fin 4) (d : Fin 128) :
    (dats m 0 c).arrAt 6 cfg0.N (ix2 k (col h d)) = ∑ s, aDK m c k h d s := by
  rw [final_dk]
  exact acc_last _ _ _ fun t => dk_at m c t k h d

/-- The values' gradient. -/
theorem dv_final (k : Fin 256) (h : Fin 4) (d : Fin 128) :
    (dats m 0 c).arrAt 7 cfg0.N (ix2 k (col h d)) = ∑ s, aDV m c k h d s := by
  rw [final_dv]
  exact acc_last _ _ _ fun t => dv_at m c t k h d

/-- The query gain's gradient: a sum over all rows and heads. -/
theorem dg_final (d : Fin 128) : (dats m 0 c).arrAt 8 cfg0.N (ix2 0 d) = ∑ s, ∑ h, aDG m c d h s := by
  rw [final_dg]
  exact acc_last _ _ _ fun t => (dg_at m c t d).trans Finset.sum_comm

/-- The queries' gradient. -/
theorem dq_final (s : Fin 2048) (h : Fin 4) (d : Fin 128) :
    (dats m 0 c).arrAt 5 cfg0.N (ix2 s (col h d)) = aDX m c s h d := by
  rw [final_dq]
  exact dqArr_apply m c s h d

end Cert.Cross

end
-- ==== Proof.NormMath.lean ====
module

public import Idealize.ShloMosaic.Lib.Pointwise
public import Idealize.ShloMosaic.Lib.ValueIdx

@[expose] public section

noncomputable section

/-! ## Root-mean-square normalisation of a row over the extended reals, and its gradient

A row has `n` entries; `c` is the constant the sum of squares is divided by, a positive real. The kernel carries a gradient back
in one closed form; the reference differentiates the forward lines step by step. Both agree for every row, infinite entries
included. -/

namespace Cert.RowNorm

open Idealize.ShloMosaic

/-- The small constant under the root. -/
def cEps : EReal := Ideal.ofBits .f32 0x358637BD#32
/-- The factor −1/2 of the root's derivative. -/
def cNegHalf : EReal := Ideal.ofBits .f32 0xBF000000#32

theorem cNegHalf_eq : cNegHalf = ((-(1 / 2) : ℝ) : EReal) := by
  simp [cNegHalf, Ideal.ofBits, Ideal.ieee]
  rw [← EReal.coe_mul]
  norm_num
theorem cEps_eq : ∃ r : ℝ, 0 < r ∧ cEps = (r : EReal) := by
  refine ⟨_, ?_, by simp [cEps, Ideal.ofBits, Ideal.ieee]; rfl⟩
  positivity

variable {n : Nat} (c : EReal)

/-- The mean square plus the small constant. -/
def rM (x : Fin n → EReal) : EReal := Ideal.div (∑ j, x j * x j) c + cEps
/-- The reciprocal root mean square. -/
def rR (x : Fin n → EReal) : EReal := Ideal.rsqrt (rM c x)
/-- The normalised row. -/
def rN (x : Fin n → EReal) (d : Fin n) : EReal := x d * rR c x
/-- The gradient of a normalised row carried back through the normalisation. -/
def rDX (x dn : Fin n → EReal) (d : Fin n) : EReal := rR c x * (dn d - rN c x d * Ideal.div (∑ j, dn j * rN c x j) c)
/-- As the reference has it: the part that runs through the row's root mean square, before the row's own factor. -/
def fC (x dn : Fin n → EReal) : EReal :=
  Ideal.div ((∑ j, x j * dn j) * (cNegHalf * Ideal.div (rR c x) (rM c x))) c
/-- As the reference has it: the gradient carried back through the normalisation. -/
def fDX (x dn : Fin n → EReal) (d : Fin n) : EReal := dn d * rR c x + x d * fC c x dn + fC c x dn * x d

/-! ### Sums and real factors -/

variable {ι : Type} [Fintype ι]

/-- A non-negative real factor passes out of a sum. -/
theorem sum_mul_coe (f : ι → EReal) {a : ℝ} (ha : 0 ≤ a) : (∑ i, f i) * (a : EReal) = ∑ i, f i * (a : EReal) := by
  classical
  have h : ∀ s : Finset ι, (∑ i ∈ s, f i) * (a : EReal) = ∑ i ∈ s, f i * (a : EReal) := fun s => by
    induction s using Finset.induction_on with
    | empty => simp
    | insert i s hi ih =>
      rw [Finset.sum_insert hi, Finset.sum_insert hi, ← ih,
        EReal.right_distrib_of_nonneg_of_ne_top (EReal.coe_nonneg.mpr ha) (EReal.coe_ne_top a)]
  exact h _

/-- A sum of reals is a real. -/
theorem sum_coe (f : ι → ℝ) : ∑ i, (f i : EReal) = ((∑ i, f i : ℝ) : EReal) := by
  classical
  have h : ∀ s : Finset ι, ∑ i ∈ s, (f i : EReal) = ((∑ i ∈ s, f i : ℝ) : EReal) := fun s => by
    induction s using Finset.induction_on with
    | empty => simp
    | insert i s hi ih => rw [Finset.sum_insert hi, Finset.sum_insert hi, ih, EReal.coe_add]
  exact h _

/-- Twice a multiple by a real. -/
theorem mul_coe_add_self (t : EReal) (b : ℝ) : t * (b : EReal) + t * (b : EReal) = t * ((2 * b : ℝ) : EReal) := by
  rcases le_total 0 b with h | h
  · rw [two_mul, EReal.coe_add, EReal.left_distrib_of_nonneg (EReal.coe_nonneg.mpr h) (EReal.coe_nonneg.mpr h)]
  · have h' : 0 ≤ -b := neg_nonneg.mpr h
    have e := EReal.left_distrib_of_nonneg (c := -t) (EReal.coe_nonneg.mpr h') (EReal.coe_nonneg.mpr h')
    rw [← EReal.coe_add, neg_mul, neg_mul, ← mul_neg, ← mul_neg, ← EReal.coe_neg, ← EReal.coe_neg, neg_neg] at e
    rw [← e]
    congr 2
    ring

/-! ### The normalisation -/

theorem sq_nonneg' (x : EReal) : 0 ≤ x * x := by
  rcases le_total 0 x with h | h
  · exact mul_nonneg h h
  · have := mul_nonneg (EReal.neg_nonneg.mpr h) (EReal.neg_nonneg.mpr h)
    rwa [neg_mul, mul_neg, neg_neg] at this

variable {c} {κ : ℝ} (hκ : 0 < κ) (hc : c = (κ : EReal))
include hκ hc

/-- Either the mean square is infinite, or the row is real and its mean square with the small constant a positive real. -/
theorem rM_cases (x : Fin n → EReal) :
    rM c x = ⊤ ∨ ∃ (ξ : Fin n → ℝ) (μ : ℝ), 0 < μ ∧ (∀ j, x j = (ξ j : EReal)) ∧ rM c x = (μ : EReal) := by
  obtain ⟨e, he, hE⟩ := cEps_eq
  by_cases h : ∃ j, x j * x j = ⊤
  · obtain ⟨j, hj⟩ := h
    left
    have hs : ∑ j, x j * x j = ⊤ :=
      top_le_iff.mp (hj ▸ Finset.single_le_sum (f := fun j => x j * x j) (fun i _ => sq_nonneg' (x i)) (Finset.mem_univ j))
    unfold rM
    rw [hs, hc, Ideal.div_coe hκ.ne', hE, EReal.top_mul_coe_of_pos (one_div_pos.mpr hκ), EReal.top_add_coe]
  · right
    have hx : ∀ j, ∃ r : ℝ, x j = (r : EReal) := fun j => by
      have hj : x j * x j ≠ ⊤ := fun hh => h ⟨j, hh⟩
      induction hxj : x j with
      | bot => rw [hxj] at hj; exact absurd EReal.bot_mul_bot hj
      | top => rw [hxj] at hj; exact absurd EReal.top_mul_top hj
      | coe r => exact ⟨r, rfl⟩
    choose ξ hξ using hx
    refine ⟨ξ, (∑ j, ξ j * ξ j) * (1 / κ) + e, ?_, hξ, ?_⟩
    · have : 0 ≤ ∑ j, ξ j * ξ j := Finset.sum_nonneg fun j _ => mul_self_nonneg _
      positivity
    · unfold rM
      rw [hc, Ideal.div_coe hκ.ne', hE, EReal.coe_add, EReal.coe_mul, ← sum_coe]
      simp only [hξ, EReal.coe_mul]

/-- A normalised row is real. -/
theorem rN_real (x : Fin n → EReal) (d : Fin n) : ∃ r : ℝ, rN c x d = (r : EReal) := by
  unfold rN rR
  rcases rM_cases hκ hc x with h | ⟨ξ, μ, hμ, hξ, hM⟩
  · exact ⟨0, by rw [h, Ideal.rsqrt_top, mul_zero]; rfl⟩
  · exact ⟨ξ d * (Real.sqrt μ)⁻¹, by
      rw [hM, hξ, Ideal.rsqrt_coe, if_neg hμ.not_gt, if_neg hμ.ne', EReal.coe_mul]⟩

/-- Carrying a gradient back through the normalisation: the closed form is the step-by-step one. -/
theorem fDX_eq (x dn : Fin n → EReal) (d : Fin n) : fDX c x dn d = rDX c x dn d := by
  unfold fDX rDX fC rN rR
  rcases rM_cases hκ hc x with h | ⟨ξ, μ, hμ, hξ, hM⟩
  · rw [h, Ideal.rsqrt_top, hc, Ideal.div_coe hκ.ne', show Ideal.div 0 ⊤ = 0 by simp [Ideal.div]]
    simp
  · have hs : 0 < Real.sqrt μ := Real.sqrt_pos.mpr hμ
    have hr : Ideal.rsqrt (rM c x) = (((Real.sqrt μ)⁻¹ : ℝ) : EReal) := by
      rw [hM, Ideal.rsqrt_coe, if_neg hμ.not_gt, if_neg hμ.ne']
    have hρ : 0 < (Real.sqrt μ)⁻¹ := inv_pos.mpr hs
    have hρ2 : (1 / μ) = (Real.sqrt μ)⁻¹ * (Real.sqrt μ)⁻¹ := by
      rw [← mul_inv, Real.mul_self_sqrt hμ.le, one_div]
    rw [hr, hM]
    generalize (Real.sqrt μ)⁻¹ = ρ at hρ hρ2 ⊢
    rw [hc, Ideal.div_coe hμ.ne', Ideal.div_coe hκ.ne', Ideal.div_coe hκ.ne', cNegHalf_eq]
    simp only [hξ]
    rw [show ∑ j, dn j * ((ξ j : EReal) * (ρ : EReal)) = (∑ j, (ξ j : EReal) * dn j) * (ρ : EReal) by
      rw [sum_mul_coe _ hρ.le]; exact Finset.sum_congr rfl fun j _ => by ac_rfl]
    generalize ∑ j, (ξ j : EReal) * dn j = t
    have e1 : (ξ d : EReal) * (t * (((-(1 / 2) : ℝ) : EReal) * ((ρ : EReal) * ((1 / μ : ℝ) : EReal))) * ((1 / κ : ℝ) : EReal))
        = t * ((ξ d * (-(1 / 2) * (ρ * (1 / μ))) * (1 / κ) : ℝ) : EReal) := by
      simp only [EReal.coe_mul]; ac_rfl
    rw [mul_comm (t * (((-(1 / 2) : ℝ) : EReal) * ((ρ : EReal) * ((1 / μ : ℝ) : EReal))) * ((1 / κ : ℝ) : EReal)) (ξ d : EReal), e1,
      add_assoc, mul_coe_add_self, sub_eq_add_neg, EReal.left_distrib_of_nonneg_of_ne_top (EReal.coe_nonneg.mpr hρ.le) (EReal.coe_ne_top ρ),
      mul_neg, mul_comm (dn d)]
    congr 1
    rw [show (ρ : EReal) * ((ξ d : EReal) * (ρ : EReal) * (t * (ρ : EReal) * ((1 / κ : ℝ) : EReal)))
        = t * ((ρ * (ξ d * ρ) * (ρ * (1 / κ)) : ℝ) : EReal) by simp only [EReal.coe_mul]; ac_rfl, ← mul_neg, ← EReal.coe_neg, hρ2]
    congr 2
    ring

end Cert.RowNorm

end
-- ==== Proof.CrossMath.lean ====
module

public import proofs.«01_k».proof.Proof.CrossSpec
public import proofs.«01_k».proof.Proof.NormMath

@[expose] public section

noncomputable section

/-! ## The gradient rules over the extended reals

The kernel carries a gradient back through the normalisation and the weights in one closed form each; the reference differentiates
the forward lines step by step. Both forms agree: through the normalisation for every row, infinite entries included, and
through the weights whenever the scores are real. -/

namespace Cert.Cross

open Idealize.ShloMosaic
open RowNorm (sum_mul_coe sum_coe)

/-! ### The gradient rules as the reference applies them -/

/-- The factor −1/2 of the root's derivative. -/
def cNegHalf : EReal := Ideal.ofBits .f32 0xBF000000#32

/-- The gradient of a row's scores: the quotient's two parts, times the exponentials. -/
def fDS (s d : Fin 256 → EReal) (m : Fin 256) : EReal :=
  (Ideal.div (d m) (rZ s) + -∑ m', d m' * Ideal.div 1 (rZ s * rZ s) * rE s m') * rE s m
/-- The part of a row's gradient that runs through its root mean square, before the row's own factor. -/
def fC (x dn : Fin 128 → EReal) : EReal :=
  Ideal.div ((∑ j, x j * dn j) * (cNegHalf * Ideal.div (rR x) (rM x))) c128
/-- The gradient of a normalised row carried back through the normalisation. -/
def fDX (x dn : Fin 128 → EReal) (d : Fin 128) : EReal := dn d * rR x + x d * fC x dn + fC x dn * x d

/-! ### The constants -/

theorem c128_eq : c128 = ((128 : ℝ) : EReal) := by
  simp [c128, Ideal.ofBits, Ideal.ieee]
  rw [← EReal.coe_mul]
  norm_num
theorem cBot_eq : cBot = ⊥ := by simp [cBot, Ideal.ofBits, Ideal.ieee]
theorem cScale_eq : ∃ r : ℝ, cScale = (r : EReal) := ⟨_, by simp [cScale, Ideal.ofBits, Ideal.ieee]; rfl⟩

/-! ### The normalisation -/

/-- A normalised row is real. -/
theorem rN_real (x : Fin 128 → EReal) (d : Fin 128) : ∃ r : ℝ, rN x d = (r : EReal) :=
  RowNorm.rN_real (by norm_num) c128_eq x d

/-- Carrying a gradient back through the normalisation: the closed form is the step-by-step one. -/
theorem fDX_eq (x dn : Fin 128 → EReal) (d : Fin 128) : fDX x dn d = rDX x dn d :=
  RowNorm.fDX_eq (by norm_num) c128_eq x dn d

/-! ### The weights -/

/-- Carrying a gradient back through the weights of a row of real scores. -/
theorem fDS_eq (s d : Fin 256 → EReal) (hs : ∀ m, ∃ r : ℝ, s m = (r : EReal)) (m : Fin 256) : fDS s d m = rDS (rP s) d m := by
  choose σ hσ using hs
  have htop : ∃ τ : ℝ, rTop s = (τ : EReal) := by
    have h1 : rTop s ≠ ⊥ := fun h => by
      have : s 0 ≤ rTop s := (Finset.le_fold_max _).mpr (Or.inr ⟨0, Finset.mem_univ _, le_rfl⟩)
      rw [h, le_bot_iff, hσ] at this
      exact EReal.coe_ne_bot _ this
    have h2 : rTop s ≠ ⊤ := ne_of_lt ((Finset.fold_max_lt _).mpr ⟨by rw [cBot_eq]; exact bot_lt_top, fun m _ => by
      rw [hσ]; exact EReal.coe_lt_top _⟩)
    exact ⟨(rTop s).toReal, (EReal.coe_toReal h2 h1).symm⟩
  obtain ⟨τ, hτ⟩ := htop
  have he : ∀ m, rE s m = ((Real.exp (σ m - τ) : ℝ) : EReal) := fun m => by
    unfold rE; rw [hσ, hτ, ← EReal.coe_sub, Ideal.exp_coe]
  have hz : rZ s = ((∑ m, Real.exp (σ m - τ) : ℝ) : EReal) := by
    unfold rZ; simp only [he]; exact sum_coe _
  have hp : ∀ m, 0 < Real.exp (σ m - τ) := fun m => Real.exp_pos _
  have hpz : 0 < ∑ m, Real.exp (σ m - τ) := Finset.sum_pos (fun m _ => hp m) ⟨0, Finset.mem_univ _⟩
  have hi : 0 ≤ 1 / ∑ m, Real.exp (σ m - τ) := (one_div_pos.mpr hpz).le
  unfold fDS rDS rP
  rw [hz, ← EReal.coe_mul]
  simp only [he]
  rw [Ideal.div_coe hpz.ne']
  simp only [Ideal.div_coe hpz.ne', Ideal.div_coe (mul_pos hpz hpz).ne', one_mul]
  generalize (∑ m, Real.exp (σ m - τ)) = ζ at hpz hi ⊢
  have e1 : ∑ m', d m' * ((1 / (ζ * ζ) : ℝ) : EReal) * ((Real.exp (σ m' - τ) : ℝ) : EReal)
      = (∑ m', d m' * ((Real.exp (σ m' - τ) : ℝ) : EReal)) * ((1 / ζ : ℝ) : EReal) * ((1 / ζ : ℝ) : EReal) := by
    rw [sum_mul_coe _ hi, sum_mul_coe _ hi]
    refine Finset.sum_congr rfl fun m' _ => ?_
    rw [← one_div_mul_one_div, EReal.coe_mul]
    ac_rfl
  have e2 : ∑ m', d m' * (((Real.exp (σ m' - τ) : ℝ) : EReal) * ((1 / ζ : ℝ) : EReal))
      = (∑ m', d m' * ((Real.exp (σ m' - τ) : ℝ) : EReal)) * ((1 / ζ : ℝ) : EReal) := by
    rw [sum_mul_coe _ hi]
    exact Finset.sum_congr rfl fun m' _ => (mul_assoc _ _ _).symm
  rw [e1, e2, sub_eq_add_neg, ← neg_mul,
    ← EReal.right_distrib_of_nonneg_of_ne_top (EReal.coe_nonneg.mpr hi) (EReal.coe_ne_top _)]
  ac_rfl

/-! ### The scores are real when the gains are -/

theorem score_real (x : Fin 128 → EReal) (K : Fin 256 → Fin 128 → EReal) (gq gk : Fin 128 → EReal)
    (hq : ∀ d, ∃ r : ℝ, gq d = (r : EReal)) (hk : ∀ d, ∃ r : ℝ, gk d = (r : EReal)) (m : Fin 256) :
    ∃ r : ℝ, rS x K gq gk m = (r : EReal) := by
  obtain ⟨c, hc⟩ := cScale_eq
  choose a ha using hq
  choose b hb using hk
  choose u hu using rN_real x
  choose v hv using rN_real (K m)
  refine ⟨∑ d, u d * a d * c * (v d * b d), ?_⟩
  rw [← sum_coe]
  unfold rS rQ rK
  simp only [ha, hb, hu, hv, hc, EReal.coe_mul]

end Cert.Cross

end
-- ==== Proof.CrossRef.lean ====
module

public import proofs.«01_k».proof.Proof.CrossRun
public import proofs.«01_k».proof.Proof.CrossMath
public import proofs.«01_k».proof.Proof.Gen.ReferenceIdeal.Read

@[expose] public section

noncomputable section

/-! ## The reference's results at an index, as functions of the arrays' rows -/

namespace Cert.Cross

open Cert.ReferenceIdeal Cert.ReferenceIdeal.Gen Cert.ReferenceIdeal.Read Idealize.ShloMosaic

/-- A sum over the first two of three axes. -/
theorem sum_two_axes {n m k : Nat} (h : Shape.ReducesTo ⟨3, ![n, m, k]⟩ [0, 1] ⟨1, ![k]⟩)
    (e : ∀ i : Shape.Idx ⟨3, ![n, m, k]⟩, (h.drop i 0).val = (i 2).val)
    (x : Shape.Idx ⟨3, ![n, m, k]⟩ → EReal) (z : EReal) (d : Fin k) :
    Ideal.hostReduceAdd h x z (ix1 d) = z + ∑ a, ∑ b, x (ix3 a b d) := by
  unfold Ideal.hostReduceAdd
  congr 1
  rw [← Fintype.sum_prod_type']
  refine Finset.sum_nbij' (i := fun i => (i 0, i 1)) (j := fun p => ix3 p.1 p.2 d) ?_ ?_ ?_ ?_ ?_
  · intro i _; exact Finset.mem_univ _
  · intro p _
    refine Finset.mem_filter.mpr ⟨Finset.mem_univ _, funext fun b => Fin.ext ?_⟩
    match b with
    | ⟨0, _⟩ => exact e _
  · intro i hi
    have h0 := congrFun (Finset.mem_filter.mp hi).2 0
    have h1 : (i 2).val = d.val := (e i).symm.trans (congrArg Fin.val h0)
    funext a
    match a with
    | ⟨0, _⟩ => rfl
    | ⟨1, _⟩ => rfl
    | ⟨2, _⟩ => exact Fin.ext h1.symm
  · intro p _; rfl
  · intro i hi
    have h0 := congrFun (Finset.mem_filter.mp hi).2 0
    have h1 : (i 2).val = d.val := (e i).symm.trans (congrArg Fin.val h0)
    refine congrArg x (funext fun a => ?_)
    match a with
    | ⟨0, _⟩ => rfl
    | ⟨1, _⟩ => rfl
    | ⟨2, _⟩ => exact Fin.ext h1

/-! ### Stage by stage -/

variable (x0 x1 : S2048x512.Idx → EReal) (x2 : S256x1024.Idx → EReal) (x3 x4 : S1x128.Idx → EReal)
variable (s : Fin 2048) (k : Fin 256) (h : Fin 4) (d : Fin 128)

theorem q_at : val_main_v17 (F := Ideal) x0 (ix3 s h d) = xr x0 s h d := by
  rw [val_main_v17_apply]
  refine congrArg x0 (funext fun a => Fin.ext ?_)
  match a with
  | ⟨0, _⟩ => show ((s.val * 4 + h.val) * 128 + d.val) / 512 = s.val; omega
  | ⟨1, _⟩ => show ((s.val * 4 + h.val) * 128 + d.val) % 512 = 128 * h.val + d.val; omega

theorem o_at : val_main_v70 (F := Ideal) x1 (ix3 s h d) = xr x1 s h d := by
  rw [val_main_v70_apply]
  refine congrArg x1 (funext fun a => Fin.ext ?_)
  match a with
  | ⟨0, _⟩ => show ((s.val * 4 + h.val) * 128 + d.val) / 512 = s.val; omega
  | ⟨1, _⟩ => show ((s.val * 4 + h.val) * 128 + d.val) % 512 = 128 * h.val + d.val; omega

theorem k_at : val_main_v2 (F := Ideal) x2 (ix3 k h d) = kr x2 h k d := by
  rw [val_main_v2_apply, val_main_v0_apply]
  refine congrArg x2 (funext fun a => Fin.ext ?_)
  match a with
  | ⟨0, _⟩ => show ((k.val * 4 + h.val) * 128 + d.val) / 512 = k.val; omega
  | ⟨1, _⟩ => show ((k.val * 4 + h.val) * 128 + d.val) % 512 = 128 * h.val + d.val; omega

theorem v_at : val_main_v37 (F := Ideal) x2 (ix3 k h d) = vr x2 h k d := by
  rw [val_main_v37_apply, val_main_v1_apply]
  refine congrArg x2 (funext fun a => Fin.ext ?_)
  match a with
  | ⟨0, _⟩ => show ((k.val * 4 + h.val) * 128 + d.val) / 512 = k.val; omega
  | ⟨1, _⟩ => show 512 + ((k.val * 4 + h.val) * 128 + d.val) % 512 = 512 + (128 * h.val + d.val); omega

theorem kn_at : val_main_v36 (F := Ideal) x2 x4 (ix3 k h d) = rK (kr x2 h k) (gr x4) d := by
  pointwise [val_main_v36, val_main_v16, val_main_v15, val_main_v14, val_main_v13, val_main_v12, val_main_v11, val_main_v10,
    val_main_v9, val_main_v8, val_main_v7, val_main_v6, val_main_v5, val_main_v4, val_main_v3, val_main_cst, val_main_cst_0, val_main_cst_1]
  simp only [k_at]
  rfl

theorem m_at : val_main_v24 (F := Ideal) x0 (ix3 s h 0) = rM (xr x0 s h) := by
  pointwise [val_main_v24, val_main_v23, val_main_v22, val_main_v21, val_main_v20, val_main_v19, val_main_v18, val_main_cst_2,
    val_main_cst_3, val_main_cst_4]
  simp only [q_at]
  rfl

theorem r_at : val_main_v25 (F := Ideal) x0 (ix3 s h 0) = rR (xr x0 s h) := by
  pointwise [val_main_v25]
  rw [m_at]
  rfl

theorem half_at : val_main_v28 (F := Ideal) x0 (ix3 s h 0)
    = cNegHalf * Ideal.div (rR (xr x0 s h)) (rM (xr x0 s h)) := by
  pointwise [val_main_v28, val_main_v27, val_main_v26, val_main_cst_5]
  rw [m_at, r_at]
  rfl

theorem nq_at : val_main_v30 (F := Ideal) x0 (ix3 s h d) = rN (xr x0 s h) d := by
  pointwise [val_main_v30, val_main_v29]
  rw [q_at, r_at]
  rfl

theorem qn_at : val_main_v35 (F := Ideal) x0 x3 (ix3 s h d) = rQ (xr x0 s h) (gr x3) d := by
  pointwise [val_main_v35, val_main_v34, val_main_v33, val_main_v32, val_main_v31, val_main_cst_6]
  rw [nq_at]
  rfl

/-- The scores of a query row, over the arrays. -/
def aS : Fin 256 → EReal := rS (xr x0 s h) (kr x2 h) (gr x3) (gr x4)

theorem s_at : val_main_v38 (F := Ideal) x0 x2 x3 x4 (ix3 h s k) = aS x0 x2 x3 x4 s h k := by
  pointwise [val_main_v38]
  simp only [qn_at, kn_at]
  rfl

theorem max_bot (f : Fin 256 → EReal) : max cBot (rTop f) = rTop f := by
  exact max_eq_right ((Finset.le_fold_max _).mpr (Or.inl le_rfl))

theorem top_at : val_main_v39 (F := Ideal) x0 x2 x3 x4 (ix2 h s) = rTop (aS x0 x2 x3 x4 s h) := by
  pointwise [val_main_v39]
  simp only [s_at]
  rfl

theorem top_at' : val_main_v46 (F := Ideal) x0 x2 x3 x4 (ix2 h s) = rTop (aS x0 x2 x3 x4 s h) := by
  rw [val_main_v46_apply, top_at, val_main_v45_apply]
  exact max_bot _

theorem e_at : val_main_v59 (F := Ideal) x0 x2 x3 x4 (ix3 h s k) = rE (aS x0 x2 x3 x4 s h) k := by
  pointwise [val_main_v59, val_main_v58, val_main_v57, val_main_v56]
  rw [s_at, top_at']
  rfl

theorem z_at : val_main_v61 (F := Ideal) x0 x2 x3 x4 (ix3 h s 0) = rZ (aS x0 x2 x3 x4 s h) := by
  pointwise [val_main_v61, val_main_v60, val_main_cst_15]
  simp only [e_at]
  rfl

theorem p_at : val_main_v63 (F := Ideal) x0 x2 x3 x4 (ix3 h s k) = rP (aS x0 x2 x3 x4 s h) k := by
  pointwise [val_main_v63, val_main_v62]
  rw [e_at, z_at]
  rfl

theorem dp_at : val_main_v72 (F := Ideal) x1 x2 (ix3 h s k) = rDP (xr x1 s h) (vr x2 h) k := by
  pointwise [val_main_v72, val_main_v71]
  simp only [o_at, v_at]
  rfl

theorem ds_at : val_main_v86 (F := Ideal) x0 x1 x2 x3 x4 (ix3 h s k)
    = fDS (aS x0 x2 x3 x4 s h) (rDP (xr x1 s h) (vr x2 h)) k := by
  pointwise [val_main_v86, val_main_v85, val_main_v84, val_main_v83, val_main_v82, val_main_v81, val_main_v80, val_main_v79,
    val_main_v78, val_main_v77, val_main_v76, val_main_v75, val_main_v66, val_main_v65, val_main_v64, val_main_cst_16, val_main_cst_17, val_main_cst_18]
  simp only [e_at, z_at, dp_at, Fin.sum_univ_one]
  rfl

/-- The values' gradient. -/
theorem ref_dv : val_main_v91 (F := Ideal) x0 x1 x2 x3 x4 (ix2 k (col h d))
    = ∑ s, xr x1 s h d * rP (aS x0 x2 x3 x4 s h) k := by
  rw [val_main_v91_apply, show idx_main_v91 (ix2 k (col h d)) = ix3 k h d from funext fun a => Fin.ext (by
    match a with
    | ⟨0, _⟩ => show (k.val * 512 + (128 * h.val + d.val)) / 512 = k.val; omega
    | ⟨1, _⟩ => show (k.val * 512 + (128 * h.val + d.val)) / 128 % 4 = h.val; omega
    | ⟨2, _⟩ => show (k.val * 512 + (128 * h.val + d.val)) % 128 = d.val; omega)]
  pointwise [val_main_v74, val_main_v73, val_main_v71]
  simp only [o_at, p_at]

/-- The keys' gradient. -/
theorem ref_dk : val_main_v92 (F := Ideal) x0 x1 x2 x3 x4 (ix2 k (col h d))
    = ∑ s, fDS (aS x0 x2 x3 x4 s h) (rDP (xr x1 s h) (vr x2 h)) k * rQ (xr x0 s h) (gr x3) d := by
  rw [val_main_v92_apply, show idx_main_v92 (ix2 k (col h d)) = ix3 k h d from funext fun a => Fin.ext (by
    match a with
    | ⟨0, _⟩ => show (k.val * 512 + (128 * h.val + d.val)) / 512 = k.val; omega
    | ⟨1, _⟩ => show (k.val * 512 + (128 * h.val + d.val)) / 128 % 4 = h.val; omega
    | ⟨2, _⟩ => show (k.val * 512 + (128 * h.val + d.val)) % 128 = d.val; omega)]
  pointwise [val_main_v88, val_main_v87]
  simp only [ds_at, qn_at]

/-- The gradient of a query row after its normalisation and gain. -/
def aF (d : Fin 128) : EReal :=
  (∑ m, fDS (aS x0 x2 x3 x4 s h) (rDP (xr x1 s h) (vr x2 h)) m * rK (kr x2 h m) (gr x4) d) * cScale

theorem dqn_at : val_main_v94 (F := Ideal) x0 x1 x2 x3 x4 (ix3 s h d) = aF x0 x1 x2 x3 x4 s h d := by
  pointwise [val_main_v94, val_main_v93, val_main_v90, val_main_v89, val_main_cst_19]
  simp only [ds_at, kn_at]
  rfl

/-- The query gain's gradient. -/
theorem ref_dg : val_main_v101 (F := Ideal) x0 x1 x2 x3 x4 (ix2 0 d)
    = ∑ s, ∑ h, rN (xr x0 s h) d * aF x0 x1 x2 x3 x4 s h d := by
  pointwise [val_main_v101, val_main_v100, val_main_cst_21]
  rw [sum_two_axes _ fun i => Shape.ReducesTo.drop_apply_val_of_eq _ i 0 2]
  pointwise [val_main_v97, val_main_v96, val_main_cst_20]
  rw [sum_two_axes _ fun i => Shape.ReducesTo.drop_apply_val_of_eq _ i 0 2]
  pointwise [val_main_v95]
  simp only [nq_at, dqn_at, Fin.sum_univ_one]

theorem dn_at : val_main_v99 (F := Ideal) x0 x1 x2 x3 x4 (ix3 s h d) = aF x0 x1 x2 x3 x4 s h d * gr x3 d := by
  pointwise [val_main_v99, val_main_v98, val_main_v31]
  rw [dqn_at]
  rfl

theorem c_at : val_main_v109 (F := Ideal) x0 x1 x2 x3 x4 (ix3 s h 0)
    = fC (xr x0 s h) fun d => aF x0 x1 x2 x3 x4 s h d * gr x3 d := by
  pointwise [val_main_v109, val_main_v108, val_main_v107, val_main_v104, val_main_v103, val_main_v102, val_main_cst_22, val_main_cst_23]
  simp only [half_at, q_at, dn_at]
  rfl

/-- The queries' gradient. -/
theorem ref_dq : val_main_v117 (F := Ideal) x0 x1 x2 x3 x4 (ix2 s (col h d))
    = fDX (xr x0 s h) (fun d => aF x0 x1 x2 x3 x4 s h d * gr x3 d) d := by
  rw [val_main_v117_apply, val_main_v116_apply, show idx_main_v116 (ix2 s (col h d)) = ix3 s h d from funext fun a => Fin.ext (by
    match a with
    | ⟨0, _⟩ => show (s.val * 512 + (128 * h.val + d.val)) / 512 = s.val; omega
    | ⟨1, _⟩ => show (s.val * 512 + (128 * h.val + d.val)) / 128 % 4 = h.val; omega
    | ⟨2, _⟩ => show (s.val * 512 + (128 * h.val + d.val)) % 128 = d.val; omega)]
  pointwise [val_main_v115, val_main_v114, val_main_v113, val_main_v112, val_main_v111, val_main_v110, val_main_v106, val_main_v105, val_main_cst_24]
  simp only [r_at, q_at, dn_at, c_at, Fin.sum_univ_one]
  rfl

end Cert.Cross

end
-- ==== Proof.CrossClaim.lean ====
module

public import proofs.«01_k».proof.Defs
public import proofs.«01_k».proof.Proof.CrossRef
public import proofs.«01_k».proof.Proof.Gen.KernelIdeal.Value
public import proofs.«01_k».proof.Proof.Gen.Pre_finite_gains
public import proofs.«01_k».proof.Proof.Gen.ReferenceIdeal.Run

@[expose] public section

noncomputable section

/-! ## The cross-attention's gradient: the kernel's four results are the reference's -/

namespace Cert.Cross

open Idealize.ShloMosaic Idealize.ShloMosaic.TcCoe Idealize.SL.Sem

/-! ### The precondition -/

/-- An extended real whose absolute value is below infinity is real. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

variable (m : (ℓ : Loc KernelIdeal.nD KernelIdeal.τ KernelIdeal.sig) → Buf (Elt Ideal) ℓ) (c : Dev KernelIdeal.nD)

/-- Under the precondition both gains are real. -/
theorem gains_real (hp : Cert.Pre_KernelIdeal_finite_gains m) (d : Fin 128) :
    (∃ r : ℝ, gr (Agq m c) d = (r : EReal)) ∧ ∃ r : ℝ, gr (Agk m c) d = (r : EReal) := by
  have h : (Ideal.cmp .olt (max (gr (Agq m c) d) (-gr (Agq m c) d)) (Ideal.ofBits .f32 0x7F800000#32)
      &&& Ideal.cmp .olt (max (gr (Agk m c) d) (-gr (Agk m c) d)) (Ideal.ofBits .f32 0x7F800000#32)) = 1#1 := congrFun (hp c) (ix2 0 d)
  have hb : ∀ a b : BitVec 1, a &&& b = 1#1 → a = 1#1 ∧ b = 1#1 := by decide
  exact ⟨real_of_abs_lt _ (hb _ _ h).1, real_of_abs_lt _ (hb _ _ h).2⟩

/-! ### Indices -/

/-- Every column of a head-by-head array is a head's. -/
theorem ix_col {n : Nat} (i : Shape.Idx ⟨2, ![n, 512]⟩) : ∃ (s : Fin n) (h : Fin 4) (d : Fin 128), i = ix2 s (col h d) := by
  have h1 : (i 1).val < 512 := (i 1).isLt
  refine ⟨i 0, ⟨(i 1).val / 128, by omega⟩, ⟨(i 1).val % 128, by omega⟩, funext fun a => Fin.ext ?_⟩
  match a with
  | ⟨0, _⟩ => rfl
  | ⟨1, _⟩ => show (i 1).val = 128 * ((i 1).val / 128) + (i 1).val % 128; omega

/-- Every index of a gain is its row's. -/
theorem ix_row (i : Shape.Idx ⟨2, ![1, 128]⟩) : ∃ d : Fin 128, i = ix2 0 d := by
  refine ⟨i 1, funext fun a => Fin.ext ?_⟩
  match a with
  | ⟨0, _⟩ => have h0 : (i 0).val < 1 := (i 0).isLt; show (i 0).val = 0; omega
  | ⟨1, _⟩ => rfl

/-! ### The results agree -/

section Agree

variable (hp : Cert.Pre_KernelIdeal_finite_gains m)
include hp

theorem ds_agree (s : Fin 2048) (h : Fin 4) (k : Fin 256) :
    fDS (aS (Aq m c) (Akv m c) (Agq m c) (Agk m c) s h) (rDP (xr (Ao m c) s h) (vr (Akv m c) h)) k
      = hDS (xr (Aq m c) s h) (kr (Akv m c) h) (vr (Akv m c) h) (xr (Ao m c) s h) (gr (Agq m c)) (gr (Agk m c)) k :=
  fDS_eq _ _ (score_real _ _ _ _ (fun d => (gains_real m c hp d).1) fun d => (gains_real m c hp d).2) k

theorem f_agree (s : Fin 2048) (h : Fin 4) (d : Fin 128) :
    aF (Aq m c) (Ao m c) (Akv m c) (Agq m c) (Agk m c) s h d
      = hDQ (xr (Aq m c) s h) (kr (Akv m c) h) (vr (Akv m c) h) (xr (Ao m c) s h) (gr (Agq m c)) (gr (Agk m c)) d * cScale := by
  unfold aF
  simp only [ds_agree m c hp]
  rfl

theorem dq_agree : (KernelIdeal.Gen.dats m 0 c).arrAt 5 KernelIdeal.cfg0.N
    = ReferenceIdeal.Read.val_main_v117 (F := Ideal) (Aq m c) (Ao m c) (Akv m c) (Agq m c) (Agk m c) := by
  funext i
  obtain ⟨s, h, d, rfl⟩ := ix_col (n := 2048) i
  rw [dq_final, ref_dq, fDX_eq]
  unfold aDX hDX
  congr 1
  funext d
  rw [f_agree m c hp]
  ac_rfl

theorem dk_agree : (KernelIdeal.Gen.dats m 0 c).arrAt 6 KernelIdeal.cfg0.N
    = ReferenceIdeal.Read.val_main_v92 (F := Ideal) (Aq m c) (Ao m c) (Akv m c) (Agq m c) (Agk m c) := by
  funext i
  obtain ⟨k, h, d, rfl⟩ := ix_col (n := 256) i
  rw [dk_final, ref_dk]
  simp only [ds_agree m c hp]
  rfl

theorem dg_agree : (KernelIdeal.Gen.dats m 0 c).arrAt 8 KernelIdeal.cfg0.N
    = ReferenceIdeal.Read.val_main_v101 (F := Ideal) (Aq m c) (Ao m c) (Akv m c) (Agq m c) (Agk m c) := by
  funext i
  obtain ⟨d, rfl⟩ := ix_row i
  rw [dg_final, ref_dg]
  show (∑ s, ∑ h, aDG m c d h s : EReal) = _
  simp only [f_agree m c hp]
  exact Finset.sum_congr rfl fun s _ => Finset.sum_congr rfl fun h _ => mul_comm _ _

end Agree

theorem dv_agree : (KernelIdeal.Gen.dats m 0 c).arrAt 7 KernelIdeal.cfg0.N
    = ReferenceIdeal.Read.val_main_v91 (F := Ideal) (Aq m c) (Ao m c) (Akv m c) (Agq m c) (Agk m c) := by
  funext i
  obtain ⟨k, h, d, rfl⟩ := ix_col (n := 256) i
  rw [dv_final, ref_dv]
  show (∑ s, aDV m c k h d s : EReal) = _
  exact Finset.sum_congr rfl fun s _ => mul_comm _ _

theorem algebraic : Cert.algebraic_KernelIdeal_ReferenceIdeal_pre_finite_gains := by
  intro m g m' g' hp ha
  refine ⟨fun c => (KernelIdeal.Gen.dats m 0 c).arrAt 5 KernelIdeal.cfg0.N, fun c => (KernelIdeal.Gen.dats m 0 c).arrAt 6 KernelIdeal.cfg0.N,
    fun c => (KernelIdeal.Gen.dats m 0 c).arrAt 7 KernelIdeal.cfg0.N, fun c => (KernelIdeal.Gen.dats m 0 c).arrAt 8 KernelIdeal.cfg0.N,
    KernelIdeal.Value.run_blocks m g, (θ_run ReferenceIdeal.defs _ _).mono (fun r hr c => ?_) (ReferenceIdeal.Value.run m' g')⟩
  obtain ⟨h0, h1, h2, h3, hk⟩ := hr c
  obtain ⟨a0, a1, a2, a3, a4⟩ := ha c
  refine ⟨h0.trans ?_, h1.trans ?_, h2.trans ?_, h3.trans ?_, hk⟩
  · rw [ReferenceIdeal.Read.val_main_v117_eq, a0, a1, a2, a3, a4]; exact (dq_agree m c hp).symm
  · rw [ReferenceIdeal.Read.val_main_v92_eq, a0, a1, a2, a3, a4]; exact (dk_agree m c hp).symm
  · rw [ReferenceIdeal.Read.val_main_v91_eq, a0, a1, a2, a3, a4]; exact (dv_agree m c).symm
  · rw [ReferenceIdeal.Read.val_main_v101_eq, a0, a1, a2, a3, a4]; exact (dg_agree m c hp).symm

/-- The reference's run ends with its arguments kept and no counter raised. -/
theorem ref_frame : Cert.quiescent_ReferenceIdeal := fun m ρ _ =>
  (θ_run ReferenceIdeal.defs _ _).mono (fun r h => ⟨fun c => (h c).2.2.2.2, sem_eq_zero_of_no_sems (by decide) r.2⟩)
    (ReferenceIdeal.Value.run m ρ)

end Cert.Cross

end
-- ==== Proof.MmTile.lean ====
module

public import Idealize.ShloMosaic.Lib.Pointwise
public import Idealize.ShloMosaic.Lib.ValueIdx
public import Idealize.ShloMosaic.Lib.Pipeline.Value
public import Idealize.ShloMosaic.Lib.Pipeline.ValueKit.Tiles
public import Idealize.ShloMosaic.Lib.Tactic

@[expose] public section

noncomputable section

/-! ## What the matrix products share -/

namespace Cert.Mm

open Idealize.ShloMosaic

theorem zero2 : (![0, 0] : Fin 2 → Nat) = fun _ => 0 := funext fun a => by fin_cases a <;> rfl

theorem zero3 : (![0, 0, 0] : Fin 3 → Nat) = fun _ => 0 := funext fun a => by fin_cases a <;> rfl

/-- The index of an array with the given rows and columns, at equal coordinates. -/
theorem ix_ext {n k : Nat} {i j : Shape.Idx ⟨2, ![n, k]⟩} (h0 : (i 0).val = (j 0).val) (h1 : (i 1).val = (j 1).val) : i = j :=
  funext fun a => Fin.ext (match a with | ⟨0, _⟩ => h0 | ⟨1, _⟩ => h1)

theorem two : Ideal.ofBits .f32 0x40000000#32 = ((2 : ℝ) : EReal) := by
  simp [Ideal.ofBits, Ideal.ieee]; rw [← EReal.coe_mul]; norm_num

theorem zero : Ideal.ofBits .f32 0x00000000#32 = 0 := by
  simp [Ideal.ofBits, Ideal.ieee]

/-- An index lies in the tile its coordinates' quotients name. -/
theorem in_tile {n k p q : Nat} {idx sz xsz : Fin 2 → Nat} (i : Shape.Idx ⟨2, ![n, k]⟩) (hp : 0 < p) (hq : 0 < q)
    (e0 : idx 0 = (i 0).val / p) (e1 : idx 1 = (i 1).val / q) (s0 : sz 0 = p) (s1 : sz 1 = q) (z0 : xsz 0 = p) (z1 : xsz 1 = q) :
    ∀ a : Fin 2, idx a * sz a ≤ (i a).val ∧ (i a).val < idx a * sz a + xsz a := by
  have key : ∀ x r : Nat, 0 < r → x / r * r ≤ x ∧ x < x / r * r + r := fun x r hr =>
    ⟨Nat.div_mul_le_self x r, by have := Nat.lt_div_mul_add (a := x) hr; omega⟩
  intro a
  match a with
  | ⟨0, _⟩ => show idx 0 * sz 0 ≤ (i 0).val ∧ (i 0).val < idx 0 * sz 0 + xsz 0
              rw [e0, s0, z0]; exact key _ _ hp
  | ⟨1, _⟩ => show idx 1 * sz 1 ≤ (i 1).val ∧ (i 1).val < idx 1 * sz 1 + xsz 1
              rw [e1, s1, z1]; exact key _ _ hq

/-- Column `d` of chunk `n`, of eight chunks of 1024. -/
def col (n : Fin 8) (d : Fin 1024) : Fin 8192 := ⟨1024 * n.val + d.val, by omega⟩

/-- The chunk a column lies in, and its place there. -/
def chunk (x : Fin 8192) : Fin 8 := ⟨x.val / 1024, by omega⟩
def off (x : Fin 8192) : Fin 1024 := ⟨x.val % 1024, by omega⟩

/-- Column `d` of chunk `n`, of eight chunks of 256; the chunk a column lies in, and its place there. -/
def col256 (n : Fin 8) (d : Fin 256) : Fin 2048 := ⟨256 * n.val + d.val, by omega⟩
def chunk256 (x : Fin 2048) : Fin 8 := ⟨x.val / 256, by omega⟩
def off256 (x : Fin 2048) : Fin 256 := ⟨x.val % 256, by omega⟩

def relu (x : EReal) : EReal := max x 0

theorem ix_ext3 {n k l : Nat} {i j : Shape.Idx ⟨3, ![n, k, l]⟩} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

theorem add_at {s : Shape} (a b : FVec Ideal s .f32) (i : s.Idx) : addf a b i = (a i + b i : EReal) := rfl

/-- A sum over `n * k` places is the sum of its `n` stretches of `k` places. -/
theorem sum_parts {N : Nat} (n k : Nat) (h : n * k = N) (f : Fin N → EReal) :
    ∑ x : Fin N, f x = ∑ p : Fin n, ∑ x : Fin k, f ⟨k * p.val + x.val, by
      have hp := p.isLt; have hx := x.isLt
      calc k * p.val + x.val < k * p.val + k := by omega
        _ = k * (p.val + 1) := by rw [Nat.mul_add, Nat.mul_one]
        _ ≤ k * n := Nat.mul_le_mul_left k hp
        _ = N := by rw [Nat.mul_comm, h]⟩ := by
  subst h
  rw [← Fintype.sum_prod_type', ← finProdFinEquiv.sum_comp]
  exact Finset.sum_congr rfl fun x _ => congrArg f (Fin.ext (Nat.add_comm _ _))

end Cert.Mm
-- ==== Proof.MmDownDx.lean ====
module

public import proofs.«01_k».proof.Defs
public import proofs.«01_k».proof.Proof.MmTile
public import proofs.«01_k».proof.Proof.Gen.DownDx.Frame
public import proofs.«01_k».proof.Proof.Gen.DownDxIdeal.Value
public import proofs.«01_k».proof.Proof.Gen.DownDxRefIdeal.Run
public import proofs.«01_k».proof.Proof.Gen.DownDxRefIdeal.Read

@[expose] public section

noncomputable section

/-! ## The gradient at the hidden layer: `dyb · w_downᵀ` times the derivative of the squared ReLU -/

namespace Cert.MmDownDx

open Cert.DownDxIdeal Cert.DownDxIdeal.Gen Idealize.ShloMosaic

/-- One block from the blocks it is made of. -/
theorem tile (x0 x1 : FVec Ideal S1024x2048 .bf16) (x2 : FVec Ideal S1024x1024 .bf16) (i j : Fin 1024) :
    out0_3 (F := Ideal) x0 x1 x2 (ix2 i j) = (∑ k : Fin 2048, x0 (ix2 i k) * x1 (ix2 j k)) * x2 (ix2 i j) := by
  unfold out0_3
  rw [View.canon_unit_zero (S := S1024x1024) Mm.zero2]
  simp only [View.ld_unit_zero (S := S1024x2048) Mm.zero2, View.ld_unit_zero (S := S1024x1024) Mm.zero2]
  pointwise [k0_pay1]

theorem idx : ∀ t : Fin cfg0.N, win0_0.index t 0 = win0_3.index t 0 ∧ win0_0.index t 1 = 0 ∧ win0_1.index t 0 = win0_3.index t 1 ∧ win0_1.index t 1 = 0
    ∧ win0_2.index t 0 = win0_3.index t 0 ∧ win0_2.index t 1 = win0_3.index t 1 ∧ win0_3.size 0 = 1024 ∧ win0_3.size 1 = 1024
    ∧ win0_3.xsize (grid0.coords t) 0 = 1024 ∧ win0_3.xsize (grid0.coords t) 1 = 1024 :=
  (by decide +kernel : ∀ t : Fin grid0.N, win0_0.index t 0 = win0_3.index t 0 ∧ win0_0.index t 1 = 0 ∧ win0_1.index t 0 = win0_3.index t 1 ∧ win0_1.index t 1 = 0
    ∧ win0_2.index t 0 = win0_3.index t 0 ∧ win0_2.index t 1 = win0_3.index t 1 ∧ win0_3.size 0 = 1024 ∧ win0_3.size 1 = 1024
    ∧ win0_3.xsize (grid0.coords t) 0 = 1024 ∧ win0_3.xsize (grid0.coords t) 1 = 1024)

theorem onto : ∀ (p : Fin 2) (q : Fin 8), ∃ t : Fin cfg0.N, (cfg0.win 3).flush t = true ∧ win0_3.index t 0 = p.val ∧ win0_3.index t 1 = q.val :=
  (by decide +kernel : ∀ (p : Fin 2) (q : Fin 8), ∃ t : Fin grid0.N, win0_3.flush t = true ∧ win0_3.index t 0 = p.val ∧ win0_3.index t 1 = q.val)

variable (m : (ℓ : Loc nD τ sig) → Buf (Elt Ideal) ℓ) (c : Dev nD)

/-- The gradient as a function of the arrays. -/
def grad (dy : S2048x2048.Idx → EReal) (w : S8192x2048.Idx → EReal) (u : S2048x8192.Idx → EReal) : S2048x8192.Idx → EReal :=
  fun i => (∑ k : Fin 2048, dy (ix2 (i 0) k) * w (ix2 (i 1) k)) * ((2 : ℝ) * max (u i) 0)

theorem relu2_at (i : S2048x8192.Idx) : V m c main_v4 i = ((2 : ℝ) : EReal) * max (α := EReal) (m (c.tc.loc main_arg2) i) 0 := by
  have h : V m c main_v4 = truncf .bf16 (mulf (broadcastInDim S2048x8192 ![] bcast_S_S2048x8192 (constant S_ .f32 0x40000000#32)) (maximumf (m (c.tc.loc main_arg2)) (broadcastInDim S2048x8192 ![] bcast_S_S2048x8192 (constant (F := Ideal) S_ .f32 0x00000000#32)))) bitsLt_bf16_f32 := by
    unfold V
    simp only [hostOps0]
    after_results
  rw [h]
  obtain ⟨a, b, rfl⟩ : ∃ (a : Fin 2048) (b : Fin 8192), i = ix2 a b := ⟨i 0, i 1, eq_ix2 i⟩
  pointwise []
  rw [Mm.two]

abbrev G : S2048x8192.Idx → EReal := grad (m (c.tc.loc main_arg0)) (m (c.tc.loc main_arg1)) (m (c.tc.loc main_arg2))

theorem flushed (t : Fin cfg0.N) : (dats m 0 c).flushed 3 t = ((cfg0.win 3).blk t).view.read (Elt Ideal) (G m c) := by
  rw [Value.flushed3]
  funext j
  rw [View.read_apply]
  obtain ⟨i, k, rfl⟩ : ∃ (i : Fin 1024) (k : Fin 1024), j = ix2 i k := ⟨j 0, j 1, eq_ix2 j⟩
  refine (?_ : out0_3 (iblk m c 0 t) (iblk m c 1 t) (iblk m c 2 t) (ix2 i k) = _)
  obtain ⟨e0, e0', e1, e1', e2, e2', -⟩ := idx t
  rw [tile]
  refine congrArg₂ (· * ·) (Finset.sum_congr rfl fun x _ => congrArg₂ (· * ·) ?_ ?_) ?_
  · unfold iblk
    rw [View.read_apply]
    refine (congrFun (V_main_arg0 m c) _).trans (congrArg (m (c.tc.loc main_arg0)) (Mm.ix_ext ?_ ?_))
    · show win0_0.index t 0 * 1024 + 1 * i.val = win0_3.index t 0 * 1024 + 1 * i.val; rw [e0]
    · show win0_0.index t 1 * 2048 + 1 * x.val = x.val; rw [e0']; omega
  · unfold iblk
    rw [View.read_apply]
    refine (congrFun (V_main_arg1 m c) _).trans (congrArg (m (c.tc.loc main_arg1)) (Mm.ix_ext ?_ ?_))
    · show win0_1.index t 0 * 1024 + 1 * k.val = win0_3.index t 1 * 1024 + 1 * k.val; rw [e1]
    · show win0_1.index t 1 * 2048 + 1 * x.val = x.val; rw [e1']; omega
  · unfold iblk
    rw [View.read_apply]
    refine (relu2_at m c _).trans (congrArg (fun p => ((2 : ℝ) : EReal) * max (α := EReal) (m (c.tc.loc main_arg2) p) 0) (Mm.ix_ext ?_ ?_))
    · show win0_2.index t 0 * 1024 + 1 * i.val = win0_3.index t 0 * 1024 + 1 * i.val; rw [e2]
    · show win0_2.index t 1 * 1024 + 1 * k.val = win0_3.index t 1 * 1024 + 1 * k.val; rw [e2']

theorem final : (dats m 0 c).arrAt 3 cfg0.N = G m c :=
  (dats m 0 c).arrAt_eq_of_cover 3 (G m c) (fun t _ => flushed m c t) fun i => by
    have h0 : (i 0 : Nat) < 2048 := (i 0).isLt
    have h1 : (i 1 : Nat) < 8192 := (i 1).isLt
    obtain ⟨t, hf, e0, e1⟩ := onto ⟨(i 0 : Nat) / 1024, by omega⟩ ⟨(i 1 : Nat) / 1024, by omega⟩
    refine ⟨t, hf, ?_⟩
    show i ∈ ((View.whole main_v5).slice (win0_3.rect t)).set
    rw [View.set_slice_whole, Rect.mem_set_unit]
    intro a
    obtain ⟨-, -, -, -, -, -, s0, s1, z0, z1⟩ := idx t
    match a with
    | ⟨0, _⟩ => show win0_3.index t 0 * win0_3.size 0 ≤ (i 0 : Nat) ∧ (i 0 : Nat) < win0_3.index t 0 * win0_3.size 0 + win0_3.xsize (grid0.coords t) 0
                rw [s0, e0, z0]; dsimp only; omega
    | ⟨1, _⟩ => show win0_3.index t 1 * win0_3.size 1 ≤ (i 1 : Nat) ∧ (i 1 : Nat) < win0_3.index t 1 * win0_3.size 1 + win0_3.xsize (grid0.coords t) 1
                rw [s1, e1, z1]; dsimp only; omega

/-- The reference's gradient, read off its operations. -/
theorem ref_at (dy : FVec Ideal S2048x2048 .bf16) (w : FVec Ideal S8192x2048 .bf16) (u : FVec Ideal S2048x8192 .f32) :
    DownDxRefIdeal.Read.val_main_v14 (F := Ideal) dy w u = grad dy w u := by
  funext i
  obtain ⟨a, b, rfl⟩ : ∃ (a : Fin 2048) (b : Fin 8192), i = ix2 a b := ⟨i 0, i 1, eq_ix2 i⟩
  unfold grad
  rw [← DownDxRefIdeal.Read.val_main_v14_eq]
  pointwise []
  rw [Mm.two]
  split_ifs with h
  · rfl
  · rw [max_eq_right (not_lt.mp h), mul_zero, mul_zero]

theorem algebraic : Cert.algebraic_DownDxIdeal_DownDxRefIdeal := by
  intro m g m' g' _ ha
  refine ⟨fun c => (dats m 0 c).arrAt 3 cfg0.N, Value.run_blocks m g,
    (θ_run DownDxRefIdeal.defs _ _).mono (fun r hr c => ?_) (DownDxRefIdeal.Value.run m' g')⟩
  obtain ⟨h0, hk⟩ := hr c
  obtain ⟨a0, a1, a2⟩ := ha c
  refine ⟨h0.trans ?_, hk⟩
  rw [DownDxRefIdeal.Read.val_main_v14_eq, a0, a1, a2]
  exact (ref_at ..).trans (final m c).symm

/-- The reference's run ends with its arguments kept and no counter raised. -/
theorem ref_frame : Cert.quiescent_DownDxRefIdeal := fun m ρ _ =>
  (θ_run DownDxRefIdeal.defs _ _).mono (fun r h => ⟨fun c => (h c).2, sem_eq_zero_of_no_sems (by decide) r.2⟩)
    (DownDxRefIdeal.Value.run m ρ)

end Cert.MmDownDx
-- ==== Proof.MmDownDw.lean ====
module

public import proofs.«01_k».proof.Defs
public import proofs.«01_k».proof.Proof.MmTile
public import proofs.«01_k».proof.Proof.Gen.DownDw.Frame
public import proofs.«01_k».proof.Proof.Gen.DownDwIdeal.Value
public import proofs.«01_k».proof.Proof.Gen.DownDwRefIdeal.Run
public import proofs.«01_k».proof.Proof.Gen.DownDwRefIdeal.Read

@[expose] public section

noncomputable section

/-! ## The gradient of the lower MLP weight: `actᵀ · dyb` -/

namespace Cert.MmDownDw

open Cert.DownDwIdeal Cert.DownDwIdeal.Gen Idealize.ShloMosaic

/-- One block from the blocks it is made of. -/
theorem tile (x0 x1 : FVec Ideal S2048x1024 .bf16) (i j : Fin 1024) :
    out0_2 (F := Ideal) x0 x1 (ix2 i j) = ∑ s : Fin 2048, x0 (ix2 s i) * x1 (ix2 s j) := by
  unfold out0_2
  rw [View.canon_unit_zero (S := S1024x1024) Mm.zero2]
  simp only [View.ld_unit_zero (S := S2048x1024) Mm.zero2]
  pointwise [k0_pay1]

theorem idx (t : Fin cfg0.N) : win0_0.index t 0 = 0 ∧ win0_0.index t 1 = win0_2.index t 0 ∧ win0_1.index t 0 = 0 ∧ win0_1.index t 1 = win0_2.index t 1
    ∧ win0_2.size 0 = 1024 ∧ win0_2.size 1 = 1024 ∧ win0_2.xsize (grid0.coords t) 0 = 1024 ∧ win0_2.xsize (grid0.coords t) 1 = 1024 :=
  by revert t; decide +kernel

theorem onto (p : Fin 8) (q : Fin 2) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The gradient as a function of the arrays. -/
def grad (act : S2048x8192.Idx → EReal) (dy : S2048x2048.Idx → EReal) : S8192x2048.Idx → EReal :=
  fun i => ∑ s : Fin 2048, act (ix2 s (i 0)) * dy (ix2 s (i 1))

abbrev G : S8192x2048.Idx → EReal := grad (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 1024) (k : Fin 1024), j = ix2 i k := ⟨j 0, j 1, eq_ix2 j⟩
  refine (?_ : out0_2 (iblk m c 0 t) (iblk m c 1 t) (ix2 i k) = _)
  obtain ⟨e0, e0', e1, e1', -⟩ := idx t
  rw [tile]
  show _ = G m c (((cfg0.win 2).blk t).view.emb (ix2 i k))
  unfold G grad
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 2048 + 1 * x.val = x.val; rw [e0]; omega
    · show win0_0.index t 1 * 1024 + 1 * i.val = win0_2.index t 0 * 1024 + 1 * i.val; rw [e0']
  · unfold iblk
    rw [View.read_apply]
    refine (congrFun (V_main_arg1 m c) _).trans (congrArg (m (c.tc.loc main_arg1)) (Mm.ix_ext ?_ ?_))
    · show win0_1.index t 0 * 2048 + 1 * x.val = x.val; rw [e1]; omega
    · show win0_1.index t 1 * 1024 + 1 * k.val = win0_2.index t 1 * 1024 + 1 * k.val; rw [e1']

theorem final : (dats m 0 c).arrAt 2 cfg0.N = G m c :=
  (dats m 0 c).arrAt_eq_of_cover 2 (G m c) (fun t _ => flushed m c t) fun i => by
    have h0 : (i 0 : Nat) < 8192 := (i 0).isLt
    have h1 : (i 1 : Nat) < 2048 := (i 1).isLt
    obtain ⟨t, hf, e0, e1⟩ := onto ⟨(i 0 : Nat) / 1024, by omega⟩ ⟨(i 1 : Nat) / 1024, by omega⟩
    obtain ⟨-, -, -, -, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 e1 s0 s1 z0 z1

/-- The reference's gradient, read off its operations. -/
theorem ref_at (act : FVec Ideal S2048x8192 .bf16) (dy : FVec Ideal S2048x2048 .bf16) :
    DownDwRefIdeal.Read.val_main_v6 (F := Ideal) act dy = grad act dy := by
  funext i
  obtain ⟨a, b, rfl⟩ : ∃ (a : Fin 8192) (b : Fin 2048), i = ix2 a b := ⟨i 0, i 1, eq_ix2 i⟩
  unfold grad
  rw [← DownDwRefIdeal.Read.val_main_v6_eq]
  pointwise []
  exact Finset.sum_congr rfl fun s _ => mul_comm _ _

theorem algebraic : Cert.algebraic_DownDwIdeal_DownDwRefIdeal := by
  intro m g m' g' _ ha
  refine ⟨fun c => (dats m 0 c).arrAt 2 cfg0.N, Value.run_blocks m g,
    (θ_run DownDwRefIdeal.defs _ _).mono (fun r hr c => ?_) (DownDwRefIdeal.Value.run m' g')⟩
  obtain ⟨h0, hk⟩ := hr c
  obtain ⟨a0, a1⟩ := ha c
  refine ⟨h0.trans ?_, hk⟩
  rw [DownDwRefIdeal.Read.val_main_v6_eq, a0, a1]
  exact (ref_at ..).trans (final m c).symm

/-- The reference's run ends with its arguments kept and no counter raised. -/
theorem ref_frame : Cert.quiescent_DownDwRefIdeal := fun m ρ _ =>
  (θ_run DownDwRefIdeal.defs _ _).mono (fun r h => ⟨fun c => (h c).2, sem_eq_zero_of_no_sems (by decide) r.2⟩)
    (DownDwRefIdeal.Value.run m ρ)

end Cert.MmDownDw
-- ==== Proof.MmUpDx.lean ====
module

public import proofs.«01_k».proof.Defs
public import proofs.«01_k».proof.Proof.MmTile
public import proofs.«01_k».proof.Proof.Gen.UpDx.Frame
public import proofs.«01_k».proof.Proof.Gen.UpDxIdeal.Value
public import proofs.«01_k».proof.Proof.Gen.UpDxRefIdeal.Run
public import proofs.«01_k».proof.Proof.Gen.UpDxRefIdeal.Read

@[expose] public section

noncomputable section

/-! ## The gradient of the MLP's input: `du · w_upᵀ`, the eight chunks of the hidden layer two to a point -/

namespace Cert.MmUpDx

open Cert.UpDxIdeal Cert.UpDxIdeal.Gen Idealize.ShloMosaic

/-- The product a point makes of its two chunks. -/
def step (x0 : FVec Ideal S1024x2048 .bf16) (x1 : FVec Ideal S2x1024x1024 .bf16) : FVec Ideal S1024x1024 .f32 :=
  k0_pay1 (F := Ideal)
    (View.ld (Val := Elt Ideal) x0 (Rect.unit (s := S1024x2048) ![0, 0] S1024x1024.size inb_S1024x2048_S1024x1024_0_0))
    (View.ld (Val := Elt Ideal) x1 (Rect.unit (s := S2x1024x1024) ![0, 0, 0] S1x1024x1024.size inb_S2x1024x1024_S1x1024x1024_0_0_0))
    (View.ld (Val := Elt Ideal) x0 (Rect.unit (s := S1024x2048) ![0, 1024] S1024x1024.size inb_S1024x2048_S1024x1024_0_1024))
    (View.ld (Val := Elt Ideal) x1 (Rect.unit (s := S2x1024x1024) ![1, 0, 0] S1x1024x1024.size inb_S2x1024x1024_S1x1024x1024_1_0_0))

section Points

variable (c : Dev nD) (i : grid0.Coords)
  (a3 : Memref sig .tc .vmem S1024x2048 .bf16) (h3 : a3.IsWhole) (a4 : Memref sig .tc .vmem S2x1024x1024 .bf16) (h4 : a4.IsWhole)
  (a5 : Memref sig .tc .vmem S1024x1024 .f32) (h5 : a5.IsWhole) (a6 : Memref sig .tc .vmem S1024x1024 .f32) (h6 : a6.IsWhole)
  (x0 : FVec Ideal S1024x2048 .bf16) (x1 : FVec Ideal S2x1024x1024 .bf16) (xs : FVec Ideal S1024x1024 .f32)

/-- The first point of a run leaves its product in the accumulator. -/
theorem first (c0 : cond0_0 i) (c1 : ¬cond0_1 i) (c2 : ¬cond0_2 i) :
    sout0_A_0 (F := Ideal) c i a3 h3 a4 h4 a5 h5 a6 h6 c0 c1 c2 x0 x1 = step x0 x1 := by
  unfold sout0_A_0
  rw [View.read_writes_eq_canon _ _ _ (scover0_A_0 (F := Ideal) c i a3 h3 a4 h4 a5 h5 a6 h6 c0 c1 c2 x0 x1)]
  unfold kernelRun0_A
  dsimp only
  sl_unfold_words
  rw [View.canon_unit_zero (S := S1024x1024) Mm.zero2]
  simp only [View.readAt_eq_ld, h3.read_unread, h4.read_unread]
  unfold k0_pay2 step
  simp only [shapeCast_self]

/-- A middle point adds its product to the accumulator. -/
theorem next (c0 : ¬cond0_0 i) (c1 : cond0_1 i) (c2 : ¬cond0_2 i) :
    sout0_B_0 (F := Ideal) c i a3 h3 a4 h4 a5 h5 a6 h6 c0 c1 c2 x0 x1 xs = addf xs (step x0 x1) := by
  unfold sout0_B_0
  rw [View.read_writes_eq_canon _ _ _ (scover0_B_0 (F := Ideal) c i a3 h3 a4 h4 a5 h5 a6 h6 c0 c1 c2 x0 x1 xs)]
  unfold kernelRun0_B
  dsimp only
  sl_unfold_words
  rw [View.canon_unit_zero (S := S1024x1024) Mm.zero2]
  simp only [View.readAt_eq_ld, h3.read_unread, h4.read_unread, h6.read_unread, View.ld_unit_zero (S := S1024x1024) Mm.zero2]
  unfold k0_pay3 step
  simp only [shapeCast_self]

/-- The last point of a run writes out the accumulator and its own product added up. -/
theorem last (c0 : ¬cond0_0 i) (c1 : cond0_1 i) (c2 : cond0_2 i) :
    out0_C_2 (F := Ideal) c i a3 h3 a4 h4 a5 h5 a6 h6 c0 c1 c2 x0 x1 xs = addf xs (step x0 x1) := by
  unfold out0_C_2
  rw [View.read_writes_eq_canon _ _ _ (cover0_C_2 (F := Ideal) c i a3 h3 a4 h4 a5 h5 a6 h6 c0 c1 c2 x0 x1 xs)]
  unfold kernelRun0_C
  dsimp only
  sl_unfold_words
  rw [View.canon_unit_zero (S := S1024x1024) Mm.zero2]
  rw [View.readCov_unit_zero (S := S1024x1024) _ Mm.zero2]
  simp only [View.readAt_eq_ld, h3.read_unread, h4.read_unread, h6.read_unread, View.ld_unit_zero (S := S1024x1024) Mm.zero2]
  unfold k0_pay3 step
  simp only [shapeCast_self]

end Points

theorem two_sums (v0 v6 : FVec Ideal S1024x1024 .bf16) (v1 v7 : FVec Ideal S1x1024x1024 .bf16) (i j : Fin 1024) :
    k0_pay1 (F := Ideal) v0 v1 v6 v7 (ix2 i j)
      = ((∑ x : Fin 1024, v0 (ix2 i x) * v1 (ix3 0 j x)) + ∑ x : Fin 1024, v6 (ix2 i x) * v7 (ix3 0 j x) : EReal) := by
  pointwise [k0_pay1]

/-- A column of the first or second half of a block. -/
def half (p : Fin 2) (x : Fin 1024) : Fin 2048 := ⟨1024 * p.val + x.val, by omega⟩

/-- One chunk's product, entry by entry. -/
def dot (x0 : FVec Ideal S1024x2048 .bf16) (x1 : FVec Ideal S2x1024x1024 .bf16) (p : Fin 2) (i j : Fin 1024) : EReal :=
  ∑ x : Fin 1024, x0 (ix2 i (half p x)) * x1 (ix3 p j x)

theorem prod (x0 : FVec Ideal S1024x2048 .bf16) (x1 : FVec Ideal S2x1024x1024 .bf16) (i j : Fin 1024) :
    step x0 x1 (ix2 i j) = dot x0 x1 0 i j + dot x0 x1 1 i j := by
  unfold step
  refine (two_sums ..).trans (congrArg₂ (fun a b : EReal => a + b) ?_ ?_)
  all_goals
    unfold dot
    refine Finset.sum_congr rfl fun x _ => congrArg₂ (fun a b : EReal => a * b) ?_ ?_
    · exact View.ld_unit_apply_of _ _ _ _ _ _ fun a => match a with
        | ⟨0, _⟩ => (Nat.zero_add _).symm
        | ⟨1, _⟩ => rfl
    · exact View.ld_unit_apply_of _ _ _ _ _ _ fun a => match a with
        | ⟨0, _⟩ => rfl
        | ⟨1, _⟩ => (Nat.zero_add _).symm
        | ⟨2, _⟩ => (Nat.zero_add _).symm

theorem idx (t : Fin cfg0.N) : win0_0.index t 0 = win0_2.index t 0 ∧ win0_0.index t 1 = t.val % 4 ∧ win0_1.index t 0 = t.val % 4 ∧ win0_1.index t 1 = win0_2.index t 1
    ∧ win0_1.index t 2 = 0 ∧ win0_2.index t 0 = t.val / 8 ∧ win0_2.index t 1 = t.val / 4 % 2 :=
  by revert t; decide +kernel

theorem size2 (t : Fin cfg0.N) : win0_2.size 0 = 1024 ∧ win0_2.size 1 = 1024 ∧ win0_2.xsize (grid0.coords t) 0 = 1024 ∧ win0_2.xsize (grid0.coords t) 1 = 1024 :=
  by revert t; decide +kernel

theorem onto (p q : Fin 2) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The gradient as a function of the arrays. -/
def grad (du : S2048x8192.Idx → EReal) (w : S8x2048x1024.Idx → EReal) : S2048x2048.Idx → EReal :=
  fun i => ∑ x : Fin 8192, du (ix2 (i 0) x) * w (ix3 (Mm.chunk x) (i 1) (Mm.off x))

abbrev G : S2048x2048.Idx → EReal := grad (m (c.tc.loc main_arg0)) (m (c.tc.loc main_arg1))

/-- The sum over one chunk. -/
def stretch (du : S2048x8192.Idx → EReal) (w : S8x2048x1024.Idx → EReal) (p : Fin 8) (j : S2048x2048.Idx) : EReal :=
  ∑ x : Fin 1024, du (ix2 (j 0) (Mm.col p x)) * w (ix3 p (j 1) x)

abbrev piece (p : Fin 8) (j : S2048x2048.Idx) : EReal := stretch (m (c.tc.loc main_arg0)) (m (c.tc.loc main_arg1)) p j

/-- One chunk's product from the whole arrays. -/
theorem dot_at (t : Fin cfg0.N) (q : Fin 2) (p : Fin 8) (hp : p.val = 2 * (t.val % 4) + q.val) (i k : Fin 1024) (j : S2048x2048.Idx)
    (j0 : (j 0).val = win0_2.index t 0 * 1024 + i.val) (j1 : (j 1).val = win0_2.index t 1 * 1024 + k.val) :
    dot (iblk m c 0 t) (iblk m c 1 t) q i k = piece m c p j := by
  obtain ⟨e0, e0', e1, e1', e1'', -⟩ := idx t
  unfold dot piece stretch
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 1024 + 1 * i.val = (j 0).val; rw [e0]; omega
    · show win0_0.index t 1 * 2048 + 1 * (1024 * q.val + x.val) = 1024 * p.val + x.val; rw [e0']; omega
  · unfold iblk
    rw [View.read_apply]
    refine (congrFun (V_main_arg1 m c) _).trans (congrArg (m (c.tc.loc main_arg1)) (Mm.ix_ext3 ?_ ?_ ?_))
    · show win0_1.index t 0 * 2 + 1 * q.val = p.val; rw [e1]; omega
    · show win0_1.index t 1 * 1024 + 1 * k.val = (j 1).val; rw [e1']; omega
    · show win0_1.index t 2 * 1024 + 1 * x.val = x.val; rw [e1'']; omega

abbrev stepPt (t : Fin cfg0.N) : FVec Ideal S1024x1024 .f32 := step (iblk m c 0 t) (iblk m c 1 t)

/-- A point's product from the whole arrays. -/
theorem part (t : Fin cfg0.N) (p q : Fin 8) (hp : p.val = 2 * (t.val % 4)) (hq : q.val = 2 * (t.val % 4) + 1) (i k : Fin 1024) (j : S2048x2048.Idx)
    (j0 : (j 0).val = win0_2.index t 0 * 1024 + i.val) (j1 : (j 1).val = win0_2.index t 1 * 1024 + k.val) :
    stepPt m c t (ix2 i k) = piece m c p j + piece m c q j := by
  refine (prod ..).trans ?_
  rw [dot_at m c t 0 p hp i k j j0 j1, dot_at m c t 1 q hq i k j j0 j1]

/-- What a run's first point leaves in the accumulator, then what its middle points make of it. -/
theorem carried0 (s : Fin cfg0.N) (hs : s.val % 4 = 0) (n : Nat) (hn : n < cfg0.N) (e : n = s.val) :
    (outsAt0 m c n hn).2 = stepPt m c s := by
  subst e
  rw [outsAt0_A m c s hs (by omega) (by omega)]
  dsimp only
  rw [first]

theorem carried1 (s : Fin cfg0.N) (h0 : ¬s.val % 4 = 0) (h2 : ¬s.val % 4 = 3) (n : Nat) (hn : n < cfg0.N) (e : n = s.val) :
    (outsAt0 m c n hn).2 = addf (outsAt0 m c (s.val - 1) (Nat.lt_of_le_of_lt (Nat.sub_le _ _) s.isLt)).2 (stepPt m c s) := by
  subst e
  rw [outsAt0_B m c s h0 (by omega) h2]
  dsimp only
  rw [next]

/-- One written block at a place of the array. -/
theorem all (s0 s1 s2 s3 : Fin cfg0.N) (h3 : s3.val % 4 = 3) (h2 : s3.val = s2.val + 1) (h1 : s3.val = s1.val + 2) (h0 : s3.val = s0.val + 3)
    (i k : Fin 1024) (j : S2048x2048.Idx) (j0 : (j 0).val = win0_2.index s3 0 * 1024 + i.val) (j1 : (j 1).val = win0_2.index s3 1 * 1024 + k.val) :
    (stepPt m c s0 (ix2 i k) + stepPt m c s1 (ix2 i k) + stepPt m c s2 (ix2 i k) + stepPt m c s3 (ix2 i k) : EReal) = G m c j := by
  obtain ⟨-, -, -, -, -, p0, p1⟩ := idx s3
  have key : ∀ s : Fin cfg0.N, s.val / 4 = s3.val / 4 → (j 0).val = win0_2.index s 0 * 1024 + i.val ∧ (j 1).val = win0_2.index s 1 * 1024 + k.val := fun s hs => by
    obtain ⟨-, -, -, -, -, q0, q1⟩ := idx s
    rw [j0, j1, q0, q1, p0, p1]
    omega
  rw [part m c s0 0 1 (by show 0 = _; omega) (by show 1 = _; omega) i k j (key s0 (by omega)).1 (key s0 (by omega)).2,
    part m c s1 2 3 (by show 2 = _; omega) (by show 3 = _; omega) i k j (key s1 (by omega)).1 (key s1 (by omega)).2,
    part m c s2 4 5 (by show 4 = _; omega) (by show 5 = _; omega) i k j (key s2 (by omega)).1 (key s2 (by omega)).2,
    part m c s3 6 7 (by show 6 = _; omega) (by show 7 = _; omega) i k j j0 j1]
  have e : G m c j = ∑ p : Fin 8, piece m c p j := by
    unfold G grad
    rw [Mm.sum_parts 8 1024 rfl]
    refine Finset.sum_congr rfl fun p _ => Finset.sum_congr rfl fun x _ => congrArg₂ (fun a b : EReal => a * b) rfl (congrArg (m (c.tc.loc main_arg1)) (Mm.ix_ext3 ?_ rfl ?_))
    · show (1024 * p.val + x.val) / 1024 = p.val; omega
    · show (1024 * p.val + x.val) % 1024 = x.val; omega
  rw [e, Fin.sum_univ_eight]
  simp only [add_assoc]

theorem flushed (t : Fin cfg0.N) (ht : (cfg0.win 2).flush t = true) :
    (dats m 0 c).flushed 2 t = ((cfg0.win 2).blk t).view.read (Elt Ideal) (G m c) := by
  have ho : t.val % 4 = 3 := (flush0_2 t).mp ht
  have ex : ∀ d : Nat, d ≤ 3 → ∃ s : Fin cfg0.N, t.val = s.val + d := fun d hd =>
    ⟨⟨t.val - d, Nat.lt_of_le_of_lt (Nat.sub_le _ _) t.isLt⟩, by dsimp only; omega⟩
  obtain ⟨s2, h2⟩ := ex 1 (by omega)
  obtain ⟨s1, h1⟩ := ex 2 (by omega)
  obtain ⟨s0, h0⟩ := ex 3 (by omega)
  rw [Value.flushed2_C m c t (by omega) (by omega) ho, last, carried1 m c s2 (by omega) (by omega) _ _ (by omega),
    carried1 m c s1 (by omega) (by omega) _ _ (by omega), carried0 m c s0 (by omega) _ _ (by omega)]
  funext j
  rw [View.read_apply]
  obtain ⟨i, k, rfl⟩ : ∃ (i : Fin 1024) (k : Fin 1024), j = ix2 i k := ⟨j 0, j 1, eq_ix2 j⟩
  generalize hA : addf (addf (addf (stepPt m c s0) (stepPt m c s1)) (stepPt m c s2)) (step (iblk m c 0 t) (iblk m c 1 t)) = A
  refine (?_ : A (ix2 i k) = _)
  rw [← hA]
  refine Eq.trans ?_ (cast_eq _ _).symm
  rw [Mm.add_at, Mm.add_at, Mm.add_at]
  exact all m c s0 s1 s2 t ho h2 h1 h0 i k (((cfg0.win 2).blk t).view.emb (ix2 i k))
    (by show win0_2.index t 0 * 1024 + 1 * i.val = _; omega) (by show win0_2.index t 1 * 1024 + 1 * k.val = _; omega)

theorem final : (dats m 0 c).arrAt 2 cfg0.N = G m c :=
  (dats m 0 c).arrAt_eq_of_cover 2 (G m c) (fun t ht => flushed m c t ht) fun i => by
    have h0 : (i 0 : Nat) < 2048 := (i 0).isLt
    have h1 : (i 1 : Nat) < 2048 := (i 1).isLt
    obtain ⟨t, hf, e0, e1⟩ := onto ⟨(i 0 : Nat) / 1024, by omega⟩ ⟨(i 1 : Nat) / 1024, by omega⟩
    obtain ⟨s0, s1, z0, z1⟩ := size2 t
    refine ⟨t, hf, ?_⟩
    show i ∈ ((View.whole main_v0).slice (win0_2.rect t)).set
    rw [View.set_slice_whole, Rect.mem_set_unit]
    exact Mm.in_tile i (by decide) (by decide) e0 e1 s0 s1 z0 z1

section Ref

open UpDxRefIdeal.Read

/-- The reference's gradient, read off its operations. -/
theorem ref_at (du : FVec Ideal S2048x8192 .bf16) (w : FVec Ideal S8x2048x1024 .bf16) :
    val_main_v6 (F := Ideal) du w = grad du w := by
  funext i
  obtain ⟨a, b, rfl⟩ : ∃ (a b : Fin 2048), i = ix2 a b := ⟨i 0, i 1, eq_ix2 i⟩
  rw [val_main_v6_apply]
  unfold grad
  refine Finset.sum_congr rfl fun x _ => congrArg₂ (fun a b : EReal => a * b) ?_ ?_
  · exact congrArg du (Mm.ix_ext rfl rfl)
  · rw [val_main_v3_apply, val_main_v2_apply]
    refine congrArg w (Mm.ix_ext3 ?_ ?_ ?_)
    · show (b.val * 8192 + x.val) / 1024 % 8 = x.val / 1024; omega
    · show (b.val * 8192 + x.val) / 8192 = b.val; omega
    · show (b.val * 8192 + x.val) % 1024 = x.val % 1024; omega

end Ref

theorem algebraic : Cert.algebraic_UpDxIdeal_UpDxRefIdeal := by
  intro m g m' g' _ ha
  refine ⟨fun c => (dats m 0 c).arrAt 2 cfg0.N, Value.run_blocks m g,
    (θ_run UpDxRefIdeal.defs _ _).mono (fun r hr c => ?_) (UpDxRefIdeal.Value.run m' g')⟩
  obtain ⟨h0, hk⟩ := hr c
  obtain ⟨a0, a1⟩ := ha c
  refine ⟨h0.trans ?_, hk⟩
  rw [UpDxRefIdeal.Read.val_main_v6_eq, a0, a1]
  exact (ref_at ..).trans (final m c).symm

/-- The reference's run ends with its arguments kept and no counter raised. -/
theorem ref_frame : Cert.quiescent_UpDxRefIdeal := fun m ρ _ =>
  (θ_run UpDxRefIdeal.defs _ _).mono (fun r h => ⟨fun c => (h c).2, sem_eq_zero_of_no_sems (by decide) r.2⟩)
    (UpDxRefIdeal.Value.run m ρ)

end Cert.MmUpDx
-- ==== Proof.MmUpDw.lean ====
module

public import proofs.«01_k».proof.Defs
public import proofs.«01_k».proof.Proof.MmTile
public import proofs.«01_k».proof.Proof.Gen.UpDw.Frame
public import proofs.«01_k».proof.Proof.Gen.UpDwIdeal.Value
public import proofs.«01_k».proof.Proof.Gen.UpDwRefIdeal.Run
public import proofs.«01_k».proof.Proof.Gen.UpDwRefIdeal.Read

@[expose] public section

noncomputable section

/-! ## The gradient of the upper MLP weight, in its eight column chunks: `hmᵀ · du` -/

namespace Cert.MmUpDw

open Cert.UpDwIdeal Cert.UpDwIdeal.Gen Idealize.ShloMosaic

/-- One block from the blocks it is made of. -/
theorem tile (x0 x1 : FVec Ideal S2048x1024 .bf16) (i j : Fin 1024) :
    out0_2 (F := Ideal) x0 x1 (ix3 0 i j) = ∑ s : Fin 2048, x0 (ix2 s i) * x1 (ix2 s j) := by
  unfold out0_2
  rw [View.canon_unit_zero (S := S1x1024x1024) Mm.zero3]
  simp only [View.ld_unit_zero (S := S2048x1024) Mm.zero2]
  pointwise [k0_pay1]

theorem idx (t : Fin cfg0.N) : win0_0.index t 0 = 0 ∧ win0_0.index t 1 = win0_2.index t 1 ∧ win0_1.index t 0 = 0 ∧ win0_1.index t 1 = win0_2.index t 0
    ∧ win0_2.index t 2 = 0 ∧ win0_2.size 0 = 1 ∧ win0_2.size 1 = 1024 ∧ win0_2.size 2 = 1024
    ∧ win0_2.xsize (grid0.coords t) 0 = 1 ∧ win0_2.xsize (grid0.coords t) 1 = 1024 ∧ win0_2.xsize (grid0.coords t) 2 = 1024 :=
  by revert t; decide +kernel

theorem onto (p : Fin 8) (q : Fin 2) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The gradient as a function of the arrays. -/
def grad (hm : S2048x2048.Idx → EReal) (du : S2048x8192.Idx → EReal) : S8x2048x1024.Idx → EReal :=
  fun i => ∑ s : Fin 2048, hm (ix2 s (i 1)) * du (ix2 s (Mm.col (i 0) (i 2)))

abbrev G : S8x2048x1024.Idx → EReal := grad (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 1024) (k : Fin 1024), j = ix3 0 i k := ⟨j 1, j 2, (eq_ix3 j).trans (congrArg (ix3 · (j 1) (j 2)) (Subsingleton.elim (α := Fin 1) _ _))⟩
  refine (?_ : out0_2 (iblk m c 0 t) (iblk m c 1 t) (ix3 0 i k) = _)
  obtain ⟨e0, e0', e1, e1', e2, -⟩ := idx t
  rw [tile]
  show _ = G m c (((cfg0.win 2).blk t).view.emb (ix3 0 i k))
  unfold G grad
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 2048 + 1 * x.val = x.val; rw [e0]; omega
    · show win0_0.index t 1 * 1024 + 1 * i.val = win0_2.index t 1 * 1024 + 1 * i.val; rw [e0']
  · unfold iblk
    rw [View.read_apply]
    refine (congrFun (V_main_arg1 m c) _).trans (congrArg (m (c.tc.loc main_arg1)) (Mm.ix_ext ?_ ?_))
    · show win0_1.index t 0 * 2048 + 1 * x.val = x.val; rw [e1]; omega
    · show win0_1.index t 1 * 1024 + 1 * k.val = 1024 * (win0_2.index t 0 * 1 + 1 * 0) + (win0_2.index t 2 * 1024 + 1 * k.val); rw [e1', e2]; omega

theorem final : (dats m 0 c).arrAt 2 cfg0.N = G m c :=
  (dats m 0 c).arrAt_eq_of_cover 2 (G m c) (fun t _ => flushed m c t) fun i => by
    have h0 : (i 0 : Nat) < 8 := (i 0).isLt
    have h1 : (i 1 : Nat) < 2048 := (i 1).isLt
    have h2 : (i 2 : Nat) < 1024 := (i 2).isLt
    obtain ⟨t, hf, e0, e1⟩ := onto ⟨(i 0 : Nat), h0⟩ ⟨(i 1 : Nat) / 1024, by omega⟩
    obtain ⟨-, -, -, -, e2, s0, s1, s2, z0, z1, z2⟩ := idx t
    refine ⟨t, hf, ?_⟩
    show i ∈ ((View.whole main_v0).slice (win0_2.rect t)).set
    rw [View.set_slice_whole, Rect.mem_set_unit]
    intro a
    match a with
    | ⟨0, _⟩ => show win0_2.index t 0 * win0_2.size 0 ≤ (i 0 : Nat) ∧ (i 0 : Nat) < win0_2.index t 0 * win0_2.size 0 + win0_2.xsize (grid0.coords t) 0
                rw [s0, z0, e0]; dsimp only; omega
    | ⟨1, _⟩ => show win0_2.index t 1 * win0_2.size 1 ≤ (i 1 : Nat) ∧ (i 1 : Nat) < win0_2.index t 1 * win0_2.size 1 + win0_2.xsize (grid0.coords t) 1
                rw [s1, z1, e1]; dsimp only; omega
    | ⟨2, _⟩ => show win0_2.index t 2 * win0_2.size 2 ≤ (i 2 : Nat) ∧ (i 2 : Nat) < win0_2.index t 2 * win0_2.size 2 + win0_2.xsize (grid0.coords t) 2
                rw [s2, z2, e2]; omega

open UpDwRefIdeal.Read in
/-- The reference's gradient, read off its operations. -/
theorem ref_at (hm : FVec Ideal S2048x2048 .bf16) (du : FVec Ideal S2048x8192 .bf16) : val_main_v10 (F := Ideal) hm du = grad hm du := by
  funext i
  obtain ⟨n, a, d, rfl⟩ : ∃ (n : Fin 8) (a : Fin 2048) (d : Fin 1024), i = ix3 n a d := ⟨i 0, i 1, i 2, eq_ix3 i⟩
  have h : val_main_v8 (F := Ideal) hm du (ix3 a n d) = val_main_v7 (F := Ideal) hm du (ix2 a (Mm.col n d)) := by
    rw [val_main_v8_apply]
    refine congrArg _ (Mm.ix_ext ?_ ?_)
    · show ((a.val * 8 + n.val) * 1024 + d.val) / 8192 = a.val; omega
    · show ((a.val * 8 + n.val) * 1024 + d.val) % 8192 = 1024 * n.val + d.val; omega
  unfold grad
  rw [val_main_v10_apply, val_main_v9_apply, show idx_main_v9 (ix3 n a d) = ix3 a n d from Mm.ix_ext3 rfl rfl rfl]
  refine Eq.trans h ?_
  pointwise [val_main_v7, val_main_v6, val_main_v5, val_main_v1]
  exact Finset.sum_congr rfl fun s _ => mul_comm _ _

theorem algebraic : Cert.algebraic_UpDwIdeal_UpDwRefIdeal := by
  intro m g m' g' _ ha
  refine ⟨fun c => (dats m 0 c).arrAt 2 cfg0.N, Value.run_blocks m g,
    (θ_run UpDwRefIdeal.defs _ _).mono (fun r hr c => ?_) (UpDwRefIdeal.Value.run m' g')⟩
  obtain ⟨h0, hk⟩ := hr c
  obtain ⟨a0, a1⟩ := ha c
  refine ⟨h0.trans ?_, hk⟩
  rw [UpDwRefIdeal.Read.val_main_v10_eq, a0, a1]
  exact (ref_at ..).trans (final m c).symm

/-- The reference's run ends with its arguments kept and no counter raised. -/
theorem ref_frame : Cert.quiescent_UpDwRefIdeal := fun m ρ _ =>
  (θ_run UpDwRefIdeal.defs _ _).mono (fun r h => ⟨fun c => (h c).2, sem_eq_zero_of_no_sems (by decide) r.2⟩)
    (UpDwRefIdeal.Value.run m ρ)

end Cert.MmUpDw
-- ==== Proof.MmInDx.lean ====
module

public import proofs.«01_k».proof.Defs
public import proofs.«01_k».proof.Proof.MmTile
public import proofs.«01_k».proof.Proof.Gen.InDx.Frame
public import proofs.«01_k».proof.Proof.Gen.InDxIdeal.Value
public import proofs.«01_k».proof.Proof.Gen.InDxRefIdeal.Run
public import proofs.«01_k».proof.Proof.Gen.InDxRefIdeal.Read

@[expose] public section

noncomputable section

/-! ## The gradient of the in-projection's input: `dproj · w_inᵀ`, its 6400 columns in two stretches of 3200 -/

namespace Cert.MmInDx

open Cert.InDxIdeal Cert.InDxIdeal.Gen Idealize.ShloMosaic

section Points

variable (c : Dev nD) (i : grid0.Coords)
  (a3 : Memref sig .tc .vmem S1024x3200 .bf16) (h3 : a3.IsWhole) (a4 : Memref sig .tc .vmem S512x3200 .bf16) (h4 : a4.IsWhole)
  (a5 : Memref sig .tc .vmem S1024x512 .f32) (h5 : a5.IsWhole) (a6 : Memref sig .tc .vmem S1024x512 .f32) (h6 : a6.IsWhole)
  (x0 : FVec Ideal S1024x3200 .bf16) (x1 : FVec Ideal S512x3200 .bf16) (xs : FVec Ideal S1024x512 .f32)

/-- The first stretch's point leaves its product in the accumulator. -/
theorem first (c0 : cond0_0 i) (c1 : ¬cond0_1 i) (c2 : ¬cond0_2 i) :
    sout0_A_0 (F := Ideal) c i a3 h3 a4 h4 a5 h5 a6 h6 c0 c1 c2 x0 x1 = k0_pay1 (F := Ideal) x0 x1 := by
  unfold sout0_A_0
  rw [View.read_writes_eq_canon _ _ _ (scover0_A_0 (F := Ideal) c i a3 h3 a4 h4 a5 h5 a6 h6 c0 c1 c2 x0 x1)]
  unfold kernelRun0_A
  dsimp only
  sl_unfold_words
  rw [View.canon_unit_zero (S := S1024x512) Mm.zero2]
  simp only [View.readAt_eq_ld, h3.read_unread, h4.read_unread, View.ld_unit_zero (S := S1024x3200) Mm.zero2,
    View.ld_unit_zero (S := S512x3200) Mm.zero2]
  unfold k0_pay2
  rw [shapeCast_self]

/-- The second stretch's point writes out the accumulator and its own product added up. -/
theorem last (c0 : ¬cond0_0 i) (c1 : cond0_1 i) (c2 : cond0_2 i) :
    out0_B_2 (F := Ideal) c i a3 h3 a4 h4 a5 h5 a6 h6 c0 c1 c2 x0 x1 xs = addf xs (k0_pay1 (F := Ideal) x0 x1) := by
  unfold out0_B_2
  rw [View.read_writes_eq_canon _ _ _ (cover0_B_2 (F := Ideal) c i a3 h3 a4 h4 a5 h5 a6 h6 c0 c1 c2 x0 x1 xs)]
  unfold kernelRun0_B
  dsimp only
  sl_unfold_words
  rw [View.canon_unit_zero (S := S1024x512) Mm.zero2]
  rw [View.readCov_unit_zero (S := S1024x512) _ Mm.zero2]
  simp only [View.readAt_eq_ld, h3.read_unread, h4.read_unread, h6.read_unread, View.ld_unit_zero (S := S1024x3200) Mm.zero2,
    View.ld_unit_zero (S := S512x3200) Mm.zero2, View.ld_unit_zero (S := S1024x512) Mm.zero2]
  unfold k0_pay3
  simp only [shapeCast_self]

end Points

/-- One stretch's product, entry by entry. -/
theorem prod (x0 : FVec Ideal S1024x3200 .bf16) (x1 : FVec Ideal S512x3200 .bf16) (i : Fin 1024) (j : Fin 512) :
    k0_pay1 (F := Ideal) x0 x1 (ix2 i j) = ∑ x : Fin 3200, x0 (ix2 i x) * x1 (ix2 j x) := by
  pointwise [k0_pay1]

theorem idx (t : Fin cfg0.N) : win0_0.index t 0 = win0_2.index t 0 ∧ win0_0.index t 1 = t.val % 2 ∧ win0_1.index t 0 = win0_2.index t 1 ∧ win0_1.index t 1 = t.val % 2
    ∧ win0_2.size 0 = 1024 ∧ win0_2.size 1 = 512 ∧ win0_2.xsize (grid0.coords t) 0 = 1024 ∧ win0_2.xsize (grid0.coords t) 1 = 512
    ∧ win0_2.index t 0 = t.val / 8 ∧ win0_2.index t 1 = t.val / 2 % 4 :=
  by revert t; decide +kernel

theorem onto (p : Fin 2) (q : Fin 4) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The gradient as a function of the arrays. -/
def grad (dproj w : S2048x6400.Idx → EReal) : S2048x2048.Idx → EReal :=
  fun i => ∑ x : Fin 6400, dproj (ix2 (i 0) x) * w (ix2 (i 1) x)

abbrev G : S2048x2048.Idx → EReal := grad (m (c.tc.loc main_arg0)) (m (c.tc.loc main_arg1))

/-- Column `x` of stretch `p`. -/
def at6400 (p : Fin 2) (x : Fin 3200) : Fin 6400 := ⟨3200 * p.val + x.val, by omega⟩

/-- The sum over one stretch. -/
def stretch (dproj w : S2048x6400.Idx → EReal) (p : Fin 2) (j : S2048x2048.Idx) : EReal :=
  ∑ x : Fin 3200, dproj (ix2 (j 0) (at6400 p x)) * w (ix2 (j 1) (at6400 p x))

/-- A point's product from the whole arrays. -/
theorem part (t : Fin cfg0.N) (p : Fin 2) (hp : t.val % 2 = p.val) (i : Fin 1024) (k : Fin 512) (j : S2048x2048.Idx)
    (j0 : (j 0).val = win0_2.index t 0 * 1024 + i.val) (j1 : (j 1).val = win0_2.index t 1 * 512 + k.val) :
    k0_pay1 (F := Ideal) (iblk m c 0 t) (iblk m c 1 t) (ix2 i k)
      = stretch (m (c.tc.loc main_arg0)) (m (c.tc.loc main_arg1)) p j := by
  obtain ⟨e0, e0', e1, e1', -⟩ := idx t
  refine (prod ..).trans (Finset.sum_congr rfl fun x _ => congrArg₂ (fun a b : EReal => a * b) ?_ ?_)
  · unfold iblk
    rw [View.read_apply]
    refine (congrFun (V_main_arg0 m c) _).trans (congrArg (m (c.tc.loc main_arg0)) (Mm.ix_ext ?_ ?_))
    · show win0_0.index t 0 * 1024 + 1 * i.val = (j 0).val; rw [e0]; omega
    · show win0_0.index t 1 * 3200 + 1 * x.val = 3200 * p.val + x.val; rw [e0']; omega
  · unfold iblk
    rw [View.read_apply]
    refine (congrFun (V_main_arg1 m c) _).trans (congrArg (m (c.tc.loc main_arg1)) (Mm.ix_ext ?_ ?_))
    · show win0_1.index t 0 * 512 + 1 * k.val = (j 1).val; rw [e1]; omega
    · show win0_1.index t 1 * 3200 + 1 * x.val = 3200 * p.val + x.val; rw [e1']; omega

/-- What an even point leaves in the accumulator. -/
theorem carried (s : Fin cfg0.N) (hs : s.val % 2 = 0) (n : Nat) (hn : n < cfg0.N) (e : n = s.val) :
    (outsAt0 m c n hn).2 = k0_pay1 (F := Ideal) (iblk m c 0 s) (iblk m c 1 s) := by
  subst e
  rw [outsAt0_A m c s hs (by omega) (by omega)]
  dsimp only
  rw [first]

/-- One written block at a place of the array. -/
theorem both (s t : Fin cfg0.N) (hst : t.val = s.val + 1) (ho : t.val % 2 = 1) (i : Fin 1024) (k : Fin 512) (j : S2048x2048.Idx)
    (j0 : (j 0).val = win0_2.index t 0 * 1024 + i.val) (j1 : (j 1).val = win0_2.index t 1 * 512 + k.val) :
    (k0_pay1 (F := Ideal) (iblk m c 0 s) (iblk m c 1 s) (ix2 i k) + k0_pay1 (F := Ideal) (iblk m c 0 t) (iblk m c 1 t) (ix2 i k) : EReal) = G m c j := by
  obtain ⟨-, -, -, -, -, -, -, -, s0, s1⟩ := idx s
  obtain ⟨-, -, -, -, -, -, -, -, t0, t1⟩ := idx t
  have hs : s.val % 2 = 0 := by omega
  rw [part m c t 1 ho i k j j0 j1, part m c s 0 hs i k j (by rw [j0, s0, t0]; omega) (by rw [j1, s1, t1]; omega)]
  unfold G grad
  rw [Mm.sum_parts 2 3200 rfl, Fin.sum_univ_two]
  rfl

theorem flushed (t : Fin cfg0.N) (ht : (cfg0.win 2).flush t = true) :
    (dats m 0 c).flushed 2 t = ((cfg0.win 2).blk t).view.read (Elt Ideal) (G m c) := by
  have ho : t.val % 2 = 1 := (flush0_2 t).mp ht
  obtain ⟨s, hst⟩ : ∃ s : Fin cfg0.N, t.val = s.val + 1 := ⟨⟨t.val - 1, Nat.lt_of_le_of_lt (Nat.sub_le _ _) t.isLt⟩, by dsimp only; omega⟩
  rw [Value.flushed2_B m c t (by omega) ho ho, last, carried m c s (by omega) _ _ (by omega)]
  funext j
  rw [View.read_apply]
  obtain ⟨i, k, rfl⟩ : ∃ (i : Fin 1024) (k : Fin 512), j = ix2 i k := ⟨j 0, j 1, eq_ix2 j⟩
  generalize hA : addf (k0_pay1 (F := Ideal) (iblk m c 0 s) (iblk m c 1 s)) (k0_pay1 (F := Ideal) (iblk m c 0 t) (iblk m c 1 t)) = A
  refine (?_ : A (ix2 i k) = _)
  rw [← hA]
  refine Eq.trans ?_ (cast_eq _ _).symm
  rw [Mm.add_at]
  exact both m c s t hst ho i k (((cfg0.win 2).blk t).view.emb (ix2 i k))
    (by show win0_2.index t 0 * 1024 + 1 * i.val = _; omega) (by show win0_2.index t 1 * 512 + 1 * k.val = _; omega)

theorem final : (dats m 0 c).arrAt 2 cfg0.N = G m c :=
  (dats m 0 c).arrAt_eq_of_cover 2 (G m c) (fun t ht => flushed m c t ht) fun i => by
    have h0 : (i 0 : Nat) < 2048 := (i 0).isLt
    have h1 : (i 1 : Nat) < 2048 := (i 1).isLt
    obtain ⟨t, hf, e0, e1⟩ := onto ⟨(i 0 : Nat) / 1024, by omega⟩ ⟨(i 1 : Nat) / 512, by omega⟩
    obtain ⟨-, -, -, -, s0, s1, z0, z1, -⟩ := idx t
    refine ⟨t, hf, ?_⟩
    show i ∈ ((View.whole main_v0).slice (win0_2.rect t)).set
    rw [View.set_slice_whole, Rect.mem_set_unit]
    exact Mm.in_tile i (by decide) (by decide) e0 e1 s0 s1 z0 z1

/-- The reference's gradient, read off its operations. -/
theorem ref_at (dproj w : FVec Ideal S2048x6400 .bf16) :
    InDxRefIdeal.Read.val_main_v4 (F := Ideal) dproj w = grad dproj w := by
  funext i
  obtain ⟨a, b, rfl⟩ : ∃ (a b : Fin 2048), i = ix2 a b := ⟨i 0, i 1, eq_ix2 i⟩
  unfold grad
  rw [← InDxRefIdeal.Read.val_main_v4_eq]
  pointwise []

theorem algebraic : Cert.algebraic_InDxIdeal_InDxRefIdeal := by
  intro m g m' g' _ ha
  refine ⟨fun c => (dats m 0 c).arrAt 2 cfg0.N, Value.run_blocks m g,
    (θ_run InDxRefIdeal.defs _ _).mono (fun r hr c => ?_) (InDxRefIdeal.Value.run m' g')⟩
  obtain ⟨h0, hk⟩ := hr c
  obtain ⟨a0, a1⟩ := ha c
  refine ⟨h0.trans ?_, hk⟩
  rw [InDxRefIdeal.Read.val_main_v4_eq, a0, a1]
  exact (ref_at ..).trans (final m c).symm

/-- The reference's run ends with its arguments kept and no counter raised. -/
theorem ref_frame : Cert.quiescent_InDxRefIdeal := fun m ρ _ =>
  (θ_run InDxRefIdeal.defs _ _).mono (fun r h => ⟨fun c => (h c).2, sem_eq_zero_of_no_sems (by decide) r.2⟩)
    (InDxRefIdeal.Value.run m ρ)

end Cert.MmInDx
-- ==== Proof.MmInDw.lean ====
module

public import proofs.«01_k».proof.Defs
public import proofs.«01_k».proof.Proof.MmTile
public import proofs.«01_k».proof.Proof.Gen.InDw.Frame
public import proofs.«01_k».proof.Proof.Gen.InDwIdeal.Value
public import proofs.«01_k».proof.Proof.Gen.InDwRefIdeal.Run
public import proofs.«01_k».proof.Proof.Gen.InDwRefIdeal.Read

@[expose] public section

noncomputable section

/-! ## The gradient of the input projection: `hᵀ · dproj` -/

namespace Cert.MmInDw

open Cert.InDwIdeal Cert.InDwIdeal.Gen Idealize.ShloMosaic

/-- One block from the blocks it is made of. -/
theorem tile (x0 : FVec Ideal S2048x1024 .bf16) (x1 : FVec Ideal S2048x1280 .bf16) (i : Fin 1024) (j : Fin 1280) :
    out0_2 (F := Ideal) x0 x1 (ix2 i j) = ∑ s : Fin 2048, x0 (ix2 s i) * x1 (ix2 s j) := by
  unfold out0_2
  rw [View.canon_unit_zero (S := S1024x1280) Mm.zero2]
  simp only [View.ld_unit_zero (S := S2048x1024) Mm.zero2, View.ld_unit_zero (S := S2048x1280) Mm.zero2]
  pointwise [k0_pay1]

theorem idx (t : Fin cfg0.N) : win0_0.index t 0 = 0 ∧ win0_0.index t 1 = win0_2.index t 0 ∧ win0_1.index t 0 = 0 ∧ win0_1.index t 1 = win0_2.index t 1
    ∧ win0_2.size 0 = 1024 ∧ win0_2.size 1 = 1280 ∧ win0_2.xsize (grid0.coords t) 0 = 1024 ∧ win0_2.xsize (grid0.coords t) 1 = 1280 :=
  by revert t; decide +kernel

theorem onto (p : Fin 2) (q : Fin 5) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The gradient as a function of the arrays. -/
def grad (h : S2048x2048.Idx → EReal) (dp : S2048x6400.Idx → EReal) : S2048x6400.Idx → EReal :=
  fun i => ∑ s : Fin 2048, h (ix2 s (i 0)) * dp (ix2 s (i 1))

abbrev G : S2048x6400.Idx → EReal := grad (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 1024) (k : Fin 1280), j = ix2 i k := ⟨j 0, j 1, eq_ix2 j⟩
  refine (?_ : out0_2 (iblk m c 0 t) (iblk m c 1 t) (ix2 i k) = _)
  obtain ⟨e0, e0', e1, e1', -⟩ := idx t
  rw [tile]
  show _ = G m c (((cfg0.win 2).blk t).view.emb (ix2 i k))
  unfold G grad
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 2048 + 1 * x.val = x.val; rw [e0]; omega
    · show win0_0.index t 1 * 1024 + 1 * i.val = win0_2.index t 0 * 1024 + 1 * i.val; rw [e0']
  · unfold iblk
    rw [View.read_apply]
    refine (congrFun (V_main_arg1 m c) _).trans (congrArg (m (c.tc.loc main_arg1)) (Mm.ix_ext ?_ ?_))
    · show win0_1.index t 0 * 2048 + 1 * x.val = x.val; rw [e1]; omega
    · show win0_1.index t 1 * 1280 + 1 * k.val = win0_2.index t 1 * 1280 + 1 * k.val; rw [e1']

theorem final : (dats m 0 c).arrAt 2 cfg0.N = G m c :=
  (dats m 0 c).arrAt_eq_of_cover 2 (G m c) (fun t _ => flushed m c t) fun i => by
    have h0 : (i 0 : Nat) < 2048 := (i 0).isLt
    have h1 : (i 1 : Nat) < 6400 := (i 1).isLt
    obtain ⟨t, hf, e0, e1⟩ := onto ⟨(i 0 : Nat) / 1024, by omega⟩ ⟨(i 1 : Nat) / 1280, by omega⟩
    obtain ⟨-, -, -, -, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 e1 s0 s1 z0 z1

/-- The reference's gradient, read off its operations. -/
theorem ref_at (h : FVec Ideal S2048x2048 .bf16) (dp : FVec Ideal S2048x6400 .bf16) :
    InDwRefIdeal.Read.val_main_v6 (F := Ideal) h dp = grad h dp := by
  funext i
  obtain ⟨a, b, rfl⟩ : ∃ (a : Fin 2048) (b : Fin 6400), i = ix2 a b := ⟨i 0, i 1, eq_ix2 i⟩
  unfold grad
  rw [← InDwRefIdeal.Read.val_main_v6_eq]
  pointwise []
  exact Finset.sum_congr rfl fun s _ => mul_comm _ _

theorem algebraic : Cert.algebraic_InDwIdeal_InDwRefIdeal := by
  intro m g m' g' _ ha
  refine ⟨fun c => (dats m 0 c).arrAt 2 cfg0.N, Value.run_blocks m g,
    (θ_run InDwRefIdeal.defs _ _).mono (fun r hr c => ?_) (InDwRefIdeal.Value.run m' g')⟩
  obtain ⟨h0, hk⟩ := hr c
  obtain ⟨a0, a1⟩ := ha c
  refine ⟨h0.trans ?_, hk⟩
  rw [InDwRefIdeal.Read.val_main_v6_eq, a0, a1]
  exact (ref_at ..).trans (final m c).symm

/-- The reference's run ends with its arguments kept and no counter raised. -/
theorem ref_frame : Cert.quiescent_InDwRefIdeal := fun m ρ _ =>
  (θ_run InDwRefIdeal.defs _ _).mono (fun r h => ⟨fun c => (h c).2, sem_eq_zero_of_no_sems (by decide) r.2⟩)
    (InDwRefIdeal.Value.run m ρ)

end Cert.MmInDw
-- ==== Proof.MmOutDx.lean ====
module

public import proofs.«01_k».proof.Defs
public import proofs.«01_k».proof.Proof.MmTile
public import proofs.«01_k».proof.Proof.Gen.OutDx.Frame
public import proofs.«01_k».proof.Proof.Gen.OutDxIdeal.Value
public import proofs.«01_k».proof.Proof.Gen.OutDxRefIdeal.Run
public import proofs.«01_k».proof.Proof.Gen.OutDxRefIdeal.Read

@[expose] public section

noncomputable section

/-! ## The gradient at the mixer's output: `dx · w_outᵀ` -/

namespace Cert.MmOutDx

open Cert.OutDxIdeal Cert.OutDxIdeal.Gen Idealize.ShloMosaic

/-- One block from the blocks it is made of. -/
theorem tile (x0 x1 : FVec Ideal S1024x2048 .bf16) (i j : Fin 1024) :
    out0_2 (F := Ideal) x0 x1 (ix2 i j) = ∑ s : Fin 2048, x0 (ix2 i s) * x1 (ix2 j s) := by
  unfold out0_2
  rw [View.canon_unit_zero (S := S1024x1024) Mm.zero2]
  simp only [View.ld_unit_zero (S := S1024x2048) Mm.zero2]
  pointwise [k0_pay1]

theorem idx (t : Fin cfg0.N) : win0_0.index t 0 = win0_2.index t 0 ∧ win0_0.index t 1 = 0 ∧ win0_1.index t 0 = win0_2.index t 1 ∧ win0_1.index t 1 = 0
    ∧ win0_2.size 0 = 1024 ∧ win0_2.size 1 = 1024 ∧ win0_2.xsize (grid0.coords t) 0 = 1024 ∧ win0_2.xsize (grid0.coords t) 1 = 1024 :=
  by revert t; decide +kernel

theorem onto (p : Fin 2) (q : Fin 2) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The gradient as a function of the arrays. -/
def grad (dx : S2048x2048.Idx → EReal) (w : S2048x2048.Idx → EReal) : S2048x2048.Idx → EReal :=
  fun i => ∑ s : Fin 2048, dx (ix2 (i 0) s) * w (ix2 (i 1) s)

abbrev G : S2048x2048.Idx → EReal := grad (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 1024) (k : Fin 1024), j = ix2 i k := ⟨j 0, j 1, eq_ix2 j⟩
  refine (?_ : out0_2 (iblk m c 0 t) (iblk m c 1 t) (ix2 i k) = _)
  obtain ⟨e0, e0', e1, e1', -⟩ := idx t
  rw [tile]
  show _ = G m c (((cfg0.win 2).blk t).view.emb (ix2 i k))
  unfold G grad
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 1024 + 1 * i.val = win0_2.index t 0 * 1024 + 1 * i.val; rw [e0]
    · show win0_0.index t 1 * 2048 + 1 * x.val = x.val; rw [e0']; omega
  · unfold iblk
    rw [View.read_apply]
    refine (congrFun (V_main_arg1 m c) _).trans (congrArg (m (c.tc.loc main_arg1)) (Mm.ix_ext ?_ ?_))
    · show win0_1.index t 0 * 1024 + 1 * k.val = win0_2.index t 1 * 1024 + 1 * k.val; rw [e1]
    · show win0_1.index t 1 * 2048 + 1 * x.val = x.val; rw [e1']; omega

theorem final : (dats m 0 c).arrAt 2 cfg0.N = G m c :=
  (dats m 0 c).arrAt_eq_of_cover 2 (G m c) (fun t _ => flushed m c t) fun i => by
    have h0 : (i 0 : Nat) < 2048 := (i 0).isLt
    have h1 : (i 1 : Nat) < 2048 := (i 1).isLt
    obtain ⟨t, hf, e0, e1⟩ := onto ⟨(i 0 : Nat) / 1024, by omega⟩ ⟨(i 1 : Nat) / 1024, by omega⟩
    obtain ⟨-, -, -, -, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 e1 s0 s1 z0 z1

/-- The reference's gradient, read off its operations. -/
theorem ref_at (dx : FVec Ideal S2048x2048 .bf16) (w : FVec Ideal S2048x2048 .bf16) :
    OutDxRefIdeal.Read.val_main_v4 (F := Ideal) dx w = grad dx w := by
  funext i
  obtain ⟨a, b, rfl⟩ : ∃ (a : Fin 2048) (b : Fin 2048), i = ix2 a b := ⟨i 0, i 1, eq_ix2 i⟩
  unfold grad
  rw [← OutDxRefIdeal.Read.val_main_v4_eq]
  pointwise []

theorem algebraic : Cert.algebraic_OutDxIdeal_OutDxRefIdeal := by
  intro m g m' g' _ ha
  refine ⟨fun c => (dats m 0 c).arrAt 2 cfg0.N, Value.run_blocks m g,
    (θ_run OutDxRefIdeal.defs _ _).mono (fun r hr c => ?_) (OutDxRefIdeal.Value.run m' g')⟩
  obtain ⟨h0, hk⟩ := hr c
  obtain ⟨a0, a1⟩ := ha c
  refine ⟨h0.trans ?_, hk⟩
  rw [OutDxRefIdeal.Read.val_main_v4_eq, a0, a1]
  exact (ref_at ..).trans (final m c).symm

/-- The reference's run ends with its arguments kept and no counter raised. -/
theorem ref_frame : Cert.quiescent_OutDxRefIdeal := fun m ρ _ =>
  (θ_run OutDxRefIdeal.defs _ _).mono (fun r h => ⟨fun c => (h c).2, sem_eq_zero_of_no_sems (by decide) r.2⟩)
    (OutDxRefIdeal.Value.run m ρ)

end Cert.MmOutDx
-- ==== Proof.MmOutDw.lean ====
module

public import proofs.«01_k».proof.Defs
public import proofs.«01_k».proof.Proof.MmTile
public import proofs.«01_k».proof.Proof.Gen.OutDw.Frame
public import proofs.«01_k».proof.Proof.Gen.OutDwIdeal.Value
public import proofs.«01_k».proof.Proof.Gen.OutDwRefIdeal.Run
public import proofs.«01_k».proof.Proof.Gen.OutDwRefIdeal.Read

@[expose] public section

noncomputable section

/-! ## The gradient of the output projection: `mixᵀ · dx` -/

namespace Cert.MmOutDw

open Cert.OutDwIdeal Cert.OutDwIdeal.Gen Idealize.ShloMosaic

/-- One block from the blocks it is made of. -/
theorem tile (x0 x1 : FVec Ideal S2048x1024 .bf16) (i j : Fin 1024) :
    out0_2 (F := Ideal) x0 x1 (ix2 i j) = ∑ s : Fin 2048, x0 (ix2 s i) * x1 (ix2 s j) := by
  unfold out0_2
  rw [View.canon_unit_zero (S := S1024x1024) Mm.zero2]
  simp only [View.ld_unit_zero (S := S2048x1024) Mm.zero2]
  pointwise [k0_pay1]

theorem idx (t : Fin cfg0.N) : win0_0.index t 0 = 0 ∧ win0_0.index t 1 = win0_2.index t 0 ∧ win0_1.index t 0 = 0 ∧ win0_1.index t 1 = win0_2.index t 1
    ∧ win0_2.size 0 = 1024 ∧ win0_2.size 1 = 1024 ∧ win0_2.xsize (grid0.coords t) 0 = 1024 ∧ win0_2.xsize (grid0.coords t) 1 = 1024 :=
  by revert t; decide +kernel

theorem onto (p : Fin 2) (q : Fin 2) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The gradient as a function of the arrays. -/
def grad (mix : S2048x2048.Idx → EReal) (dx : S2048x2048.Idx → EReal) : S2048x2048.Idx → EReal :=
  fun i => ∑ s : Fin 2048, mix (ix2 s (i 0)) * dx (ix2 s (i 1))

abbrev G : S2048x2048.Idx → EReal := grad (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 1024) (k : Fin 1024), j = ix2 i k := ⟨j 0, j 1, eq_ix2 j⟩
  refine (?_ : out0_2 (iblk m c 0 t) (iblk m c 1 t) (ix2 i k) = _)
  obtain ⟨e0, e0', e1, e1', -⟩ := idx t
  rw [tile]
  show _ = G m c (((cfg0.win 2).blk t).view.emb (ix2 i k))
  unfold G grad
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 2048 + 1 * x.val = x.val; rw [e0]; omega
    · show win0_0.index t 1 * 1024 + 1 * i.val = win0_2.index t 0 * 1024 + 1 * i.val; rw [e0']
  · unfold iblk
    rw [View.read_apply]
    refine (congrFun (V_main_arg1 m c) _).trans (congrArg (m (c.tc.loc main_arg1)) (Mm.ix_ext ?_ ?_))
    · show win0_1.index t 0 * 2048 + 1 * x.val = x.val; rw [e1]; omega
    · show win0_1.index t 1 * 1024 + 1 * k.val = win0_2.index t 1 * 1024 + 1 * k.val; rw [e1']

theorem final : (dats m 0 c).arrAt 2 cfg0.N = G m c :=
  (dats m 0 c).arrAt_eq_of_cover 2 (G m c) (fun t _ => flushed m c t) fun i => by
    have h0 : (i 0 : Nat) < 2048 := (i 0).isLt
    have h1 : (i 1 : Nat) < 2048 := (i 1).isLt
    obtain ⟨t, hf, e0, e1⟩ := onto ⟨(i 0 : Nat) / 1024, by omega⟩ ⟨(i 1 : Nat) / 1024, by omega⟩
    obtain ⟨-, -, -, -, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 e1 s0 s1 z0 z1

/-- The reference's gradient, read off its operations. -/
theorem ref_at (mix : FVec Ideal S2048x2048 .bf16) (dx : FVec Ideal S2048x2048 .bf16) :
    OutDwRefIdeal.Read.val_main_v6 (F := Ideal) mix dx = grad mix dx := by
  funext i
  obtain ⟨a, b, rfl⟩ : ∃ (a : Fin 2048) (b : Fin 2048), i = ix2 a b := ⟨i 0, i 1, eq_ix2 i⟩
  unfold grad
  rw [← OutDwRefIdeal.Read.val_main_v6_eq]
  pointwise []
  exact Finset.sum_congr rfl fun s _ => mul_comm _ _

theorem algebraic : Cert.algebraic_OutDwIdeal_OutDwRefIdeal := by
  intro m g m' g' _ ha
  refine ⟨fun c => (dats m 0 c).arrAt 2 cfg0.N, Value.run_blocks m g,
    (θ_run OutDwRefIdeal.defs _ _).mono (fun r hr c => ?_) (OutDwRefIdeal.Value.run m' g')⟩
  obtain ⟨h0, hk⟩ := hr c
  obtain ⟨a0, a1⟩ := ha c
  refine ⟨h0.trans ?_, hk⟩
  rw [OutDwRefIdeal.Read.val_main_v6_eq, a0, a1]
  exact (ref_at ..).trans (final m c).symm

/-- The reference's run ends with its arguments kept and no counter raised. -/
theorem ref_frame : Cert.quiescent_OutDwRefIdeal := fun m ρ _ =>
  (θ_run OutDwRefIdeal.defs _ _).mono (fun r h => ⟨fun c => (h c).2, sem_eq_zero_of_no_sems (by decide) r.2⟩)
    (OutDwRefIdeal.Value.run m ρ)

end Cert.MmOutDw
-- ==== Proof.MmUp.lean ====
module

public import proofs.«01_k».proof.Defs
public import proofs.«01_k».proof.Proof.MmTile
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read

@[expose] public section

noncomputable section

/-! ## The MLP's upper product: the squared ReLU of `hm · w_up` and its derivative -/

namespace Cert.MmUp

open Cert.UpIdeal Cert.UpIdeal.Gen Idealize.ShloMosaic

/-- The product of two blocks. -/
def prod (x0 : FVec Ideal S1024x2048 .bf16) (x1 : FVec Ideal S1x2048x1024 .bf16) (i j : Fin 1024) : EReal :=
  ∑ s : Fin 2048, x0 (ix2 i s) * x1 (ix3 0 s j)

/-- One block of the two results from the blocks they are made of. -/
theorem tile (x0 : FVec Ideal S1024x2048 .bf16) (x1 : FVec Ideal S1x2048x1024 .bf16) (i j : Fin 1024) :
    out0_2 (F := Ideal) x0 x1 (ix2 i j) = Mm.relu (prod x0 x1 i j) * Mm.relu (prod x0 x1 i j)
    ∧ out0_3 (F := Ideal) x0 x1 (ix2 i j) = ((2 : ℝ) : EReal) * Mm.relu (prod x0 x1 i j) := by
  unfold out0_2 out0_3 Mm.relu prod
  rw [View.canon_unit_zero (S := S1024x1024) Mm.zero2, View.canon_unit_zero (S := S1024x1024) Mm.zero2]
  simp only [View.ld_unit_zero (S := S1024x2048) Mm.zero2, View.ld_unit_zero (S := S1x2048x1024) Mm.zero3]
  constructor
  · pointwise [k0_pay2, k0_pay1]
  · pointwise [k0_pay3, k0_pay1]
    rw [Mm.two]

theorem idx (t : Fin cfg0.N) : win0_0.index t 0 = win0_2.index t 0 ∧ win0_0.index t 1 = 0 ∧ win0_1.index t 0 = win0_2.index t 1 ∧ win0_1.index t 1 = 0
    ∧ win0_1.index t 2 = 0 ∧ win0_3.index t 0 = win0_2.index t 0 ∧ win0_3.index t 1 = win0_2.index t 1 ∧ win0_2.index t 1 < 8 :=
  by revert t; decide +kernel

theorem size2 (t : Fin cfg0.N) : win0_2.size 0 = 1024 ∧ win0_2.size 1 = 1024 ∧ win0_2.xsize (grid0.coords t) 0 = 1024 ∧ win0_2.xsize (grid0.coords t) 1 = 1024
    ∧ win0_3.size 0 = 1024 ∧ win0_3.size 1 = 1024 ∧ win0_3.xsize (grid0.coords t) 0 = 1024 ∧ win0_3.xsize (grid0.coords t) 1 = 1024 :=
  by revert t; decide +kernel

theorem onto (p : Fin 2) (q : Fin 8) : ∃ t : Fin cfg0.N, ((cfg0.win 2).flush t = true ∧ (cfg0.win 3).flush t = true)
    ∧ win0_2.index t 0 = p.val ∧ win0_2.index t 1 = q.val :=
  by revert p q; decide +kernel

variable (m : (ℓ : Loc nD τ sig) → Buf (Elt Ideal) ℓ) (c : Dev nD)

/-- The hidden layer before its ReLU. -/
def hid (hm : S2048x2048.Idx → EReal) (w : S8x2048x1024.Idx → EReal) : S2048x8192.Idx → EReal :=
  fun i => ∑ s : Fin 2048, hm (ix2 (i 0) s) * w (ix3 (Mm.chunk (i 1)) s (Mm.off (i 1)))

abbrev U : S2048x8192.Idx → EReal := hid (m (c.tc.loc main_arg0)) (m (c.tc.loc main_arg1))

/-- The product a grid point's blocks make, read at the place its result is written to. -/
theorem hid_at (t : Fin cfg0.N) (i k : Fin 1024) (p : S2048x8192.Idx) (h0 : (p 0).val = win0_2.index t 0 * 1024 + i.val)
    (h1 : (p 1).val = win0_2.index t 1 * 1024 + k.val) :
    prod (iblk m c 0 t) (iblk m c 1 t) i k = U m c p := by
  obtain ⟨e0, e0', e1, e1', e1'', -, -, hb⟩ := idx t
  unfold U hid prod
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 1024 + 1 * i.val = (p 0).val; rw [e0, h0]; omega
    · show win0_0.index t 1 * 2048 + 1 * x.val = x.val; rw [e0']; omega
  · unfold iblk
    rw [View.read_apply]
    refine (congrFun (V_main_arg1 m c) _).trans (congrArg (m (c.tc.loc main_arg1)) (Mm.ix_ext3 ?_ ?_ ?_))
    · show win0_1.index t 0 * 1 + 1 * 0 = (p 1).val / 1024; rw [e1, h1]; omega
    · show win0_1.index t 1 * 2048 + 1 * x.val = x.val; rw [e1']; omega
    · show win0_1.index t 2 * 1024 + 1 * k.val = (p 1).val % 1024; rw [e1'', h1]; omega

def act : S2048x8192.Idx → EReal := fun p => Mm.relu (U m c p) * Mm.relu (U m c p)
def slope : S2048x8192.Idx → EReal := fun p => ((2 : ℝ) : EReal) * Mm.relu (U m c p)

theorem flushed_act (t : Fin cfg0.N) : (dats m 0 c).flushed 2 t = ((cfg0.win 2).blk t).view.read (Elt Ideal) (act m c) := by
  rw [Value.flushed2]
  funext j
  rw [View.read_apply]
  obtain ⟨i, k, rfl⟩ : ∃ (i : Fin 1024) (k : Fin 1024), j = ix2 i k := ⟨j 0, j 1, eq_ix2 j⟩
  refine (?_ : out0_2 (iblk m c 0 t) (iblk m c 1 t) (ix2 i k) = _)
  rw [(tile ..).1, hid_at m c t i k (((cfg0.win 2).blk t).view.emb (ix2 i k))
    (by show win0_2.index t 0 * 1024 + 1 * i.val = _; omega) (by show win0_2.index t 1 * 1024 + 1 * k.val = _; omega)]
  rfl

theorem flushed_slope (t : Fin cfg0.N) : (dats m 0 c).flushed 3 t = ((cfg0.win 3).blk t).view.read (Elt Ideal) (slope m c) := by
  rw [Value.flushed3]
  funext j
  rw [View.read_apply]
  obtain ⟨i, k, rfl⟩ : ∃ (i : Fin 1024) (k : Fin 1024), j = ix2 i k := ⟨j 0, j 1, eq_ix2 j⟩
  refine (?_ : out0_3 (iblk m c 0 t) (iblk m c 1 t) (ix2 i k) = _)
  obtain ⟨-, -, -, -, -, e0, e1, -⟩ := idx t
  rw [(tile ..).2, hid_at m c t i k (((cfg0.win 3).blk t).view.emb (ix2 i k))
    (by show win0_3.index t 0 * 1024 + 1 * i.val = _; rw [e0]; omega) (by show win0_3.index t 1 * 1024 + 1 * k.val = _; rw [e1]; omega)]
  rfl

theorem final_act : (dats m 0 c).arrAt 2 cfg0.N = act m c :=
  (dats m 0 c).arrAt_eq_of_cover 2 (act m c) (fun t _ => flushed_act m c t) fun i => by
    have h0 : (i 0 : Nat) < 2048 := (i 0).isLt
    have h1 : (i 1 : Nat) < 8192 := (i 1).isLt
    obtain ⟨t, hf, e0, e1⟩ := onto ⟨(i 0 : Nat) / 1024, by omega⟩ ⟨(i 1 : Nat) / 1024, by omega⟩
    obtain ⟨s0, s1, z0, z1, -⟩ := size2 t
    refine ⟨t, hf.1, ?_⟩
    show i ∈ ((View.whole main_v0_0).slice (win0_2.rect t)).set
    rw [View.set_slice_whole, Rect.mem_set_unit]
    exact Mm.in_tile i (by decide) (by decide) e0 e1 s0 s1 z0 z1

theorem final_slope : (dats m 0 c).arrAt 3 cfg0.N = slope m c :=
  (dats m 0 c).arrAt_eq_of_cover 3 (slope m c) (fun t _ => flushed_slope m c t) fun i => by
    have h0 : (i 0 : Nat) < 2048 := (i 0).isLt
    have h1 : (i 1 : Nat) < 8192 := (i 1).isLt
    obtain ⟨t, hf, e0, e1⟩ := onto ⟨(i 0 : Nat) / 1024, by omega⟩ ⟨(i 1 : Nat) / 1024, by omega⟩
    obtain ⟨-, -, -, -, s0, s1, z0, z1⟩ := size2 t
    obtain ⟨-, -, -, -, -, f0, f1, -⟩ := idx t
    refine ⟨t, hf.2, ?_⟩
    show i ∈ ((View.whole main_v0_1).slice (win0_3.rect t)).set
    rw [View.set_slice_whole, Rect.mem_set_unit]
    exact Mm.in_tile i (by decide) (by decide) (f0.trans e0) (f1.trans e1) s0 s1 z0 z1

section Ref

open UpRefIdeal.Read

variable (hm : FVec Ideal S2048x2048 .bf16) (w : FVec Ideal S8x2048x1024 .bf16) (a : Fin 2048) (b : Fin 8192)

theorem ref_hid : val_main_v4 (F := Ideal) hm w (ix2 a b) = hid hm w (ix2 a b) := by
  rw [val_main_v4_apply]
  unfold hid
  refine Finset.sum_congr rfl fun x _ => congrArg₂ (fun a b : EReal => a * b) ?_ ?_
  · exact congrArg hm (Mm.ix_ext rfl rfl)
  · rw [val_main_v3_apply, val_main_v2_apply]
    refine congrArg w (Mm.ix_ext3 ?_ ?_ ?_)
    · show (x.val * 8192 + b.val) / 1024 % 8 = b.val / 1024; omega
    · show (x.val * 8192 + b.val) / 8192 = x.val; omega
    · show (x.val * 8192 + b.val) % 1024 = b.val % 1024; omega

/-- The reference's two results, read off its operations. -/
theorem ref_act : val_main_v12 (F := Ideal) hm w (ix2 a b) = Mm.relu (hid hm w (ix2 a b)) * Mm.relu (hid hm w (ix2 a b)) := by
  unfold Mm.relu
  rw [← ref_hid]
  pointwise [val_main_v12, val_main_v9, val_main_v5, val_main_call0_v0, val_main_call0_cst]

theorem ref_slope : val_main_v17 (F := Ideal) hm w (ix2 a b) = ((2 : ℝ) : EReal) * Mm.relu (hid hm w (ix2 a b)) := by
  unfold Mm.relu
  rw [← ref_hid]
  pointwise [val_main_v17, val_main_v16, val_main_v7, val_main_v14, val_main_v13, val_main_cst_2, val_main_v11, val_main_v10, val_main_cst_1, val_main_v15, val_main_cst_3,
    val_main_v6, val_main_cst, val_main_v5, val_main_call0_v0, val_main_call0_cst]
  rw [Mm.two]
  split_ifs with h
  · rfl
  · rw [max_eq_right (not_lt.mp h), mul_zero]

end Ref

theorem algebraic : Cert.algebraic_UpIdeal_UpRefIdeal := by
  intro m g m' g' _ ha
  refine ⟨fun c => (dats m 0 c).arrAt 2 cfg0.N, fun c => (dats m 0 c).arrAt 3 cfg0.N, Value.run_blocks m g,
    (θ_run UpRefIdeal.defs _ _).mono (fun r hr c => ?_) (UpRefIdeal.Value.run m' g')⟩
  obtain ⟨h0, h1, hk⟩ := hr c
  obtain ⟨a0, a1⟩ := ha c
  refine ⟨h0.trans ?_, h1.trans ?_, hk⟩
  · rw [UpRefIdeal.Read.val_main_v12_eq, a0, a1]
    refine Eq.trans (funext fun i => ?_) (final_act m c).symm
    rw [eq_ix2 i]
    exact ref_act ..
  · rw [UpRefIdeal.Read.val_main_v17_eq, a0, a1]
    refine Eq.trans (funext fun i => ?_) (final_slope m c).symm
    rw [eq_ix2 i]
    exact ref_slope ..

/-- The reference's run ends with its arguments kept and no counter raised. -/
theorem ref_frame : Cert.quiescent_UpRefIdeal := fun m ρ _ =>
  (θ_run UpRefIdeal.defs _ _).mono (fun r h => ⟨fun c => (h c).2.2, sem_eq_zero_of_no_sems (by decide) r.2⟩)
    (UpRefIdeal.Value.run m ρ)

end Cert.MmUp
-- ==== Proof.MmDown.lean ====
module

public import proofs.«01_k».proof.Defs
public import proofs.«01_k».proof.Proof.MmTile
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read

@[expose] public section

noncomputable section

/-! ## The MLP's lower product, its residual and the loss's gradient: `(x2 + act · w_down − target) / 2048` -/

namespace Cert.MmDown

open Cert.DownIdeal Cert.DownIdeal.Gen Idealize.ShloMosaic

section Points

variable (c : Dev nD) (i : grid0.Coords)
  (a3 : Memref sig .tc .vmem S512x2048 .bf16) (h3 : a3.IsWhole) (a4 : Memref sig .tc .vmem S2048x1024 .bf16) (h4 : a4.IsWhole)
  (a5 : Memref sig .tc .vmem S512x1024 .f32) (h5 : a5.IsWhole) (a6 : Memref sig .tc .vmem S512x1024 .f32) (h6 : a6.IsWhole)
  (a7 : Memref sig .tc .vmem S512x1024 .f32) (h7 : a7.IsWhole) (a8 : Memref sig .tc .vmem S512x1024 .bf16) (h8 : a8.IsWhole)
  (a9 : Memref sig .tc .vmem S512x1024 .f32) (h9 : a9.IsWhole)
  (x0 : FVec Ideal S512x2048 .bf16) (x1 : FVec Ideal S2048x1024 .bf16) (x2 x3 xs : FVec Ideal S512x1024 .f32)

/-- The first point of a run leaves its product in the accumulator. -/
theorem first (c0 : cond0_0 i) (c1 : ¬cond0_1 i) (c2 : ¬cond0_2 i) :
    sout0_A_0 (F := Ideal) c i a3 h3 a4 h4 a5 h5 a6 h6 a7 h7 a8 h8 a9 h9 c0 c1 c2 x0 x1 x2 x3 = k0_pay1 (F := Ideal) x0 x1 := by
  unfold sout0_A_0
  rw [View.read_writes_eq_canon _ _ _ (scover0_A_0 (F := Ideal) c i a3 h3 a4 h4 a5 h5 a6 h6 a7 h7 a8 h8 a9 h9 c0 c1 c2 x0 x1 x2 x3)]
  unfold kernelRun0_A
  dsimp only
  sl_unfold_words
  rw [View.canon_unit_zero (S := S512x1024) Mm.zero2]
  simp only [View.readAt_eq_ld, h3.read_unread, h4.read_unread, View.ld_unit_zero (S := S512x2048) Mm.zero2,
    View.ld_unit_zero (S := S2048x1024) Mm.zero2]
  unfold k0_pay2
  simp only [shapeCast_self]

/-- A middle point adds its product to the accumulator. -/
theorem next (c0 : ¬cond0_0 i) (c1 : cond0_1 i) (c2 : ¬cond0_2 i) :
    sout0_B_0 (F := Ideal) c i a3 h3 a4 h4 a5 h5 a6 h6 a7 h7 a8 h8 a9 h9 c0 c1 c2 x0 x1 x2 x3 xs = addf xs (k0_pay1 (F := Ideal) x0 x1) := by
  unfold sout0_B_0
  rw [View.read_writes_eq_canon _ _ _ (scover0_B_0 (F := Ideal) c i a3 h3 a4 h4 a5 h5 a6 h6 a7 h7 a8 h8 a9 h9 c0 c1 c2 x0 x1 x2 x3 xs)]
  unfold kernelRun0_B
  dsimp only
  sl_unfold_words
  rw [View.canon_unit_zero (S := S512x1024) Mm.zero2]
  simp only [View.readAt_eq_ld, h3.read_unread, h4.read_unread, h9.read_unread, View.ld_unit_zero (S := S512x2048) Mm.zero2,
    View.ld_unit_zero (S := S2048x1024) Mm.zero2, View.ld_unit_zero (S := S512x1024) Mm.zero2]
  unfold k0_pay3
  simp only [shapeCast_self]

/-- The last point of a run writes the loss's gradient of the whole sum, in both formats. -/
theorem last4 (c0 : ¬cond0_0 i) (c1 : cond0_1 i) (c2 : cond0_2 i) :
    out0_C_4 (F := Ideal) c i a3 h3 a4 h4 a5 h5 a6 h6 a7 h7 a8 h8 a9 h9 c0 c1 c2 x0 x1 x2 x3 xs = k0_pay4 (F := Ideal) (addf xs (k0_pay1 (F := Ideal) x0 x1)) x2 x3 := by
  unfold out0_C_4
  rw [View.read_writes_eq_canon _ _ _ (cover0_C_4 (F := Ideal) c i a3 h3 a4 h4 a5 h5 a6 h6 a7 h7 a8 h8 a9 h9 c0 c1 c2 x0 x1 x2 x3 xs)]
  unfold kernelRun0_C
  dsimp only
  sl_unfold_words
  rw [View.canon_unit_zero (S := S512x1024) Mm.zero2]
  rw [View.readCov_unit_zero (S := S512x1024) _ Mm.zero2]
  simp only [View.readAt_eq_ld, h3.read_unread, h4.read_unread, h5.read_unread, h6.read_unread, h9.read_unread, View.ld_unit_zero (S := S512x2048) Mm.zero2,
    View.ld_unit_zero (S := S2048x1024) Mm.zero2, View.ld_unit_zero (S := S512x1024) Mm.zero2]
  unfold k0_pay3
  simp only [shapeCast_self]

theorem last5 (c0 : ¬cond0_0 i) (c1 : cond0_1 i) (c2 : cond0_2 i) :
    out0_C_5 (F := Ideal) c i a3 h3 a4 h4 a5 h5 a6 h6 a7 h7 a8 h8 a9 h9 c0 c1 c2 x0 x1 x2 x3 xs = k0_pay5 (F := Ideal) (addf xs (k0_pay1 (F := Ideal) x0 x1)) x2 x3 := by
  unfold out0_C_5
  rw [View.read_writes_eq_canon _ _ _ (cover0_C_5 (F := Ideal) c i a3 h3 a4 h4 a5 h5 a6 h6 a7 h7 a8 h8 a9 h9 c0 c1 c2 x0 x1 x2 x3 xs)]
  unfold kernelRun0_C
  dsimp only
  sl_unfold_words
  rw [View.canon_unit_zero (S := S512x1024) Mm.zero2]
  rw [View.readCov_unit_zero (S := S512x1024) _ Mm.zero2]
  simp only [View.readAt_eq_ld, h3.read_unread, h4.read_unread, h5.read_unread, h6.read_unread, h9.read_unread, View.ld_unit_zero (S := S512x2048) Mm.zero2,
    View.ld_unit_zero (S := S2048x1024) Mm.zero2, View.ld_unit_zero (S := S512x1024) Mm.zero2]
  unfold k0_pay3
  simp only [shapeCast_self]

end Points

/-- The reciprocal of the row length, as the programs write it. -/
def inv : EReal := Ideal.ofBits .f32 0x3A000000#32

/-- One stretch's product, entry by entry. -/
theorem prod (x0 : FVec Ideal S512x2048 .bf16) (x1 : FVec Ideal S2048x1024 .bf16) (i : Fin 512) (j : Fin 1024) :
    k0_pay1 (F := Ideal) x0 x1 (ix2 i j) = ∑ x : Fin 2048, x0 (ix2 i x) * x1 (ix2 x j) := by
  pointwise [k0_pay1]

/-- The loss's gradient, entry by entry. -/
theorem tail4 (a x t : FVec Ideal S512x1024 .f32) (i : Fin 512) (j : Fin 1024) :
    k0_pay4 (F := Ideal) a x t (ix2 i j) = ((a (ix2 i j) + x (ix2 i j) - t (ix2 i j)) * inv : EReal) := by
  unfold inv
  pointwise [k0_pay4]

theorem tail5 (a x t : FVec Ideal S512x1024 .f32) (i : Fin 512) (j : Fin 1024) :
    k0_pay5 (F := Ideal) a x t (ix2 i j) = ((a (ix2 i j) + x (ix2 i j) - t (ix2 i j)) * inv : EReal) := by
  unfold inv
  pointwise [k0_pay5, k0_pay4]

theorem idx (t : Fin cfg0.N) : win0_0.index t 0 = t.val / 8 ∧ win0_0.index t 1 = t.val % 4 ∧ win0_1.index t 0 = t.val % 4 ∧ win0_1.index t 1 = t.val / 4 % 2
    ∧ win0_2.index t 0 = t.val / 8 ∧ win0_2.index t 1 = t.val / 4 % 2 ∧ win0_3.index t 0 = t.val / 8 ∧ win0_3.index t 1 = t.val / 4 % 2 :=
  by revert t; decide +kernel

theorem idx_out (t : Fin cfg0.N) : win0_4.index t 0 = t.val / 8 ∧ win0_4.index t 1 = t.val / 4 % 2 ∧ win0_5.index t 0 = t.val / 8 ∧ win0_5.index t 1 = t.val / 4 % 2 :=
  by revert t; decide +kernel

theorem size2 (t : Fin cfg0.N) : win0_4.size 0 = 512 ∧ win0_4.size 1 = 1024 ∧ win0_4.xsize (grid0.coords t) 0 = 512 ∧ win0_4.xsize (grid0.coords t) 1 = 1024
    ∧ win0_5.size 0 = 512 ∧ win0_5.size 1 = 1024 ∧ win0_5.xsize (grid0.coords t) 0 = 512 ∧ win0_5.xsize (grid0.coords t) 1 = 1024 :=
  by revert t; decide +kernel

theorem onto (p : Fin 4) (q : Fin 2) : ∃ t : Fin cfg0.N, ((cfg0.win 4).flush t = true ∧ (cfg0.win 5).flush t = true)
    ∧ t.val / 8 = p.val ∧ t.val / 4 % 2 = q.val :=
  by revert p q; decide +kernel

variable (m : (ℓ : Loc nD τ sig) → Buf (Elt Ideal) ℓ) (c : Dev nD)

/-- The product as a function of the arrays. -/
def dot (act : S2048x8192.Idx → EReal) (w : S8192x2048.Idx → EReal) (i : S2048x2048.Idx) : EReal :=
  ∑ x : Fin 8192, act (ix2 (i 0) x) * w (ix2 x (i 1))

/-- The loss's gradient as a function of the arrays. -/
def grad (act : S2048x8192.Idx → EReal) (w : S8192x2048.Idx → EReal) (x2 target : S2048x2048.Idx → EReal) : S2048x2048.Idx → EReal :=
  fun i => (dot act w i + x2 i - target i) * inv

abbrev G : S2048x2048.Idx → EReal :=
  grad (m (c.tc.loc main_arg0)) (m (c.tc.loc main_arg1)) (m (c.tc.loc main_arg2)) (m (c.tc.loc main_arg3))

/-- Place `x` of stretch `p`. -/
def at8192 (p : Fin 4) (x : Fin 2048) : Fin 8192 := ⟨2048 * p.val + x.val, by omega⟩

/-- The sum over one stretch. -/
def stretch (act : S2048x8192.Idx → EReal) (w : S8192x2048.Idx → EReal) (p : Fin 4) (j : S2048x2048.Idx) : EReal :=
  ∑ x : Fin 2048, act (ix2 (j 0) (at8192 p x)) * w (ix2 (at8192 p x) (j 1))

theorem dot_eq (act : S2048x8192.Idx → EReal) (w : S8192x2048.Idx → EReal) (i : S2048x2048.Idx) :
    dot act w i = ∑ p : Fin 4, stretch act w p i := by
  unfold dot
  rw [Mm.sum_parts 4 2048 rfl]
  rfl

abbrev piece (p : Fin 4) (j : S2048x2048.Idx) : EReal := stretch (m (c.tc.loc main_arg0)) (m (c.tc.loc main_arg1)) p j

abbrev stepPt (t : Fin cfg0.N) : FVec Ideal S512x1024 .f32 := k0_pay1 (F := Ideal) (iblk m c 0 t) (iblk m c 1 t)

/-- A point's product from the whole arrays. -/
theorem part (t : Fin cfg0.N) (p : Fin 4) (hp : p.val = t.val % 4) (i : Fin 512) (k : Fin 1024) (j : S2048x2048.Idx)
    (j0 : (j 0).val = t.val / 8 * 512 + i.val) (j1 : (j 1).val = t.val / 4 % 2 * 1024 + k.val) :
    stepPt m c t (ix2 i k) = piece m c p j := by
  obtain ⟨e0, e0', e1, e1', -⟩ := idx t
  refine (prod ..).trans (Finset.sum_congr rfl fun x _ => congrArg₂ (fun a b : EReal => a * b) ?_ ?_)
  · unfold iblk
    rw [View.read_apply]
    refine (congrFun (V_main_arg0 m c) _).trans (congrArg (m (c.tc.loc main_arg0)) (Mm.ix_ext ?_ ?_))
    · show win0_0.index t 0 * 512 + 1 * i.val = (j 0).val; rw [e0]; omega
    · show win0_0.index t 1 * 2048 + 1 * x.val = 2048 * p.val + x.val; rw [e0']; omega
  · unfold iblk
    rw [View.read_apply]
    refine (congrFun (V_main_arg1 m c) _).trans (congrArg (m (c.tc.loc main_arg1)) (Mm.ix_ext ?_ ?_))
    · show win0_1.index t 0 * 2048 + 1 * x.val = 2048 * p.val + x.val; rw [e1]; omega
    · show win0_1.index t 1 * 1024 + 1 * k.val = (j 1).val; rw [e1']; omega

/-- The residual's and the target's blocks, entry by entry. -/
theorem side2 (t : Fin cfg0.N) (i : Fin 512) (k : Fin 1024) (j : S2048x2048.Idx)
    (j0 : (j 0).val = t.val / 8 * 512 + i.val) (j1 : (j 1).val = t.val / 4 % 2 * 1024 + k.val) :
    iblk m c 2 t (ix2 i k) = m (c.tc.loc main_arg2) j := by
  obtain ⟨-, -, -, -, e0, e1, -⟩ := idx t
  unfold iblk
  rw [View.read_apply]
  refine (congrFun (V_main_arg2 m c) _).trans (congrArg (m (c.tc.loc main_arg2)) (Mm.ix_ext ?_ ?_))
  · show win0_2.index t 0 * 512 + 1 * i.val = (j 0).val; rw [e0]; omega
  · show win0_2.index t 1 * 1024 + 1 * k.val = (j 1).val; rw [e1]; omega

theorem side3 (t : Fin cfg0.N) (i : Fin 512) (k : Fin 1024) (j : S2048x2048.Idx)
    (j0 : (j 0).val = t.val / 8 * 512 + i.val) (j1 : (j 1).val = t.val / 4 % 2 * 1024 + k.val) :
    iblk m c 3 t (ix2 i k) = m (c.tc.loc main_arg3) j := by
  obtain ⟨-, -, -, -, -, -, e0, e1⟩ := idx t
  unfold iblk
  rw [View.read_apply]
  refine (congrFun (V_main_arg3 m c) _).trans (congrArg (m (c.tc.loc main_arg3)) (Mm.ix_ext ?_ ?_))
  · show win0_3.index t 0 * 512 + 1 * i.val = (j 0).val; rw [e0]; omega
  · show win0_3.index t 1 * 1024 + 1 * k.val = (j 1).val; rw [e1]; omega

/-- What a run's first point leaves in the accumulator, then what its middle points make of it. -/
theorem carried0 (s : Fin cfg0.N) (hs : s.val % 4 = 0) (n : Nat) (hn : n < cfg0.N) (e : n = s.val) :
    (outsAt0 m c n hn).2.2 = stepPt m c s := by
  subst e
  rw [outsAt0_A m c s hs (by omega) (by omega)]
  dsimp only
  rw [first]

theorem carried1 (s : Fin cfg0.N) (h0 : ¬s.val % 4 = 0) (h2 : ¬s.val % 4 = 3) (n : Nat) (hn : n < cfg0.N) (e : n = s.val) :
    (outsAt0 m c n hn).2.2 = addf (outsAt0 m c (s.val - 1) (Nat.lt_of_le_of_lt (Nat.sub_le _ _) s.isLt)).2.2 (stepPt m c s) := by
  subst e
  rw [outsAt0_B m c s h0 (by omega) h2]
  dsimp only
  rw [next]

/-- The four points' sum. -/
abbrev total (s0 s1 s2 s3 : Fin cfg0.N) : FVec Ideal S512x1024 .f32 :=
  addf (addf (addf (stepPt m c s0) (stepPt m c s1)) (stepPt m c s2)) (stepPt m c s3)

/-- What the last point of a run finds in the accumulator. -/
theorem carried (t : Fin cfg0.N) (ho : t.val % 4 = 3) : ∃ s0 s1 s2 : Fin cfg0.N, t.val = s2.val + 1 ∧ t.val = s1.val + 2 ∧ t.val = s0.val + 3
    ∧ (outsAt0 m c (t.val - 1) (Nat.lt_of_le_of_lt (Nat.sub_le _ _) t.isLt)).2.2 = addf (addf (stepPt m c s0) (stepPt m c s1)) (stepPt m c s2) := by
  have ex : ∀ d : Nat, d ≤ 3 → ∃ s : Fin cfg0.N, t.val = s.val + d := fun d hd =>
    ⟨⟨t.val - d, Nat.lt_of_le_of_lt (Nat.sub_le _ _) t.isLt⟩, by dsimp only; omega⟩
  obtain ⟨s2, h2⟩ := ex 1 (by omega)
  obtain ⟨s1, h1⟩ := ex 2 (by omega)
  obtain ⟨s0, h0⟩ := ex 3 (by omega)
  refine ⟨s0, s1, s2, h2, h1, h0, ?_⟩
  rw [carried1 m c s2 (by omega) (by omega) _ _ (by omega), carried1 m c s1 (by omega) (by omega) _ _ (by omega),
    carried0 m c s0 (by omega) _ _ (by omega)]

/-- The gradient at one place of a written block. -/
theorem all (s0 s1 s2 s3 : Fin cfg0.N) (h3 : s3.val % 4 = 3) (h2 : s3.val = s2.val + 1) (h1 : s3.val = s1.val + 2) (h0 : s3.val = s0.val + 3)
    (i : Fin 512) (k : Fin 1024) (j : S2048x2048.Idx) (j0 : (j 0).val = s3.val / 8 * 512 + i.val) (j1 : (j 1).val = s3.val / 4 % 2 * 1024 + k.val) :
    ((total m c s0 s1 s2 s3 (ix2 i k) + iblk m c 2 s3 (ix2 i k) - iblk m c 3 s3 (ix2 i k)) * inv : EReal) = G m c j := by
  have key : ∀ s : Fin cfg0.N, s.val / 4 = s3.val / 4 → (j 0).val = s.val / 8 * 512 + i.val ∧ (j 1).val = s.val / 4 % 2 * 1024 + k.val := fun s hs => by
    rw [j0, j1]
    omega
  unfold G grad total
  rw [dot_eq, Fin.sum_univ_four, side2 m c s3 i k j j0 j1, side3 m c s3 i k j j0 j1, Mm.add_at, Mm.add_at, Mm.add_at,
    part m c s0 0 (by show 0 = _; omega) i k j (key s0 (by omega)).1 (key s0 (by omega)).2,
    part m c s1 1 (by show 1 = _; omega) i k j (key s1 (by omega)).1 (key s1 (by omega)).2,
    part m c s2 2 (by show 2 = _; omega) i k j (key s2 (by omega)).1 (key s2 (by omega)).2,
    part m c s3 3 (by show 3 = _; omega) i k j j0 j1]

theorem flushed4 (t : Fin cfg0.N) (ht : (cfg0.win 4).flush t = true) :
    (dats m 0 c).flushed 4 t = ((cfg0.win 4).blk t).view.read (Elt Ideal) (G m c) := by
  have ho : t.val % 4 = 3 := (flush0_4 t).mp ht
  obtain ⟨s0, s1, s2, h2, h1, h0, e⟩ := carried m c t ho
  obtain ⟨e0, e1, -⟩ := idx_out t
  rw [Value.flushed4_C m c t (by omega) (by omega) ho, last4, e]
  funext j
  rw [View.read_apply]
  obtain ⟨i, k, rfl⟩ : ∃ (i : Fin 512) (k : Fin 1024), j = ix2 i k := ⟨j 0, j 1, eq_ix2 j⟩
  generalize hA : k0_pay4 (F := Ideal) (total m c s0 s1 s2 t) (iblk m c 2 t) (iblk m c 3 t) = A
  refine (?_ : A (ix2 i k) = _)
  rw [← hA]
  refine Eq.trans ?_ (cast_eq _ _).symm
  rw [tail4]
  exact all m c s0 s1 s2 t ho h2 h1 h0 i k (((cfg0.win 4).blk t).view.emb (ix2 i k))
    (by show win0_4.index t 0 * 512 + 1 * i.val = _; rw [e0]; omega) (by show win0_4.index t 1 * 1024 + 1 * k.val = _; rw [e1]; omega)

theorem flushed5 (t : Fin cfg0.N) (ht : (cfg0.win 5).flush t = true) :
    (dats m 0 c).flushed 5 t = ((cfg0.win 5).blk t).view.read (Elt Ideal) (G m c) := by
  have ho : t.val % 4 = 3 := (flush0_5 t).mp ht
  obtain ⟨s0, s1, s2, h2, h1, h0, e⟩ := carried m c t ho
  obtain ⟨-, -, e0, e1⟩ := idx_out t
  rw [Value.flushed5_C m c t (by omega) (by omega) ho, last5, e]
  funext j
  rw [View.read_apply]
  obtain ⟨i, k, rfl⟩ : ∃ (i : Fin 512) (k : Fin 1024), j = ix2 i k := ⟨j 0, j 1, eq_ix2 j⟩
  generalize hA : k0_pay5 (F := Ideal) (total m c s0 s1 s2 t) (iblk m c 2 t) (iblk m c 3 t) = A
  refine (?_ : A (ix2 i k) = _)
  rw [← hA]
  refine Eq.trans ?_ (cast_eq _ _).symm
  rw [tail5]
  exact all m c s0 s1 s2 t ho h2 h1 h0 i k (((cfg0.win 5).blk t).view.emb (ix2 i k))
    (by show win0_5.index t 0 * 512 + 1 * i.val = _; rw [e0]; omega) (by show win0_5.index t 1 * 1024 + 1 * k.val = _; rw [e1]; omega)

theorem final4 : (dats m 0 c).arrAt 4 cfg0.N = G m c :=
  (dats m 0 c).arrAt_eq_of_cover 4 (G m c) (fun t ht => flushed4 m c t ht) fun i => by
    have h0 : (i 0 : Nat) < 2048 := (i 0).isLt
    have h1 : (i 1 : Nat) < 2048 := (i 1).isLt
    obtain ⟨t, hf, e0, e1⟩ := onto ⟨(i 0 : Nat) / 512, by omega⟩ ⟨(i 1 : Nat) / 1024, by omega⟩
    obtain ⟨s0, s1, z0, z1, -⟩ := size2 t
    obtain ⟨f0, f1, -⟩ := idx_out t
    refine ⟨t, hf.1, ?_⟩
    show i ∈ ((View.whole main_v0_0).slice (win0_4.rect t)).set
    rw [View.set_slice_whole, Rect.mem_set_unit]
    exact Mm.in_tile i (by decide) (by decide) (f0.trans e0) (f1.trans e1) s0 s1 z0 z1

theorem final5 : (dats m 0 c).arrAt 5 cfg0.N = G m c :=
  (dats m 0 c).arrAt_eq_of_cover 5 (G m c) (fun t ht => flushed5 m c t ht) fun i => by
    have h0 : (i 0 : Nat) < 2048 := (i 0).isLt
    have h1 : (i 1 : Nat) < 2048 := (i 1).isLt
    obtain ⟨t, hf, e0, e1⟩ := onto ⟨(i 0 : Nat) / 512, by omega⟩ ⟨(i 1 : Nat) / 1024, by omega⟩
    obtain ⟨-, -, -, -, s0, s1, z0, z1⟩ := size2 t
    obtain ⟨-, -, f0, f1⟩ := idx_out t
    refine ⟨t, hf.2, ?_⟩
    show i ∈ ((View.whole main_v0_1).slice (win0_5.rect t)).set
    rw [View.set_slice_whole, Rect.mem_set_unit]
    exact Mm.in_tile i (by decide) (by decide) (f0.trans e0) (f1.trans e1) s0 s1 z0 z1

/-- The constants: a half times one over 2048, then twice that. -/
theorem consts (z : EReal) :
    Ideal.div (Ideal.ofBits .f32 0x3F000000#32) (Ideal.ofBits .f32 0x45000000#32) * (Ideal.ofBits .f32 0x40000000#32 * z) = z * inv := by
  have h1 : Ideal.ofBits .f32 0x3F000000#32 = (((1 : ℝ) / 2 : ℝ) : EReal) := by
    simp [Ideal.ofBits, Ideal.ieee]; rw [← EReal.coe_mul]; norm_num
  have h2 : Ideal.ofBits .f32 0x45000000#32 = ((2048 : ℝ) : EReal) := by
    simp [Ideal.ofBits, Ideal.ieee]; rw [← EReal.coe_mul]; norm_num
  have h3 : inv = (((1 : ℝ) / 2048 : ℝ) : EReal) := by
    unfold inv
    simp [Ideal.ofBits, Ideal.ieee]; rw [← EReal.coe_mul]; norm_num
  have h4 : Ideal.div (((1 : ℝ) / 2 : ℝ) : EReal) ((2048 : ℝ) : EReal) = (((1 : ℝ) / 2 * 2048⁻¹ : ℝ) : EReal) := by
    unfold Ideal.div
    rw [if_neg (by norm_num), ← EReal.coe_inv, ← EReal.coe_mul]
  rw [h1, h2, h3, h4, Mm.two, ← mul_assoc, ← EReal.coe_mul, mul_comm]
  norm_num

section Ref

open DownRefIdeal.Read

variable (act : FVec Ideal S2048x8192 .bf16) (w : FVec Ideal S8192x2048 .bf16) (x2 target : FVec Ideal S2048x2048 .f32)

/-- The reference's gradient, read off its operations. -/
theorem ref_at : val_main_v18 (F := Ideal) act w x2 target = grad act w x2 target := by
  funext i
  obtain ⟨a, b, rfl⟩ : ∃ (a b : Fin 2048), i = ix2 a b := ⟨i 0, i 1, eq_ix2 i⟩
  unfold grad dot
  rw [← consts, ← val_main_v18_eq]
  pointwise []
  rw [add_comm (x2 (ix2 a b))]

theorem ref_at5 : val_main_v19 (F := Ideal) act w x2 target = grad act w x2 target :=
  ref_at act w x2 target

end Ref

theorem algebraic : Cert.algebraic_DownIdeal_DownRefIdeal := by
  intro m g m' g' _ ha
  refine ⟨fun c => (dats m 0 c).arrAt 4 cfg0.N, fun c => (dats m 0 c).arrAt 5 cfg0.N, Value.run_blocks m g,
    (θ_run DownRefIdeal.defs _ _).mono (fun r hr c => ?_) (DownRefIdeal.Value.run m' g')⟩
  obtain ⟨h0, h1, hk⟩ := hr c
  obtain ⟨a0, a1, a2, a3⟩ := ha c
  refine ⟨h0.trans ?_, h1.trans ?_, hk⟩
  · rw [DownRefIdeal.Read.val_main_v18_eq, a0, a1, a2, a3]
    exact (ref_at ..).trans (final4 m c).symm
  · rw [DownRefIdeal.Read.val_main_v19_eq, a0, a1, a2, a3]
    exact (ref_at5 ..).trans (final5 m c).symm

/-- The reference's run ends with its arguments kept and no counter raised. -/
theorem ref_frame : Cert.quiescent_DownRefIdeal := fun m ρ _ =>
  (θ_run DownRefIdeal.defs _ _).mono (fun r h => ⟨fun c => (h c).2.2, sem_eq_zero_of_no_sems (by decide) r.2⟩)
    (DownRefIdeal.Value.run m ρ)

end Cert.MmDown
-- ==== Proof.MmProjIn.lean ====
module

public import proofs.«01_k».proof.Defs
public import proofs.«01_k».proof.Proof.MmTile
public import proofs.«01_k».proof.Proof.Gen.ProjIn.Frame
public import proofs.«01_k».proof.Proof.Gen.ProjInIdeal.Value
public import proofs.«01_k».proof.Proof.Gen.ProjInRefIdeal.Run
public import proofs.«01_k».proof.Proof.Gen.ProjInRefIdeal.Read

@[expose] public section

noncomputable section

/-! ## The input projection: `h · w_in` -/

namespace Cert.MmProjIn

open Cert.ProjInIdeal Cert.ProjInIdeal.Gen Idealize.ShloMosaic

/-- One block from the blocks it is made of. -/
theorem tile (x0 : FVec Ideal S1024x2048 .bf16) (x1 : FVec Ideal S2048x1280 .bf16) (i : Fin 1024) (j : Fin 1280) :
    out0_2 (F := Ideal) x0 x1 (ix2 i j) = ∑ s : Fin 2048, x0 (ix2 i s) * x1 (ix2 s j) := by
  unfold out0_2
  rw [View.canon_unit_zero (S := S1024x1280) Mm.zero2]
  simp only [View.ld_unit_zero (S := S1024x2048) Mm.zero2, View.ld_unit_zero (S := S2048x1280) Mm.zero2]
  pointwise [k0_pay1]

theorem idx (t : Fin cfg0.N) : win0_0.index t 0 = win0_2.index t 0 ∧ win0_0.index t 1 = 0 ∧ win0_1.index t 0 = 0 ∧ win0_1.index t 1 = win0_2.index t 1
    ∧ win0_2.size 0 = 1024 ∧ win0_2.size 1 = 1280 ∧ win0_2.xsize (grid0.coords t) 0 = 1024 ∧ win0_2.xsize (grid0.coords t) 1 = 1280 :=
  by revert t; decide +kernel

theorem onto (p : Fin 2) (q : Fin 5) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The product as a function of the arrays. -/
def prod (h : S2048x2048.Idx → EReal) (w : S2048x6400.Idx → EReal) : S2048x6400.Idx → EReal :=
  fun i => ∑ s : Fin 2048, h (ix2 (i 0) s) * w (ix2 s (i 1))

abbrev G : S2048x6400.Idx → EReal := prod (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 1024) (k : Fin 1280), j = ix2 i k := ⟨j 0, j 1, eq_ix2 j⟩
  refine (?_ : out0_2 (iblk m c 0 t) (iblk m c 1 t) (ix2 i k) = _)
  obtain ⟨e0, e0', e1, e1', -⟩ := idx t
  rw [tile]
  show _ = G m c (((cfg0.win 2).blk t).view.emb (ix2 i k))
  unfold G prod
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 1024 + 1 * i.val = win0_2.index t 0 * 1024 + 1 * i.val; rw [e0]
    · show win0_0.index t 1 * 2048 + 1 * x.val = x.val; rw [e0']; omega
  · unfold iblk
    rw [View.read_apply]
    refine (congrFun (V_main_arg1 m c) _).trans (congrArg (m (c.tc.loc main_arg1)) (Mm.ix_ext ?_ ?_))
    · show win0_1.index t 0 * 2048 + 1 * x.val = x.val; rw [e1]; omega
    · show win0_1.index t 1 * 1280 + 1 * k.val = win0_2.index t 1 * 1280 + 1 * k.val; rw [e1']

theorem final : (dats m 0 c).arrAt 2 cfg0.N = G m c :=
  (dats m 0 c).arrAt_eq_of_cover 2 (G m c) (fun t _ => flushed m c t) fun i => by
    have h0 : (i 0 : Nat) < 2048 := (i 0).isLt
    have h1 : (i 1 : Nat) < 6400 := (i 1).isLt
    obtain ⟨t, hf, e0, e1⟩ := onto ⟨(i 0 : Nat) / 1024, by omega⟩ ⟨(i 1 : Nat) / 1280, by omega⟩
    obtain ⟨-, -, -, -, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 e1 s0 s1 z0 z1

/-- The reference's product, read off its operations. -/
theorem ref_at (h : FVec Ideal S2048x2048 .bf16) (w : FVec Ideal S2048x6400 .bf16) :
    ProjInRefIdeal.Read.val_main_v2 (F := Ideal) h w = prod h w := by
  funext i
  obtain ⟨a, b, rfl⟩ : ∃ (a : Fin 2048) (b : Fin 6400), i = ix2 a b := ⟨i 0, i 1, eq_ix2 i⟩
  unfold prod
  rw [← ProjInRefIdeal.Read.val_main_v2_eq]
  pointwise []

theorem algebraic : Cert.algebraic_ProjInIdeal_ProjInRefIdeal := by
  intro m g m' g' _ ha
  refine ⟨fun c => (dats m 0 c).arrAt 2 cfg0.N, Value.run_blocks m g,
    (θ_run ProjInRefIdeal.defs _ _).mono (fun r hr c => ?_) (ProjInRefIdeal.Value.run m' g')⟩
  obtain ⟨h0, hk⟩ := hr c
  obtain ⟨a0, a1⟩ := ha c
  refine ⟨h0.trans ?_, hk⟩
  rw [ProjInRefIdeal.Read.val_main_v2_eq, a0, a1]
  exact (ref_at ..).trans (final m c).symm

/-- The reference's run ends with its arguments kept and no counter raised. -/
theorem ref_frame : Cert.quiescent_ProjInRefIdeal := fun m ρ _ =>
  (θ_run ProjInRefIdeal.defs _ _).mono (fun r h => ⟨fun c => (h c).2, sem_eq_zero_of_no_sems (by decide) r.2⟩)
    (ProjInRefIdeal.Value.run m ρ)

end Cert.MmProjIn
-- ==== Proof.MmProjOut.lean ====
module

public import proofs.«01_k».proof.Defs
public import proofs.«01_k».proof.Proof.MmTile
public import proofs.«01_k».proof.Proof.Gen.ProjOut.Frame
public import proofs.«01_k».proof.Proof.Gen.ProjOutIdeal.Value
public import proofs.«01_k».proof.Proof.Gen.ProjOutRefIdeal.Run
public import proofs.«01_k».proof.Proof.Gen.ProjOutRefIdeal.Read

@[expose] public section

noncomputable section

/-! ## The output projection with its residual: `x + mix · w_out` -/

namespace Cert.MmProjOut

open Cert.ProjOutIdeal Cert.ProjOutIdeal.Gen Idealize.ShloMosaic

/-- One block from the blocks it is made of. -/
theorem tile (x0 : FVec Ideal S1024x2048 .bf16) (x1 : FVec Ideal S2048x1024 .bf16) (x2 : FVec Ideal S1024x1024 .f32) (i j : Fin 1024) :
    out0_3 (F := Ideal) x0 x1 x2 (ix2 i j) = (∑ s : Fin 2048, x0 (ix2 i s) * x1 (ix2 s j)) + x2 (ix2 i j) := by
  unfold out0_3
  rw [View.canon_unit_zero (S := S1024x1024) Mm.zero2]
  simp only [View.ld_unit_zero (S := S1024x2048) Mm.zero2, View.ld_unit_zero (S := S2048x1024) Mm.zero2, View.ld_unit_zero (S := S1024x1024) Mm.zero2]
  pointwise [k0_pay1]

theorem idx (t : Fin cfg0.N) : win0_0.index t 0 = win0_3.index t 0 ∧ win0_0.index t 1 = 0 ∧ win0_1.index t 0 = 0 ∧ win0_1.index t 1 = win0_3.index t 1 ∧ win0_2.index t 0 = win0_3.index t 0 ∧ win0_2.index t 1 = win0_3.index t 1
    ∧ win0_3.size 0 = 1024 ∧ win0_3.size 1 = 1024 ∧ win0_3.xsize (grid0.coords t) 0 = 1024 ∧ win0_3.xsize (grid0.coords t) 1 = 1024 :=
  by revert t; decide +kernel

theorem onto (p : Fin 2) (q : Fin 2) : ∃ t : Fin cfg0.N, (cfg0.win 3).flush t = true ∧ win0_3.index t 0 = p.val ∧ win0_3.index t 1 = q.val :=
  by revert p q; decide +kernel

variable (m : (ℓ : Loc nD τ sig) → Buf (Elt Ideal) ℓ) (c : Dev nD)

/-- The result as a function of the arrays. -/
def proj (mix : S2048x2048.Idx → EReal) (w x : S2048x2048.Idx → EReal) : S2048x2048.Idx → EReal :=
  fun i => (∑ s : Fin 2048, mix (ix2 (i 0) s) * w (ix2 s (i 1))) + x i

abbrev G : S2048x2048.Idx → EReal := proj (m (c.tc.loc main_arg0)) (m (c.tc.loc main_arg1)) (m (c.tc.loc main_arg2))

theorem flushed (t : Fin cfg0.N) : (dats m 0 c).flushed 3 t = ((cfg0.win 3).blk t).view.read (Elt Ideal) (G m c) := by
  rw [Value.flushed3]
  funext j
  rw [View.read_apply]
  obtain ⟨i, k, rfl⟩ : ∃ (i : Fin 1024) (k : Fin 1024), j = ix2 i k := ⟨j 0, j 1, eq_ix2 j⟩
  refine (?_ : out0_3 (iblk m c 0 t) (iblk m c 1 t) (iblk m c 2 t) (ix2 i k) = _)
  obtain ⟨e0, e0', e1, e1', e2, e2', -⟩ := idx t
  rw [tile]
  show _ = G m c (((cfg0.win 3).blk t).view.emb (ix2 i k))
  unfold G proj
  refine congrArg₂ (fun a b : EReal => a + b) (Finset.sum_congr rfl fun x _ => congrArg₂ (fun a b : EReal => a * b) ?_ ?_) ?_
  · unfold iblk
    rw [View.read_apply]
    refine (congrFun (V_main_arg0 m c) _).trans (congrArg (m (c.tc.loc main_arg0)) (Mm.ix_ext ?_ ?_))
    · show win0_0.index t 0 * 1024 + 1 * i.val = win0_3.index t 0 * 1024 + 1 * i.val; rw [e0]
    · show win0_0.index t 1 * 2048 + 1 * x.val = x.val; rw [e0']; omega
  · unfold iblk
    rw [View.read_apply]
    refine (congrFun (V_main_arg1 m c) _).trans (congrArg (m (c.tc.loc main_arg1)) (Mm.ix_ext ?_ ?_))
    · show win0_1.index t 0 * 2048 + 1 * x.val = x.val; rw [e1]; omega
    · show win0_1.index t 1 * 1024 + 1 * k.val = win0_3.index t 1 * 1024 + 1 * k.val; rw [e1']
  · unfold iblk
    rw [View.read_apply]
    refine (congrFun (V_main_arg2 m c) _).trans (congrArg (m (c.tc.loc main_arg2)) (Mm.ix_ext ?_ ?_))
    · show win0_2.index t 0 * 1024 + 1 * i.val = win0_3.index t 0 * 1024 + 1 * i.val; rw [e2]
    · show win0_2.index t 1 * 1024 + 1 * k.val = win0_3.index t 1 * 1024 + 1 * k.val; rw [e2']

theorem final : (dats m 0 c).arrAt 3 cfg0.N = G m c :=
  (dats m 0 c).arrAt_eq_of_cover 3 (G m c) (fun t _ => flushed m c t) fun i => by
    have h0 : (i 0 : Nat) < 2048 := (i 0).isLt
    have h1 : (i 1 : Nat) < 2048 := (i 1).isLt
    obtain ⟨t, hf, e0, e1⟩ := onto ⟨(i 0 : Nat) / 1024, by omega⟩ ⟨(i 1 : Nat) / 1024, by omega⟩
    obtain ⟨-, -, -, -, -, -, s0, s1, z0, z1⟩ := idx t
    refine ⟨t, hf, ?_⟩
    show i ∈ ((View.whole main_v0).slice (win0_3.rect t)).set
    rw [View.set_slice_whole, Rect.mem_set_unit]
    exact Mm.in_tile i (by decide) (by decide) e0 e1 s0 s1 z0 z1

/-- The reference's result, read off its operations. -/
theorem ref_at (mix : FVec Ideal S2048x2048 .bf16) (w : FVec Ideal S2048x2048 .bf16) (x : FVec Ideal S2048x2048 .f32) :
    ProjOutRefIdeal.Read.val_main_v3 (F := Ideal) mix w x = proj mix w x := by
  funext i
  obtain ⟨a, b, rfl⟩ : ∃ (a : Fin 2048) (b : Fin 2048), i = ix2 a b := ⟨i 0, i 1, eq_ix2 i⟩
  unfold proj
  rw [← ProjOutRefIdeal.Read.val_main_v3_eq]
  pointwise []
  exact add_comm _ _

theorem algebraic : Cert.algebraic_ProjOutIdeal_ProjOutRefIdeal := by
  intro m g m' g' _ ha
  refine ⟨fun c => (dats m 0 c).arrAt 3 cfg0.N, Value.run_blocks m g,
    (θ_run ProjOutRefIdeal.defs _ _).mono (fun r hr c => ?_) (ProjOutRefIdeal.Value.run m' g')⟩
  obtain ⟨h0, hk⟩ := hr c
  obtain ⟨a0, a1, a2⟩ := ha c
  refine ⟨h0.trans ?_, hk⟩
  rw [ProjOutRefIdeal.Read.val_main_v3_eq, a0, a1, a2]
  exact (ref_at ..).trans (final m c).symm

/-- The reference's run ends with its arguments kept and no counter raised. -/
theorem ref_frame : Cert.quiescent_ProjOutRefIdeal := fun m ρ _ =>
  (θ_run ProjOutRefIdeal.defs _ _).mono (fun r h => ⟨fun c => (h c).2, sem_eq_zero_of_no_sems (by decide) r.2⟩)
    (ProjOutRefIdeal.Value.run m ρ)

end Cert.MmProjOut
-- ==== Proof.BwdNorm.lean ====
module

public import proofs.«01_k».proof.Defs
public import proofs.«01_k».proof.Proof.NormMath
public import proofs.«01_k».proof.Proof.RowBlocks
public import proofs.«01_k».proof.Proof.Gen.NormBwd.Frame
public import proofs.«01_k».proof.Proof.Gen.NormBwdIdeal.Value
public import proofs.«01_k».proof.Proof.Gen.NormBwdRefIdeal.Run
public import proofs.«01_k».proof.Proof.Gen.NormBwdRefIdeal.Read
public import Idealize.ShloMosaic.Lib.Tactic

@[expose] public section

noncomputable section

/-! ## The normalisation's gradient: the kernel's three results are the reference's

The kernel takes the rows in eight blocks. Each block's gradient is written out as it is met, in two precisions; the gain's
gradient is summed over the blocks in one output block that stays in place. -/

namespace Cert.BwdNorm

open Cert.NormBwdIdeal Cert.NormBwdIdeal.Gen Idealize.ShloMosaic Idealize.ShloMosaic.TcCoe Idealize.SL.Sem
open Cert.RowBlocks Cert.RowNorm

/-- The number of columns, as the kernel and the reference divide by it. -/
def cD : EReal := Ideal.ofBits .f32 0x45000000#32

theorem cD_eq : cD = ((2048 : ℝ) : EReal) := by
  simp [cD, Ideal.ofBits, Ideal.ieee]
  rw [← EReal.coe_mul]
  norm_num

/-- Row `s` of an array. -/
def rowOf {n : Nat} (A : Shape.Idx ⟨2, ![n, 2048]⟩ → EReal) (s : Fin n) : Fin 2048 → EReal := fun d => A (ix2 s d)

/-- One row's gradient: through the normalisation, and the part that passes it by. -/
def gDX (x g dh dres : Fin 2048 → EReal) (d : Fin 2048) : EReal := rDX cD x (fun d => dh d * g d) d + dres d

/-- All rows' gradients. -/
def dxOf (x : Shape.Idx ⟨2, ![2048, 2048]⟩ → EReal) (g : Shape.Idx ⟨2, ![1, 2048]⟩ → EReal) (dh dres : Shape.Idx ⟨2, ![2048, 2048]⟩ → EReal) :
    Shape.Idx ⟨2, ![2048, 2048]⟩ → EReal :=
  fun y => gDX (rowOf x (y 0)) (rowOf g 0) (rowOf dh (y 0)) (rowOf dres (y 0)) (y 1)

/-- The gain's gradient has this part from one row. -/
def gDG (x dh : Fin 2048 → EReal) (d : Fin 2048) : EReal := dh d * rN cD x d

/-! ### A block's values at an index -/

section Block

variable (x dh dres : FVec Ideal S256x2048 .f32) (g : FVec Ideal S1x2048 .f32) (i : Fin 256) (d : Fin 2048)

theorem rms_at : k0_pay2 (F := Ideal) x (ix2 i 0) = rR cD (rowOf x i) := by
  pointwise [k0_pay2]
  rfl

theorem norm_at : k0_pay3 (F := Ideal) x (ix2 i d) = rN cD (rowOf x i) d := by
  pointwise [k0_pay3]
  rw [rms_at]
  rfl

theorem dg_at : k0_pay4 (F := Ideal) x dh (ix2 0 d) = ∑ i, gDG (rowOf x i) (rowOf dh i) d := by
  pointwise [k0_pay4]
  simp only [norm_at]
  rfl

theorem dx_at : k0_pay5 (F := Ideal) x g dh dres (ix2 i d) = gDX (rowOf x i) (rowOf g 0) (rowOf dh i) (rowOf dres i) d := by
  pointwise [k0_pay5]
  simp only [norm_at, rms_at]
  rfl

end Block

/-! ### What the body leaves at a point -/

section Point

theorem hz : (![0, 0] : Fin 2 → Nat) = fun _ => 0 := funext fun a => by match a with | ⟨0, _⟩ => rfl | ⟨1, _⟩ => rfl

variable (c : Dev nD) (i : grid0.Coords)
  (a1 : Memref sig .tc .vmem S256x2048 .f32) (h1 : a1.IsWhole) (a2 : Memref sig .tc .vmem S256x2048 .f32) (h2 : a2.IsWhole)
  (a3 : Memref sig .tc .vmem S256x2048 .f32) (h3 : a3.IsWhole) (a4 : Memref sig .tc .vmem S1x2048 .f32) (h4 : a4.IsWhole)
  (a5 : Memref sig .tc .vmem S256x2048 .f32) (h5 : a5.IsWhole) (a6 : Memref sig .tc .vmem S256x2048 .bf16) (h6 : a6.IsWhole)
  (a7 : Memref sig .tc .vmem S1x2048 .f32) (h7 : a7.IsWhole)
  (x0 x1 x2 : FVec Ideal S256x2048 .f32) (x3 p : FVec Ideal S1x2048 .f32)

theorem out_A4 (c0 : cond0_0 i) (c1 : ¬cond0_1 i) :
    out0_A_4 (F := Ideal) c i a1 h1 a2 h2 a3 h3 a4 h4 a5 h5 a6 h6 a7 h7 c0 c1 x0 x1 x2 x3 = k0_pay5 (F := Ideal) x0 x3 x1 x2 := by
  unfold out0_A_4
  rw [View.read_writes_eq_canon _ _ _ (cover0_A_4 (F := Ideal) c i a1 h1 a2 h2 a3 h3 a4 h4 a5 h5 a6 h6 a7 h7 c0 c1 x0 x1 x2 x3)]
  unfold kernelRun0_A
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz]

theorem out_A5 (c0 : cond0_0 i) (c1 : ¬cond0_1 i) :
    out0_A_5 (F := Ideal) c i a1 h1 a2 h2 a3 h3 a4 h4 a5 h5 a6 h6 a7 h7 c0 c1 x0 x1 x2 x3 = k0_pay6 (F := Ideal) x0 x3 x1 x2 := by
  unfold out0_A_5
  rw [View.read_writes_eq_canon _ _ _ (cover0_A_5 (F := Ideal) c i a1 h1 a2 h2 a3 h3 a4 h4 a5 h5 a6 h6 a7 h7 c0 c1 x0 x1 x2 x3)]
  unfold kernelRun0_A
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz]

theorem out_A6 (c0 : cond0_0 i) (c1 : ¬cond0_1 i) :
    out0_A_6 (F := Ideal) c i a1 h1 a2 h2 a3 h3 a4 h4 a5 h5 a6 h6 a7 h7 c0 c1 x0 x1 x2 x3 = k0_pay4 (F := Ideal) x0 x1 := by
  unfold out0_A_6
  rw [View.read_writes_eq_canon _ _ _ (cover0_A_6 (F := Ideal) c i a1 h1 a2 h2 a3 h3 a4 h4 a5 h5 a6 h6 a7 h7 c0 c1 x0 x1 x2 x3)]
  unfold kernelRun0_A
  dsimp only
  sl_unfold_words
  rw [View.canon_unit_zero (S := S1x2048) hz]
  simp only [View.readAt_eq_ld, h1.read_unread, h2.read_unread, h3.read_unread, h4.read_unread,
    View.ld_unit_zero (S := S256x2048) hz, View.ld_unit_zero (S := S1x2048) hz]

theorem out_B4 (c0 : ¬cond0_0 i) (c1 : cond0_1 i) :
    out0_B_4 (F := Ideal) c i a1 h1 a2 h2 a3 h3 a4 h4 a5 h5 a6 h6 a7 h7 c0 c1 x0 x1 x2 x3 p = k0_pay5 (F := Ideal) x0 x3 x1 x2 := by
  unfold out0_B_4
  rw [View.read_writes_eq_canon _ _ _ (cover0_B_4 (F := Ideal) c i a1 h1 a2 h2 a3 h3 a4 h4 a5 h5 a6 h6 a7 h7 c0 c1 x0 x1 x2 x3 p)]
  unfold kernelRun0_B
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz]

theorem out_B5 (c0 : ¬cond0_0 i) (c1 : cond0_1 i) :
    out0_B_5 (F := Ideal) c i a1 h1 a2 h2 a3 h3 a4 h4 a5 h5 a6 h6 a7 h7 c0 c1 x0 x1 x2 x3 p = k0_pay6 (F := Ideal) x0 x3 x1 x2 := by
  unfold out0_B_5
  rw [View.read_writes_eq_canon _ _ _ (cover0_B_5 (F := Ideal) c i a1 h1 a2 h2 a3 h3 a4 h4 a5 h5 a6 h6 a7 h7 c0 c1 x0 x1 x2 x3 p)]
  unfold kernelRun0_B
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz]

theorem out_B6 (c0 : ¬cond0_0 i) (c1 : cond0_1 i) :
    out0_B_6 (F := Ideal) c i a1 h1 a2 h2 a3 h3 a4 h4 a5 h5 a6 h6 a7 h7 c0 c1 x0 x1 x2 x3 p = addf p (k0_pay4 (F := Ideal) x0 x1) := by
  unfold out0_B_6
  rw [View.read_writes_eq_canon _ _ _ (cover0_B_6 (F := Ideal) c i a1 h1 a2 h2 a3 h3 a4 h4 a5 h5 a6 h6 a7 h7 c0 c1 x0 x1 x2 x3 p)]
  unfold kernelRun0_B
  dsimp only
  sl_unfold_words
  rw [View.canon_unit_zero (S := S1x2048) hz]
  simp only [View.readAt_eq_ld, h1.read_unread, h2.read_unread, h3.read_unread, h4.read_unread, h7.read_unread,
    View.ld_unit_zero (S := S256x2048) hz, View.ld_unit_zero (S := S1x2048) hz]
  unfold k0_pay1
  simp only [shapeCast_self]

end Point

/-! ### The blocks of the arrays -/

variable (m : (ℓ : Loc nD τ sig) → Buf (Elt Ideal) ℓ) (c : Dev nD)

/-- The rows, the gain, the normalised rows' cotangent and the cotangent passing by. -/
abbrev Ax : S2048x2048.Idx → EReal := m ((c : Thread nD τ).loc main_arg0)
abbrev Ag : S1x2048.Idx → EReal := m ((c : Thread nD τ).loc main_arg1)
abbrev Ah : S2048x2048.Idx → EReal := m ((c : Thread nD τ).loc main_arg2)
abbrev Ar : S2048x2048.Idx → EReal := m ((c : Thread nD τ).loc main_arg3)

theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ ∀ a, win0_3.index t a = 0 :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ ∀ a, win0_3.index t a = 0)

theorem lt8 (t : Fin cfg0.N) : t.val < 8 := lt_of_lt_of_eq t.isLt N_0

theorem row_x (t : Fin cfg0.N) (i : Fin 256) : rowOf (iblk m c 0 t : FVec Ideal S256x2048 .f32) i = rowOf (Ax m c) (grow ⟨t.val, lt8 t⟩ i) := by
  funext k
  unfold rowOf iblk
  rw [View.read_apply]
  show V m c main_arg0 _ = m (c.tc.loc main_arg0) _
  unfold V
  congr 1
  funext a
  apply Fin.ext
  match a with
  | ⟨0, _⟩ => show win0_0.index t 0 * 256 + 1 * i.val = 256 * t.val + i.val; rw [(idx t).1.1]; omega
  | ⟨1, _⟩ => show win0_0.index t 1 * 2048 + 1 * k.val = k.val; rw [(idx t).1.2]; omega

theorem row_h (t : Fin cfg0.N) (i : Fin 256) : rowOf (iblk m c 1 t : FVec Ideal S256x2048 .f32) i = rowOf (Ah m c) (grow ⟨t.val, lt8 t⟩ i) := by
  funext k
  unfold rowOf iblk
  rw [View.read_apply]
  show V m c main_arg2 _ = m (c.tc.loc main_arg2) _
  unfold V
  congr 1
  funext a
  apply Fin.ext
  match a with
  | ⟨0, _⟩ => show win0_1.index t 0 * 256 + 1 * i.val = 256 * t.val + i.val; rw [(idx t).2.1.1]; omega
  | ⟨1, _⟩ => show win0_1.index t 1 * 2048 + 1 * k.val = k.val; rw [(idx t).2.1.2]; omega

theorem row_r (t : Fin cfg0.N) (i : Fin 256) : rowOf (iblk m c 2 t : FVec Ideal S256x2048 .f32) i = rowOf (Ar m c) (grow ⟨t.val, lt8 t⟩ i) := by
  funext k
  unfold rowOf iblk
  rw [View.read_apply]
  show V m c main_arg3 _ = m (c.tc.loc main_arg3) _
  unfold V
  congr 1
  funext a
  apply Fin.ext
  match a with
  | ⟨0, _⟩ => show win0_2.index t 0 * 256 + 1 * i.val = 256 * t.val + i.val; rw [(idx t).2.2.1.1]; omega
  | ⟨1, _⟩ => show win0_2.index t 1 * 2048 + 1 * k.val = k.val; rw [(idx t).2.2.1.2]; omega

theorem iblk_g (t : Fin cfg0.N) : (iblk m c 3 t : FVec Ideal S1x2048 .f32) = Ag m c := by
  funext y
  unfold iblk
  rw [View.read_apply]
  show V m c main_arg1 _ = m (c.tc.loc main_arg1) _
  unfold V
  congr 1
  funext a
  apply Fin.ext
  show win0_3.index t a * _ + 1 * (y a).val = (y a).val
  rw [(idx t).2.2.2]; omega

/-! ### Point by point -/

/-- Point `n`. -/
def pt (n : ℕ) : Fin cfg0.N := ⟨n % 8, lt_of_lt_of_eq (Nat.mod_lt _ (by decide)) N_0.symm⟩

theorem pt_eq (n : ℕ) (h : n < cfg0.N) : (⟨n, h⟩ : Fin cfg0.N) = pt n :=
  Fin.ext (Nat.mod_eq_of_lt (lt_of_lt_of_eq h N_0)).symm

def dxPt (t : Fin cfg0.N) : FVec Ideal S256x2048 .f32 := k0_pay5 (F := Ideal) (iblk m c 0 t) (iblk m c 3 t) (iblk m c 1 t) (iblk m c 2 t)
def dxPt' (t : Fin cfg0.N) : FVec Ideal S256x2048 .bf16 := k0_pay6 (F := Ideal) (iblk m c 0 t) (iblk m c 3 t) (iblk m c 1 t) (iblk m c 2 t)
def dgPt (n : ℕ) : FVec Ideal S1x2048 .f32 := k0_pay4 (F := Ideal) (iblk m c 0 (pt n)) (iblk m c 1 (pt n))

/-- What the output blocks hold after point `n`. -/
theorem outs_eq : ∀ (n : ℕ) (h : n < cfg0.N), outsAt0 m c n h = (dxPt m c (pt n), dxPt' m c (pt n), acc (dgPt m c) n)
  | 0, h => by
    refine (outsAt0_A m c ⟨0, h⟩ rfl (Nat.not_succ_le_zero 0)).trans ?_
    rw [out_A4, out_A5, out_A6, pt_eq 0 h]
    rfl
  | n + 1, h => by
    have hN : cfg0.N = 8 := N_0
    have h0 : ¬(⟨n + 1, h⟩ : Fin cfg0.N).val % 8 = 0 := by dsimp only; omega
    have h1 : 1 ≤ (⟨n + 1, h⟩ : Fin cfg0.N).val := Nat.succ_le_succ (Nat.zero_le n)
    refine (outsAt0_B m c ⟨n + 1, h⟩ h0 h1).trans ?_
    rw [out_B4, out_B5, out_B6, pt_eq (n + 1) h]
    have e := outs_eq n (Nat.lt_of_succ_lt h)
    have e' : ∀ k (hk : k < cfg0.N), k = n → outsAt0 m c k hk = (dxPt m c (pt n), dxPt' m c (pt n), acc (dgPt m c) n) := by
      rintro k hk rfl; exact e
    rw [e' ((pt (n + 1)).val - 1) _ (by show (n + 1) % 8 - 1 = n; omega)]
    rfl

/-! ### The final arrays -/

/-- The rows' gradient as an array. -/
def dxArr : S2048x2048.Idx → EReal := dxOf (Ax m c) (Ag m c) (Ah m c) (Ar m c)

theorem dxPt_at (t : Fin cfg0.N) (i : Fin 256) (d : Fin 2048) : dxPt m c t (ix2 i d) = dxArr m c (ix2 (grow ⟨t.val, lt8 t⟩ i) d) := by
  unfold dxPt
  rw [dx_at, row_x, row_h, row_r, iblk_g]
  rfl

theorem idx4 : ∀ t : Fin cfg0.N, win0_4.index t 0 = t.val ∧ win0_4.index t 1 = 0 ∧ win0_4.size 0 = 256 ∧ win0_4.size 1 = 2048
    ∧ win0_4.xsize (grid0.coords t) 0 = 256 ∧ win0_4.xsize (grid0.coords t) 1 = 2048 :=
  (by decide +kernel : ∀ t : Fin grid0.N, win0_4.index t 0 = t.val ∧ win0_4.index t 1 = 0 ∧ win0_4.size 0 = 256 ∧ win0_4.size 1 = 2048
    ∧ win0_4.xsize (grid0.coords t) 0 = 256 ∧ win0_4.xsize (grid0.coords t) 1 = 2048)

theorem idx5 : ∀ t : Fin cfg0.N, win0_5.index t 0 = t.val ∧ win0_5.index t 1 = 0 ∧ win0_5.size 0 = 256 ∧ win0_5.size 1 = 2048
    ∧ win0_5.xsize (grid0.coords t) 0 = 256 ∧ win0_5.xsize (grid0.coords t) 1 = 2048 :=
  (by decide +kernel : ∀ t : Fin grid0.N, win0_5.index t 0 = t.val ∧ win0_5.index t 1 = 0 ∧ win0_5.size 0 = 256 ∧ win0_5.size 1 = 2048
    ∧ win0_5.xsize (grid0.coords t) 0 = 256 ∧ win0_5.xsize (grid0.coords t) 1 = 2048)

theorem flushed_dx (t : Fin cfg0.N) : (dats m 0 c).flushed 4 t = ((cfg0.win 4).blk t).view.read (Elt Ideal) (dxArr m c) := by
  rw [Value.flushed4, outs_eq]
  funext j
  rw [View.read_apply]
  obtain ⟨i, k, rfl⟩ : ∃ (i : Fin 256) (k : Fin 2048), j = ix2 i k := ⟨j 0, j 1, eq_ix2 j⟩
  refine (?_ : dxPt m c (pt t.val) (ix2 i k) = _)
  rw [← pt_eq t.val t.isLt, dxPt_at]
  refine congrArg (dxArr m c) (funext fun a => Fin.ext ?_)
  match a with
  | ⟨0, _⟩ => show 256 * t.val + i.val = win0_4.index t 0 * 256 + 1 * i.val; rw [(idx4 t).1]; omega
  | ⟨1, _⟩ => show k.val = win0_4.index t 1 * 2048 + 1 * k.val; rw [(idx4 t).2.1]; omega

theorem flushed_dx' (t : Fin cfg0.N) : (dats m 0 c).flushed 5 t = ((cfg0.win 5).blk t).view.read (Elt Ideal) (dxArr m c) := by
  rw [Value.flushed5, outs_eq]
  funext j
  rw [View.read_apply]
  obtain ⟨i, k, rfl⟩ : ∃ (i : Fin 256) (k : Fin 2048), j = ix2 i k := ⟨j 0, j 1, eq_ix2 j⟩
  refine (?_ : dxPt m c (pt t.val) (ix2 i k) = _)
  rw [← pt_eq t.val t.isLt, dxPt_at]
  refine congrArg (dxArr m c) (funext fun a => Fin.ext ?_)
  match a with
  | ⟨0, _⟩ => show 256 * t.val + i.val = win0_5.index t 0 * 256 + 1 * i.val; rw [(idx5 t).1]; omega
  | ⟨1, _⟩ => show k.val = win0_5.index t 1 * 2048 + 1 * k.val; rw [(idx5 t).2.1]; omega

theorem final_dx : (dats m 0 c).arrAt 4 cfg0.N = dxArr m c :=
  (dats m 0 c).arrAt_eq_of_cover 4 (dxArr m c) (fun t _ => flushed_dx m c t) fun i => by
    have h0 : (i 0 : Nat) < 2048 := (i 0).isLt
    have h1 : (i 1 : Nat) < 2048 := (i 1).isLt
    let t : Fin cfg0.N := ⟨(i 0 : Nat) / 256, lt_of_lt_of_eq (by omega) N_0.symm⟩
    refine ⟨t, flush0_4 t, ?_⟩
    show i ∈ ((View.whole main_v0_0).slice (win0_4.rect t)).set
    rw [View.set_slice_whole, Rect.mem_set_unit]
    intro a
    have e := idx4 t
    have ht : t.val = (i 0 : Nat) / 256 := rfl
    match a with
    | ⟨0, _⟩ => show win0_4.index t 0 * win0_4.size 0 ≤ (i 0 : Nat) ∧ (i 0 : Nat) < win0_4.index t 0 * win0_4.size 0 + win0_4.xsize (grid0.coords t) 0
                rw [e.1, e.2.2.1, e.2.2.2.2.1]; omega
    | ⟨1, _⟩ => show win0_4.index t 1 * win0_4.size 1 ≤ (i 1 : Nat) ∧ (i 1 : Nat) < win0_4.index t 1 * win0_4.size 1 + win0_4.xsize (grid0.coords t) 1
                rw [e.2.1, e.2.2.2.1, e.2.2.2.2.2]; omega

theorem final_dx' : (dats m 0 c).arrAt 5 cfg0.N = dxArr m c :=
  (dats m 0 c).arrAt_eq_of_cover 5 (dxArr m c) (fun t _ => flushed_dx' m c t) fun i => by
    have h0 : (i 0 : Nat) < 2048 := (i 0).isLt
    have h1 : (i 1 : Nat) < 2048 := (i 1).isLt
    let t : Fin cfg0.N := ⟨(i 0 : Nat) / 256, lt_of_lt_of_eq (by omega) N_0.symm⟩
    refine ⟨t, flush0_5 t, ?_⟩
    show i ∈ ((View.whole main_v0_1).slice (win0_5.rect t)).set
    rw [View.set_slice_whole, Rect.mem_set_unit]
    intro a
    have e := idx5 t
    have ht : t.val = (i 0 : Nat) / 256 := rfl
    match a with
    | ⟨0, _⟩ => show win0_5.index t 0 * win0_5.size 0 ≤ (i 0 : Nat) ∧ (i 0 : Nat) < win0_5.index t 0 * win0_5.size 0 + win0_5.xsize (grid0.coords t) 0
                rw [e.1, e.2.2.1, e.2.2.2.2.1]; omega
    | ⟨1, _⟩ => show win0_5.index t 1 * win0_5.size 1 ≤ (i 1 : Nat) ∧ (i 1 : Nat) < win0_5.index t 1 * win0_5.size 1 + win0_5.xsize (grid0.coords t) 1
                rw [e.2.1, e.2.2.2.1, e.2.2.2.2.2]; omega

theorem last_eq (t : Fin cfg0.N) (h : t.val % 8 = 7) : t = t0_7 := by
  have := lt8 t
  exact Fin.ext (show t.val = 7 by omega)

theorem final_dg : (dats m 0 c).arrAt 6 cfg0.N = acc (dgPt m c) 7 :=
  (dats m 0 c).arrAt_eq_of_cover 6 (acc (dgPt m c) 7)
    (fun t hf => by
      obtain rfl := last_eq t ((flush0_6 t).mp hf)
      rw [Value.flushed6, outs_eq]
      have hz' : (fun a => win0_6.index t0_7 a * main_v0_2.ty.shape.size a) = fun _ => 0 := funext fun a => by fin_cases a <;> decide
      exact (Memref.read_access_unit_zero (Elt Ideal) main_v0_2 hz' (fun a => by rw [congrFun hz' a]; simp) _).symm)
    fun i => ⟨t0_7, (flush0_6 t0_7).mpr rfl, by
      show i ∈ ((View.whole main_v0_2).slice (win0_6.rect t0_7)).set
      rw [View.set_slice_whole, Rect.mem_set_unit]
      intro a
      have h0 : (i 0 : Nat) < 1 := (i 0).isLt
      have h1 : (i 1 : Nat) < 2048 := (i 1).isLt
      match a with
      | ⟨0, _⟩ => show win0_6.index t0_7 0 * win0_6.size 0 ≤ (i 0 : Nat) ∧ (i 0 : Nat) < win0_6.index t0_7 0 * win0_6.size 0 + win0_6.xsize (grid0.coords t0_7) 0
                  rw [show win0_6.index t0_7 0 * win0_6.size 0 = 0 from by decide +kernel, show win0_6.xsize (grid0.coords t0_7) 0 = 1 from by decide +kernel]; omega
      | ⟨1, _⟩ => show win0_6.index t0_7 1 * win0_6.size 1 ≤ (i 1 : Nat) ∧ (i 1 : Nat) < win0_6.index t0_7 1 * win0_6.size 1 + win0_6.xsize (grid0.coords t0_7) 1
                  rw [show win0_6.index t0_7 1 * win0_6.size 1 = 0 from by decide +kernel, show win0_6.xsize (grid0.coords t0_7) 1 = 2048 from by decide +kernel]; omega⟩

/-- The gain's gradient: a sum over all rows. -/
theorem dg_final (d : Fin 2048) : (dats m 0 c).arrAt 6 cfg0.N (ix2 0 d) = ∑ s, gDG (rowOf (Ax m c) s) (rowOf (Ah m c) s) d := by
  rw [final_dg]
  refine acc_rows _ _ (fun s => gDG (rowOf (Ax m c) s) (rowOf (Ah m c) s) d) fun t => ?_
  have ht : (⟨(pt t.val).val, lt8 (pt t.val)⟩ : Fin 8) = t := Fin.ext (Nat.mod_eq_of_lt t.isLt)
  unfold dgPt
  rw [dg_at]
  simp only [row_x, row_h, ht]

/-! ### The reference -/

section Reference

open Cert.NormBwdRefIdeal.Read

variable (x : S2048x2048.Idx → EReal) (g : S1x2048.Idx → EReal) (dh dres : S2048x2048.Idx → EReal) (s d : Fin 2048)

theorem ref_m : val_main_v6 (F := Ideal) x (ix2 s 0) = rM cD (rowOf x s) := by
  pointwise [val_main_v6, val_main_v5, val_main_v4, val_main_v3, val_main_v2, val_main_v1, val_main_v0, val_main_cst,
    val_main_cst_0, val_main_cst_1]
  rfl

theorem ref_r : val_main_v7 (F := Ideal) x (ix2 s 0) = rR cD (rowOf x s) := by
  pointwise [val_main_v7]
  rw [ref_m]
  rfl

theorem ref_dn : val_main_v19 (F := Ideal) g dh (ix2 s d) = rowOf dh s d * rowOf g 0 d := by
  pointwise [val_main_v19, val_main_v18]
  rfl

theorem ref_c : val_main_v28 (F := Ideal) x g dh (ix2 s 0) = fC cD (rowOf x s) fun d => rowOf dh s d * rowOf g 0 d := by
  pointwise [val_main_v28, val_main_v27, val_main_v26, val_main_v22, val_main_v21, val_main_v20, val_main_v10, val_main_v9, val_main_v8,
    val_main_cst_2, val_main_cst_4, val_main_cst_5]
  simp only [ref_m, ref_r, ref_dn]
  rfl

theorem ref_dx_at : val_main_v34 (F := Ideal) x g dh dres (ix2 s d)
    = gDX (rowOf x s) (rowOf g 0) (rowOf dh s) (rowOf dres s) d := by
  pointwise [val_main_v34, val_main_v33, val_main_v32, val_main_v31, val_main_v30, val_main_v29, val_main_v25, val_main_v24,
    val_main_v23, val_main_cst_6]
  simp only [ref_r, ref_dn, ref_c, Fin.sum_univ_one]
  unfold gDX
  rw [← fDX_eq (κ := 2048) (by norm_num) cD_eq]
  unfold fDX
  rw [add_comm _ (rowOf dres s d), ← add_assoc, ← add_assoc]
  rfl

/-- The rows' gradient. -/
theorem ref_dx : val_main_v34 (F := Ideal) x g dh dres = dxOf x g dh dres := by
  funext i
  obtain ⟨s, d, rfl⟩ : ∃ (s d : Fin 2048), i = ix2 s d := ⟨i 0, i 1, eq_ix2 i⟩
  exact ref_dx_at ..

/-- The gain's gradient. -/
theorem ref_dg : val_main_v17 (F := Ideal) x dh (ix2 0 d) = ∑ s, gDG (rowOf x s) (rowOf dh s) d := by
  pointwise [val_main_v17, val_main_v16, val_main_v15, val_main_v12, val_main_v11, val_main_cst_3]
  simp only [ref_r]
  exact Finset.sum_congr rfl fun s _ => mul_comm _ _

end Reference

/-! ### The claims -/

/-- Every index of a gain is its row's. -/
theorem ix_row (i : Shape.Idx ⟨2, ![1, 2048]⟩) : ∃ d : Fin 2048, i = ix2 0 d := by
  refine ⟨i 1, funext fun a => Fin.ext ?_⟩
  match a with
  | ⟨0, _⟩ => have h0 : (i 0).val < 1 := (i 0).isLt; show (i 0).val = 0; omega
  | ⟨1, _⟩ => rfl

theorem dg_agree : (dats m 0 c).arrAt 6 cfg0.N = NormBwdRefIdeal.Read.val_main_v17 (F := Ideal) (Ax m c) (Ah m c) := by
  funext i
  obtain ⟨d, rfl⟩ := ix_row i
  rw [dg_final, ref_dg]

theorem algebraic : Cert.algebraic_NormBwdIdeal_NormBwdRefIdeal := by
  intro m g m' g' hp ha
  refine ⟨fun c => (dats m 0 c).arrAt 4 cfg0.N, fun c => (dats m 0 c).arrAt 5 cfg0.N, fun c => (dats m 0 c).arrAt 6 cfg0.N,
    Value.run_blocks m g, (θ_run NormBwdRefIdeal.defs _ _).mono (fun r hr c => ?_) (NormBwdRefIdeal.Value.run m' g')⟩
  obtain ⟨h0, h1, h2, hk⟩ := hr c
  obtain ⟨a0, a1, a2, a3⟩ := ha c
  refine ⟨h0.trans ?_, h1.trans ?_, h2.trans ?_, hk⟩
  · rw [NormBwdRefIdeal.Read.val_main_v34_eq, a0, a1, a2, a3]; exact (ref_dx ..).trans (final_dx m c).symm
  · rw [NormBwdRefIdeal.Read.val_main_v35_eq, a0, a1, a2, a3]; exact (ref_dx ..).trans (final_dx' m c).symm
  · rw [NormBwdRefIdeal.Read.val_main_v17_eq, a0, a2]; exact (dg_agree m c).symm

/-- The reference's run ends with its arguments kept and no counter raised. -/
theorem ref_frame : Cert.quiescent_NormBwdRefIdeal := fun m ρ _ =>
  (θ_run NormBwdRefIdeal.defs _ _).mono (fun r h => ⟨fun c => (h c).2.2.2, sem_eq_zero_of_no_sems (by decide) r.2⟩)
    (NormBwdRefIdeal.Value.run m ρ)

end Cert.BwdNorm

end
-- ==== Proof.BwdMlpNorm.lean ====
module

public import proofs.«01_k».proof.Defs
public import proofs.«01_k».proof.Proof.BwdNorm
public import proofs.«01_k».proof.Proof.Gen.MlpNorm.Frame
public import proofs.«01_k».proof.Proof.Gen.MlpNormIdeal.Value
public import proofs.«01_k».proof.Proof.Gen.MlpNormRefIdeal.Run
public import proofs.«01_k».proof.Proof.Gen.MlpNormRefIdeal.Read
public import Idealize.ShloMosaic.Lib.Tactic

@[expose] public section

noncomputable section

/-! ## The last normalisation's gradient together with the loss: the kernel's four results are the reference's

The rows' and the gain's gradients are those of `Cert.BwdNorm`. Besides, the kernel sums the squares of the cotangent passing by,
block by block, and scales them into the loss; the reference takes the loss as its forward lines do. -/

namespace Cert.BwdMlpNorm

open Cert.MlpNormIdeal Cert.MlpNormIdeal.Gen Idealize.ShloMosaic Idealize.ShloMosaic.TcCoe Idealize.SL.Sem
open Cert.RowBlocks Cert.RowNorm
open Cert.BwdNorm (cD cD_eq rowOf gDX gDG dxOf ix_row)

/-! ### The loss -/

/-- Half of the number of columns. -/
def cHalfD : EReal := Ideal.ofBits .f32 0x44800000#32
/-- One half. -/
def cHalf : EReal := Ideal.ofBits .f32 0x3F000000#32

theorem cHalfD_eq : cHalfD = ((1024 : ℝ) : EReal) := by
  simp [cHalfD, Ideal.ofBits, Ideal.ieee]
  rw [← EReal.coe_mul]
  norm_num
theorem cHalf_eq : cHalf = ((1 / 2 : ℝ) : EReal) := by
  simp [cHalf, Ideal.ofBits, Ideal.ieee]
  rw [← EReal.coe_mul]
  norm_num

/-- One row's part of the loss. -/
def gLoss (r : Fin 2048 → EReal) : EReal := (∑ d, r d * r d) * cHalfD

/-- A block's part of the loss is its rows'. -/
theorem loss_at (r : FVec Ideal S256x2048 .f32) : k0_pay1 (F := Ideal) (k0_pay9 r) (ix2 0 0) = ∑ i, gLoss (rowOf r i) := by
  pointwise [k0_pay1, k0_pay9]
  rw [Finset.sum_comm]
  show _ * cHalfD = _
  unfold gLoss
  rw [cHalfD_eq, sum_mul_coe _ (by norm_num)]
  rfl

/-- One row's part as the reference has it, before it is halved. -/
theorem row_loss (r : Fin 2048 → EReal) : cHalf * Ideal.div (∑ d, (cD * r d) * (cD * r d)) cD = gLoss r := by
  unfold gLoss
  rw [cD_eq, cHalf_eq, cHalfD_eq, Ideal.div_coe (by norm_num)]
  have e : ∀ d, ((2048 : ℝ) : EReal) * r d * (((2048 : ℝ) : EReal) * r d) = r d * r d * ((2048 * 2048 : ℝ) : EReal) := fun d => by
    rw [EReal.coe_mul]; ac_rfl
  simp only [e]
  rw [← sum_mul_coe _ (by norm_num), mul_comm, mul_assoc, mul_assoc, ← EReal.coe_mul, ← EReal.coe_mul]
  norm_num

/-! ### What the body leaves at a point -/

section Point

variable (c : Dev nD) (i : grid0.Coords)
  (a1 : Memref sig .tc .vmem S256x2048 .f32) (h1 : a1.IsWhole) (a2 : Memref sig .tc .vmem S256x2048 .f32) (h2 : a2.IsWhole)
  (a3 : Memref sig .tc .vmem S256x2048 .f32) (h3 : a3.IsWhole) (a4 : Memref sig .tc .vmem S1x2048 .f32) (h4 : a4.IsWhole)
  (a5 : Memref sig .tc .vmem S256x2048 .f32) (h5 : a5.IsWhole) (a6 : Memref sig .tc .vmem S256x2048 .bf16) (h6 : a6.IsWhole)
  (a7 : Memref sig .tc .vmem S1x2048 .f32) (h7 : a7.IsWhole) (a8 : Memref sig .tc .vmem S1x1 .f32) (h8 : a8.IsWhole)
  (x0 x1 x2 : FVec Ideal S256x2048 .f32) (x3 p : FVec Ideal S1x2048 .f32) (q : FVec Ideal S1x1 .f32)

open Cert.BwdNorm (hz)

theorem out_A4 (c0 : cond0_0 i) (c1 : ¬cond0_1 i) (c2 : cond0_2 i) (c3 : ¬cond0_3 i) :
    out0_A_4 (F := Ideal) c i a1 h1 a2 h2 a3 h3 a4 h4 a5 h5 a6 h6 a7 h7 a8 h8 c0 c1 c2 c3 x0 x1 x2 x3 = k0_pay7 (F := Ideal) x0 x3 x1 x2 := by
  unfold out0_A_4
  rw [View.read_writes_eq_canon _ _ _ (cover0_A_4 (F := Ideal) c i a1 h1 a2 h2 a3 h3 a4 h4 a5 h5 a6 h6 a7 h7 a8 h8 c0 c1 c2 c3 x0 x1 x2 x3)]
  unfold kernelRun0_A
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz]

theorem out_A5 (c0 : cond0_0 i) (c1 : ¬cond0_1 i) (c2 : cond0_2 i) (c3 : ¬cond0_3 i) :
    out0_A_5 (F := Ideal) c i a1 h1 a2 h2 a3 h3 a4 h4 a5 h5 a6 h6 a7 h7 a8 h8 c0 c1 c2 c3 x0 x1 x2 x3 = k0_pay8 (F := Ideal) x0 x3 x1 x2 := by
  unfold out0_A_5
  rw [View.read_writes_eq_canon _ _ _ (cover0_A_5 (F := Ideal) c i a1 h1 a2 h2 a3 h3 a4 h4 a5 h5 a6 h6 a7 h7 a8 h8 c0 c1 c2 c3 x0 x1 x2 x3)]
  unfold kernelRun0_A
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz]

theorem out_A6 (c0 : cond0_0 i) (c1 : ¬cond0_1 i) (c2 : cond0_2 i) (c3 : ¬cond0_3 i) :
    out0_A_6 (F := Ideal) c i a1 h1 a2 h2 a3 h3 a4 h4 a5 h5 a6 h6 a7 h7 a8 h8 c0 c1 c2 c3 x0 x1 x2 x3 = k0_pay6 (F := Ideal) x0 x1 := by
  unfold out0_A_6
  rw [View.read_writes_eq_canon _ _ _ (cover0_A_6 (F := Ideal) c i a1 h1 a2 h2 a3 h3 a4 h4 a5 h5 a6 h6 a7 h7 a8 h8 c0 c1 c2 c3 x0 x1 x2 x3)]
  unfold kernelRun0_A
  dsimp only
  sl_unfold_words
  rw [View.canon_unit_zero (S := S1x2048) hz]
  simp only [View.readAt_eq_ld, h1.read_unread, h2.read_unread, h3.read_unread, h4.read_unread,
    View.ld_unit_zero (S := S256x2048) hz, View.ld_unit_zero (S := S1x2048) hz]

theorem out_A7 (c0 : cond0_0 i) (c1 : ¬cond0_1 i) (c2 : cond0_2 i) (c3 : ¬cond0_3 i) :
    out0_A_7 (F := Ideal) c i a1 h1 a2 h2 a3 h3 a4 h4 a5 h5 a6 h6 a7 h7 a8 h8 c0 c1 c2 c3 x0 x1 x2 x3 = k0_pay1 (F := Ideal) (k0_pay9 x2) := by
  unfold out0_A_7
  rw [View.read_writes_eq_canon _ _ _ (cover0_A_7 (F := Ideal) c i a1 h1 a2 h2 a3 h3 a4 h4 a5 h5 a6 h6 a7 h7 a8 h8 c0 c1 c2 c3 x0 x1 x2 x3)]
  unfold kernelRun0_A
  dsimp only
  sl_unfold_words
  rw [View.canon_unit_zero (S := S1x1) hz]
  simp only [View.readAt_eq_ld, h1.read_unread, h2.read_unread, h3.read_unread, h4.read_unread,
    View.ld_unit_zero (S := S256x2048) hz, View.ld_unit_zero (S := S1x2048) hz, View.ld_unit_zero (S := S1x1) hz]

theorem out_B4 (c0 : ¬cond0_0 i) (c1 : cond0_1 i) (c2 : ¬cond0_2 i) (c3 : cond0_3 i) :
    out0_B_4 (F := Ideal) c i a1 h1 a2 h2 a3 h3 a4 h4 a5 h5 a6 h6 a7 h7 a8 h8 c0 c1 c2 c3 x0 x1 x2 x3 p q = k0_pay7 (F := Ideal) x0 x3 x1 x2 := by
  unfold out0_B_4
  rw [View.read_writes_eq_canon _ _ _ (cover0_B_4 (F := Ideal) c i a1 h1 a2 h2 a3 h3 a4 h4 a5 h5 a6 h6 a7 h7 a8 h8 c0 c1 c2 c3 x0 x1 x2 x3 p q)]
  unfold kernelRun0_B
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz]

theorem out_B5 (c0 : ¬cond0_0 i) (c1 : cond0_1 i) (c2 : ¬cond0_2 i) (c3 : cond0_3 i) :
    out0_B_5 (F := Ideal) c i a1 h1 a2 h2 a3 h3 a4 h4 a5 h5 a6 h6 a7 h7 a8 h8 c0 c1 c2 c3 x0 x1 x2 x3 p q = k0_pay8 (F := Ideal) x0 x3 x1 x2 := by
  unfold out0_B_5
  rw [View.read_writes_eq_canon _ _ _ (cover0_B_5 (F := Ideal) c i a1 h1 a2 h2 a3 h3 a4 h4 a5 h5 a6 h6 a7 h7 a8 h8 c0 c1 c2 c3 x0 x1 x2 x3 p q)]
  unfold kernelRun0_B
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz]

theorem out_B6 (c0 : ¬cond0_0 i) (c1 : cond0_1 i) (c2 : ¬cond0_2 i) (c3 : cond0_3 i) :
    out0_B_6 (F := Ideal) c i a1 h1 a2 h2 a3 h3 a4 h4 a5 h5 a6 h6 a7 h7 a8 h8 c0 c1 c2 c3 x0 x1 x2 x3 p q = addf p (k0_pay6 (F := Ideal) x0 x1) := by
  unfold out0_B_6
  rw [View.read_writes_eq_canon _ _ _ (cover0_B_6 (F := Ideal) c i a1 h1 a2 h2 a3 h3 a4 h4 a5 h5 a6 h6 a7 h7 a8 h8 c0 c1 c2 c3 x0 x1 x2 x3 p q)]
  unfold kernelRun0_B
  dsimp only
  sl_unfold_words
  rw [View.canon_unit_zero (S := S1x2048) hz]
  simp only [View.readAt_eq_ld, h1.read_unread, h2.read_unread, h3.read_unread, h4.read_unread, h7.read_unread,
    View.ld_unit_zero (S := S256x2048) hz, View.ld_unit_zero (S := S1x2048) hz]
  unfold k0_pay3
  simp only [shapeCast_self]

theorem out_B7 (c0 : ¬cond0_0 i) (c1 : cond0_1 i) (c2 : ¬cond0_2 i) (c3 : cond0_3 i) :
    out0_B_7 (F := Ideal) c i a1 h1 a2 h2 a3 h3 a4 h4 a5 h5 a6 h6 a7 h7 a8 h8 c0 c1 c2 c3 x0 x1 x2 x3 p q = addf q (k0_pay1 (F := Ideal) (k0_pay9 x2)) := by
  unfold out0_B_7
  rw [View.read_writes_eq_canon _ _ _ (cover0_B_7 (F := Ideal) c i a1 h1 a2 h2 a3 h3 a4 h4 a5 h5 a6 h6 a7 h7 a8 h8 c0 c1 c2 c3 x0 x1 x2 x3 p q)]
  unfold kernelRun0_B
  dsimp only
  sl_unfold_words
  rw [View.canon_unit_zero (S := S1x1) hz]
  simp only [View.readAt_eq_ld, h1.read_unread, h2.read_unread, h3.read_unread, h4.read_unread, h8.read_unread,
    View.ld_unit_zero (S := S256x2048) hz, View.ld_unit_zero (S := S1x2048) hz, View.ld_unit_zero (S := S1x1) hz]
  unfold k0_pay2
  simp only [shapeCast_self]

end Point

/-! ### The blocks of the arrays -/

variable (m : (ℓ : Loc nD τ sig) → Buf (Elt Ideal) ℓ) (c : Dev nD)

/-- The rows, the gain, the normalised rows' cotangent and the cotangent passing by. -/
abbrev Ax : S2048x2048.Idx → EReal := m ((c : Thread nD τ).loc main_arg0)
abbrev Ag : S1x2048.Idx → EReal := m ((c : Thread nD τ).loc main_arg1)
abbrev Ah : S2048x2048.Idx → EReal := m ((c : Thread nD τ).loc main_arg2)
abbrev Ar : S2048x2048.Idx → EReal := m ((c : Thread nD τ).loc main_arg3)

theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ ∀ a, win0_3.index t a = 0 :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ ∀ a, win0_3.index t a = 0)

theorem lt8 (t : Fin cfg0.N) : t.val < 8 := lt_of_lt_of_eq t.isLt N_0

theorem row_x (t : Fin cfg0.N) (i : Fin 256) : rowOf (iblk m c 0 t : FVec Ideal S256x2048 .f32) i = rowOf (Ax m c) (grow ⟨t.val, lt8 t⟩ i) := by
  funext k
  unfold rowOf iblk
  rw [View.read_apply]
  show V m c main_arg0 _ = m (c.tc.loc main_arg0) _
  unfold V
  congr 1
  funext a
  apply Fin.ext
  match a with
  | ⟨0, _⟩ => show win0_0.index t 0 * 256 + 1 * i.val = 256 * t.val + i.val; rw [(idx t).1.1]; omega
  | ⟨1, _⟩ => show win0_0.index t 1 * 2048 + 1 * k.val = k.val; rw [(idx t).1.2]; omega

theorem row_h (t : Fin cfg0.N) (i : Fin 256) : rowOf (iblk m c 1 t : FVec Ideal S256x2048 .f32) i = rowOf (Ah m c) (grow ⟨t.val, lt8 t⟩ i) := by
  funext k
  unfold rowOf iblk
  rw [View.read_apply]
  show V m c main_arg2 _ = m (c.tc.loc main_arg2) _
  unfold V
  congr 1
  funext a
  apply Fin.ext
  match a with
  | ⟨0, _⟩ => show win0_1.index t 0 * 256 + 1 * i.val = 256 * t.val + i.val; rw [(idx t).2.1.1]; omega
  | ⟨1, _⟩ => show win0_1.index t 1 * 2048 + 1 * k.val = k.val; rw [(idx t).2.1.2]; omega

theorem row_r (t : Fin cfg0.N) (i : Fin 256) : rowOf (iblk m c 2 t : FVec Ideal S256x2048 .f32) i = rowOf (Ar m c) (grow ⟨t.val, lt8 t⟩ i) := by
  funext k
  unfold rowOf iblk
  rw [View.read_apply]
  show V m c main_arg3 _ = m (c.tc.loc main_arg3) _
  unfold V
  congr 1
  funext a
  apply Fin.ext
  match a with
  | ⟨0, _⟩ => show win0_2.index t 0 * 256 + 1 * i.val = 256 * t.val + i.val; rw [(idx t).2.2.1.1]; omega
  | ⟨1, _⟩ => show win0_2.index t 1 * 2048 + 1 * k.val = k.val; rw [(idx t).2.2.1.2]; omega

theorem iblk_g (t : Fin cfg0.N) : (iblk m c 3 t : FVec Ideal S1x2048 .f32) = Ag m c := by
  funext y
  unfold iblk
  rw [View.read_apply]
  show V m c main_arg1 _ = m (c.tc.loc main_arg1) _
  unfold V
  congr 1
  funext a
  apply Fin.ext
  show win0_3.index t a * _ + 1 * (y a).val = (y a).val
  rw [(idx t).2.2.2]; omega

/-! ### Point by point -/

/-- Point `n`. -/
def pt (n : ℕ) : Fin cfg0.N := ⟨n % 8, lt_of_lt_of_eq (Nat.mod_lt _ (by decide)) N_0.symm⟩

theorem pt_eq (n : ℕ) (h : n < cfg0.N) : (⟨n, h⟩ : Fin cfg0.N) = pt n :=
  Fin.ext (Nat.mod_eq_of_lt (lt_of_lt_of_eq h N_0)).symm

def dxPt (t : Fin cfg0.N) : FVec Ideal S256x2048 .f32 := k0_pay7 (F := Ideal) (iblk m c 0 t) (iblk m c 3 t) (iblk m c 1 t) (iblk m c 2 t)
def dxPt' (t : Fin cfg0.N) : FVec Ideal S256x2048 .bf16 := k0_pay8 (F := Ideal) (iblk m c 0 t) (iblk m c 3 t) (iblk m c 1 t) (iblk m c 2 t)
def dgPt (n : ℕ) : FVec Ideal S1x2048 .f32 := k0_pay6 (F := Ideal) (iblk m c 0 (pt n)) (iblk m c 1 (pt n))

def lossPt (n : ℕ) : FVec Ideal S1x1 .f32 := k0_pay1 (F := Ideal) (k0_pay9 (iblk m c 2 (pt n)))

/-- What the output blocks hold after point `n`. -/
theorem outs_eq : ∀ (n : ℕ) (h : n < cfg0.N), outsAt0 m c n h
    = (dxPt m c (pt n), dxPt' m c (pt n), acc (dgPt m c) n, acc (lossPt m c) n)
  | 0, h => by
    refine (outsAt0_A m c ⟨0, h⟩ rfl (Nat.not_succ_le_zero 0) rfl (Nat.not_succ_le_zero 0)).trans ?_
    rw [out_A4, out_A5, out_A6, out_A7, pt_eq 0 h]
    rfl
  | n + 1, h => by
    have hN : cfg0.N = 8 := N_0
    have h0 : ¬(⟨n + 1, h⟩ : Fin cfg0.N).val % 8 = 0 := by dsimp only; omega
    have h1 : 1 ≤ (⟨n + 1, h⟩ : Fin cfg0.N).val := Nat.succ_le_succ (Nat.zero_le n)
    refine (outsAt0_B m c ⟨n + 1, h⟩ h0 h1 h0 h1).trans ?_
    rw [out_B4, out_B5, out_B6, out_B7, pt_eq (n + 1) h]
    have e := outs_eq n (Nat.lt_of_succ_lt h)
    have e' : ∀ k (hk : k < cfg0.N), k = n → outsAt0 m c k hk
        = (dxPt m c (pt n), dxPt' m c (pt n), acc (dgPt m c) n, acc (lossPt m c) n) := by
      rintro k hk rfl; exact e
    rw [e' ((pt (n + 1)).val - 1) _ (by show (n + 1) % 8 - 1 = n; omega)]
    rfl

/-! ### The final arrays -/

/-- The rows' gradient as an array. -/
def dxArr : S2048x2048.Idx → EReal := dxOf (Ax m c) (Ag m c) (Ah m c) (Ar m c)

theorem dxPt_at (t : Fin cfg0.N) (i : Fin 256) (d : Fin 2048) : dxPt m c t (ix2 i d) = dxArr m c (ix2 (grow ⟨t.val, lt8 t⟩ i) d) := by
  refine (Cert.BwdNorm.dx_at (iblk m c 0 t) (iblk m c 1 t) (iblk m c 2 t) (iblk m c 3 t) i d).trans ?_
  rw [row_x, row_h, row_r, iblk_g]
  rfl

theorem idx4 : ∀ t : Fin cfg0.N, win0_4.index t 0 = t.val ∧ win0_4.index t 1 = 0 ∧ win0_4.size 0 = 256 ∧ win0_4.size 1 = 2048
    ∧ win0_4.xsize (grid0.coords t) 0 = 256 ∧ win0_4.xsize (grid0.coords t) 1 = 2048 :=
  (by decide +kernel : ∀ t : Fin grid0.N, win0_4.index t 0 = t.val ∧ win0_4.index t 1 = 0 ∧ win0_4.size 0 = 256 ∧ win0_4.size 1 = 2048
    ∧ win0_4.xsize (grid0.coords t) 0 = 256 ∧ win0_4.xsize (grid0.coords t) 1 = 2048)

theorem idx5 : ∀ t : Fin cfg0.N, win0_5.index t 0 = t.val ∧ win0_5.index t 1 = 0 ∧ win0_5.size 0 = 256 ∧ win0_5.size 1 = 2048
    ∧ win0_5.xsize (grid0.coords t) 0 = 256 ∧ win0_5.xsize (grid0.coords t) 1 = 2048 :=
  (by decide +kernel : ∀ t : Fin grid0.N, win0_5.index t 0 = t.val ∧ win0_5.index t 1 = 0 ∧ win0_5.size 0 = 256 ∧ win0_5.size 1 = 2048
    ∧ win0_5.xsize (grid0.coords t) 0 = 256 ∧ win0_5.xsize (grid0.coords t) 1 = 2048)

theorem flushed_dx (t : Fin cfg0.N) : (dats m 0 c).flushed 4 t = ((cfg0.win 4).blk t).view.read (Elt Ideal) (dxArr m c) := by
  rw [Value.flushed4, outs_eq]
  funext j
  rw [View.read_apply]
  obtain ⟨i, k, rfl⟩ : ∃ (i : Fin 256) (k : Fin 2048), j = ix2 i k := ⟨j 0, j 1, eq_ix2 j⟩
  refine (?_ : dxPt m c (pt t.val) (ix2 i k) = _)
  rw [← pt_eq t.val t.isLt, dxPt_at]
  refine congrArg (dxArr m c) (funext fun a => Fin.ext ?_)
  match a with
  | ⟨0, _⟩ => show 256 * t.val + i.val = win0_4.index t 0 * 256 + 1 * i.val; rw [(idx4 t).1]; omega
  | ⟨1, _⟩ => show k.val = win0_4.index t 1 * 2048 + 1 * k.val; rw [(idx4 t).2.1]; omega

theorem flushed_dx' (t : Fin cfg0.N) : (dats m 0 c).flushed 5 t = ((cfg0.win 5).blk t).view.read (Elt Ideal) (dxArr m c) := by
  rw [Value.flushed5, outs_eq]
  funext j
  rw [View.read_apply]
  obtain ⟨i, k, rfl⟩ : ∃ (i : Fin 256) (k : Fin 2048), j = ix2 i k := ⟨j 0, j 1, eq_ix2 j⟩
  refine (?_ : dxPt m c (pt t.val) (ix2 i k) = _)
  rw [← pt_eq t.val t.isLt, dxPt_at]
  refine congrArg (dxArr m c) (funext fun a => Fin.ext ?_)
  match a with
  | ⟨0, _⟩ => show 256 * t.val + i.val = win0_5.index t 0 * 256 + 1 * i.val; rw [(idx5 t).1]; omega
  | ⟨1, _⟩ => show k.val = win0_5.index t 1 * 2048 + 1 * k.val; rw [(idx5 t).2.1]; omega

theorem final_dx : (dats m 0 c).arrAt 4 cfg0.N = dxArr m c :=
  (dats m 0 c).arrAt_eq_of_cover 4 (dxArr m c) (fun t _ => flushed_dx m c t) fun i => by
    have h0 : (i 0 : Nat) < 2048 := (i 0).isLt
    have h1 : (i 1 : Nat) < 2048 := (i 1).isLt
    let t : Fin cfg0.N := ⟨(i 0 : Nat) / 256, lt_of_lt_of_eq (by omega) N_0.symm⟩
    refine ⟨t, flush0_4 t, ?_⟩
    show i ∈ ((View.whole main_v0_0).slice (win0_4.rect t)).set
    rw [View.set_slice_whole, Rect.mem_set_unit]
    intro a
    have e := idx4 t
    have ht : t.val = (i 0 : Nat) / 256 := rfl
    match a with
    | ⟨0, _⟩ => show win0_4.index t 0 * win0_4.size 0 ≤ (i 0 : Nat) ∧ (i 0 : Nat) < win0_4.index t 0 * win0_4.size 0 + win0_4.xsize (grid0.coords t) 0
                rw [e.1, e.2.2.1, e.2.2.2.2.1]; omega
    | ⟨1, _⟩ => show win0_4.index t 1 * win0_4.size 1 ≤ (i 1 : Nat) ∧ (i 1 : Nat) < win0_4.index t 1 * win0_4.size 1 + win0_4.xsize (grid0.coords t) 1
                rw [e.2.1, e.2.2.2.1, e.2.2.2.2.2]; omega

theorem final_dx' : (dats m 0 c).arrAt 5 cfg0.N = dxArr m c :=
  (dats m 0 c).arrAt_eq_of_cover 5 (dxArr m c) (fun t _ => flushed_dx' m c t) fun i => by
    have h0 : (i 0 : Nat) < 2048 := (i 0).isLt
    have h1 : (i 1 : Nat) < 2048 := (i 1).isLt
    let t : Fin cfg0.N := ⟨(i 0 : Nat) / 256, lt_of_lt_of_eq (by omega) N_0.symm⟩
    refine ⟨t, flush0_5 t, ?_⟩
    show i ∈ ((View.whole main_v0_1).slice (win0_5.rect t)).set
    rw [View.set_slice_whole, Rect.mem_set_unit]
    intro a
    have e := idx5 t
    have ht : t.val = (i 0 : Nat) / 256 := rfl
    match a with
    | ⟨0, _⟩ => show win0_5.index t 0 * win0_5.size 0 ≤ (i 0 : Nat) ∧ (i 0 : Nat) < win0_5.index t 0 * win0_5.size 0 + win0_5.xsize (grid0.coords t) 0
                rw [e.1, e.2.2.1, e.2.2.2.2.1]; omega
    | ⟨1, _⟩ => show win0_5.index t 1 * win0_5.size 1 ≤ (i 1 : Nat) ∧ (i 1 : Nat) < win0_5.index t 1 * win0_5.size 1 + win0_5.xsize (grid0.coords t) 1
                rw [e.2.1, e.2.2.2.1, e.2.2.2.2.2]; omega

theorem last_eq (t : Fin cfg0.N) (h : t.val % 8 = 7) : t = t0_7 := by
  have := lt8 t
  exact Fin.ext (show t.val = 7 by omega)

theorem final_dg : (dats m 0 c).arrAt 6 cfg0.N = acc (dgPt m c) 7 :=
  (dats m 0 c).arrAt_eq_of_cover 6 (acc (dgPt m c) 7)
    (fun t hf => by
      obtain rfl := last_eq t ((flush0_6 t).mp hf)
      rw [Value.flushed6, outs_eq]
      have hz' : (fun a => win0_6.index t0_7 a * main_v0_2.ty.shape.size a) = fun _ => 0 := funext fun a => by fin_cases a <;> decide
      exact (Memref.read_access_unit_zero (Elt Ideal) main_v0_2 hz' (fun a => by rw [congrFun hz' a]; simp) _).symm)
    fun i => ⟨t0_7, (flush0_6 t0_7).mpr rfl, by
      show i ∈ ((View.whole main_v0_2).slice (win0_6.rect t0_7)).set
      rw [View.set_slice_whole, Rect.mem_set_unit]
      intro a
      have h0 : (i 0 : Nat) < 1 := (i 0).isLt
      have h1 : (i 1 : Nat) < 2048 := (i 1).isLt
      match a with
      | ⟨0, _⟩ => show win0_6.index t0_7 0 * win0_6.size 0 ≤ (i 0 : Nat) ∧ (i 0 : Nat) < win0_6.index t0_7 0 * win0_6.size 0 + win0_6.xsize (grid0.coords t0_7) 0
                  rw [show win0_6.index t0_7 0 * win0_6.size 0 = 0 from by decide +kernel, show win0_6.xsize (grid0.coords t0_7) 0 = 1 from by decide +kernel]; omega
      | ⟨1, _⟩ => show win0_6.index t0_7 1 * win0_6.size 1 ≤ (i 1 : Nat) ∧ (i 1 : Nat) < win0_6.index t0_7 1 * win0_6.size 1 + win0_6.xsize (grid0.coords t0_7) 1
                  rw [show win0_6.index t0_7 1 * win0_6.size 1 = 0 from by decide +kernel, show win0_6.xsize (grid0.coords t0_7) 1 = 2048 from by decide +kernel]; omega⟩

theorem final_loss : (dats m 0 c).arrAt 7 cfg0.N = acc (lossPt m c) 7 :=
  (dats m 0 c).arrAt_eq_of_cover 7 (acc (lossPt m c) 7)
    (fun t hf => by
      obtain rfl := last_eq t ((flush0_7 t).mp hf)
      rw [Value.flushed7, outs_eq]
      have hz' : (fun a => win0_7.index t0_7 a * main_v0_3.ty.shape.size a) = fun _ => 0 := funext fun a => by fin_cases a <;> decide
      exact (Memref.read_access_unit_zero (Elt Ideal) main_v0_3 hz' (fun a => by rw [congrFun hz' a]; simp) _).symm)
    fun i => ⟨t0_7, (flush0_7 t0_7).mpr rfl, by
      show i ∈ ((View.whole main_v0_3).slice (win0_7.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_7.index t0_7 0 * win0_7.size 0 ≤ (i 0 : Nat) ∧ (i 0 : Nat) < win0_7.index t0_7 0 * win0_7.size 0 + win0_7.xsize (grid0.coords t0_7) 0
                  rw [show win0_7.index t0_7 0 * win0_7.size 0 = 0 from by decide +kernel, show win0_7.xsize (grid0.coords t0_7) 0 = 1 from by decide +kernel]; omega
      | ⟨1, _⟩ => show win0_7.index t0_7 1 * win0_7.size 1 ≤ (i 1 : Nat) ∧ (i 1 : Nat) < win0_7.index t0_7 1 * win0_7.size 1 + win0_7.xsize (grid0.coords t0_7) 1
                  rw [show win0_7.index t0_7 1 * win0_7.size 1 = 0 from by decide +kernel, show win0_7.xsize (grid0.coords t0_7) 1 = 1 from by decide +kernel]; omega⟩

theorem lastPt (t : Fin 8) : (⟨(pt t.val).val, lt8 (pt t.val)⟩ : Fin 8) = t := Fin.ext (Nat.mod_eq_of_lt t.isLt)

/-- The gain's gradient: a sum over all rows. -/
theorem dg_final (d : Fin 2048) : (dats m 0 c).arrAt 6 cfg0.N (ix2 0 d) = ∑ s, gDG (rowOf (Ax m c) s) (rowOf (Ah m c) s) d := by
  rw [final_dg]
  refine acc_rows _ _ (fun s => gDG (rowOf (Ax m c) s) (rowOf (Ah m c) s) d) fun t => ?_
  refine (Cert.BwdNorm.dg_at (iblk m c 0 (pt t.val)) (iblk m c 1 (pt t.val)) d).trans ?_
  simp only [row_x, row_h, lastPt]

/-- The loss: a sum over all rows. -/
theorem loss_final : (dats m 0 c).arrAt 7 cfg0.N (ix2 0 0) = ∑ s, gLoss (rowOf (Ar m c) s) := by
  rw [final_loss]
  refine acc_rows _ _ (fun s => gLoss (rowOf (Ar m c) s)) fun t => ?_
  refine (loss_at (iblk m c 2 (pt t.val))).trans ?_
  simp only [row_r, lastPt]

/-! ### The reference -/

section Reference

open Cert.MlpNormRefIdeal.Read

variable (x : S2048x2048.Idx → EReal) (g : S1x2048.Idx → EReal) (dh dres : S2048x2048.Idx → EReal) (s d : Fin 2048)

/-- The rows' gradient. -/
theorem ref_dx : val_main_v34 (F := Ideal) x g dh dres = dxOf x g dh dres := Cert.BwdNorm.ref_dx x g dh dres

/-- The gain's gradient. -/
theorem ref_dg : val_main_v17 (F := Ideal) x dh (ix2 0 d) = ∑ s, gDG (rowOf x s) (rowOf dh s) d := Cert.BwdNorm.ref_dg x dh d

/-- A row's mean square of the residual. -/
theorem ref_row : val_main_v40 (F := Ideal) dres (ix1 s) = Ideal.div (∑ d, (cD * rowOf dres s d) * (cD * rowOf dres s d)) cD := by
  pointwise [val_main_v40, val_main_v39, val_main_v38, val_main_v37, val_main_v36, val_main_v35, val_main_cst_7, val_main_cst_8,
    val_main_cst_9]
  rfl

/-- The loss. -/
theorem ref_loss : val_main_v44 (F := Ideal) dres (ix2 0 0) = ∑ s, gLoss (rowOf dres s) := by
  pointwise [val_main_v44, val_main_v42, val_main_v41, val_main_cst_10, val_main_cst_11]
  simp only [ref_row]
  show cHalf * _ = _
  rw [mul_comm, cHalf_eq, sum_mul_coe _ (by norm_num), ← cHalf_eq]
  exact Finset.sum_congr rfl fun s _ => (mul_comm _ _).trans (row_loss _)

end Reference

/-! ### The claims -/

theorem dg_agree : (dats m 0 c).arrAt 6 cfg0.N = MlpNormRefIdeal.Read.val_main_v17 (F := Ideal) (Ax m c) (Ah m c) := by
  funext i
  obtain ⟨d, rfl⟩ := ix_row i
  rw [dg_final, ref_dg]

theorem loss_agree : (dats m 0 c).arrAt 7 cfg0.N = MlpNormRefIdeal.Read.val_main_v44 (F := Ideal) (Ar m c) := by
  funext i
  obtain rfl : i = ix2 0 0 := funext fun a => Fin.ext (by
    match a with
    | ⟨0, _⟩ => have h0 : (i 0).val < 1 := (i 0).isLt; show (i 0).val = 0; omega
    | ⟨1, _⟩ => have h1 : (i 1).val < 1 := (i 1).isLt; show (i 1).val = 0; omega)
  rw [loss_final, ref_loss]

theorem algebraic : Cert.algebraic_MlpNormIdeal_MlpNormRefIdeal := by
  intro m g m' g' hp ha
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run MlpNormRefIdeal.defs _ _).mono (fun r hr c => ?_) (MlpNormRefIdeal.Value.run m' g')⟩
  obtain ⟨h0, h1, h2, h3, hk⟩ := hr c
  obtain ⟨a0, a1, a2, a3⟩ := ha c
  refine ⟨h0.trans ?_, h1.trans ?_, h2.trans ?_, h3.trans ?_, hk⟩
  · rw [MlpNormRefIdeal.Read.val_main_v34_eq, a0, a1, a2, a3]; exact (ref_dx ..).trans (final_dx m c).symm
  · rw [MlpNormRefIdeal.Read.val_main_v43_eq, a0, a1, a2, a3]; exact (ref_dx ..).trans (final_dx' m c).symm
  · rw [MlpNormRefIdeal.Read.val_main_v17_eq, a0, a2]; exact (dg_agree m c).symm
  · rw [MlpNormRefIdeal.Read.val_main_v44_eq, a3]; exact (loss_agree m c).symm

/-- The reference's run ends with its arguments kept and no counter raised. -/
theorem ref_frame : Cert.quiescent_MlpNormRefIdeal := fun m ρ _ =>
  (θ_run MlpNormRefIdeal.defs _ _).mono (fun r h => ⟨fun c => (h c).2.2.2.2, sem_eq_zero_of_no_sems (by decide) r.2⟩)
    (MlpNormRefIdeal.Value.run m ρ)

end Cert.BwdMlpNorm

end
-- ==== Proof.MmCq.lean ====
module

public import proofs.«01_k».proof.Defs
public import proofs.«01_k».proof.Proof.MmTile
public import proofs.«01_k».proof.Proof.Gen.Cq.Frame
public import proofs.«01_k».proof.Proof.Gen.CqIdeal.Value
public import proofs.«01_k».proof.Proof.Gen.CqRefIdeal.Run
public import proofs.«01_k».proof.Proof.Gen.CqRefIdeal.Read

@[expose] public section

noncomputable section

/-! ## The cross-attention's queries: `hc · w_cq` -/

namespace Cert.MmCq

open Cert.CqIdeal Cert.CqIdeal.Gen Idealize.ShloMosaic

/-- One block from the blocks it is made of. -/
theorem tile (x0 : FVec Ideal S1024x2048 .bf16) (x1 : FVec Ideal S2048x512 .bf16) (i : Fin 1024) (j : Fin 512) :
    out0_2 (F := Ideal) x0 x1 (ix2 i j) = ∑ s : Fin 2048, x0 (ix2 i s) * x1 (ix2 s j) := by
  unfold out0_2
  rw [View.canon_unit_zero (S := S1024x512) Mm.zero2]
  simp only [View.ld_unit_zero (S := S1024x2048) Mm.zero2, View.ld_unit_zero (S := S2048x512) Mm.zero2]
  pointwise [k0_pay1]

theorem idx (t : Fin cfg0.N) : win0_0.index t 0 = win0_2.index t 0 ∧ win0_0.index t 1 = 0 ∧ win0_1.index t 0 = 0 ∧ win0_1.index t 1 = win0_2.index t 1
    ∧ win0_2.size 0 = 1024 ∧ win0_2.size 1 = 512 ∧ win0_2.xsize (grid0.coords t) 0 = 1024 ∧ win0_2.xsize (grid0.coords t) 1 = 512 :=
  by revert t; decide +kernel

theorem onto (p : Fin 2) (q : Fin 1) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The product as a function of the arrays. -/
def prod (h : S2048x2048.Idx → EReal) (w : S2048x512.Idx → EReal) : S2048x512.Idx → EReal :=
  fun i => ∑ s : Fin 2048, h (ix2 (i 0) s) * w (ix2 s (i 1))

abbrev G : S2048x512.Idx → EReal := prod (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 1024) (k : Fin 512), j = ix2 i k := ⟨j 0, j 1, eq_ix2 j⟩
  refine (?_ : out0_2 (iblk m c 0 t) (iblk m c 1 t) (ix2 i k) = _)
  obtain ⟨e0, e0', e1, e1', -⟩ := idx t
  rw [tile]
  show _ = G m c (((cfg0.win 2).blk t).view.emb (ix2 i k))
  unfold G prod
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 1024 + 1 * i.val = win0_2.index t 0 * 1024 + 1 * i.val; rw [e0]
    · show win0_0.index t 1 * 2048 + 1 * x.val = x.val; rw [e0']; omega
  · unfold iblk
    rw [View.read_apply]
    refine (congrFun (V_main_arg1 m c) _).trans (congrArg (m (c.tc.loc main_arg1)) (Mm.ix_ext ?_ ?_))
    · show win0_1.index t 0 * 2048 + 1 * x.val = x.val; rw [e1]; omega
    · show win0_1.index t 1 * 512 + 1 * k.val = win0_2.index t 1 * 512 + 1 * k.val; rw [e1']

theorem final : (dats m 0 c).arrAt 2 cfg0.N = G m c :=
  (dats m 0 c).arrAt_eq_of_cover 2 (G m c) (fun t _ => flushed m c t) fun i => by
    have h0 : (i 0 : Nat) < 2048 := (i 0).isLt
    have h1 : (i 1 : Nat) < 512 := (i 1).isLt
    obtain ⟨t, hf, e0, e1⟩ := onto ⟨(i 0 : Nat) / 1024, by omega⟩ ⟨(i 1 : Nat) / 512, by omega⟩
    obtain ⟨-, -, -, -, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 e1 s0 s1 z0 z1

/-- The reference's product, read off its operations. -/
theorem ref_at (h : FVec Ideal S2048x2048 .bf16) (w : FVec Ideal S2048x512 .bf16) :
    CqRefIdeal.Read.val_main_v2 (F := Ideal) h w = prod h w := by
  funext i
  obtain ⟨a, b, rfl⟩ : ∃ (a : Fin 2048) (b : Fin 512), i = ix2 a b := ⟨i 0, i 1, eq_ix2 i⟩
  unfold prod
  rw [← CqRefIdeal.Read.val_main_v2_eq]
  pointwise []

theorem algebraic : Cert.algebraic_CqIdeal_CqRefIdeal := by
  intro m g m' g' _ ha
  refine ⟨fun c => (dats m 0 c).arrAt 2 cfg0.N, Value.run_blocks m g,
    (θ_run CqRefIdeal.defs _ _).mono (fun r hr c => ?_) (CqRefIdeal.Value.run m' g')⟩
  obtain ⟨h0, hk⟩ := hr c
  obtain ⟨a0, a1⟩ := ha c
  refine ⟨h0.trans ?_, hk⟩
  rw [CqRefIdeal.Read.val_main_v2_eq, a0, a1]
  exact (ref_at ..).trans (final m c).symm

/-- The reference's run ends with its arguments kept and no counter raised. -/
theorem ref_frame : Cert.quiescent_CqRefIdeal := fun m ρ _ =>
  (θ_run CqRefIdeal.defs _ _).mono (fun r h => ⟨fun c => (h c).2, sem_eq_zero_of_no_sems (by decide) r.2⟩)
    (CqRefIdeal.Value.run m ρ)

end Cert.MmCq
-- ==== Proof.MmCkv.lean ====
module

public import proofs.«01_k».proof.Defs
public import proofs.«01_k».proof.Proof.MmTile
public import proofs.«01_k».proof.Proof.Gen.Ckv.Frame
public import proofs.«01_k».proof.Proof.Gen.CkvIdeal.Value
public import proofs.«01_k».proof.Proof.Gen.CkvRefIdeal.Run
public import proofs.«01_k».proof.Proof.Gen.CkvRefIdeal.Read

@[expose] public section

noncomputable section

/-! ## The cross-attention's keys and values: `memh · w_ckv` -/

namespace Cert.MmCkv

open Cert.CkvIdeal Cert.CkvIdeal.Gen Idealize.ShloMosaic

/-- One block from the blocks it is made of. -/
theorem tile (x0 : FVec Ideal S256x2048 .bf16) (x1 : FVec Ideal S2048x1024 .bf16) (i : Fin 256) (j : Fin 1024) :
    out0_2 (F := Ideal) x0 x1 (ix2 i j) = ∑ s : Fin 2048, x0 (ix2 i s) * x1 (ix2 s j) := by
  unfold out0_2
  rw [View.canon_unit_zero (S := S256x1024) Mm.zero2]
  simp only [View.ld_unit_zero (S := S256x2048) Mm.zero2, View.ld_unit_zero (S := S2048x1024) Mm.zero2]
  pointwise [k0_pay1]

theorem idx (t : Fin cfg0.N) : win0_0.index t 0 = win0_2.index t 0 ∧ win0_0.index t 1 = 0 ∧ win0_1.index t 0 = 0 ∧ win0_1.index t 1 = win0_2.index t 1
    ∧ win0_2.size 0 = 256 ∧ win0_2.size 1 = 1024 ∧ win0_2.xsize (grid0.coords t) 0 = 256 ∧ win0_2.xsize (grid0.coords t) 1 = 1024 :=
  by revert t; decide +kernel

theorem onto (p : Fin 1) (q : Fin 1) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The product as a function of the arrays. -/
def prod (h : S256x2048.Idx → EReal) (w : S2048x1024.Idx → EReal) : S256x1024.Idx → EReal :=
  fun i => ∑ s : Fin 2048, h (ix2 (i 0) s) * w (ix2 s (i 1))

abbrev G : S256x1024.Idx → EReal := prod (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 256) (k : Fin 1024), j = ix2 i k := ⟨j 0, j 1, eq_ix2 j⟩
  refine (?_ : out0_2 (iblk m c 0 t) (iblk m c 1 t) (ix2 i k) = _)
  obtain ⟨e0, e0', e1, e1', -⟩ := idx t
  rw [tile]
  show _ = G m c (((cfg0.win 2).blk t).view.emb (ix2 i k))
  unfold G prod
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 256 + 1 * i.val = win0_2.index t 0 * 256 + 1 * i.val; rw [e0]
    · show win0_0.index t 1 * 2048 + 1 * x.val = x.val; rw [e0']; omega
  · unfold iblk
    rw [View.read_apply]
    refine (congrFun (V_main_arg1 m c) _).trans (congrArg (m (c.tc.loc main_arg1)) (Mm.ix_ext ?_ ?_))
    · show win0_1.index t 0 * 2048 + 1 * x.val = x.val; rw [e1]; omega
    · show win0_1.index t 1 * 1024 + 1 * k.val = win0_2.index t 1 * 1024 + 1 * k.val; rw [e1']

theorem final : (dats m 0 c).arrAt 2 cfg0.N = G m c :=
  (dats m 0 c).arrAt_eq_of_cover 2 (G m c) (fun t _ => flushed m c t) fun i => by
    have h0 : (i 0 : Nat) < 256 := (i 0).isLt
    have h1 : (i 1 : Nat) < 1024 := (i 1).isLt
    obtain ⟨t, hf, e0, e1⟩ := onto ⟨(i 0 : Nat) / 256, by omega⟩ ⟨(i 1 : Nat) / 1024, by omega⟩
    obtain ⟨-, -, -, -, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 e1 s0 s1 z0 z1

/-- The reference's product, read off its operations. -/
theorem ref_at (h : FVec Ideal S256x2048 .bf16) (w : FVec Ideal S2048x1024 .bf16) :
    CkvRefIdeal.Read.val_main_v2 (F := Ideal) h w = prod h w := by
  funext i
  obtain ⟨a, b, rfl⟩ : ∃ (a : Fin 256) (b : Fin 1024), i = ix2 a b := ⟨i 0, i 1, eq_ix2 i⟩
  unfold prod
  rw [← CkvRefIdeal.Read.val_main_v2_eq]
  pointwise []

theorem algebraic : Cert.algebraic_CkvIdeal_CkvRefIdeal := by
  intro m g m' g' _ ha
  refine ⟨fun c => (dats m 0 c).arrAt 2 cfg0.N, Value.run_blocks m g,
    (θ_run CkvRefIdeal.defs _ _).mono (fun r hr c => ?_) (CkvRefIdeal.Value.run m' g')⟩
  obtain ⟨h0, hk⟩ := hr c
  obtain ⟨a0, a1⟩ := ha c
  refine ⟨h0.trans ?_, hk⟩
  rw [CkvRefIdeal.Read.val_main_v2_eq, a0, a1]
  exact (ref_at ..).trans (final m c).symm

/-- The reference's run ends with its arguments kept and no counter raised. -/
theorem ref_frame : Cert.quiescent_CkvRefIdeal := fun m ρ _ =>
  (θ_run CkvRefIdeal.defs _ _).mono (fun r h => ⟨fun c => (h c).2, sem_eq_zero_of_no_sems (by decide) r.2⟩)
    (CkvRefIdeal.Value.run m ρ)

end Cert.MmCkv
-- ==== Proof.MmCo.lean ====
module

public import proofs.«01_k».proof.Defs
public import proofs.«01_k».proof.Proof.MmTile
public import proofs.«01_k».proof.Proof.Gen.Co.Frame
public import proofs.«01_k».proof.Proof.Gen.CoIdeal.Value
public import proofs.«01_k».proof.Proof.Gen.CoRefIdeal.Run
public import proofs.«01_k».proof.Proof.Gen.CoRefIdeal.Read

@[expose] public section

noncomputable section

/-! ## The cross-attention's output product with its residual: `x + oc · w_co`, the weight in eight column chunks -/

namespace Cert.MmCo

open Cert.CoIdeal Cert.CoIdeal.Gen Idealize.ShloMosaic

/-- One block from the blocks it is made of. -/
theorem tile (x0 : FVec Ideal S1024x512 .bf16) (x1 : FVec Ideal S1x512x256 .bf16) (x2 : FVec Ideal S1024x256 .f32) (i : Fin 1024) (j : Fin 256) :
    out0_3 (F := Ideal) x0 x1 x2 (ix2 i j) = (∑ s : Fin 512, x0 (ix2 i s) * x1 (ix3 0 s j)) + x2 (ix2 i j) := by
  unfold out0_3
  rw [View.canon_unit_zero (S := S1024x256) Mm.zero2]
  simp only [View.ld_unit_zero (S := S1024x512) Mm.zero2, View.ld_unit_zero (S := S1x512x256) Mm.zero3, View.ld_unit_zero (S := S1024x256) Mm.zero2]
  pointwise [k0_pay1]

theorem idx (t : Fin cfg0.N) : win0_0.index t 0 = win0_3.index t 0 ∧ win0_0.index t 1 = 0 ∧ win0_1.index t 0 = win0_3.index t 1 ∧ win0_1.index t 1 = 0 ∧ win0_1.index t 2 = 0 ∧ win0_2.index t 0 = win0_3.index t 0 ∧ win0_2.index t 1 = win0_3.index t 1
    ∧ win0_3.size 0 = 1024 ∧ win0_3.size 1 = 256 ∧ win0_3.xsize (grid0.coords t) 0 = 1024 ∧ win0_3.xsize (grid0.coords t) 1 = 256 :=
  by revert t; decide +kernel

theorem onto (p : Fin 2) (q : Fin 8) : ∃ t : Fin cfg0.N, (cfg0.win 3).flush t = true ∧ win0_3.index t 0 = p.val ∧ win0_3.index t 1 = q.val :=
  by revert p q; decide +kernel

variable (m : (ℓ : Loc nD τ sig) → Buf (Elt Ideal) ℓ) (c : Dev nD)

/-- The result as a function of the arrays. -/
def proj (oc : S2048x512.Idx → EReal) (w : S8x512x256.Idx → EReal) (x : S2048x2048.Idx → EReal) : S2048x2048.Idx → EReal :=
  fun i => (∑ s : Fin 512, oc (ix2 (i 0) s) * w (ix3 (Mm.chunk256 (i 1)) s (Mm.off256 (i 1)))) + x i

abbrev G : S2048x2048.Idx → EReal := proj (m (c.tc.loc main_arg0)) (m (c.tc.loc main_arg1)) (m (c.tc.loc main_arg2))

theorem flushed (t : Fin cfg0.N) : (dats m 0 c).flushed 3 t = ((cfg0.win 3).blk t).view.read (Elt Ideal) (G m c) := by
  rw [Value.flushed3]
  funext j
  rw [View.read_apply]
  obtain ⟨i, k, rfl⟩ : ∃ (i : Fin 1024) (k : Fin 256), j = ix2 i k := ⟨j 0, j 1, eq_ix2 j⟩
  refine (?_ : out0_3 (iblk m c 0 t) (iblk m c 1 t) (iblk m c 2 t) (ix2 i k) = _)
  obtain ⟨e0, e0', e1, e1', e1'', e2, e2', -⟩ := idx t
  rw [tile]
  show _ = G m c (((cfg0.win 3).blk t).view.emb (ix2 i k))
  unfold G proj
  refine congrArg₂ (fun a b : EReal => a + b) (Finset.sum_congr rfl fun x _ => congrArg₂ (fun a b : EReal => a * b) ?_ ?_) ?_
  · unfold iblk
    rw [View.read_apply]
    refine (congrFun (V_main_arg0 m c) _).trans (congrArg (m (c.tc.loc main_arg0)) (Mm.ix_ext ?_ ?_))
    · show win0_0.index t 0 * 1024 + 1 * i.val = win0_3.index t 0 * 1024 + 1 * i.val; rw [e0]
    · show win0_0.index t 1 * 512 + 1 * x.val = x.val; rw [e0']; omega
  · unfold iblk
    rw [View.read_apply]
    refine (congrFun (V_main_arg1 m c) _).trans (congrArg (m (c.tc.loc main_arg1)) (Mm.ix_ext3 ?_ ?_ ?_))
    · show win0_1.index t 0 * 1 + 1 * 0 = (win0_3.index t 1 * 256 + 1 * k.val) / 256; rw [e1]; omega
    · show win0_1.index t 1 * 512 + 1 * x.val = x.val; rw [e1']; omega
    · show win0_1.index t 2 * 256 + 1 * k.val = (win0_3.index t 1 * 256 + 1 * k.val) % 256; rw [e1'']; omega
  · unfold iblk
    rw [View.read_apply]
    refine (congrFun (V_main_arg2 m c) _).trans (congrArg (m (c.tc.loc main_arg2)) (Mm.ix_ext ?_ ?_))
    · show win0_2.index t 0 * 1024 + 1 * i.val = win0_3.index t 0 * 1024 + 1 * i.val; rw [e2]
    · show win0_2.index t 1 * 256 + 1 * k.val = win0_3.index t 1 * 256 + 1 * k.val; rw [e2']

theorem final : (dats m 0 c).arrAt 3 cfg0.N = G m c :=
  (dats m 0 c).arrAt_eq_of_cover 3 (G m c) (fun t _ => flushed m c t) fun i => by
    have h0 : (i 0 : Nat) < 2048 := (i 0).isLt
    have h1 : (i 1 : Nat) < 2048 := (i 1).isLt
    obtain ⟨t, hf, e0, e1⟩ := onto ⟨(i 0 : Nat) / 1024, by omega⟩ ⟨(i 1 : Nat) / 256, by omega⟩
    obtain ⟨-, -, -, -, -, -, -, s0, s1, z0, z1⟩ := idx t
    refine ⟨t, hf, ?_⟩
    show i ∈ ((View.whole main_v0).slice (win0_3.rect t)).set
    rw [View.set_slice_whole, Rect.mem_set_unit]
    exact Mm.in_tile i (by decide) (by decide) e0 e1 s0 s1 z0 z1

open CoRefIdeal.Read in
/-- The reference's result, read off its operations. -/
theorem ref_at (oc : FVec Ideal S2048x512 .bf16) (w : FVec Ideal S8x512x256 .bf16) (x : FVec Ideal S2048x2048 .f32) :
    val_main_v5 (F := Ideal) oc w x = proj oc w x := by
  funext i
  obtain ⟨a, b, rfl⟩ : ∃ (a : Fin 2048) (b : Fin 2048), i = ix2 a b := ⟨i 0, i 1, eq_ix2 i⟩
  rw [val_main_v5_apply, val_main_v4_apply]
  refine (add_comm _ _).trans (congrArg (fun p : EReal => p + x (ix2 a b)) ?_)
  refine Finset.sum_congr rfl fun s _ => congrArg₂ (fun a b : EReal => a * b) (congrArg oc (Mm.ix_ext rfl rfl)) ?_
  rw [val_main_v3_apply, val_main_v2_apply]
  refine congrArg w (Mm.ix_ext3 ?_ ?_ ?_)
  · show (s.val * 2048 + b.val) / 256 % 8 = b.val / 256; omega
  · show (s.val * 2048 + b.val) / 2048 = s.val; omega
  · show (s.val * 2048 + b.val) % 256 = b.val % 256; omega

theorem algebraic : Cert.algebraic_CoIdeal_CoRefIdeal := by
  intro m g m' g' _ ha
  refine ⟨fun c => (dats m 0 c).arrAt 3 cfg0.N, Value.run_blocks m g,
    (θ_run CoRefIdeal.defs _ _).mono (fun r hr c => ?_) (CoRefIdeal.Value.run m' g')⟩
  obtain ⟨h0, hk⟩ := hr c
  obtain ⟨a0, a1, a2⟩ := ha c
  refine ⟨h0.trans ?_, hk⟩
  rw [CoRefIdeal.Read.val_main_v5_eq, a0, a1, a2]
  exact (ref_at ..).trans (final m c).symm

/-- The reference's run ends with its arguments kept and no counter raised. -/
theorem ref_frame : Cert.quiescent_CoRefIdeal := fun m ρ _ =>
  (θ_run CoRefIdeal.defs _ _).mono (fun r h => ⟨fun c => (h c).2, sem_eq_zero_of_no_sems (by decide) r.2⟩)
    (CoRefIdeal.Value.run m ρ)

end Cert.MmCo
-- ==== Proof.MmCoDx.lean ====
module

public import proofs.«01_k».proof.Defs
public import proofs.«01_k».proof.Proof.MmTile
public import proofs.«01_k».proof.Proof.Gen.CoDx.Frame
public import proofs.«01_k».proof.Proof.Gen.CoDxIdeal.Value
public import proofs.«01_k».proof.Proof.Gen.CoDxRefIdeal.Run
public import proofs.«01_k».proof.Proof.Gen.CoDxRefIdeal.Read

@[expose] public section

noncomputable section

/-! ## The gradient at the cross-attention's output: `dx · w_coᵀ`, one of the eight column chunks to a point -/

namespace Cert.MmCoDx

open Cert.CoDxIdeal Cert.CoDxIdeal.Gen Idealize.ShloMosaic

section Points

variable (c : Dev nD) (i : grid0.Coords)
  (a3 : Memref sig .tc .vmem S1024x256 .bf16) (h3 : a3.IsWhole) (a4 : Memref sig .tc .vmem S1x512x256 .bf16) (h4 : a4.IsWhole)
  (a5 : Memref sig .tc .vmem S1024x512 .f32) (h5 : a5.IsWhole) (a6 : Memref sig .tc .vmem S1024x512 .f32) (h6 : a6.IsWhole)
  (x0 : FVec Ideal S1024x256 .bf16) (x1 : FVec Ideal S1x512x256 .bf16) (xs : FVec Ideal S1024x512 .f32)

/-- The first chunk's point leaves its product in the accumulator. -/
theorem first (c0 : cond0_0 i) (c1 : ¬cond0_1 i) (c2 : ¬cond0_2 i) :
    sout0_A_0 (F := Ideal) c i a3 h3 a4 h4 a5 h5 a6 h6 c0 c1 c2 x0 x1 = k0_pay1 (F := Ideal) x0 x1 := by
  unfold sout0_A_0
  rw [View.read_writes_eq_canon _ _ _ (scover0_A_0 (F := Ideal) c i a3 h3 a4 h4 a5 h5 a6 h6 c0 c1 c2 x0 x1)]
  unfold kernelRun0_A
  dsimp only
  sl_unfold_words
  rw [View.canon_unit_zero (S := S1024x512) Mm.zero2]
  simp only [View.readAt_eq_ld, h3.read_unread, h4.read_unread, View.ld_unit_zero (S := S1024x256) Mm.zero2,
    View.ld_unit_zero (S := S1x512x256) Mm.zero3]
  unfold k0_pay2
  rw [shapeCast_self]

/-- A later chunk's point adds its product to the accumulator. -/
theorem next (c0 : ¬cond0_0 i) (c1 : cond0_1 i) (c2 : ¬cond0_2 i) :
    sout0_B_0 (F := Ideal) c i a3 h3 a4 h4 a5 h5 a6 h6 c0 c1 c2 x0 x1 xs = addf xs (k0_pay1 (F := Ideal) x0 x1) := by
  unfold sout0_B_0
  rw [View.read_writes_eq_canon _ _ _ (scover0_B_0 (F := Ideal) c i a3 h3 a4 h4 a5 h5 a6 h6 c0 c1 c2 x0 x1 xs)]
  unfold kernelRun0_B
  dsimp only
  sl_unfold_words
  rw [View.canon_unit_zero (S := S1024x512) Mm.zero2]
  simp only [View.readAt_eq_ld, h3.read_unread, h4.read_unread, h6.read_unread, View.ld_unit_zero (S := S1024x256) Mm.zero2,
    View.ld_unit_zero (S := S1x512x256) Mm.zero3, View.ld_unit_zero (S := S1024x512) Mm.zero2]
  unfold k0_pay3
  simp only [shapeCast_self]

/-- The last chunk's point writes out the accumulator and its own product added up. -/
theorem last (c0 : ¬cond0_0 i) (c1 : cond0_1 i) (c2 : cond0_2 i) :
    out0_C_2 (F := Ideal) c i a3 h3 a4 h4 a5 h5 a6 h6 c0 c1 c2 x0 x1 xs = addf xs (k0_pay1 (F := Ideal) x0 x1) := by
  unfold out0_C_2
  rw [View.read_writes_eq_canon _ _ _ (cover0_C_2 (F := Ideal) c i a3 h3 a4 h4 a5 h5 a6 h6 c0 c1 c2 x0 x1 xs)]
  unfold kernelRun0_C
  dsimp only
  sl_unfold_words
  rw [View.canon_unit_zero (S := S1024x512) Mm.zero2]
  rw [View.readCov_unit_zero (S := S1024x512) _ Mm.zero2]
  simp only [View.readAt_eq_ld, h3.read_unread, h4.read_unread, h6.read_unread, View.ld_unit_zero (S := S1024x256) Mm.zero2,
    View.ld_unit_zero (S := S1x512x256) Mm.zero3, View.ld_unit_zero (S := S1024x512) Mm.zero2]
  unfold k0_pay3
  simp only [shapeCast_self]

end Points

/-- One chunk's product, entry by entry. -/
theorem prod (x0 : FVec Ideal S1024x256 .bf16) (x1 : FVec Ideal S1x512x256 .bf16) (i : Fin 1024) (j : Fin 512) :
    k0_pay1 (F := Ideal) x0 x1 (ix2 i j) = ∑ x : Fin 256, x0 (ix2 i x) * x1 (ix3 0 j x) := by
  pointwise [k0_pay1]

theorem idx (t : Fin cfg0.N) : win0_0.index t 0 = t.val / 8 ∧ win0_0.index t 1 = t.val % 8 ∧ win0_1.index t 0 = t.val % 8 ∧ win0_1.index t 1 = 0
    ∧ win0_1.index t 2 = 0 ∧ win0_2.index t 0 = t.val / 8 ∧ win0_2.index t 1 = 0
    ∧ win0_2.size 0 = 1024 ∧ win0_2.size 1 = 512 ∧ win0_2.xsize (grid0.coords t) 0 = 1024 ∧ win0_2.xsize (grid0.coords t) 1 = 512 :=
  by revert t; decide +kernel

theorem onto (p : Fin 2) : ∃ t : Fin cfg0.N, (cfg0.win 2).flush t = true ∧ win0_2.index t 0 = p.val ∧ win0_2.index t 1 = 0 :=
  by revert p; decide +kernel

variable (m : (ℓ : Loc nD τ sig) → Buf (Elt Ideal) ℓ) (c : Dev nD)

/-- The gradient as a function of the arrays. -/
def grad (dx : S2048x2048.Idx → EReal) (w : S8x512x256.Idx → EReal) : S2048x512.Idx → EReal :=
  fun i => ∑ x : Fin 2048, dx (ix2 (i 0) x) * w (ix3 (Mm.chunk256 x) (i 1) (Mm.off256 x))

abbrev G : S2048x512.Idx → EReal := grad (m (c.tc.loc main_arg0)) (m (c.tc.loc main_arg1))

/-- The sum over chunk `p`, and nothing past the eighth. -/
def stretch (dx : S2048x2048.Idx → EReal) (w : S8x512x256.Idx → EReal) (p : Nat) (j : S2048x512.Idx) : EReal :=
  if h : p < 8 then ∑ x : Fin 256, dx (ix2 (j 0) (Mm.col256 ⟨p, h⟩ x)) * w (ix3 ⟨p, h⟩ (j 1) x) else 0

abbrev piece (p : Nat) (j : S2048x512.Idx) : EReal := stretch (m (c.tc.loc main_arg0)) (m (c.tc.loc main_arg1)) p j

theorem all (j : S2048x512.Idx) : ∑ p ∈ Finset.range 8, piece m c p j = G m c j := by
  unfold G grad
  rw [Mm.sum_parts 8 256 rfl, Finset.sum_range]
  refine Finset.sum_congr rfl fun p _ => ?_
  unfold piece stretch
  rw [dif_pos p.isLt]
  refine Finset.sum_congr rfl fun x _ => congrArg₂ (fun a b : EReal => a * b) rfl (congrArg (m (c.tc.loc main_arg1)) (Mm.ix_ext3 ?_ rfl ?_))
  · show p.val = (256 * p.val + x.val) / 256; omega
  · show x.val = (256 * p.val + x.val) % 256; omega

/-- A point's product from the whole arrays. -/
theorem part (t : Fin cfg0.N) (i : Fin 1024) (k : Fin 512) (j : S2048x512.Idx) (j0 : (j 0).val = t.val / 8 * 1024 + i.val) (j1 : (j 1).val = k.val) :
    k0_pay1 (F := Ideal) (iblk m c 0 t) (iblk m c 1 t) (ix2 i k) = piece m c (t.val % 8) j := by
  obtain ⟨e0, e0', e1, e1', e1'', -⟩ := idx t
  unfold piece stretch
  rw [dif_pos (Nat.mod_lt _ (by decide))]
  refine (prod ..).trans (Finset.sum_congr rfl fun x _ => congrArg₂ (fun a b : EReal => a * b) ?_ ?_)
  · unfold iblk
    rw [View.read_apply]
    refine (congrFun (V_main_arg0 m c) _).trans (congrArg (m (c.tc.loc main_arg0)) (Mm.ix_ext ?_ ?_))
    · show win0_0.index t 0 * 1024 + 1 * i.val = (j 0).val; rw [e0]; omega
    · show win0_0.index t 1 * 256 + 1 * x.val = 256 * (t.val % 8) + x.val; rw [e0']; omega
  · unfold iblk
    rw [View.read_apply]
    refine (congrFun (V_main_arg1 m c) _).trans (congrArg (m (c.tc.loc main_arg1)) (Mm.ix_ext3 ?_ ?_ ?_))
    · show win0_1.index t 0 * 1 + 1 * 0 = t.val % 8; rw [e1]; omega
    · show win0_1.index t 1 * 512 + 1 * k.val = (j 1).val; rw [e1']; omega
    · show win0_1.index t 2 * 256 + 1 * x.val = x.val; rw [e1'']; omega

/-- What a point short of the last leaves in the accumulator: the sum of the chunks so far. -/
theorem carried (r : Nat) (hr : r < 7) : ∀ (s : Fin cfg0.N) (_ : s.val % 8 = r) (i : Fin 1024) (k : Fin 512) (j : S2048x512.Idx)
    (_ : (j 0).val = s.val / 8 * 1024 + i.val) (_ : (j 1).val = k.val),
    (outsAt0 m c s.val s.isLt).2 (ix2 i k) = ∑ p ∈ Finset.range (r + 1), piece m c p j := by
  induction r with
  | zero =>
    intro s hs i k j j0 j1
    rw [outsAt0_A m c s hs (by omega) (by omega)]
    dsimp only
    rw [first, part m c s i k j j0 j1, hs, Finset.sum_range_one]
  | succ r ih =>
    intro s hs i k j j0 j1
    rw [outsAt0_B m c s (by omega) (by omega) (by omega)]
    dsimp only
    rw [next, Mm.add_at, part m c s i k j j0 j1, hs, Finset.sum_range_succ]
    exact congrArg (fun a : EReal => a + piece m c (r + 1) j) (ih (by omega) ⟨s.val - 1, Nat.lt_of_le_of_lt (Nat.sub_le _ _) s.isLt⟩
      (by dsimp only; omega) i k j (by dsimp only; omega) j1)

theorem flushed (t : Fin cfg0.N) (ht : (cfg0.win 2).flush t = true) :
    (dats m 0 c).flushed 2 t = ((cfg0.win 2).blk t).view.read (Elt Ideal) (G m c) := by
  have ho : t.val % 8 = 7 := (flush0_2 t).mp ht
  obtain ⟨-, -, -, -, -, p0, p1, -⟩ := idx t
  rw [Value.flushed2_C m c t (by omega) (by omega) ho, last]
  funext j
  rw [View.read_apply]
  obtain ⟨i, k, rfl⟩ : ∃ (i : Fin 1024) (k : Fin 512), j = ix2 i k := ⟨j 0, j 1, eq_ix2 j⟩
  have k0 : ((((cfg0.win 2).blk t).view.emb (ix2 i k)) 0 : Fin 2048).val = t.val / 8 * 1024 + i.val := by
    show win0_2.index t 0 * 1024 + 1 * i.val = _; rw [p0]; omega
  have k1 : ((((cfg0.win 2).blk t).view.emb (ix2 i k)) 1 : Fin 512).val = k.val := by
    show win0_2.index t 1 * 512 + 1 * k.val = _; rw [p1]; omega
  generalize hA : addf (outsAt0 m c (t.val - 1) (Nat.lt_of_le_of_lt (Nat.sub_le _ _) t.isLt)).2 (k0_pay1 (F := Ideal) (iblk m c 0 t) (iblk m c 1 t)) = A
  refine (?_ : A (ix2 i k) = _)
  rw [← hA]
  refine Eq.trans ?_ (cast_eq _ _).symm
  rw [Mm.add_at, part m c t i k _ k0 k1, ho]
  refine Eq.trans ?_ (all m c _)
  rw [Finset.sum_range_succ]
  exact congrArg (fun a : EReal => a + piece m c 7 _) (carried m c 6 (by decide) ⟨t.val - 1, Nat.lt_of_le_of_lt (Nat.sub_le _ _) t.isLt⟩
    (by dsimp only; omega) i k _ (k0.trans (by dsimp only; omega)) k1)

theorem final : (dats m 0 c).arrAt 2 cfg0.N = G m c :=
  (dats m 0 c).arrAt_eq_of_cover 2 (G m c) (fun t ht => flushed m c t ht) fun i => by
    have h0 : (i 0 : Nat) < 2048 := (i 0).isLt
    have h1 : (i 1 : Nat) < 512 := (i 1).isLt
    obtain ⟨t, hf, e0, e1⟩ := onto ⟨(i 0 : Nat) / 1024, by omega⟩
    obtain ⟨-, -, -, -, -, -, -, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 (e1.trans (by omega)) s0 s1 z0 z1

open CoDxRefIdeal.Read in
/-- The reference's gradient, read off its operations. -/
theorem ref_at (dx : FVec Ideal S2048x2048 .bf16) (w : FVec Ideal S8x512x256 .bf16) : val_main_v6 (F := Ideal) dx w = grad dx w := by
  funext i
  obtain ⟨a, b, rfl⟩ : ∃ (a : Fin 2048) (b : Fin 512), i = ix2 a b := ⟨i 0, i 1, eq_ix2 i⟩
  rw [val_main_v6_apply]
  unfold grad
  refine Finset.sum_congr rfl fun x _ => congrArg₂ (fun a b : EReal => a * b) ?_ ?_
  · exact congrArg dx (Mm.ix_ext rfl rfl)
  · rw [val_main_v3_apply, val_main_v2_apply]
    refine congrArg w (Mm.ix_ext3 ?_ ?_ ?_)
    · show (b.val * 2048 + x.val) / 256 % 8 = x.val / 256; omega
    · show (b.val * 2048 + x.val) / 2048 = b.val; omega
    · show (b.val * 2048 + x.val) % 256 = x.val % 256; omega

theorem algebraic : Cert.algebraic_CoDxIdeal_CoDxRefIdeal := by
  intro m g m' g' _ ha
  refine ⟨fun c => (dats m 0 c).arrAt 2 cfg0.N, Value.run_blocks m g,
    (θ_run CoDxRefIdeal.defs _ _).mono (fun r hr c => ?_) (CoDxRefIdeal.Value.run m' g')⟩
  obtain ⟨h0, hk⟩ := hr c
  obtain ⟨a0, a1⟩ := ha c
  refine ⟨h0.trans ?_, hk⟩
  rw [CoDxRefIdeal.Read.val_main_v6_eq, a0, a1]
  exact (ref_at ..).trans (final m c).symm

/-- The reference's run ends with its arguments kept and no counter raised. -/
theorem ref_frame : Cert.quiescent_CoDxRefIdeal := fun m ρ _ =>
  (θ_run CoDxRefIdeal.defs _ _).mono (fun r h => ⟨fun c => (h c).2, sem_eq_zero_of_no_sems (by decide) r.2⟩)
    (CoDxRefIdeal.Value.run m ρ)

end Cert.MmCoDx
-- ==== Proof.MmCoDw.lean ====
module

public import proofs.«01_k».proof.Defs
public import proofs.«01_k».proof.Proof.MmTile
public import proofs.«01_k».proof.Proof.Gen.CoDw.Frame
public import proofs.«01_k».proof.Proof.Gen.CoDwIdeal.Value
public import proofs.«01_k».proof.Proof.Gen.CoDwRefIdeal.Run
public import proofs.«01_k».proof.Proof.Gen.CoDwRefIdeal.Read

@[expose] public section

noncomputable section

/-! ## The gradient of the cross-attention's output weight, in its eight column chunks: `ocᵀ · dx` -/

namespace Cert.MmCoDw

open Cert.CoDwIdeal Cert.CoDwIdeal.Gen Idealize.ShloMosaic

/-- One block from the blocks it is made of. -/
theorem tile (x0 : FVec Ideal S2048x512 .bf16) (x1 : FVec Ideal S2048x256 .bf16) (i : Fin 512) (j : Fin 256) :
    out0_2 (F := Ideal) x0 x1 (ix3 0 i j) = ∑ s : Fin 2048, x0 (ix2 s i) * x1 (ix2 s j) := by
  unfold out0_2
  rw [View.canon_unit_zero (S := S1x512x256) Mm.zero3]
  simp only [View.ld_unit_zero (S := S2048x512) Mm.zero2, View.ld_unit_zero (S := S2048x256) Mm.zero2]
  pointwise [k0_pay1]

theorem idx (t : Fin cfg0.N) : win0_0.index t 0 = 0 ∧ win0_0.index t 1 = win0_2.index t 1 ∧ win0_1.index t 0 = 0 ∧ win0_1.index t 1 = win0_2.index t 0
    ∧ win0_2.index t 2 = 0 ∧ win0_2.size 0 = 1 ∧ win0_2.size 1 = 512 ∧ win0_2.size 2 = 256
    ∧ win0_2.xsize (grid0.coords t) 0 = 1 ∧ win0_2.xsize (grid0.coords t) 1 = 512 ∧ win0_2.xsize (grid0.coords t) 2 = 256 :=
  by revert t; decide +kernel

theorem onto (p : Fin 8) (q : Fin 1) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The gradient as a function of the arrays. -/
def grad (oc : S2048x512.Idx → EReal) (dx : S2048x2048.Idx → EReal) : S8x512x256.Idx → EReal :=
  fun i => ∑ s : Fin 2048, oc (ix2 s (i 1)) * dx (ix2 s (Mm.col256 (i 0) (i 2)))

abbrev G : S8x512x256.Idx → EReal := grad (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 512) (k : Fin 256), j = ix3 0 i k := ⟨j 1, j 2, (eq_ix3 j).trans (congrArg (ix3 · (j 1) (j 2)) (Subsingleton.elim (α := Fin 1) _ _))⟩
  refine (?_ : out0_2 (iblk m c 0 t) (iblk m c 1 t) (ix3 0 i k) = _)
  obtain ⟨e0, e0', e1, e1', e2, -⟩ := idx t
  rw [tile]
  show _ = G m c (((cfg0.win 2).blk t).view.emb (ix3 0 i k))
  unfold G grad
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 2048 + 1 * x.val = x.val; rw [e0]; omega
    · show win0_0.index t 1 * 512 + 1 * i.val = win0_2.index t 1 * 512 + 1 * i.val; rw [e0']
  · unfold iblk
    rw [View.read_apply]
    refine (congrFun (V_main_arg1 m c) _).trans (congrArg (m (c.tc.loc main_arg1)) (Mm.ix_ext ?_ ?_))
    · show win0_1.index t 0 * 2048 + 1 * x.val = x.val; rw [e1]; omega
    · show win0_1.index t 1 * 256 + 1 * k.val = 256 * (win0_2.index t 0 * 1 + 1 * 0) + (win0_2.index t 2 * 256 + 1 * k.val); rw [e1', e2]; omega

theorem final : (dats m 0 c).arrAt 2 cfg0.N = G m c :=
  (dats m 0 c).arrAt_eq_of_cover 2 (G m c) (fun t _ => flushed m c t) fun i => by
    have h0 : (i 0 : Nat) < 8 := (i 0).isLt
    have h1 : (i 1 : Nat) < 512 := (i 1).isLt
    have h2 : (i 2 : Nat) < 256 := (i 2).isLt
    obtain ⟨t, hf, e0, e1⟩ := onto ⟨(i 0 : Nat), h0⟩ ⟨(i 1 : Nat) / 512, by omega⟩
    obtain ⟨-, -, -, -, e2, s0, s1, s2, z0, z1, z2⟩ := idx t
    refine ⟨t, hf, ?_⟩
    show i ∈ ((View.whole main_v0).slice (win0_2.rect t)).set
    rw [View.set_slice_whole, Rect.mem_set_unit]
    intro a
    match a with
    | ⟨0, _⟩ => show win0_2.index t 0 * win0_2.size 0 ≤ (i 0 : Nat) ∧ (i 0 : Nat) < win0_2.index t 0 * win0_2.size 0 + win0_2.xsize (grid0.coords t) 0
                rw [s0, z0, e0]; dsimp only; omega
    | ⟨1, _⟩ => show win0_2.index t 1 * win0_2.size 1 ≤ (i 1 : Nat) ∧ (i 1 : Nat) < win0_2.index t 1 * win0_2.size 1 + win0_2.xsize (grid0.coords t) 1
                rw [s1, z1, e1]; dsimp only; omega
    | ⟨2, _⟩ => show win0_2.index t 2 * win0_2.size 2 ≤ (i 2 : Nat) ∧ (i 2 : Nat) < win0_2.index t 2 * win0_2.size 2 + win0_2.xsize (grid0.coords t) 2
                rw [s2, z2, e2]; omega

open CoDwRefIdeal.Read in
/-- The reference's gradient, read off its operations. -/
theorem ref_at (oc : FVec Ideal S2048x512 .bf16) (dx : FVec Ideal S2048x2048 .bf16) : val_main_v10 (F := Ideal) oc dx = grad oc dx := by
  funext i
  obtain ⟨n, a, d, rfl⟩ : ∃ (n : Fin 8) (a : Fin 512) (d : Fin 256), i = ix3 n a d := ⟨i 0, i 1, i 2, eq_ix3 i⟩
  have h : val_main_v8 (F := Ideal) oc dx (ix3 a n d) = val_main_v7 (F := Ideal) oc dx (ix2 a (Mm.col256 n d)) := by
    rw [val_main_v8_apply]
    refine congrArg _ (Mm.ix_ext ?_ ?_)
    · show ((a.val * 8 + n.val) * 256 + d.val) / 2048 = a.val; omega
    · show ((a.val * 8 + n.val) * 256 + d.val) % 2048 = 256 * n.val + d.val; omega
  unfold grad
  rw [val_main_v10_apply, val_main_v9_apply, show idx_main_v9 (ix3 n a d) = ix3 a n d from Mm.ix_ext3 rfl rfl rfl]
  refine Eq.trans h ?_
  pointwise [val_main_v7, val_main_v6, val_main_v5, val_main_v1]
  exact Finset.sum_congr rfl fun s _ => mul_comm _ _

theorem algebraic : Cert.algebraic_CoDwIdeal_CoDwRefIdeal := by
  intro m g m' g' _ ha
  refine ⟨fun c => (dats m 0 c).arrAt 2 cfg0.N, Value.run_blocks m g,
    (θ_run CoDwRefIdeal.defs _ _).mono (fun r hr c => ?_) (CoDwRefIdeal.Value.run m' g')⟩
  obtain ⟨h0, hk⟩ := hr c
  obtain ⟨a0, a1⟩ := ha c
  refine ⟨h0.trans ?_, hk⟩
  rw [CoDwRefIdeal.Read.val_main_v10_eq, a0, a1]
  exact (ref_at ..).trans (final m c).symm

/-- The reference's run ends with its arguments kept and no counter raised. -/
theorem ref_frame : Cert.quiescent_CoDwRefIdeal := fun m ρ _ =>
  (θ_run CoDwRefIdeal.defs _ _).mono (fun r h => ⟨fun c => (h c).2, sem_eq_zero_of_no_sems (by decide) r.2⟩)
    (CoDwRefIdeal.Value.run m ρ)

end Cert.MmCoDw
-- ==== Proof.MmCqDw.lean ====
module

public import proofs.«01_k».proof.Defs
public import proofs.«01_k».proof.Proof.MmTile
public import proofs.«01_k».proof.Proof.Gen.CqDw.Frame
public import proofs.«01_k».proof.Proof.Gen.CqDwIdeal.Value
public import proofs.«01_k».proof.Proof.Gen.CqDwRefIdeal.Run
public import proofs.«01_k».proof.Proof.Gen.CqDwRefIdeal.Read

@[expose] public section

noncomputable section

/-! ## The gradient of the cross-attention's query weights: `hcᵀ · dq` -/

namespace Cert.MmCqDw

open Cert.CqDwIdeal Cert.CqDwIdeal.Gen Idealize.ShloMosaic

/-- One block from the blocks it is made of. -/
theorem tile (x0 : FVec Ideal S2048x1024 .bf16) (x1 : FVec Ideal S2048x512 .bf16) (i : Fin 1024) (j : Fin 512) :
    out0_2 (F := Ideal) x0 x1 (ix2 i j) = ∑ s : Fin 2048, x0 (ix2 s i) * x1 (ix2 s j) := by
  unfold out0_2
  rw [View.canon_unit_zero (S := S1024x512) Mm.zero2]
  simp only [View.ld_unit_zero (S := S2048x1024) Mm.zero2, View.ld_unit_zero (S := S2048x512) Mm.zero2]
  pointwise [k0_pay1]

theorem idx (t : Fin cfg0.N) : win0_0.index t 0 = 0 ∧ win0_0.index t 1 = win0_2.index t 0 ∧ win0_1.index t 0 = 0 ∧ win0_1.index t 1 = win0_2.index t 1
    ∧ win0_2.size 0 = 1024 ∧ win0_2.size 1 = 512 ∧ win0_2.xsize (grid0.coords t) 0 = 1024 ∧ win0_2.xsize (grid0.coords t) 1 = 512 :=
  by revert t; decide +kernel

theorem onto (p : Fin 2) (q : Fin 1) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The gradient as a function of the arrays. -/
def grad (h : S2048x2048.Idx → EReal) (dp : S2048x512.Idx → EReal) : S2048x512.Idx → EReal :=
  fun i => ∑ s : Fin 2048, h (ix2 s (i 0)) * dp (ix2 s (i 1))

abbrev G : S2048x512.Idx → EReal := grad (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 1024) (k : Fin 512), j = ix2 i k := ⟨j 0, j 1, eq_ix2 j⟩
  refine (?_ : out0_2 (iblk m c 0 t) (iblk m c 1 t) (ix2 i k) = _)
  obtain ⟨e0, e0', e1, e1', -⟩ := idx t
  rw [tile]
  show _ = G m c (((cfg0.win 2).blk t).view.emb (ix2 i k))
  unfold G grad
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 2048 + 1 * x.val = x.val; rw [e0]; omega
    · show win0_0.index t 1 * 1024 + 1 * i.val = win0_2.index t 0 * 1024 + 1 * i.val; rw [e0']
  · unfold iblk
    rw [View.read_apply]
    refine (congrFun (V_main_arg1 m c) _).trans (congrArg (m (c.tc.loc main_arg1)) (Mm.ix_ext ?_ ?_))
    · show win0_1.index t 0 * 2048 + 1 * x.val = x.val; rw [e1]; omega
    · show win0_1.index t 1 * 512 + 1 * k.val = win0_2.index t 1 * 512 + 1 * k.val; rw [e1']

theorem final : (dats m 0 c).arrAt 2 cfg0.N = G m c :=
  (dats m 0 c).arrAt_eq_of_cover 2 (G m c) (fun t _ => flushed m c t) fun i => by
    have h0 : (i 0 : Nat) < 2048 := (i 0).isLt
    have h1 : (i 1 : Nat) < 512 := (i 1).isLt
    obtain ⟨t, hf, e0, e1⟩ := onto ⟨(i 0 : Nat) / 1024, by omega⟩ ⟨(i 1 : Nat) / 512, by omega⟩
    obtain ⟨-, -, -, -, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 e1 s0 s1 z0 z1

/-- The reference's gradient, read off its operations. -/
theorem ref_at (h : FVec Ideal S2048x2048 .bf16) (dp : FVec Ideal S2048x512 .bf16) :
    CqDwRefIdeal.Read.val_main_v6 (F := Ideal) h dp = grad h dp := by
  funext i
  obtain ⟨a, b, rfl⟩ : ∃ (a : Fin 2048) (b : Fin 512), i = ix2 a b := ⟨i 0, i 1, eq_ix2 i⟩
  unfold grad
  rw [← CqDwRefIdeal.Read.val_main_v6_eq]
  pointwise []
  exact Finset.sum_congr rfl fun s _ => mul_comm _ _

theorem algebraic : Cert.algebraic_CqDwIdeal_CqDwRefIdeal := by
  intro m g m' g' _ ha
  refine ⟨fun c => (dats m 0 c).arrAt 2 cfg0.N, Value.run_blocks m g,
    (θ_run CqDwRefIdeal.defs _ _).mono (fun r hr c => ?_) (CqDwRefIdeal.Value.run m' g')⟩
  obtain ⟨h0, hk⟩ := hr c
  obtain ⟨a0, a1⟩ := ha c
  refine ⟨h0.trans ?_, hk⟩
  rw [CqDwRefIdeal.Read.val_main_v6_eq, a0, a1]
  exact (ref_at ..).trans (final m c).symm

/-- The reference's run ends with its arguments kept and no counter raised. -/
theorem ref_frame : Cert.quiescent_CqDwRefIdeal := fun m ρ _ =>
  (θ_run CqDwRefIdeal.defs _ _).mono (fun r h => ⟨fun c => (h c).2, sem_eq_zero_of_no_sems (by decide) r.2⟩)
    (CqDwRefIdeal.Value.run m ρ)

end Cert.MmCqDw
-- ==== Proof.MmCqDx.lean ====
module

public import proofs.«01_k».proof.Defs
public import proofs.«01_k».proof.Proof.MmTile
public import proofs.«01_k».proof.Proof.Gen.CqDx.Frame
public import proofs.«01_k».proof.Proof.Gen.CqDxIdeal.Value
public import proofs.«01_k».proof.Proof.Gen.CqDxRefIdeal.Run
public import proofs.«01_k».proof.Proof.Gen.CqDxRefIdeal.Read

@[expose] public section

noncomputable section

/-! ## The gradient at the queries' input: `dq · w_cqᵀ` -/

namespace Cert.MmCqDx

open Cert.CqDxIdeal Cert.CqDxIdeal.Gen Idealize.ShloMosaic

/-- One block from the blocks it is made of. -/
theorem tile (x0 x1 : FVec Ideal S1024x512 .bf16) (i j : Fin 1024) :
    out0_2 (F := Ideal) x0 x1 (ix2 i j) = ∑ s : Fin 512, x0 (ix2 i s) * x1 (ix2 j s) := by
  unfold out0_2
  rw [View.canon_unit_zero (S := S1024x1024) Mm.zero2]
  simp only [View.ld_unit_zero (S := S1024x512) Mm.zero2]
  pointwise [k0_pay1]

theorem idx (t : Fin cfg0.N) : win0_0.index t 0 = win0_2.index t 0 ∧ win0_0.index t 1 = 0 ∧ win0_1.index t 0 = win0_2.index t 1 ∧ win0_1.index t 1 = 0
    ∧ win0_2.size 0 = 1024 ∧ win0_2.size 1 = 1024 ∧ win0_2.xsize (grid0.coords t) 0 = 1024 ∧ win0_2.xsize (grid0.coords t) 1 = 1024 :=
  by revert t; decide +kernel

theorem onto (p : Fin 2) (q : Fin 2) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The gradient as a function of the arrays. -/
def grad (dx : S2048x512.Idx → EReal) (w : S2048x512.Idx → EReal) : S2048x2048.Idx → EReal :=
  fun i => ∑ s : Fin 512, dx (ix2 (i 0) s) * w (ix2 (i 1) s)

abbrev G : S2048x2048.Idx → EReal := grad (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 1024) (k : Fin 1024), j = ix2 i k := ⟨j 0, j 1, eq_ix2 j⟩
  refine (?_ : out0_2 (iblk m c 0 t) (iblk m c 1 t) (ix2 i k) = _)
  obtain ⟨e0, e0', e1, e1', -⟩ := idx t
  rw [tile]
  show _ = G m c (((cfg0.win 2).blk t).view.emb (ix2 i k))
  unfold G grad
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 1024 + 1 * i.val = win0_2.index t 0 * 1024 + 1 * i.val; rw [e0]
    · show win0_0.index t 1 * 512 + 1 * x.val = x.val; rw [e0']; omega
  · unfold iblk
    rw [View.read_apply]
    refine (congrFun (V_main_arg1 m c) _).trans (congrArg (m (c.tc.loc main_arg1)) (Mm.ix_ext ?_ ?_))
    · show win0_1.index t 0 * 1024 + 1 * k.val = win0_2.index t 1 * 1024 + 1 * k.val; rw [e1]
    · show win0_1.index t 1 * 512 + 1 * x.val = x.val; rw [e1']; omega

theorem final : (dats m 0 c).arrAt 2 cfg0.N = G m c :=
  (dats m 0 c).arrAt_eq_of_cover 2 (G m c) (fun t _ => flushed m c t) fun i => by
    have h0 : (i 0 : Nat) < 2048 := (i 0).isLt
    have h1 : (i 1 : Nat) < 2048 := (i 1).isLt
    obtain ⟨t, hf, e0, e1⟩ := onto ⟨(i 0 : Nat) / 1024, by omega⟩ ⟨(i 1 : Nat) / 1024, by omega⟩
    obtain ⟨-, -, -, -, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 e1 s0 s1 z0 z1

/-- The reference's gradient, read off its operations. -/
theorem ref_at (dx : FVec Ideal S2048x512 .bf16) (w : FVec Ideal S2048x512 .bf16) :
    CqDxRefIdeal.Read.val_main_v4 (F := Ideal) dx w = grad dx w := by
  funext i
  obtain ⟨a, b, rfl⟩ : ∃ (a : Fin 2048) (b : Fin 2048), i = ix2 a b := ⟨i 0, i 1, eq_ix2 i⟩
  unfold grad
  rw [← CqDxRefIdeal.Read.val_main_v4_eq]
  pointwise []

theorem algebraic : Cert.algebraic_CqDxIdeal_CqDxRefIdeal := by
  intro m g m' g' _ ha
  refine ⟨fun c => (dats m 0 c).arrAt 2 cfg0.N, Value.run_blocks m g,
    (θ_run CqDxRefIdeal.defs _ _).mono (fun r hr c => ?_) (CqDxRefIdeal.Value.run m' g')⟩
  obtain ⟨h0, hk⟩ := hr c
  obtain ⟨a0, a1⟩ := ha c
  refine ⟨h0.trans ?_, hk⟩
  rw [CqDxRefIdeal.Read.val_main_v4_eq, a0, a1]
  exact (ref_at ..).trans (final m c).symm

/-- The reference's run ends with its arguments kept and no counter raised. -/
theorem ref_frame : Cert.quiescent_CqDxRefIdeal := fun m ρ _ =>
  (θ_run CqDxRefIdeal.defs _ _).mono (fun r h => ⟨fun c => (h c).2, sem_eq_zero_of_no_sems (by decide) r.2⟩)
    (CqDxRefIdeal.Value.run m ρ)

end Cert.MmCqDx
-- ==== Proof.MmCkvDw.lean ====
module

public import proofs.«01_k».proof.Defs
public import proofs.«01_k».proof.Proof.MmTile
public import proofs.«01_k».proof.Proof.Gen.CkvDw.Frame
public import proofs.«01_k».proof.Proof.Gen.CkvDwIdeal.Value
public import proofs.«01_k».proof.Proof.Gen.CkvDwRefIdeal.Run
public import proofs.«01_k».proof.Proof.Gen.CkvDwRefIdeal.Read

@[expose] public section

noncomputable section

/-! ## The gradient of the cross-attention's key and value weights: `memhᵀ · dkv` -/

namespace Cert.MmCkvDw

open Cert.CkvDwIdeal Cert.CkvDwIdeal.Gen Idealize.ShloMosaic

/-- One block from the blocks it is made of. -/
theorem tile (x0 : FVec Ideal S256x1024 .bf16) (x1 : FVec Ideal S256x1024 .bf16) (i : Fin 1024) (j : Fin 1024) :
    out0_2 (F := Ideal) x0 x1 (ix2 i j) = ∑ s : Fin 256, x0 (ix2 s i) * x1 (ix2 s j) := by
  unfold out0_2
  rw [View.canon_unit_zero (S := S1024x1024) Mm.zero2]
  simp only [View.ld_unit_zero (S := S256x1024) Mm.zero2, View.ld_unit_zero (S := S256x1024) Mm.zero2]
  pointwise [k0_pay1]

theorem idx (t : Fin cfg0.N) : win0_0.index t 0 = 0 ∧ win0_0.index t 1 = win0_2.index t 0 ∧ win0_1.index t 0 = 0 ∧ win0_1.index t 1 = win0_2.index t 1
    ∧ win0_2.size 0 = 1024 ∧ win0_2.size 1 = 1024 ∧ win0_2.xsize (grid0.coords t) 0 = 1024 ∧ win0_2.xsize (grid0.coords t) 1 = 1024 :=
  by revert t; decide +kernel

theorem onto (p : Fin 2) (q : Fin 1) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The gradient as a function of the arrays. -/
def grad (h : S256x2048.Idx → EReal) (dp : S256x1024.Idx → EReal) : S2048x1024.Idx → EReal :=
  fun i => ∑ s : Fin 256, h (ix2 s (i 0)) * dp (ix2 s (i 1))

abbrev G : S2048x1024.Idx → EReal := grad (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 1024) (k : Fin 1024), j = ix2 i k := ⟨j 0, j 1, eq_ix2 j⟩
  refine (?_ : out0_2 (iblk m c 0 t) (iblk m c 1 t) (ix2 i k) = _)
  obtain ⟨e0, e0', e1, e1', -⟩ := idx t
  rw [tile]
  show _ = G m c (((cfg0.win 2).blk t).view.emb (ix2 i k))
  unfold G grad
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 256 + 1 * x.val = x.val; rw [e0]; omega
    · show win0_0.index t 1 * 1024 + 1 * i.val = win0_2.index t 0 * 1024 + 1 * i.val; rw [e0']
  · unfold iblk
    rw [View.read_apply]
    refine (congrFun (V_main_arg1 m c) _).trans (congrArg (m (c.tc.loc main_arg1)) (Mm.ix_ext ?_ ?_))
    · show win0_1.index t 0 * 256 + 1 * x.val = x.val; rw [e1]; omega
    · show win0_1.index t 1 * 1024 + 1 * k.val = win0_2.index t 1 * 1024 + 1 * k.val; rw [e1']

theorem final : (dats m 0 c).arrAt 2 cfg0.N = G m c :=
  (dats m 0 c).arrAt_eq_of_cover 2 (G m c) (fun t _ => flushed m c t) fun i => by
    have h0 : (i 0 : Nat) < 2048 := (i 0).isLt
    have h1 : (i 1 : Nat) < 1024 := (i 1).isLt
    obtain ⟨t, hf, e0, e1⟩ := onto ⟨(i 0 : Nat) / 1024, by omega⟩ ⟨(i 1 : Nat) / 1024, by omega⟩
    obtain ⟨-, -, -, -, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 e1 s0 s1 z0 z1

/-- The reference's gradient, read off its operations. -/
theorem ref_at (h : FVec Ideal S256x2048 .bf16) (dp : FVec Ideal S256x1024 .bf16) :
    CkvDwRefIdeal.Read.val_main_v6 (F := Ideal) h dp = grad h dp := by
  funext i
  obtain ⟨a, b, rfl⟩ : ∃ (a : Fin 2048) (b : Fin 1024), i = ix2 a b := ⟨i 0, i 1, eq_ix2 i⟩
  unfold grad
  rw [← CkvDwRefIdeal.Read.val_main_v6_eq]
  pointwise []
  exact Finset.sum_congr rfl fun s _ => mul_comm _ _

theorem algebraic : Cert.algebraic_CkvDwIdeal_CkvDwRefIdeal := by
  intro m g m' g' _ ha
  refine ⟨fun c => (dats m 0 c).arrAt 2 cfg0.N, Value.run_blocks m g,
    (θ_run CkvDwRefIdeal.defs _ _).mono (fun r hr c => ?_) (CkvDwRefIdeal.Value.run m' g')⟩
  obtain ⟨h0, hk⟩ := hr c
  obtain ⟨a0, a1⟩ := ha c
  refine ⟨h0.trans ?_, hk⟩
  rw [CkvDwRefIdeal.Read.val_main_v6_eq, a0, a1]
  exact (ref_at ..).trans (final m c).symm

/-- The reference's run ends with its arguments kept and no counter raised. -/
theorem ref_frame : Cert.quiescent_CkvDwRefIdeal := fun m ρ _ =>
  (θ_run CkvDwRefIdeal.defs _ _).mono (fun r h => ⟨fun c => (h c).2, sem_eq_zero_of_no_sems (by decide) r.2⟩)
    (CkvDwRefIdeal.Value.run m ρ)

end Cert.MmCkvDw
-- ==== Proof.MmCkvDx.lean ====
module

public import proofs.«01_k».proof.Defs
public import proofs.«01_k».proof.Proof.MmTile
public import proofs.«01_k».proof.Proof.Gen.CkvDx.Frame
public import proofs.«01_k».proof.Proof.Gen.CkvDxIdeal.Value
public import proofs.«01_k».proof.Proof.Gen.CkvDxRefIdeal.Run
public import proofs.«01_k».proof.Proof.Gen.CkvDxRefIdeal.Read

@[expose] public section

noncomputable section

/-! ## The gradient at the keys' and values' input: `dkv · w_ckvᵀ` -/

namespace Cert.MmCkvDx

open Cert.CkvDxIdeal Cert.CkvDxIdeal.Gen Idealize.ShloMosaic

/-- One block from the blocks it is made of. -/
theorem tile (x0 : FVec Ideal S256x1024 .bf16) (x1 : FVec Ideal S1024x1024 .bf16) (i : Fin 256) (j : Fin 1024) :
    out0_2 (F := Ideal) x0 x1 (ix2 i j) = ∑ s : Fin 1024, x0 (ix2 i s) * x1 (ix2 j s) := by
  unfold out0_2
  rw [View.canon_unit_zero (S := S256x1024) Mm.zero2]
  simp only [View.ld_unit_zero (S := S256x1024) Mm.zero2, View.ld_unit_zero (S := S1024x1024) Mm.zero2]
  pointwise [k0_pay1]

theorem idx (t : Fin cfg0.N) : win0_0.index t 0 = win0_2.index t 0 ∧ win0_0.index t 1 = 0 ∧ win0_1.index t 0 = win0_2.index t 1 ∧ win0_1.index t 1 = 0
    ∧ win0_2.size 0 = 256 ∧ win0_2.size 1 = 1024 ∧ win0_2.xsize (grid0.coords t) 0 = 256 ∧ win0_2.xsize (grid0.coords t) 1 = 1024 :=
  by revert t; decide +kernel

theorem onto (p : Fin 1) (q : Fin 2) : ∃ t : Fin cfg0.N, (cfg0.win 2).flush t = true ∧ win0_2.index t 0 = p.val ∧ win0_2.index t 1 = q.val :=
  by revert p q; decide +kernel

variable (m : (ℓ : Loc nD τ sig) → Buf (Elt Ideal) ℓ) (c : Dev nD)

/-- The gradient as a function of the arrays. -/
def grad (dx : S256x1024.Idx → EReal) (w : S2048x1024.Idx → EReal) : S256x2048.Idx → EReal :=
  fun i => ∑ s : Fin 1024, dx (ix2 (i 0) s) * w (ix2 (i 1) s)

abbrev G : S256x2048.Idx → EReal := grad (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 256) (k : Fin 1024), j = ix2 i k := ⟨j 0, j 1, eq_ix2 j⟩
  refine (?_ : out0_2 (iblk m c 0 t) (iblk m c 1 t) (ix2 i k) = _)
  obtain ⟨e0, e0', e1, e1', -⟩ := idx t
  rw [tile]
  show _ = G m c (((cfg0.win 2).blk t).view.emb (ix2 i k))
  unfold G grad
  refine Finset.sum_congr rfl fun x _ => congrArg₂ (fun a b : EReal => a * b) ?_ ?_
  · unfold iblk
    rw [View.read_apply]
    refine (congrFun (V_main_arg0 m c) _).trans (congrArg (m (c.tc.loc main_arg0)) (Mm.ix_ext ?_ ?_))
    · show win0_0.index t 0 * 256 + 1 * i.val = win0_2.index t 0 * 256 + 1 * i.val; rw [e0]
    · show win0_0.index t 1 * 1024 + 1 * x.val = x.val; rw [e0']; omega
  · unfold iblk
    rw [View.read_apply]
    refine (congrFun (V_main_arg1 m c) _).trans (congrArg (m (c.tc.loc main_arg1)) (Mm.ix_ext ?_ ?_))
    · show win0_1.index t 0 * 1024 + 1 * k.val = win0_2.index t 1 * 1024 + 1 * k.val; rw [e1]
    · show win0_1.index t 1 * 1024 + 1 * x.val = x.val; rw [e1']; omega

theorem final : (dats m 0 c).arrAt 2 cfg0.N = G m c :=
  (dats m 0 c).arrAt_eq_of_cover 2 (G m c) (fun t _ => flushed m c t) fun i => by
    have h0 : (i 0 : Nat) < 256 := (i 0).isLt
    have h1 : (i 1 : Nat) < 2048 := (i 1).isLt
    obtain ⟨t, hf, e0, e1⟩ := onto ⟨(i 0 : Nat) / 256, by omega⟩ ⟨(i 1 : Nat) / 1024, by omega⟩
    obtain ⟨-, -, -, -, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 e1 s0 s1 z0 z1

/-- The reference's gradient, read off its operations. -/
theorem ref_at (dx : FVec Ideal S256x1024 .bf16) (w : FVec Ideal S2048x1024 .bf16) :
    CkvDxRefIdeal.Read.val_main_v4 (F := Ideal) dx w = grad dx w := by
  funext i
  obtain ⟨a, b, rfl⟩ : ∃ (a : Fin 256) (b : Fin 2048), i = ix2 a b := ⟨i 0, i 1, eq_ix2 i⟩
  unfold grad
  rw [← CkvDxRefIdeal.Read.val_main_v4_eq]
  pointwise []

theorem algebraic : Cert.algebraic_CkvDxIdeal_CkvDxRefIdeal := by
  intro m g m' g' _ ha
  refine ⟨fun c => (dats m 0 c).arrAt 2 cfg0.N, Value.run_blocks m g,
    (θ_run CkvDxRefIdeal.defs _ _).mono (fun r hr c => ?_) (CkvDxRefIdeal.Value.run m' g')⟩
  obtain ⟨h0, hk⟩ := hr c
  obtain ⟨a0, a1⟩ := ha c
  refine ⟨h0.trans ?_, hk⟩
  rw [CkvDxRefIdeal.Read.val_main_v4_eq, a0, a1]
  exact (ref_at ..).trans (final m c).symm

/-- The reference's run ends with its arguments kept and no counter raised. -/
theorem ref_frame : Cert.quiescent_CkvDxRefIdeal := fun m ρ _ =>
  (θ_run CkvDxRefIdeal.defs _ _).mono (fun r h => ⟨fun c => (h c).2, sem_eq_zero_of_no_sems (by decide) r.2⟩)
    (CkvDxRefIdeal.Value.run m ρ)

end Cert.MmCkvDx
-- ==== Proof.FwdNorm.lean ====
module

public import proofs.«01_k».proof.Defs
public import proofs.«01_k».proof.Proof.MmTile
public import proofs.«01_k».proof.Proof.BwdNorm
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read

@[expose] public section

noncomputable section

/-! ## The normalisation of all rows, with its gain -/

namespace Cert.FwdNorm

open Cert.NormIdeal Cert.NormIdeal.Gen Idealize.ShloMosaic
open Cert.RowNorm
open Cert.BwdNorm (cD rowOf)

/-- The normalised rows times the gain. -/
def normed {n : Nat} (x : Shape.Idx ⟨2, ![n, 2048]⟩ → EReal) (g : Shape.Idx ⟨2, ![1, 2048]⟩ → EReal) : Shape.Idx ⟨2, ![n, 2048]⟩ → EReal :=
  fun y => rN cD (rowOf x (y 0)) (y 1) * rowOf g 0 (y 1)

/-- One block of the result at an index. -/
theorem pay_at (x : FVec Ideal S256x2048 .f32) (g : FVec Ideal S1x2048 .f32) (i : Fin 256) (d : Fin 2048) :
    k0_pay1 (F := Ideal) x g (ix2 i d) = normed x g (ix2 i d) := by
  pointwise [k0_pay1]
  rfl

theorem tile (x : FVec Ideal S256x2048 .f32) (g : FVec Ideal S1x2048 .f32) (i : Fin 256) (d : Fin 2048) :
    out0_2 (F := Ideal) x g (ix2 i d) = normed x g (ix2 i d) := by
  unfold out0_2
  rw [View.canon_unit_zero (S := S256x2048) Mm.zero2]
  simp only [View.ld_unit_zero (S := S256x2048) Mm.zero2, View.ld_unit_zero (S := S1x2048) Mm.zero2]
  exact pay_at ..

theorem idx (t : Fin cfg0.N) : win0_0.index t 0 = win0_2.index t 0 ∧ win0_0.index t 1 = 0 ∧ win0_1.index t 0 = 0 ∧ win0_1.index t 1 = 0 ∧ win0_2.index t 1 = 0
    ∧ win0_2.size 0 = 256 ∧ win0_2.size 1 = 2048 ∧ win0_2.xsize (grid0.coords t) 0 = 256 ∧ win0_2.xsize (grid0.coords t) 1 = 2048 :=
  by revert t; decide +kernel

theorem onto (p : Fin 8) : ∃ t : Fin cfg0.N, (cfg0.win 2).flush t = true ∧ win0_2.index t 0 = p.val :=
  by revert p; decide +kernel

variable (m : (ℓ : Loc nD τ sig) → Buf (Elt Ideal) ℓ) (c : Dev nD)

abbrev G : S2048x2048.Idx → EReal := normed (m (c.tc.loc main_arg0)) (m (c.tc.loc main_arg1))

theorem flushed (t : Fin cfg0.N) : (dats m 0 c).flushed 2 t = ((cfg0.win 2).blk t).view.read (Elt Ideal) (G m c) := by
  rw [Value.flushed2]
  funext j
  rw [View.read_apply]
  obtain ⟨i, k, rfl⟩ : ∃ (i : Fin 256) (k : Fin 2048), j = ix2 i k := ⟨j 0, j 1, eq_ix2 j⟩
  refine (?_ : out0_2 (iblk m c 0 t) (iblk m c 1 t) (ix2 i k) = _)
  obtain ⟨e0, e0', e1, e1', e2, -⟩ := idx t
  rw [tile]
  show _ = G m c (((cfg0.win 2).blk t).view.emb (ix2 i k))
  have hp : ((((cfg0.win 2).blk t).view.emb (ix2 i k)) 1 : Fin 2048) = k := Fin.ext (by
    show win0_2.index t 1 * 2048 + 1 * k.val = k.val; rw [e2]; omega)
  unfold G normed
  rw [hp]
  refine congrArg₂ (fun a b : EReal => a * b) (congrArg (fun r => rN cD r k) (funext fun d => ?_)) ?_
  · unfold rowOf iblk
    rw [View.read_apply]
    refine (congrFun (V_main_arg0 m c) _).trans (congrArg (m (c.tc.loc main_arg0)) (Mm.ix_ext ?_ ?_))
    · show win0_0.index t 0 * 256 + 1 * i.val = win0_2.index t 0 * 256 + 1 * i.val; rw [e0]
    · show win0_0.index t 1 * 2048 + 1 * d.val = d.val; rw [e0']; omega
  · unfold rowOf iblk
    rw [View.read_apply]
    refine (congrFun (V_main_arg1 m c) _).trans (congrArg (m (c.tc.loc main_arg1)) (Mm.ix_ext ?_ ?_))
    · show win0_1.index t 0 * 1 + 1 * 0 = 0; rw [e1]
    · show win0_1.index t 1 * 2048 + 1 * k.val = k.val; rw [e1']; omega

theorem final : (dats m 0 c).arrAt 2 cfg0.N = G m c :=
  (dats m 0 c).arrAt_eq_of_cover 2 (G m c) (fun t _ => flushed m c t) fun i => by
    have h0 : (i 0 : Nat) < 2048 := (i 0).isLt
    have h1 : (i 1 : Nat) < 2048 := (i 1).isLt
    obtain ⟨t, hf, e0⟩ := onto ⟨(i 0 : Nat) / 256, by omega⟩
    obtain ⟨-, -, -, -, e1, s0, s1, z0, z1⟩ := idx t
    refine ⟨t, hf, ?_⟩
    show i ∈ ((View.whole main_v0).slice (win0_2.rect t)).set
    rw [View.set_slice_whole, Rect.mem_set_unit]
    exact Mm.in_tile i (by decide) (by decide) e0 (e1.trans (by omega)) s0 s1 z0 z1

open NormRefIdeal.Read in
/-- The reference's rows, read off its operations. -/
theorem ref_at (x : FVec Ideal S2048x2048 .f32) (g : FVec Ideal S1x2048 .f32) : val_main_v12 (F := Ideal) x g = normed x g := by
  funext i
  obtain ⟨a, b, rfl⟩ : ∃ (a b : Fin 2048), i = ix2 a b := ⟨i 0, i 1, eq_ix2 i⟩
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

theorem algebraic : Cert.algebraic_NormIdeal_NormRefIdeal := by
  intro m g m' g' _ ha
  refine ⟨fun c => (dats m 0 c).arrAt 2 cfg0.N, Value.run_blocks m g,
    (θ_run NormRefIdeal.defs _ _).mono (fun r hr c => ?_) (NormRefIdeal.Value.run m' g')⟩
  obtain ⟨h0, hk⟩ := hr c
  obtain ⟨a0, a1⟩ := ha c
  refine ⟨h0.trans ?_, hk⟩
  rw [NormRefIdeal.Read.val_main_v12_eq, a0, a1]
  exact (ref_at ..).trans (final m c).symm

/-- The reference's run ends with its arguments kept and no counter raised. -/
theorem ref_frame : Cert.quiescent_NormRefIdeal := fun m ρ _ =>
  (θ_run NormRefIdeal.defs _ _).mono (fun r h => ⟨fun c => (h c).2, sem_eq_zero_of_no_sems (by decide) r.2⟩)
    (NormRefIdeal.Value.run m ρ)

end Cert.FwdNorm
-- ==== Proof.FwdMemNorm.lean ====
module

public import proofs.«01_k».proof.Defs
public import proofs.«01_k».proof.Proof.FwdNorm
public import proofs.«01_k».proof.Proof.Gen.MemNorm.Frame
public import proofs.«01_k».proof.Proof.Gen.MemNormIdeal.Value
public import proofs.«01_k».proof.Proof.Gen.MemNormRefIdeal.Run
public import proofs.«01_k».proof.Proof.Gen.MemNormRefIdeal.Read

@[expose] public section

noncomputable section

/-! ## The normalisation of the memory's rows, with its gain

One block holds all 256 rows, so the kernel's result is its one payload over the whole arrays. -/

namespace Cert.FwdMemNorm

open Cert.MemNormIdeal Cert.MemNormIdeal.Gen Idealize.ShloMosaic
open Cert.RowNorm
open Cert.FwdNorm (normed)

theorem kernel_at (x : FVec Ideal S256x2048 .f32) (g : FVec Ideal S1x2048 .f32) : k0_pay1 (F := Ideal) x g = normed x g := by
  funext i
  obtain ⟨a, b, rfl⟩ : ∃ (a : Fin 256) (b : Fin 2048), i = ix2 a b := ⟨i 0, i 1, eq_ix2 i⟩
  exact FwdNorm.pay_at x g a b

open MemNormRefIdeal.Read in
theorem ref_at (x : FVec Ideal S256x2048 .f32) (g : FVec Ideal S1x2048 .f32) : val_main_v12 (F := Ideal) x g = normed x g := by
  funext i
  obtain ⟨a, b, rfl⟩ : ∃ (a : Fin 256) (b : Fin 2048), i = ix2 a b := ⟨i 0, i 1, eq_ix2 i⟩
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

theorem algebraic : Cert.algebraic_MemNormIdeal_MemNormRefIdeal := by
  intro m g m' g' _ ha
  refine ⟨fun c => (dats m 0 c).arrAt 2 cfg0.N, Value.run_blocks m g,
    (θ_run MemNormRefIdeal.defs _ _).mono (fun r hr c => ?_) (MemNormRefIdeal.Value.run m' g')⟩
  obtain ⟨h0, hk⟩ := hr c
  obtain ⟨a0, a1⟩ := ha c
  refine ⟨h0.trans ?_, hk⟩
  rw [MemNormRefIdeal.Read.val_main_v12_eq, a0, a1]
  exact (ref_at ..).trans ((kernel_at ..).symm.trans (Value.final2 m c).symm)

/-- The reference's run ends with its arguments kept and no counter raised. -/
theorem ref_frame : Cert.quiescent_MemNormRefIdeal := fun m ρ _ =>
  (θ_run MemNormRefIdeal.defs _ _).mono (fun r h => ⟨fun c => (h c).2, sem_eq_zero_of_no_sems (by decide) r.2⟩)
    (MemNormRefIdeal.Value.run m ρ)

end Cert.FwdMemNorm
-- ==== Proof.BwdMemNorm.lean ====
module

public import proofs.«01_k».proof.Defs
public import proofs.«01_k».proof.Proof.BwdNorm
public import proofs.«01_k».proof.Proof.Gen.MemNormBwd.Frame
public import proofs.«01_k».proof.Proof.Gen.MemNormBwdIdeal.Value
public import proofs.«01_k».proof.Proof.Gen.MemNormBwdRefIdeal.Run
public import proofs.«01_k».proof.Proof.Gen.MemNormBwdRefIdeal.Read
public import Idealize.ShloMosaic.Lib.Tactic

@[expose] public section

noncomputable section

/-! ## The gain's gradient of the memory's normalisation -/

namespace Cert.BwdMemNorm

open Cert.MemNormBwdIdeal Cert.MemNormBwdIdeal.Gen Idealize.ShloMosaic Idealize.ShloMosaic.TcCoe Idealize.SL.Sem
open Cert.RowNorm
open Cert.BwdNorm (cD rowOf gDG hz ix_row)

/-- One column's gradient: a sum over the memory's rows. -/
def gains (x dh : Shape.Idx ⟨2, ![256, 2048]⟩ → EReal) : Shape.Idx ⟨2, ![1, 2048]⟩ → EReal :=
  fun y => ∑ i : Fin 256, gDG (rowOf x i) (rowOf dh i) (y 1)

theorem pay_at (x dh : FVec Ideal S256x2048 .f32) (d : Fin 2048) : k0_pay1 (F := Ideal) x dh (ix2 0 d) = gains x dh (ix2 0 d) :=
  BwdNorm.dg_at x dh d

section Point

variable (c : Dev nD) (i : grid0.Coords)
  (a1 : Memref sig .tc .vmem S256x2048 .f32) (h1 : a1.IsWhole) (a2 : Memref sig .tc .vmem S256x2048 .f32) (h2 : a2.IsWhole)
  (a3 : Memref sig .tc .vmem S1x2048 .f32) (h3 : a3.IsWhole) (a4 : Memref sig .tc .vmem S1x2048 .f32) (h4 : a4.IsWhole)
  (x0 x1 : FVec Ideal S256x2048 .f32) (x2 : FVec Ideal S1x2048 .f32)

/-- The one point leaves the gradient over all rows. -/
theorem out_A3 (c0 : cond0_0 i) (c1 : ¬cond0_1 i) :
    out0_A_3 (F := Ideal) c i a1 h1 a2 h2 a3 h3 a4 h4 c0 c1 x0 x1 x2 = k0_pay1 (F := Ideal) x0 x1 := by
  unfold out0_A_3
  rw [View.read_writes_eq_canon _ _ _ (cover0_A_3 (F := Ideal) c i a1 h1 a2 h2 a3 h3 a4 h4 c0 c1 x0 x1 x2)]
  unfold kernelRun0_A
  dsimp only
  sl_unfold_words
  rw [View.canon_unit_zero (S := S1x2048) hz]
  simp only [View.readAt_eq_ld, h1.read_unread, h2.read_unread, h3.read_unread,
    View.ld_unit_zero (S := S256x2048) hz, View.ld_unit_zero (S := S1x2048) hz]

end Point

variable (m : (ℓ : Loc nD τ sig) → Buf (Elt Ideal) ℓ) (c : Dev nD)

/-- The gain's gradient as an array. -/
abbrev G : S1x2048.Idx → EReal := gains (m (c.tc.loc main_arg0)) (m (c.tc.loc main_arg2))

theorem idx (t : Fin cfg0.N) : (∀ a, win0_0.index t a = 0) ∧ (∀ a, win0_1.index t a = 0) ∧ (∀ a, win0_3.index t a = 0) :=
  by revert t; decide +kernel

theorem row_x (t : Fin cfg0.N) (i : Fin 256) : rowOf (iblk m c 0 t : FVec Ideal S256x2048 .f32) i = rowOf (m (c.tc.loc main_arg0)) i := by
  funext k
  unfold rowOf iblk
  rw [View.read_apply]
  refine (congrFun (V_main_arg0 m c) _).trans (congrArg (m (c.tc.loc main_arg0)) (funext fun a => Fin.ext ?_))
  match a with
  | ⟨0, _⟩ => show win0_0.index t 0 * 256 + 1 * i.val = i.val; rw [(idx t).1]; omega
  | ⟨1, _⟩ => show win0_0.index t 1 * 2048 + 1 * k.val = k.val; rw [(idx t).1]; omega

theorem row_h (t : Fin cfg0.N) (i : Fin 256) : rowOf (iblk m c 1 t : FVec Ideal S256x2048 .f32) i = rowOf (m (c.tc.loc main_arg2)) i := by
  funext k
  unfold rowOf iblk
  rw [View.read_apply]
  refine (congrFun (V_main_arg2 m c) _).trans (congrArg (m (c.tc.loc main_arg2)) (funext fun a => Fin.ext ?_))
  match a with
  | ⟨0, _⟩ => show win0_1.index t 0 * 256 + 1 * i.val = i.val; rw [(idx t).2.1]; omega
  | ⟨1, _⟩ => show win0_1.index t 1 * 2048 + 1 * k.val = k.val; rw [(idx t).2.1]; omega

theorem flushed (t : Fin cfg0.N) : (dats m 0 c).flushed 3 t = ((cfg0.win 3).blk t).view.read (Elt Ideal) (G m c) := by
  rw [Value.flushed3_A, out_A3]
  funext j
  rw [View.read_apply]
  obtain ⟨k, rfl⟩ := ix_row j
  refine (?_ : k0_pay1 (F := Ideal) (iblk m c 0 t) (iblk m c 1 t) (ix2 0 k) = _)
  rw [pay_at]
  have hp : ((((cfg0.win 3).blk t).view.emb (ix2 0 k)) 1 : Fin 2048) = k := Fin.ext (by
    show win0_3.index t 1 * 2048 + 1 * k.val = k.val; rw [(idx t).2.2]; omega)
  show _ = gains _ _ (((cfg0.win 3).blk t).view.emb (ix2 0 k))
  unfold gains
  rw [hp]
  exact Finset.sum_congr rfl fun i _ => by rw [row_x, row_h]; rfl

theorem final : (dats m 0 c).arrAt 3 cfg0.N = G m c :=
  (dats m 0 c).arrAt_eq_of_cover 3 (G m c) (fun t _ => flushed m c t) fun i => by
    have h0 : (i 0 : Nat) < 1 := (i 0).isLt
    have h1 : (i 1 : Nat) < 2048 := (i 1).isLt
    let t : Fin cfg0.N := ⟨0, by decide⟩
    refine ⟨t, flush0_3 t, ?_⟩
    show i ∈ ((View.whole main_v0).slice (win0_3.rect t)).set
    rw [View.set_slice_whole, Rect.mem_set_unit]
    intro a
    match a with
    | ⟨0, _⟩ => show win0_3.index t 0 * win0_3.size 0 ≤ (i 0 : Nat) ∧ (i 0 : Nat) < win0_3.index t 0 * win0_3.size 0 + win0_3.xsize (grid0.coords t) 0
                rw [show win0_3.index t 0 * win0_3.size 0 = 0 from by decide +kernel, show win0_3.xsize (grid0.coords t) 0 = 1 from by decide +kernel]; omega
    | ⟨1, _⟩ => show win0_3.index t 1 * win0_3.size 1 ≤ (i 1 : Nat) ∧ (i 1 : Nat) < win0_3.index t 1 * win0_3.size 1 + win0_3.xsize (grid0.coords t) 1
                rw [show win0_3.index t 1 * win0_3.size 1 = 0 from by decide +kernel, show win0_3.xsize (grid0.coords t) 1 = 2048 from by decide +kernel]; omega

open MemNormBwdRefIdeal.Read in
/-- The reference's gradient, read off its operations. -/
theorem ref_at (x dh : FVec Ideal S256x2048 .f32) : val_main_v14 (F := Ideal) x dh = gains x dh := by
  funext i
  obtain ⟨d, rfl⟩ := ix_row i
  pointwise [val_main_v14, val_main_v13, val_main_v12, val_main_v9, val_main_v8, val_main_v7, val_main_v6, val_main_v5, val_main_v4, val_main_v3,
    val_main_v2, val_main_v1, val_main_v0, val_main_cst, val_main_cst_0, val_main_cst_1, val_main_cst_2]
  exact Finset.sum_congr rfl fun s _ => mul_comm _ _

theorem algebraic : Cert.algebraic_MemNormBwdIdeal_MemNormBwdRefIdeal := by
  intro m g m' g' _ ha
  refine ⟨fun c => (dats m 0 c).arrAt 3 cfg0.N, Value.run_blocks m g,
    (θ_run MemNormBwdRefIdeal.defs _ _).mono (fun r hr c => ?_) (MemNormBwdRefIdeal.Value.run m' g')⟩
  obtain ⟨h0, hk⟩ := hr c
  obtain ⟨a0, a1, a2⟩ := ha c
  refine ⟨h0.trans ?_, hk⟩
  rw [MemNormBwdRefIdeal.Read.val_main_v14_eq, a0, a2]
  exact (ref_at ..).trans (final m c).symm

/-- The reference's run ends with its arguments kept and no counter raised. -/
theorem ref_frame : Cert.quiescent_MemNormBwdRefIdeal := fun m ρ _ =>
  (θ_run MemNormBwdRefIdeal.defs _ _).mono (fun r h => ⟨fun c => (h c).2, sem_eq_zero_of_no_sems (by decide) r.2⟩)
    (MemNormBwdRefIdeal.Value.run m ρ)

end Cert.BwdMemNorm
-- ==== Proof.FwdCross.lean ====
module

public import proofs.«01_k».proof.Defs
public import proofs.«01_k».proof.Proof.CrossRef
public import proofs.«01_k».proof.Proof.Gen.CrossFwd.Frame
public import proofs.«01_k».proof.Proof.Gen.CrossFwdIdeal.Value
public import proofs.«01_k».proof.Proof.Gen.CrossFwdRefIdeal.Run
public import proofs.«01_k».proof.Proof.Gen.CrossFwdRefIdeal.Read

@[expose] public section

noncomputable section

/-! ## Cross-attention: the kernel's rows are the reference's -/

namespace Cert.FwdCross

open Cert.CrossFwdIdeal Cert.CrossFwdIdeal.Gen Idealize.ShloMosaic Idealize.ShloMosaic.TcCoe
open Cert.RowBlocks
open Cert.Cross (col colK colV colsOf keysOf valsOf slice_eq ld_keys ld_vals soft scores soft_apply scores_apply row rP rS rE rZ rN rM rR rQ rK rTop
  xr kr vr gr aS hz max_bot)

/-! ### One block of rows -/

/-- One head's block: the weights against the values. -/
def atHead (q k v : FVec Ideal S256x128 .f32) (gq gk : FVec Ideal S1x128 .f32) : FVec Ideal S256x128 .bf16 :=
  truncf .bf16 (matmul dot_S256x256_S256x128_S256x128_1_0_0_1_n_n none (truncf .bf16 (soft (scores q k gq gk)) bitsLt_bf16_f32)
    (truncf .bf16 v bitsLt_bf16_f32) (constant S256x128 .f32 0x00000000#32)) bitsLt_bf16_f32

/-- One row of one head, over the extended reals. -/
def rO (x : Fin 128 → EReal) (K V : Fin 256 → Fin 128 → EReal) (gq gk : Fin 128 → EReal) (d : Fin 128) : EReal :=
  ∑ k, rP (rS x K gq gk) k * V k d

theorem atHead_apply (q k v : FVec Ideal S256x128 .f32) (gq gk : FVec Ideal S1x128 .f32) (i : Fin 256) (d : Fin 128) :
    atHead q k v gq gk (ix2 i d) = rO (row q i) (row k) (row v) (row gq 0) (row gk 0) d := by
  pointwise [atHead]; simp only [soft_apply, scores_apply]; rfl

variable (x0 : FVec Ideal S256x512 .f32) (x1 : FVec Ideal S256x1024 .f32) (x2 x3 : FVec Ideal S1x128 .f32)

/-- Head `h`'s block. -/
def oHead (h : Fin 4) : FVec Ideal S256x128 .bf16 := atHead (colsOf x0 h) (keysOf x1 h) (valsOf x1 h) x2 x3

/-- The block, all heads together. -/
def oAll : FVec Ideal S256x512 .bf16 := fun y =>
  oHead x0 x1 x2 x3 ⟨(y 1).val / 128, by have : (y 1).val < 512 := (y 1).isLt; omega⟩ (ix2 (y 0) ⟨(y 1).val % 128, Nat.mod_lt _ (by decide)⟩)

theorem oAll_apply (i : Fin 256) (h : Fin 4) (d : Fin 128) : oAll x0 x1 x2 x3 (ix2 i (col h d)) = oHead x0 x1 x2 x3 h (ix2 i d) := by
  unfold oAll
  have e1 : (⟨(col h d).val / 128, by have := (col h d).isLt; omega⟩ : Fin 4) = h := Fin.ext (by show (128 * h.val + d.val) / 128 = h.val; omega)
  have e2 : (⟨(col h d).val % 128, Nat.mod_lt _ (by decide)⟩ : Fin 128) = d := Fin.ext (by show (128 * h.val + d.val) % 128 = d.val; omega)
  show oHead x0 x1 x2 x3 ⟨(col h d).val / 128, _⟩ (ix2 i ⟨(col h d).val % 128, _⟩) = _
  rw [e1, e2]

theorem oAll_rect (o : Nat) (hs) (h : Fin 4) (ho : o = 128 * h) (x : S256x128.Idx) :
    oHead x0 x1 x2 x3 h x = oAll x0 x1 x2 x3 ((Rect.unit (s := S256x512) ![0, o] ![256, 128] hs).emb x) := by
  subst ho
  obtain ⟨i, d, rfl⟩ : ∃ (i : Fin 256) (d : Fin 128), x = ix2 i d := ⟨x 0, x 1, eq_ix2 x⟩
  refine (oAll_apply x0 x1 x2 x3 i h d).symm.trans (congrArg _ (funext fun a => Fin.ext ?_))
  match a with
  | ⟨0, _⟩ => show i.val = 0 + 1 * i.val; omega
  | ⟨1, _⟩ => show 128 * h.val + d.val = 128 * h.val + 1 * d.val; omega

set_option maxHeartbeats 4000000 in
/-- The body's four stores leave the four heads side by side. -/
theorem out_eq : out0_4 (F := Ideal) x0 x1 x2 x3 = oAll x0 x1 x2 x3 := by
  unfold out0_4
  funext y
  refine View.canon_apply_of_pieces _ _ ?_ y (cover0_4 _ _ _ _ y)
  simp only [View.ld_unit_zero (S := S256x512) hz, View.ld_unit_zero (S := S1x128) hz]
  intro p hp x
  simp only [List.mem_cons, List.not_mem_nil, or_false] at hp
  rcases hp with rfl | rfl | rfl | rfl
  · refine Eq.trans ?_ (oAll_rect x0 x1 x2 x3 384 inb_S256x512_S256x128_0_384 3 rfl x)
    unfold oHead
    rw [← slice_eq x0 384 slices_S256x512_o0_384_S256x128 3 rfl, ← ld_keys x1 384 inb_S256x1024_S256x128_0_384 3 rfl,
      ← ld_vals x1 896 inb_S256x1024_S256x128_0_896 3 rfl]
    rfl
  · refine Eq.trans ?_ (oAll_rect x0 x1 x2 x3 256 inb_S256x512_S256x128_0_256 2 rfl x)
    unfold oHead
    rw [← slice_eq x0 256 slices_S256x512_o0_256_S256x128 2 rfl, ← ld_keys x1 256 inb_S256x1024_S256x128_0_256 2 rfl,
      ← ld_vals x1 768 inb_S256x1024_S256x128_0_768 2 rfl]
    rfl
  · refine Eq.trans ?_ (oAll_rect x0 x1 x2 x3 128 inb_S256x512_S256x128_0_128 1 rfl x)
    unfold oHead
    rw [← slice_eq x0 128 slices_S256x512_o0_128_S256x128 1 rfl, ← ld_keys x1 128 inb_S256x1024_S256x128_0_128 1 rfl,
      ← ld_vals x1 640 inb_S256x1024_S256x128_0_640 1 rfl]
    rfl
  · refine Eq.trans ?_ (oAll_rect x0 x1 x2 x3 0 inb_S256x512_S256x128_0_0 0 rfl x)
    unfold oHead
    rw [← slice_eq x0 0 slices_S256x512_o0_0_S256x128 0 rfl, ← ld_keys x1 0 inb_S256x1024_S256x128_0_0 0 rfl,
      ← ld_vals x1 512 inb_S256x1024_S256x128_0_512 0 rfl]
    rfl

/-! ### The whole array -/

/-- The attention's rows as an array of the queries, the keys and values, and the two gains. -/
def attended (q : Shape.Idx ⟨2, ![2048, 512]⟩ → EReal) (kv : Shape.Idx ⟨2, ![256, 1024]⟩ → EReal) (gq gk : Shape.Idx ⟨2, ![1, 128]⟩ → EReal) :
    Shape.Idx ⟨2, ![2048, 512]⟩ → EReal := fun y =>
  have h : Fin 4 := ⟨(y 1).val / 128, by have : (y 1).val < 512 := (y 1).isLt; omega⟩
  rO (xr q (y 0) h) (kr kv h) (vr kv h) (gr gq) (gr gk) ⟨(y 1).val % 128, Nat.mod_lt _ (by decide)⟩

theorem attended_apply (q : Shape.Idx ⟨2, ![2048, 512]⟩ → EReal) (kv : Shape.Idx ⟨2, ![256, 1024]⟩ → EReal) (gq gk : Shape.Idx ⟨2, ![1, 128]⟩ → EReal)
    (s : Fin 2048) (h : Fin 4) (d : Fin 128) : attended q kv gq gk (ix2 s (col h d)) = rO (xr q s h) (kr kv h) (vr kv h) (gr gq) (gr gk) d := by
  have e1 : (⟨(col h d).val / 128, by have := (col h d).isLt; omega⟩ : Fin 4) = h := Fin.ext (by show (128 * h.val + d.val) / 128 = h.val; omega)
  have e2 : (⟨(col h d).val % 128, Nat.mod_lt _ (by decide)⟩ : Fin 128) = d := Fin.ext (by show (128 * h.val + d.val) % 128 = d.val; omega)
  show rO (xr q s ⟨(col h d).val / 128, _⟩) (kr kv ⟨(col h d).val / 128, _⟩) (vr kv ⟨(col h d).val / 128, _⟩) (gr gq) (gr gk) ⟨(col h d).val % 128, _⟩ = _
  rw [e1, e2]

theorem col_cases (k : Fin 512) : ∃ (h : Fin 4) (d : Fin 128), k = col h d :=
  ⟨⟨k.val / 128, by omega⟩, ⟨k.val % 128, by omega⟩, Fin.ext (by show k.val = 128 * (k.val / 128) + k.val % 128; omega)⟩

variable (m : (ℓ : Loc nD τ sig) → Buf (Elt Ideal) ℓ) (c : Dev nD)

abbrev G : S2048x512.Idx → EReal :=
  attended (m (c.tc.loc main_arg0)) (m (c.tc.loc main_arg1)) (m (c.tc.loc main_arg2)) (m (c.tc.loc main_arg3))

theorem idx : ∀ t : Fin cfg0.N, (win0_0.index t 0 = t.val ∧ win0_0.index t 1 = 0) ∧ (∀ a, win0_1.index t a = 0) ∧ (∀ a, win0_2.index t a = 0)
    ∧ (∀ a, win0_3.index t a = 0) ∧ win0_4.index t 0 = t.val ∧ win0_4.index t 1 = 0
    ∧ win0_4.size 0 = 256 ∧ win0_4.size 1 = 512 ∧ win0_4.xsize (grid0.coords t) 0 = 256 ∧ win0_4.xsize (grid0.coords t) 1 = 512 := by
  intro t; revert t; decide +kernel

theorem lt8 (t : Fin cfg0.N) : t.val < 8 := lt_of_lt_of_eq t.isLt N_0

theorem row_q (t : Fin cfg0.N) (h : Fin 4) (i : Fin 256) :
    row (colsOf (iblk m c 0 t) h) i = xr (m (c.tc.loc main_arg0)) (grow ⟨t.val, lt8 t⟩ i) h := by
  funext d
  refine (?_ : (iblk m c 0 t : FVec Ideal S256x512 .f32) (ix2 i (col h d)) = m (c.tc.loc main_arg0) (ix2 (grow ⟨t.val, lt8 t⟩ i) (col h d)))
  unfold iblk
  rw [View.read_apply]
  refine (congrFun (V_main_arg0 m c) _).trans (congrArg (m (c.tc.loc main_arg0)) (funext fun a => Fin.ext ?_))
  match a with
  | ⟨0, _⟩ => show win0_0.index t 0 * 256 + 1 * i.val = 256 * t.val + i.val; rw [(idx t).1.1]; omega
  | ⟨1, _⟩ => show win0_0.index t 1 * 512 + 1 * (col h d).val = (col h d).val; rw [(idx t).1.2]; omega

theorem iblk_kv (t : Fin cfg0.N) : (iblk m c 1 t : FVec Ideal S256x1024 .f32) = m (c.tc.loc main_arg1) := by
  funext y
  unfold iblk
  rw [View.read_apply]
  refine (congrFun (V_main_arg1 m c) _).trans (congrArg (m (c.tc.loc main_arg1)) (funext fun a => Fin.ext ?_))
  show win0_1.index t a * _ + 1 * (y a).val = (y a).val
  rw [(idx t).2.1]; omega

theorem iblk_gq (t : Fin cfg0.N) : (iblk m c 2 t : FVec Ideal S1x128 .f32) = m (c.tc.loc main_arg2) := by
  funext y
  unfold iblk
  rw [View.read_apply]
  refine (congrFun (V_main_arg2 m c) _).trans (congrArg (m (c.tc.loc main_arg2)) (funext fun a => Fin.ext ?_))
  show win0_2.index t a * _ + 1 * (y a).val = (y a).val
  rw [(idx t).2.2.1]; omega

theorem iblk_gk (t : Fin cfg0.N) : (iblk m c 3 t : FVec Ideal S1x128 .f32) = m (c.tc.loc main_arg3) := by
  funext y
  unfold iblk
  rw [View.read_apply]
  refine (congrFun (V_main_arg3 m c) _).trans (congrArg (m (c.tc.loc main_arg3)) (funext fun a => Fin.ext ?_))
  show win0_3.index t a * _ + 1 * (y a).val = (y a).val
  rw [(idx t).2.2.2.1]; omega

theorem flushed (t : Fin cfg0.N) : (dats m 0 c).flushed 4 t = ((cfg0.win 4).blk t).view.read (Elt Ideal) (G m c) := by
  rw [Value.flushed4, out_eq]
  funext j
  rw [View.read_apply]
  obtain ⟨i, k, rfl⟩ : ∃ (i : Fin 256) (k : Fin 512), j = ix2 i k := ⟨j 0, j 1, eq_ix2 j⟩
  obtain ⟨h, d, rfl⟩ := col_cases k
  refine (?_ : oAll (iblk m c 0 t) (iblk m c 1 t) (iblk m c 2 t) (iblk m c 3 t) (ix2 i (col h d)) = _)
  rw [oAll_apply, oHead, atHead_apply, row_q, iblk_kv, iblk_gq, iblk_gk]
  refine (attended_apply _ _ _ _ (grow ⟨t.val, lt8 t⟩ i) h d).symm.trans (congrArg (G m c) (funext fun a => Fin.ext ?_))
  match a with
  | ⟨0, _⟩ => show 256 * t.val + i.val = win0_4.index t 0 * 256 + 1 * i.val; rw [(idx t).2.2.2.2.1]; omega
  | ⟨1, _⟩ => show (col h d).val = win0_4.index t 1 * 512 + 1 * (col h d).val; rw [(idx t).2.2.2.2.2.1]; omega

theorem final : (dats m 0 c).arrAt 4 cfg0.N = G m c :=
  (dats m 0 c).arrAt_eq_of_cover 4 (G m c) (fun t _ => flushed m c t) fun i => by
    have h0 : (i 0 : Nat) < 2048 := (i 0).isLt
    have h1 : (i 1 : Nat) < 512 := (i 1).isLt
    let t : Fin cfg0.N := ⟨(i 0 : Nat) / 256, lt_of_lt_of_eq (by omega) N_0.symm⟩
    refine ⟨t, flush0_4 t, ?_⟩
    show i ∈ ((View.whole main_v0).slice (win0_4.rect t)).set
    rw [View.set_slice_whole, Rect.mem_set_unit]
    intro a
    obtain ⟨-, -, -, -, e0, e1, s0, s1, z0, z1⟩ := idx t
    have ht : t.val = (i 0 : Nat) / 256 := rfl
    match a with
    | ⟨0, _⟩ => show win0_4.index t 0 * win0_4.size 0 ≤ (i 0 : Nat) ∧ (i 0 : Nat) < win0_4.index t 0 * win0_4.size 0 + win0_4.xsize (grid0.coords t) 0
                rw [e0, s0, z0]; omega
    | ⟨1, _⟩ => show win0_4.index t 1 * win0_4.size 1 ≤ (i 1 : Nat) ∧ (i 1 : Nat) < win0_4.index t 1 * win0_4.size 1 + win0_4.xsize (grid0.coords t) 1
                rw [e1, s1, z1]; omega

/-! ### The reference -/

section Reference

open Cert.CrossFwdRefIdeal.Read

variable (q : S2048x512.Idx → EReal) (kv : S256x1024.Idx → EReal) (gq gk : S1x128.Idx → EReal)
variable (s : Fin 2048) (k : Fin 256) (h : Fin 4) (d : Fin 128)

theorem q_at : val_main_v17 (F := Ideal) q (ix3 s h d) = xr q s h d := by
  rw [val_main_v17_apply]
  refine congrArg q (funext fun a => Fin.ext ?_)
  match a with
  | ⟨0, _⟩ => show ((s.val * 4 + h.val) * 128 + d.val) / 512 = s.val; omega
  | ⟨1, _⟩ => show ((s.val * 4 + h.val) * 128 + d.val) % 512 = 128 * h.val + d.val; omega

theorem k_at : val_main_v1 (F := Ideal) kv (ix3 k h d) = kr kv h k d := by
  rw [val_main_v1_apply, val_main_v0_apply]
  refine congrArg kv (funext fun a => Fin.ext ?_)
  match a with
  | ⟨0, _⟩ => show ((k.val * 4 + h.val) * 128 + d.val) / 512 = k.val; omega
  | ⟨1, _⟩ => show ((k.val * 4 + h.val) * 128 + d.val) % 512 = 128 * h.val + d.val; omega

theorem v_at : val_main_v34 (F := Ideal) kv (ix3 k h d) = vr kv h k d := by
  rw [val_main_v34_apply, val_main_v16_apply]
  refine congrArg kv (funext fun a => Fin.ext ?_)
  match a with
  | ⟨0, _⟩ => show ((k.val * 4 + h.val) * 128 + d.val) / 512 = k.val; omega
  | ⟨1, _⟩ => show 512 + ((k.val * 4 + h.val) * 128 + d.val) % 512 = 512 + (128 * h.val + d.val); omega

theorem kn_at' : val_main_v14 (F := Ideal) kv gk (ix3 k h d) = rK (kr kv h k) (gr gk) d := by
  pointwise [val_main_v14, val_main_v13, val_main_v12, val_main_v11, val_main_v10,
    val_main_v9, val_main_v8, val_main_v7, val_main_v6, val_main_v5, val_main_v4, val_main_v3, val_main_v2, val_main_cst, val_main_cst_0, val_main_cst_1]
  simp only [k_at]
  rfl

/-- The normalised keys, through the two reshapes between the key's normalisation and the attention. -/
theorem kn_at : val_main_v33 (F := Ideal) kv gk (ix3 k h d) = rK (kr kv h k) (gr gk) d := by
  rw [val_main_v33_apply, val_main_v15_apply]
  refine Eq.trans (congrArg (val_main_v14 (F := Ideal) kv gk) (funext fun a => Fin.ext ?_)) (kn_at' kv gk k h d)
  match a with
  | ⟨0, _⟩ => show (((k.val * 4 + h.val) * 128 + d.val) / 512 * 512 + ((k.val * 4 + h.val) * 128 + d.val) % 512) / 512 = k.val; omega
  | ⟨1, _⟩ => show (((k.val * 4 + h.val) * 128 + d.val) / 512 * 512 + ((k.val * 4 + h.val) * 128 + d.val) % 512) / 128 % 4 = h.val; omega
  | ⟨2, _⟩ => show (((k.val * 4 + h.val) * 128 + d.val) / 512 * 512 + ((k.val * 4 + h.val) * 128 + d.val) % 512) % 128 = d.val; omega

theorem qn_at : val_main_v32 (F := Ideal) q gq (ix3 s h d) = rQ (xr q s h) (gr gq) d := by
  pointwise [val_main_v32, val_main_v31, val_main_v30, val_main_v29, val_main_v28, val_main_v27, val_main_v26, val_main_v25, val_main_v24, val_main_v23,
    val_main_v22, val_main_v21, val_main_v20, val_main_v19, val_main_v18, val_main_cst_2, val_main_cst_3, val_main_cst_4, val_main_cst_5]
  simp only [q_at]
  rfl

theorem s_at : val_main_v35 (F := Ideal) q kv gq gk (ix3 h s k) = aS q kv gq gk s h k := by
  pointwise [val_main_v35]
  simp only [qn_at, kn_at]
  rfl

theorem top_at : val_main_v38 (F := Ideal) q kv gq gk (ix2 h s) = rTop (aS q kv gq gk s h) := by
  have e : val_main_v36 (F := Ideal) q kv gq gk (ix2 h s) = rTop (aS q kv gq gk s h) := by
    pointwise [val_main_v36]
    simp only [s_at]
    rfl
  rw [val_main_v38_apply, e, val_main_v37_apply]
  exact max_bot _

theorem e_at : val_main_v42 (F := Ideal) q kv gq gk (ix3 h s k) = rE (aS q kv gq gk s h) k := by
  pointwise [val_main_v42, val_main_v41, val_main_v40, val_main_v39]
  rw [s_at, top_at]
  rfl

theorem p_at : val_main_v46 (F := Ideal) q kv gq gk (ix3 h s k) = rP (aS q kv gq gk s h) k := by
  pointwise [val_main_v46, val_main_v45, val_main_v44, val_main_v43, val_main_cst_8]
  simp only [e_at]
  rfl

theorem o_at : val_main_v48 (F := Ideal) q kv gq gk (ix3 s h d) = rO (xr q s h) (kr kv h) (vr kv h) (gr gq) (gr gk) d := by
  pointwise [val_main_v48, val_main_v47]
  simp only [p_at, v_at]
  exact Finset.sum_congr rfl fun k _ => mul_comm _ _

/-- The reference's rows, read off its operations. -/
theorem ref_at : val_main_v50 (F := Ideal) q kv gq gk = attended q kv gq gk := by
  funext i
  obtain ⟨s, k, rfl⟩ : ∃ (s : Fin 2048) (k : Fin 512), i = ix2 s k := ⟨i 0, i 1, eq_ix2 i⟩
  obtain ⟨h, d, rfl⟩ := col_cases k
  rw [attended_apply, ← o_at, val_main_v50_apply, val_main_v49_apply]
  refine congrArg (val_main_v48 (F := Ideal) q kv gq gk) (funext fun a => Fin.ext ?_)
  match a with
  | ⟨0, _⟩ => show (s.val * 512 + (128 * h.val + d.val)) / 512 = s.val; omega
  | ⟨1, _⟩ => show (s.val * 512 + (128 * h.val + d.val)) / 128 % 4 = h.val; omega
  | ⟨2, _⟩ => show (s.val * 512 + (128 * h.val + d.val)) % 128 = d.val; omega

end Reference

theorem algebraic : Cert.algebraic_CrossFwdIdeal_CrossFwdRefIdeal := by
  intro m g m' g' _ ha
  refine ⟨fun c => (dats m 0 c).arrAt 4 cfg0.N, Value.run_blocks m g,
    (θ_run CrossFwdRefIdeal.defs _ _).mono (fun r hr c => ?_) (CrossFwdRefIdeal.Value.run m' g')⟩
  obtain ⟨h0, hk⟩ := hr c
  obtain ⟨a0, a1, a2, a3⟩ := ha c
  refine ⟨h0.trans ?_, hk⟩
  rw [CrossFwdRefIdeal.Read.val_main_v50_eq, a0, a1, a2, a3]
  exact (ref_at ..).trans (final m c).symm

/-- The reference's run ends with its arguments kept and no counter raised. -/
theorem ref_frame : Cert.quiescent_CrossFwdRefIdeal := fun m ρ _ =>
  (θ_run CrossFwdRefIdeal.defs _ _).mono (fun r h => ⟨fun c => (h c).2, sem_eq_zero_of_no_sems (by decide) r.2⟩)
    (CrossFwdRefIdeal.Value.run m ρ)

end Cert.FwdCross
-- ==== Proof.BwdKeyNorm.lean ====
module

public import proofs.«01_k».proof.Defs
public import proofs.«01_k».proof.Proof.CrossRef
public import proofs.«01_k».proof.Proof.Gen.KeyNorm.Frame
public import proofs.«01_k».proof.Proof.Gen.KeyNormIdeal.Value
public import proofs.«01_k».proof.Proof.Gen.KeyNormRefIdeal.Run
public import proofs.«01_k».proof.Proof.Gen.KeyNormRefIdeal.Read
public import Idealize.ShloMosaic.Lib.Tactic

@[expose] public section

noncomputable section

/-! ## The gradient of the memory's keys and values, and of the keys' gain

The kernel is one point over the whole arrays: it carries each head's gradient back through the keys' normalisation, writes it
beside the values' gradient, and sums the gain's gradient over heads and rows. -/

namespace Cert.BwdKeyNorm

open Cert.KeyNormIdeal Cert.KeyNormIdeal.Gen Idealize.ShloMosaic Idealize.ShloMosaic.TcCoe Idealize.SL.Sem
open Cert.Cross (col colK colV colsOf keysOf ld_cols ld_keys row rN rR rM rDX fC fDX fDX_eq cNegHalf kr gr hz sum_two_axes)

/-! ### One head -/

theorem dx_apply (k : FVec Ideal S256x128 .f32) (g : FVec Ideal S1x128 .f32) (n : FVec Ideal S256x128 .f32) (i : Fin 256) (d : Fin 128) :
    k0_pay6 (F := Ideal) k g n (ix2 i d) = rDX (row k i) (fun d => row n i d * row g 0 d) d := by
  pointwise [k0_pay6, k0_pay5, k0_pay4]
  rfl

theorem dg_apply (k n : FVec Ideal S256x128 .f32) (d : Fin 128) :
    k0_pay22 (F := Ideal) k n (ix1 d) = ∑ i, row n i d * rN (row k i) d := by
  pointwise [k0_pay22, k0_pay20, k0_pay19]
  rfl

/-! ### The two results as arrays of the arguments -/

/-- Head `h`'s columns of a row of 512. -/
def hr (n : Shape.Idx ⟨2, ![256, 512]⟩ → EReal) (k : Fin 256) (h : Fin 4) : Fin 128 → EReal := fun d => n (ix2 k (col h d))

/-- The keys' gradient beside the values'. -/
def dkv (kv : Shape.Idx ⟨2, ![256, 1024]⟩ → EReal) (n v : Shape.Idx ⟨2, ![256, 512]⟩ → EReal) (g : Shape.Idx ⟨2, ![1, 128]⟩ → EReal) :
    Shape.Idx ⟨2, ![256, 1024]⟩ → EReal := fun y =>
  if hy : (y 1).val < 512 then
    have h : Fin 4 := ⟨(y 1).val / 128, by omega⟩
    rDX (kr kv h (y 0)) (fun d => hr n (y 0) h d * gr g d) ⟨(y 1).val % 128, Nat.mod_lt _ (by decide)⟩
  else v (ix2 (y 0) ⟨(y 1).val - 512, by have : (y 1).val < 1024 := (y 1).isLt; omega⟩)

/-- The gain's gradient. -/
def dgain (kv : Shape.Idx ⟨2, ![256, 1024]⟩ → EReal) (n : Shape.Idx ⟨2, ![256, 512]⟩ → EReal) : Shape.Idx ⟨2, ![1, 128]⟩ → EReal := fun y =>
  ∑ k, ∑ h, rN (kr kv h k) (y 1) * hr n k h (y 1)

section Columns

variable (kv : Shape.Idx ⟨2, ![256, 1024]⟩ → EReal) (n v : Shape.Idx ⟨2, ![256, 512]⟩ → EReal) (g : Shape.Idx ⟨2, ![1, 128]⟩ → EReal)

theorem dkv_key (k : Fin 256) (h : Fin 4) (d : Fin 128) :
    dkv kv n v g (ix2 k (colK h d)) = rDX (kr kv h k) (fun d => hr n k h d * gr g d) d := by
  have e1 : (⟨(colK h d).val / 128, by show (128 * h.val + d.val) / 128 < 4; omega⟩ : Fin 4) = h :=
    Fin.ext (by show (128 * h.val + d.val) / 128 = h.val; omega)
  have e2 : (⟨(colK h d).val % 128, Nat.mod_lt _ (by decide)⟩ : Fin 128) = d := Fin.ext (by show (128 * h.val + d.val) % 128 = d.val; omega)
  unfold dkv
  refine (dif_pos (show 128 * h.val + d.val < 512 by omega)).trans ?_
  show rDX (kr kv ⟨(colK h d).val / 128, _⟩ k) (fun b => hr n k ⟨(colK h d).val / 128, _⟩ b * gr g b) ⟨(colK h d).val % 128, _⟩ = _
  rw [e1, e2]

theorem dkv_value (k : Fin 256) (e : Fin 512) : dkv kv n v g (ix2 k ⟨512 + e.val, by omega⟩) = v (ix2 k e) := by
  unfold dkv
  refine (dif_neg (show ¬(512 + e.val < 512) by omega)).trans (congrArg v (funext fun a => Fin.ext ?_))
  match a with
  | ⟨0, _⟩ => rfl
  | ⟨1, _⟩ => show 512 + e.val - 512 = e.val; omega

/-- Every column is a key's or a value's. -/
theorem columns (i : Shape.Idx ⟨2, ![256, 1024]⟩) :
    (∃ (k : Fin 256) (h : Fin 4) (d : Fin 128), i = ix2 k (colK h d)) ∨ ∃ (k : Fin 256) (e : Fin 512), i = ix2 k ⟨512 + e.val, by omega⟩ := by
  have h1 : (i 1).val < 1024 := (i 1).isLt
  by_cases hy : (i 1).val < 512
  · refine Or.inl ⟨i 0, ⟨(i 1).val / 128, by omega⟩, ⟨(i 1).val % 128, by omega⟩, funext fun a => Fin.ext ?_⟩
    match a with
    | ⟨0, _⟩ => rfl
    | ⟨1, _⟩ => show (i 1).val = 128 * ((i 1).val / 128) + (i 1).val % 128; omega
  · refine Or.inr ⟨i 0, ⟨(i 1).val - 512, by omega⟩, funext fun a => Fin.ext ?_⟩
    match a with
    | ⟨0, _⟩ => rfl
    | ⟨1, _⟩ => show (i 1).val = 512 + ((i 1).val - 512); omega

/-- Every index of a gain is its row's. -/
theorem ix_row (i : Shape.Idx ⟨2, ![1, 128]⟩) : ∃ d : Fin 128, i = ix2 0 d := by
  refine ⟨i 1, funext fun a => Fin.ext ?_⟩
  match a with
  | ⟨0, _⟩ => have h0 : (i 0).val < 1 := (i 0).isLt; show (i 0).val = 0; omega
  | ⟨1, _⟩ => rfl

/-- A head's block is the keys' gradient at the head's columns. -/
theorem key_rect (o : Nat) (hs) (h : Fin 4) (ho : o = 128 * h) (x : S256x128.Idx) :
    k0_pay6 (F := Ideal) (keysOf (F := Ideal) kv h) g (colsOf (F := Ideal) n h) x = dkv kv n v g ((Rect.unit (s := S256x1024) ![0, o] ![256, 128] hs).emb x) := by
  subst ho
  obtain ⟨i, d, rfl⟩ : ∃ (i : Fin 256) (d : Fin 128), x = ix2 i d := ⟨x 0, x 1, eq_ix2 x⟩
  refine (dx_apply _ _ _ i d).trans ((dkv_key kv n v g i h d).symm.trans (congrArg (dkv kv n v g) (funext fun a => Fin.ext ?_)))
  match a with
  | ⟨0, _⟩ => show i.val = 0 + 1 * i.val; omega
  | ⟨1, _⟩ => show 128 * h.val + d.val = 128 * h.val + 1 * d.val; omega

theorem value_rect (hs) (x : S256x512.Idx) : v x = dkv kv n v g ((Rect.unit (s := S256x1024) ![0, 512] ![256, 512] hs).emb x) := by
  obtain ⟨i, e, rfl⟩ : ∃ (i : Fin 256) (e : Fin 512), x = ix2 i e := ⟨x 0, x 1, eq_ix2 x⟩
  refine (dkv_value kv n v g i e).symm.trans (congrArg (dkv kv n v g) (funext fun a => Fin.ext ?_))
  match a with
  | ⟨0, _⟩ => show i.val = 0 + 1 * i.val; omega
  | ⟨1, _⟩ => show 512 + e.val = 512 + 1 * e.val; omega

end Columns

/-! ### The one point -/

section Point

variable (c : Dev nD) (i : grid0.Coords)
  (a1 : Memref sig .tc .vmem S256x1024 .f32) (h1 : a1.IsWhole) (a2 : Memref sig .tc .vmem S256x512 .f32) (h2 : a2.IsWhole)
  (a3 : Memref sig .tc .vmem S256x512 .f32) (h3 : a3.IsWhole) (a4 : Memref sig .tc .vmem S1x128 .f32) (h4 : a4.IsWhole)
  (a5 : Memref sig .tc .vmem S256x1024 .bf16) (h5 : a5.IsWhole) (a6 : Memref sig .tc .vmem S1x128 .f32) (h6 : a6.IsWhole)
  (x0 : FVec Ideal S256x1024 .f32) (x1 x2 : FVec Ideal S256x512 .f32) (x3 : FVec Ideal S1x128 .f32)

set_option maxHeartbeats 4000000 in
theorem out_A4 : out0_A_4 (F := Ideal) c i a1 h1 a2 h2 a3 h3 a4 h4 a5 h5 a6 h6 x0 x1 x2 x3 = dkv x0 x1 x2 x3 := by
  unfold out0_A_4
  rw [View.read_writes_eq_canon _ _ _ (cover0_A_4 (F := Ideal) c i a1 h1 a2 h2 a3 h3 a4 h4 a5 h5 a6 h6 x0 x1 x2 x3)]
  funext y
  refine View.canon_apply_of_pieces _ _ ?_ y (cover0_A_4 (F := Ideal) c i a1 h1 a2 h2 a3 h3 a4 h4 a5 h5 a6 h6 x0 x1 x2 x3 y)
  unfold kernelRun0_A
  dsimp only
  sl_unfold_words
  simp only [View.readAt_eq_ld, h1.read_unread, h2.read_unread, h3.read_unread, h4.read_unread,
    View.ld_unit_zero (S := S256x512) hz, View.ld_unit_zero (S := S1x128) hz]
  intro p hp x
  simp only [List.mem_cons, List.not_mem_nil, or_false] at hp
  rcases hp with rfl | rfl | rfl | rfl | rfl
  · exact value_rect x0 x1 x2 x3 inb_S256x1024_S256x512_0_512 x
  · refine Eq.trans ?_ (key_rect x0 x1 x2 x3 384 inb_S256x1024_S256x128_0_384 3 rfl x)
    rw [← ld_keys x0 384 inb_S256x1024_S256x128_0_384 3 rfl, ← ld_cols x1 384 inb_S256x512_S256x128_0_384 3 rfl]
    rfl
  · refine Eq.trans ?_ (key_rect x0 x1 x2 x3 256 inb_S256x1024_S256x128_0_256 2 rfl x)
    rw [← ld_keys x0 256 inb_S256x1024_S256x128_0_256 2 rfl, ← ld_cols x1 256 inb_S256x512_S256x128_0_256 2 rfl]
    rfl
  · refine Eq.trans ?_ (key_rect x0 x1 x2 x3 128 inb_S256x1024_S256x128_0_128 1 rfl x)
    rw [← ld_keys x0 128 inb_S256x1024_S256x128_0_128 1 rfl, ← ld_cols x1 128 inb_S256x512_S256x128_0_128 1 rfl]
    rfl
  · refine Eq.trans ?_ (key_rect x0 x1 x2 x3 0 inb_S256x1024_S256x128_0_0 0 rfl x)
    rw [← ld_keys x0 0 inb_S256x1024_S256x128_0_0 0 rfl, ← ld_cols x1 0 inb_S256x512_S256x128_0_0 0 rfl]

/-- The four heads' sums, one added after the other. -/
def dgAll : FVec Ideal S1x128 .f32 :=
  have h (j : Fin 4) : FVec Ideal S1x128 .f32 := shapeCast S1x128 (k0_pay22 (F := Ideal) (keysOf x0 j) (colsOf x1 j)) shapeCasts_S128_S1x128
  addf (addf (addf (addf (broadcast S1x128 (Scalar.ofBits .f32 0x00000000#32)) (h 0)) (h 1)) (h 2)) (h 3)

theorem dgAll_eq : dgAll x0 x1 = dgain x0 x1 := by
  funext y
  obtain ⟨d, rfl⟩ : ∃ d : Fin 128, y = ix2 0 d := ix_row y
  pointwise [dgAll]
  simp only [dg_apply]
  show _ = ∑ k, ∑ h, rN (kr x0 h k) d * hr x1 k h d
  rw [Finset.sum_comm, Fin.sum_univ_four]
  have e : ∀ j : Fin 4, ∑ k, row (colsOf (F := Ideal) x1 j) k d * rN (row (keysOf (F := Ideal) x0 j) k) d = ∑ k, rN (kr x0 j k) d * hr x1 k j d :=
    fun j => Finset.sum_congr rfl fun k _ => mul_comm _ _
  rw [e, e, e, e]

set_option maxHeartbeats 4000000 in
theorem out_A5 : out0_A_5 (F := Ideal) c i a1 h1 a2 h2 a3 h3 a4 h4 a5 h5 a6 h6 x0 x1 x2 x3 = dgain x0 x1 := by
  rw [← dgAll_eq]
  unfold out0_A_5
  rw [View.read_writes_eq_canon _ _ _ (cover0_A_5 (F := Ideal) c i a1 h1 a2 h2 a3 h3 a4 h4 a5 h5 a6 h6 x0 x1 x2 x3)]
  unfold kernelRun0_A
  dsimp only
  sl_unfold_words
  rw [View.canon_unit_zero (S := S1x128) hz]
  simp only [View.readAt_eq_ld, h1.read_unread, h2.read_unread, h3.read_unread, h4.read_unread,
    View.ld_unit_zero (S := S256x512) hz, View.ld_unit_zero (S := S1x128) hz]
  simp only [ld_keys x0 0 _ 0 rfl, ld_keys x0 128 _ 1 rfl, ld_keys x0 256 _ 2 rfl, ld_keys x0 384 _ 3 rfl,
    ld_cols x1 0 _ 0 rfl, ld_cols x1 128 _ 1 rfl, ld_cols x1 256 _ 2 rfl, ld_cols x1 384 _ 3 rfl]
  unfold dgAll
  rfl

end Point

/-! ### The two arrays -/

variable (m : (ℓ : Loc nD τ sig) → Buf (Elt Ideal) ℓ) (c : Dev nD)

abbrev G4 : S256x1024.Idx → EReal :=
  dkv (m (c.tc.loc main_arg0)) (m (c.tc.loc main_arg1)) (m (c.tc.loc main_arg2)) (m (c.tc.loc main_arg3))
abbrev G5 : S1x128.Idx → EReal := dgain (m (c.tc.loc main_arg0)) (m (c.tc.loc main_arg1))

theorem idx (t : Fin cfg0.N) : (∀ a, win0_0.index t a = 0) ∧ (∀ a, win0_1.index t a = 0) ∧ (∀ a, win0_2.index t a = 0)
    ∧ (∀ a, win0_3.index t a = 0) ∧ (∀ a, win0_4.index t a = 0) ∧ ∀ a, win0_5.index t a = 0 := by revert t; decide +kernel

theorem blk0 (t : Fin cfg0.N) : (iblk m c 0 t : FVec Ideal S256x1024 .f32) = m (c.tc.loc main_arg0) := by
  funext y
  unfold iblk
  rw [View.read_apply]
  refine (congrFun (V_main_arg0 m c) _).trans (congrArg (m (c.tc.loc main_arg0)) (funext fun a => Fin.ext ?_))
  show win0_0.index t a * _ + 1 * (y a).val = (y a).val
  rw [(idx t).1]; omega

theorem blk1 (t : Fin cfg0.N) : (iblk m c 1 t : FVec Ideal S256x512 .f32) = m (c.tc.loc main_arg1) := by
  funext y
  unfold iblk
  rw [View.read_apply]
  refine (congrFun (V_main_arg1 m c) _).trans (congrArg (m (c.tc.loc main_arg1)) (funext fun a => Fin.ext ?_))
  show win0_1.index t a * _ + 1 * (y a).val = (y a).val
  rw [(idx t).2.1]; omega

theorem blk2 (t : Fin cfg0.N) : (iblk m c 2 t : FVec Ideal S256x512 .f32) = m (c.tc.loc main_arg2) := by
  funext y
  unfold iblk
  rw [View.read_apply]
  refine (congrFun (V_main_arg2 m c) _).trans (congrArg (m (c.tc.loc main_arg2)) (funext fun a => Fin.ext ?_))
  show win0_2.index t a * _ + 1 * (y a).val = (y a).val
  rw [(idx t).2.2.1]; omega

theorem blk3 (t : Fin cfg0.N) : (iblk m c 3 t : FVec Ideal S1x128 .f32) = m (c.tc.loc main_arg3) := by
  funext y
  unfold iblk
  rw [View.read_apply]
  refine (congrFun (V_main_arg3 m c) _).trans (congrArg (m (c.tc.loc main_arg3)) (funext fun a => Fin.ext ?_))
  show win0_3.index t a * _ + 1 * (y a).val = (y a).val
  rw [(idx t).2.2.2.1]; omega

theorem flushed4 (t : Fin cfg0.N) : (dats m 0 c).flushed 4 t = ((cfg0.win 4).blk t).view.read (Elt Ideal) (G4 m c) := by
  rw [Value.flushed4_A, out_A4]
  funext j
  rw [View.read_apply]
  refine (?_ : dkv (iblk m c 0 t) (iblk m c 1 t) (iblk m c 2 t) (iblk m c 3 t) j = _)
  rw [blk0, blk1, blk2, blk3]
  refine congrArg (G4 m c) (funext fun a => Fin.ext ?_)
  show (j a).val = win0_4.index t a * _ + 1 * (j a).val
  rw [(idx t).2.2.2.2.1]; omega

theorem flushed5 (t : Fin cfg0.N) : (dats m 0 c).flushed 5 t = ((cfg0.win 5).blk t).view.read (Elt Ideal) (G5 m c) := by
  rw [Value.flushed5_A, out_A5]
  funext j
  rw [View.read_apply]
  refine (?_ : dgain (iblk m c 0 t) (iblk m c 1 t) j = _)
  rw [blk0, blk1]
  refine congrArg (G5 m c) (funext fun a => Fin.ext ?_)
  show (j a).val = win0_5.index t a * _ + 1 * (j a).val
  rw [(idx t).2.2.2.2.2]; omega

theorem final4 : (dats m 0 c).arrAt 4 cfg0.N = G4 m c :=
  (dats m 0 c).arrAt_eq_of_cover 4 (G4 m c) (fun t _ => flushed4 m c t) fun i => by
    have h0 : (i 0 : Nat) < 256 := (i 0).isLt
    have h1 : (i 1 : Nat) < 1024 := (i 1).isLt
    let t : Fin cfg0.N := ⟨0, by decide⟩
    refine ⟨t, flush0_4 t, ?_⟩
    show i ∈ ((View.whole main_v0_0).slice (win0_4.rect t)).set
    rw [View.set_slice_whole, Rect.mem_set_unit]
    intro a
    match a with
    | ⟨0, _⟩ => show win0_4.index t 0 * win0_4.size 0 ≤ (i 0 : Nat) ∧ (i 0 : Nat) < win0_4.index t 0 * win0_4.size 0 + win0_4.xsize (grid0.coords t) 0
                rw [show win0_4.index t 0 * win0_4.size 0 = 0 from by decide +kernel, show win0_4.xsize (grid0.coords t) 0 = 256 from by decide +kernel]; omega
    | ⟨1, _⟩ => show win0_4.index t 1 * win0_4.size 1 ≤ (i 1 : Nat) ∧ (i 1 : Nat) < win0_4.index t 1 * win0_4.size 1 + win0_4.xsize (grid0.coords t) 1
                rw [show win0_4.index t 1 * win0_4.size 1 = 0 from by decide +kernel, show win0_4.xsize (grid0.coords t) 1 = 1024 from by decide +kernel]; omega

theorem final5 : (dats m 0 c).arrAt 5 cfg0.N = G5 m c :=
  (dats m 0 c).arrAt_eq_of_cover 5 (G5 m c) (fun t _ => flushed5 m c t) fun i => by
    have h0 : (i 0 : Nat) < 1 := (i 0).isLt
    have h1 : (i 1 : Nat) < 128 := (i 1).isLt
    let t : Fin cfg0.N := ⟨0, by decide⟩
    refine ⟨t, flush0_5 t, ?_⟩
    show i ∈ ((View.whole main_v0_1).slice (win0_5.rect t)).set
    rw [View.set_slice_whole, Rect.mem_set_unit]
    intro a
    match a with
    | ⟨0, _⟩ => show win0_5.index t 0 * win0_5.size 0 ≤ (i 0 : Nat) ∧ (i 0 : Nat) < win0_5.index t 0 * win0_5.size 0 + win0_5.xsize (grid0.coords t) 0
                rw [show win0_5.index t 0 * win0_5.size 0 = 0 from by decide +kernel, show win0_5.xsize (grid0.coords t) 0 = 1 from by decide +kernel]; omega
    | ⟨1, _⟩ => show win0_5.index t 1 * win0_5.size 1 ≤ (i 1 : Nat) ∧ (i 1 : Nat) < win0_5.index t 1 * win0_5.size 1 + win0_5.xsize (grid0.coords t) 1
                rw [show win0_5.index t 1 * win0_5.size 1 = 0 from by decide +kernel, show win0_5.xsize (grid0.coords t) 1 = 128 from by decide +kernel]; omega

/-! ### The reference -/

section Reference

open Cert.KeyNormRefIdeal.Read

variable (kv : S256x1024.Idx → EReal) (n v : S256x512.Idx → EReal) (g : S1x128.Idx → EReal)
variable (k : Fin 256) (h : Fin 4) (d : Fin 128)

theorem k_at : val_main_v1 (F := Ideal) kv (ix3 k h d) = kr kv h k d := by
  rw [val_main_v1_apply, val_main_v0_apply]
  refine congrArg kv (funext fun a => Fin.ext ?_)
  match a with
  | ⟨0, _⟩ => show ((k.val * 4 + h.val) * 128 + d.val) / 512 = k.val; omega
  | ⟨1, _⟩ => show ((k.val * 4 + h.val) * 128 + d.val) % 512 = 128 * h.val + d.val; omega

theorem n_at : val_main_v21 (F := Ideal) n (ix3 k h d) = hr n k h d := by
  rw [val_main_v21_apply]
  refine congrArg n (funext fun a => Fin.ext ?_)
  match a with
  | ⟨0, _⟩ => show ((k.val * 4 + h.val) * 128 + d.val) / 512 = k.val; omega
  | ⟨1, _⟩ => show ((k.val * 4 + h.val) * 128 + d.val) % 512 = 128 * h.val + d.val; omega

theorem m_at : val_main_v8 (F := Ideal) kv (ix3 k h 0) = rM (kr kv h k) := by
  pointwise [val_main_v8, val_main_v7, val_main_v6, val_main_v5, val_main_v4, val_main_v3, val_main_v2, val_main_cst, val_main_cst_0, val_main_cst_1]
  simp only [k_at]
  rfl

theorem r_at : val_main_v9 (F := Ideal) kv (ix3 k h 0) = rR (kr kv h k) := by
  pointwise [val_main_v9]
  rw [m_at]
  rfl

theorem half_at : val_main_v12 (F := Ideal) kv (ix3 k h 0) = cNegHalf * Ideal.div (rR (kr kv h k)) (rM (kr kv h k)) := by
  pointwise [val_main_v12, val_main_v11, val_main_v10, val_main_cst_2]
  rw [m_at, r_at]
  rfl

theorem nk_at : val_main_v14 (F := Ideal) kv (ix3 k h d) = rN (kr kv h k) d := by
  pointwise [val_main_v14, val_main_v13]
  rw [k_at, r_at]
  rfl

theorem dn_at : val_main_v26 (F := Ideal) n g (ix3 k h d) = hr n k h d * gr g d := by
  pointwise [val_main_v26, val_main_v25, val_main_v15]
  rw [n_at]
  rfl

theorem c_at : val_main_v36 (F := Ideal) kv n g (ix3 k h 0) = fC (kr kv h k) fun d => hr n k h d * gr g d := by
  pointwise [val_main_v36, val_main_v35, val_main_v34, val_main_v31, val_main_v30, val_main_v29, val_main_cst_6, val_main_cst_7]
  simp only [half_at, k_at, dn_at]
  rfl

/-- The keys' gradient. -/
theorem key_at : val_main_v43 (F := Ideal) kv n g (ix2 k (col h d)) = rDX (kr kv h k) (fun d => hr n k h d * gr g d) d := by
  rw [val_main_v43_apply, show idx_main_v43 (ix2 k (col h d)) = ix3 k h d from funext fun a => Fin.ext (by
    match a with
    | ⟨0, _⟩ => show (k.val * 512 + (128 * h.val + d.val)) / 512 = k.val; omega
    | ⟨1, _⟩ => show (k.val * 512 + (128 * h.val + d.val)) / 128 % 4 = h.val; omega
    | ⟨2, _⟩ => show (k.val * 512 + (128 * h.val + d.val)) % 128 = d.val; omega), ← fDX_eq]
  pointwise [val_main_v42, val_main_v41, val_main_v40, val_main_v39, val_main_v38, val_main_v37, val_main_v33, val_main_v32, val_main_cst_8]
  simp only [r_at, k_at, dn_at, c_at, Fin.sum_univ_one]
  rfl

/-- The gain's gradient. -/
theorem ref_dg : val_main_v28 (F := Ideal) kv n = dgain kv n := by
  funext y
  obtain ⟨d, rfl⟩ : ∃ d : Fin 128, y = ix2 0 d := ix_row y
  pointwise [val_main_v28, val_main_v27, val_main_cst_5]
  rw [sum_two_axes _ fun i => Shape.ReducesTo.drop_apply_val_of_eq _ i 0 2]
  pointwise [val_main_v24, val_main_v23, val_main_cst_4]
  rw [sum_two_axes _ fun i => Shape.ReducesTo.drop_apply_val_of_eq _ i 0 2]
  pointwise [val_main_v22]
  simp only [nk_at, n_at, Fin.sum_univ_one]
  rfl

/-- Zeros stand before the values' gradient at the keys' columns. -/
theorem left_key : val_main_v20 (F := Ideal) v (ix2 k (colK h d)) = Ideal.ofBits .f32 0x00000000#32 := by
  unfold val_main_v20 pad
  refine (dif_neg fun hin => ?_).trans rfl
  have h1 : 512 ≤ 128 * h.val + d.val := (hin 1).1
  omega

theorem left_value (e : Fin 512) : val_main_v20 (F := Ideal) v (ix2 k ⟨512 + e.val, by omega⟩) = v (ix2 k e) := by
  unfold val_main_v20 pad
  refine (dif_pos fun a => ?_).trans (congrArg v (funext fun a => Fin.ext ?_))
  · match a with
    | ⟨0, _⟩ => show 0 ≤ k.val ∧ (k.val - 0) % 1 = 0 ∧ (k.val - 0) / 1 < 256; omega
    | ⟨1, _⟩ => show 512 ≤ 512 + e.val ∧ (512 + e.val - 512) % 1 = 0 ∧ (512 + e.val - 512) / 1 < 512; omega
  · match a with
    | ⟨0, _⟩ => show (k.val - 0) / 1 = k.val; omega
    | ⟨1, _⟩ => show (512 + e.val - 512) / 1 = e.val; omega

/-- Zeros stand after the keys' gradient at the values' columns. -/
theorem right_key : val_main_v44 (F := Ideal) kv n g (ix2 k (colK h d)) = val_main_v43 (F := Ideal) kv n g (ix2 k (col h d)) := by
  unfold val_main_v44 pad
  refine (dif_pos fun a => ?_).trans (congrArg (val_main_v43 (F := Ideal) kv n g) (funext fun a => Fin.ext ?_))
  · match a with
    | ⟨0, _⟩ => show 0 ≤ k.val ∧ (k.val - 0) % 1 = 0 ∧ (k.val - 0) / 1 < 256; omega
    | ⟨1, _⟩ => show 0 ≤ 128 * h.val + d.val ∧ (128 * h.val + d.val - 0) % 1 = 0 ∧ (128 * h.val + d.val - 0) / 1 < 512; omega
  · match a with
    | ⟨0, _⟩ => show (k.val - 0) / 1 = k.val; omega
    | ⟨1, _⟩ => show (128 * h.val + d.val - 0) / 1 = 128 * h.val + d.val; omega

theorem right_value (e : Fin 512) : val_main_v44 (F := Ideal) kv n g (ix2 k ⟨512 + e.val, by omega⟩) = Ideal.ofBits .f32 0x00000000#32 := by
  unfold val_main_v44 pad
  refine (dif_neg fun hin => ?_).trans rfl
  have h1 : (512 + e.val - 0) / 1 < 512 := (hin 1).2.2
  omega

/-- The two gradients side by side. -/
theorem ref_dkv : val_main_v46 (F := Ideal) kv n v g = dkv kv n v g := by
  have hzero : Ideal.ofBits .f32 0x00000000#32 = 0 := by simp [Ideal.ofBits, Ideal.ieee]
  funext y
  rcases columns y with ⟨k, h, d, rfl⟩ | ⟨k, e, rfl⟩
  · rw [dkv_key, val_main_v46_apply, val_main_v45_apply, left_key, right_key, key_at, hzero]
    exact zero_add _
  · rw [dkv_value, val_main_v46_apply, val_main_v45_apply, left_value, right_value, hzero]
    exact add_zero _

end Reference

theorem algebraic : Cert.algebraic_KeyNormIdeal_KeyNormRefIdeal := by
  intro m g m' g' _ ha
  refine ⟨fun c => (dats m 0 c).arrAt 4 cfg0.N, fun c => (dats m 0 c).arrAt 5 cfg0.N, Value.run_blocks m g,
    (θ_run KeyNormRefIdeal.defs _ _).mono (fun r hr c => ?_) (KeyNormRefIdeal.Value.run m' g')⟩
  obtain ⟨h0, h1, hk⟩ := hr c
  obtain ⟨a0, a1, a2, a3⟩ := ha c
  refine ⟨h0.trans ?_, h1.trans ?_, hk⟩
  · rw [KeyNormRefIdeal.Read.val_main_v46_eq, a0, a1, a2, a3]; exact (ref_dkv ..).trans (final4 m c).symm
  · rw [KeyNormRefIdeal.Read.val_main_v28_eq, a0, a1]; exact (ref_dg ..).trans (final5 m c).symm

/-- The reference's run ends with its arguments kept and no counter raised. -/
theorem ref_frame : Cert.quiescent_KeyNormRefIdeal := fun m ρ _ =>
  (θ_run KeyNormRefIdeal.defs _ _).mono (fun r h => ⟨fun c => (h c).2.2, sem_eq_zero_of_no_sems (by decide) r.2⟩)
    (KeyNormRefIdeal.Value.run m ρ)

end Cert.BwdKeyNorm
-- ==== Proof.lean ====
module

public import proofs.«01_k».proof.Defs
public import proofs.«01_k».proof.Proof.CrossClaim
public import proofs.«01_k».proof.Proof.MmDownDx
public import proofs.«01_k».proof.Proof.MmDownDw
public import proofs.«01_k».proof.Proof.MmUpDx
public import proofs.«01_k».proof.Proof.MmUpDw
public import proofs.«01_k».proof.Proof.MmInDx
public import proofs.«01_k».proof.Proof.MmInDw
public import proofs.«01_k».proof.Proof.MmOutDx
public import proofs.«01_k».proof.Proof.MmOutDw
public import proofs.«01_k».proof.Proof.MmUp
public import proofs.«01_k».proof.Proof.MmDown
public import proofs.«01_k».proof.Proof.MmProjIn
public import proofs.«01_k».proof.Proof.MmProjOut
public import proofs.«01_k».proof.Proof.BwdNorm
public import proofs.«01_k».proof.Proof.BwdMlpNorm
public import proofs.«01_k».proof.Proof.MmCq
public import proofs.«01_k».proof.Proof.MmCkv
public import proofs.«01_k».proof.Proof.MmCo
public import proofs.«01_k».proof.Proof.MmCoDx
public import proofs.«01_k».proof.Proof.MmCoDw
public import proofs.«01_k».proof.Proof.MmCqDw
public import proofs.«01_k».proof.Proof.MmCqDx
public import proofs.«01_k».proof.Proof.MmCkvDw
public import proofs.«01_k».proof.Proof.MmCkvDx
public import proofs.«01_k».proof.Proof.FwdNorm
public import proofs.«01_k».proof.Proof.FwdMemNorm
public import proofs.«01_k».proof.Proof.BwdMemNorm
public import proofs.«01_k».proof.Proof.FwdCross
public import proofs.«01_k».proof.Proof.BwdKeyNorm
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.ProjIn
public import proofs.«01_k».proof.Proof.Gen.ProjIn.Frame
public import proofs.«01_k».proof.Proof.Gen.ProjInIdeal
public import proofs.«01_k».proof.Proof.Gen.ProjInIdeal.Frame
public import proofs.«01_k».proof.Proof.Gen.ProjOut
public import proofs.«01_k».proof.Proof.Gen.ProjOut.Frame
public import proofs.«01_k».proof.Proof.Gen.ProjOutIdeal
public import proofs.«01_k».proof.Proof.Gen.ProjOutIdeal.Frame
public import proofs.«01_k».proof.Proof.Gen.ReferenceIdeal
public import proofs.«01_k».proof.Proof.Gen.Pre_finite_gains
public import proofs.«01_k».proof.Proof.Gen.DownDxRefIdeal
public import proofs.«01_k».proof.Proof.Gen.DownDwRefIdeal
public import proofs.«01_k».proof.Proof.Gen.UpDxRefIdeal
public import proofs.«01_k».proof.Proof.Gen.UpDwRefIdeal
public import proofs.«01_k».proof.Proof.Gen.InDxRefIdeal
public import proofs.«01_k».proof.Proof.Gen.InDwRefIdeal
public import proofs.«01_k».proof.Proof.Gen.OutDxRefIdeal
public import proofs.«01_k».proof.Proof.Gen.OutDwRefIdeal
public import proofs.«01_k».proof.Proof.Gen.UpRefIdeal
public import proofs.«01_k».proof.Proof.Gen.DownRefIdeal
public import proofs.«01_k».proof.Proof.Gen.ProjInRefIdeal
public import proofs.«01_k».proof.Proof.Gen.ProjOutRefIdeal
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdRefIdeal
public import proofs.«01_k».proof.Proof.Gen.MlpNorm
public import proofs.«01_k».proof.Proof.Gen.MlpNorm.Frame
public import proofs.«01_k».proof.Proof.Gen.MlpNormIdeal
public import proofs.«01_k».proof.Proof.Gen.MlpNormIdeal.Frame
public import proofs.«01_k».proof.Proof.Gen.MlpNormRefIdeal
public import proofs.«01_k».proof.Proof.Gen.Cq
public import proofs.«01_k».proof.Proof.Gen.Cq.Frame
public import proofs.«01_k».proof.Proof.Gen.CqIdeal
public import proofs.«01_k».proof.Proof.Gen.CqIdeal.Frame
public import proofs.«01_k».proof.Proof.Gen.CqRefIdeal
public import proofs.«01_k».proof.Proof.Gen.Ckv
public import proofs.«01_k».proof.Proof.Gen.Ckv.Frame
public import proofs.«01_k».proof.Proof.Gen.CkvIdeal
public import proofs.«01_k».proof.Proof.Gen.CkvIdeal.Frame
public import proofs.«01_k».proof.Proof.Gen.CkvRefIdeal
public import proofs.«01_k».proof.Proof.Gen.Co
public import proofs.«01_k».proof.Proof.Gen.Co.Frame
public import proofs.«01_k».proof.Proof.Gen.CoIdeal
public import proofs.«01_k».proof.Proof.Gen.CoIdeal.Frame
public import proofs.«01_k».proof.Proof.Gen.CoRefIdeal
public import proofs.«01_k».proof.Proof.Gen.CoDx
public import proofs.«01_k».proof.Proof.Gen.CoDx.Frame
public import proofs.«01_k».proof.Proof.Gen.CoDxIdeal
public import proofs.«01_k».proof.Proof.Gen.CoDxIdeal.Frame
public import proofs.«01_k».proof.Proof.Gen.CoDxRefIdeal
public import proofs.«01_k».proof.Proof.Gen.CoDw
public import proofs.«01_k».proof.Proof.Gen.CoDw.Frame
public import proofs.«01_k».proof.Proof.Gen.CoDwIdeal
public import proofs.«01_k».proof.Proof.Gen.CoDwIdeal.Frame
public import proofs.«01_k».proof.Proof.Gen.CoDwRefIdeal
public import proofs.«01_k».proof.Proof.Gen.CqDw
public import proofs.«01_k».proof.Proof.Gen.CqDw.Frame
public import proofs.«01_k».proof.Proof.Gen.CqDwIdeal
public import proofs.«01_k».proof.Proof.Gen.CqDwIdeal.Frame
public import proofs.«01_k».proof.Proof.Gen.CqDwRefIdeal
public import proofs.«01_k».proof.Proof.Gen.CqDx
public import proofs.«01_k».proof.Proof.Gen.CqDx.Frame
public import proofs.«01_k».proof.Proof.Gen.CqDxIdeal
public import proofs.«01_k».proof.Proof.Gen.CqDxIdeal.Frame
public import proofs.«01_k».proof.Proof.Gen.CqDxRefIdeal
public import proofs.«01_k».proof.Proof.Gen.CkvDw
public import proofs.«01_k».proof.Proof.Gen.CkvDw.Frame
public import proofs.«01_k».proof.Proof.Gen.CkvDwIdeal
public import proofs.«01_k».proof.Proof.Gen.CkvDwIdeal.Frame
public import proofs.«01_k».proof.Proof.Gen.CkvDwRefIdeal
public import proofs.«01_k».proof.Proof.Gen.CkvDx
public import proofs.«01_k».proof.Proof.Gen.CkvDx.Frame
public import proofs.«01_k».proof.Proof.Gen.CkvDxIdeal
public import proofs.«01_k».proof.Proof.Gen.CkvDxIdeal.Frame
public import proofs.«01_k».proof.Proof.Gen.CkvDxRefIdeal
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.MemNorm
public import proofs.«01_k».proof.Proof.Gen.MemNorm.Frame
public import proofs.«01_k».proof.Proof.Gen.MemNormIdeal
public import proofs.«01_k».proof.Proof.Gen.MemNormIdeal.Frame
public import proofs.«01_k».proof.Proof.Gen.MemNormRefIdeal
public import proofs.«01_k».proof.Proof.Gen.MemNormBwd
public import proofs.«01_k».proof.Proof.Gen.MemNormBwd.Frame
public import proofs.«01_k».proof.Proof.Gen.MemNormBwdIdeal
public import proofs.«01_k».proof.Proof.Gen.MemNormBwdIdeal.Frame
public import proofs.«01_k».proof.Proof.Gen.MemNormBwdRefIdeal
public import proofs.«01_k».proof.Proof.Gen.CrossFwd
public import proofs.«01_k».proof.Proof.Gen.CrossFwd.Frame
public import proofs.«01_k».proof.Proof.Gen.CrossFwdIdeal
public import proofs.«01_k».proof.Proof.Gen.CrossFwdIdeal.Frame
public import proofs.«01_k».proof.Proof.Gen.CrossFwdRefIdeal
public import proofs.«01_k».proof.Proof.Gen.KeyNorm
public import proofs.«01_k».proof.Proof.Gen.KeyNorm.Frame
public import proofs.«01_k».proof.Proof.Gen.KeyNormIdeal
public import proofs.«01_k».proof.Proof.Gen.KeyNormIdeal.Frame
public import proofs.«01_k».proof.Proof.Gen.KeyNormRefIdeal

/-! The claims of the cross-attention's gradient, of the products and of the norms, put together. Each value claim is proved in the module
that bears its name; the frames of the kernels are the generated ones, those of the references come with their value claims. -/

@[expose] public section

theorem Cert.Proof.claim : Cert.Claim :=
  ⟨Cert.Kernel.Gen.facts, Cert.KernelIdeal.Gen.facts, Cert.ReferenceIdeal.Gen.facts,
   Cert.DownDx.Gen.facts, Cert.DownDxIdeal.Gen.facts, Cert.DownDxRefIdeal.Gen.facts,
   Cert.DownDw.Gen.facts, Cert.DownDwIdeal.Gen.facts, Cert.DownDwRefIdeal.Gen.facts,
   Cert.UpDx.Gen.facts, Cert.UpDxIdeal.Gen.facts, Cert.UpDxRefIdeal.Gen.facts,
   Cert.UpDw.Gen.facts, Cert.UpDwIdeal.Gen.facts, Cert.UpDwRefIdeal.Gen.facts,
   Cert.InDx.Gen.facts, Cert.InDxIdeal.Gen.facts, Cert.InDxRefIdeal.Gen.facts,
   Cert.InDw.Gen.facts, Cert.InDwIdeal.Gen.facts, Cert.InDwRefIdeal.Gen.facts,
   Cert.OutDx.Gen.facts, Cert.OutDxIdeal.Gen.facts, Cert.OutDxRefIdeal.Gen.facts,
   Cert.OutDw.Gen.facts, Cert.OutDwIdeal.Gen.facts, Cert.OutDwRefIdeal.Gen.facts,
   Cert.Up.Gen.facts, Cert.UpIdeal.Gen.facts, Cert.UpRefIdeal.Gen.facts,
   Cert.Down.Gen.facts, Cert.DownIdeal.Gen.facts, Cert.DownRefIdeal.Gen.facts,
   Cert.ProjIn.Gen.facts, Cert.ProjInIdeal.Gen.facts, Cert.ProjInRefIdeal.Gen.facts,
   Cert.ProjOut.Gen.facts, Cert.ProjOutIdeal.Gen.facts, Cert.ProjOutRefIdeal.Gen.facts,
   Cert.NormBwd.Gen.facts, Cert.NormBwdIdeal.Gen.facts, Cert.NormBwdRefIdeal.Gen.facts,
   Cert.MlpNorm.Gen.facts, Cert.MlpNormIdeal.Gen.facts, Cert.MlpNormRefIdeal.Gen.facts,
   Cert.Cq.Gen.facts, Cert.CqIdeal.Gen.facts, Cert.CqRefIdeal.Gen.facts,
   Cert.Ckv.Gen.facts, Cert.CkvIdeal.Gen.facts, Cert.CkvRefIdeal.Gen.facts,
   Cert.Co.Gen.facts, Cert.CoIdeal.Gen.facts, Cert.CoRefIdeal.Gen.facts,
   Cert.CoDx.Gen.facts, Cert.CoDxIdeal.Gen.facts, Cert.CoDxRefIdeal.Gen.facts,
   Cert.CoDw.Gen.facts, Cert.CoDwIdeal.Gen.facts, Cert.CoDwRefIdeal.Gen.facts,
   Cert.CqDw.Gen.facts, Cert.CqDwIdeal.Gen.facts, Cert.CqDwRefIdeal.Gen.facts,
   Cert.CqDx.Gen.facts, Cert.CqDxIdeal.Gen.facts, Cert.CqDxRefIdeal.Gen.facts,
   Cert.CkvDw.Gen.facts, Cert.CkvDwIdeal.Gen.facts, Cert.CkvDwRefIdeal.Gen.facts,
   Cert.CkvDx.Gen.facts, Cert.CkvDxIdeal.Gen.facts, Cert.CkvDxRefIdeal.Gen.facts,
   Cert.Norm.Gen.facts, Cert.NormIdeal.Gen.facts, Cert.NormRefIdeal.Gen.facts,
   Cert.MemNorm.Gen.facts, Cert.MemNormIdeal.Gen.facts, Cert.MemNormRefIdeal.Gen.facts,
   Cert.MemNormBwd.Gen.facts, Cert.MemNormBwdIdeal.Gen.facts, Cert.MemNormBwdRefIdeal.Gen.facts,
   Cert.CrossFwd.Gen.facts, Cert.CrossFwdIdeal.Gen.facts, Cert.CrossFwdRefIdeal.Gen.facts,
   Cert.KeyNorm.Gen.facts, Cert.KeyNormIdeal.Gen.facts, Cert.KeyNormRefIdeal.Gen.facts,
   Cert.Pre_finite_gains.Gen.facts,
   fun m ρ _ => Cert.Kernel.Gen.frame m ρ, fun m ρ _ => Cert.KernelIdeal.Gen.frame m ρ,
   fun m ρ _ => Cert.KernelIdeal.Gen.frame m ρ, Cert.Cross.ref_frame, fun m ρ _ => Cert.Cross.ref_frame m ρ trivial,
   fun m ρ _ => Cert.DownDx.Gen.frame m ρ, fun m ρ _ => Cert.DownDxIdeal.Gen.frame m ρ, Cert.MmDownDx.ref_frame,
   fun m ρ _ => Cert.DownDw.Gen.frame m ρ, fun m ρ _ => Cert.DownDwIdeal.Gen.frame m ρ, Cert.MmDownDw.ref_frame,
   fun m ρ _ => Cert.UpDx.Gen.frame m ρ, fun m ρ _ => Cert.UpDxIdeal.Gen.frame m ρ, Cert.MmUpDx.ref_frame,
   fun m ρ _ => Cert.UpDw.Gen.frame m ρ, fun m ρ _ => Cert.UpDwIdeal.Gen.frame m ρ, Cert.MmUpDw.ref_frame,
   fun m ρ _ => Cert.InDx.Gen.frame m ρ, fun m ρ _ => Cert.InDxIdeal.Gen.frame m ρ, Cert.MmInDx.ref_frame,
   fun m ρ _ => Cert.InDw.Gen.frame m ρ, fun m ρ _ => Cert.InDwIdeal.Gen.frame m ρ, Cert.MmInDw.ref_frame,
   fun m ρ _ => Cert.OutDx.Gen.frame m ρ, fun m ρ _ => Cert.OutDxIdeal.Gen.frame m ρ, Cert.MmOutDx.ref_frame,
   fun m ρ _ => Cert.OutDw.Gen.frame m ρ, fun m ρ _ => Cert.OutDwIdeal.Gen.frame m ρ, Cert.MmOutDw.ref_frame,
   fun m ρ _ => Cert.Up.Gen.frame m ρ, fun m ρ _ => Cert.UpIdeal.Gen.frame m ρ, Cert.MmUp.ref_frame,
   fun m ρ _ => Cert.Down.Gen.frame m ρ, fun m ρ _ => Cert.DownIdeal.Gen.frame m ρ, Cert.MmDown.ref_frame,
   fun m ρ _ => Cert.ProjIn.Gen.frame m ρ, fun m ρ _ => Cert.ProjInIdeal.Gen.frame m ρ, Cert.MmProjIn.ref_frame,
   fun m ρ _ => Cert.ProjOut.Gen.frame m ρ, fun m ρ _ => Cert.ProjOutIdeal.Gen.frame m ρ, Cert.MmProjOut.ref_frame,
   fun m ρ _ => Cert.NormBwd.Gen.frame m ρ, fun m ρ _ => Cert.NormBwdIdeal.Gen.frame m ρ, Cert.BwdNorm.ref_frame,
   fun m ρ _ => Cert.MlpNorm.Gen.frame m ρ, fun m ρ _ => Cert.MlpNormIdeal.Gen.frame m ρ, Cert.BwdMlpNorm.ref_frame,
   fun m ρ _ => Cert.Cq.Gen.frame m ρ, fun m ρ _ => Cert.CqIdeal.Gen.frame m ρ, Cert.MmCq.ref_frame,
   fun m ρ _ => Cert.Ckv.Gen.frame m ρ, fun m ρ _ => Cert.CkvIdeal.Gen.frame m ρ, Cert.MmCkv.ref_frame,
   fun m ρ _ => Cert.Co.Gen.frame m ρ, fun m ρ _ => Cert.CoIdeal.Gen.frame m ρ, Cert.MmCo.ref_frame,
   fun m ρ _ => Cert.CoDx.Gen.frame m ρ, fun m ρ _ => Cert.CoDxIdeal.Gen.frame m ρ, Cert.MmCoDx.ref_frame,
   fun m ρ _ => Cert.CoDw.Gen.frame m ρ, fun m ρ _ => Cert.CoDwIdeal.Gen.frame m ρ, Cert.MmCoDw.ref_frame,
   fun m ρ _ => Cert.CqDw.Gen.frame m ρ, fun m ρ _ => Cert.CqDwIdeal.Gen.frame m ρ, Cert.MmCqDw.ref_frame,
   fun m ρ _ => Cert.CqDx.Gen.frame m ρ, fun m ρ _ => Cert.CqDxIdeal.Gen.frame m ρ, Cert.MmCqDx.ref_frame,
   fun m ρ _ => Cert.CkvDw.Gen.frame m ρ, fun m ρ _ => Cert.CkvDwIdeal.Gen.frame m ρ, Cert.MmCkvDw.ref_frame,
   fun m ρ _ => Cert.CkvDx.Gen.frame m ρ, fun m ρ _ => Cert.CkvDxIdeal.Gen.frame m ρ, Cert.MmCkvDx.ref_frame,
   fun m ρ _ => Cert.Norm.Gen.frame m ρ, fun m ρ _ => Cert.NormIdeal.Gen.frame m ρ, Cert.FwdNorm.ref_frame,
   fun m ρ _ => Cert.MemNorm.Gen.frame m ρ, fun m ρ _ => Cert.MemNormIdeal.Gen.frame m ρ, Cert.FwdMemNorm.ref_frame,
   fun m ρ _ => Cert.MemNormBwd.Gen.frame m ρ, fun m ρ _ => Cert.MemNormBwdIdeal.Gen.frame m ρ, Cert.BwdMemNorm.ref_frame,
   fun m ρ _ => Cert.CrossFwd.Gen.frame m ρ, fun m ρ _ => Cert.CrossFwdIdeal.Gen.frame m ρ, Cert.FwdCross.ref_frame,
   fun m ρ _ => Cert.KeyNorm.Gen.frame m ρ, fun m ρ _ => Cert.KeyNormIdeal.Gen.frame m ρ, Cert.BwdKeyNorm.ref_frame,
   trivial, Cert.Cross.algebraic,
   trivial, Cert.MmDownDx.algebraic,
   trivial, Cert.MmDownDw.algebraic,
   trivial, Cert.MmUpDx.algebraic,
   trivial, Cert.MmUpDw.algebraic,
   trivial, Cert.MmInDx.algebraic,
   trivial, Cert.MmInDw.algebraic,
   trivial, Cert.MmOutDx.algebraic,
   trivial, Cert.MmOutDw.algebraic,
   trivial, Cert.MmUp.algebraic,
   trivial, Cert.MmDown.algebraic,
   trivial, Cert.MmProjIn.algebraic,
   trivial, Cert.MmProjOut.algebraic,
   trivial, Cert.BwdNorm.algebraic,
   trivial, Cert.BwdMlpNorm.algebraic,
   trivial, Cert.MmCq.algebraic,
   trivial, Cert.MmCkv.algebraic,
   trivial, Cert.MmCo.algebraic,
   trivial, Cert.MmCoDx.algebraic,
   trivial, Cert.MmCoDw.algebraic,
   trivial, Cert.MmCqDw.algebraic,
   trivial, Cert.MmCqDx.algebraic,
   trivial, Cert.MmCkvDw.algebraic,
   trivial, Cert.MmCkvDx.algebraic,
   trivial, Cert.FwdNorm.algebraic,
   trivial, Cert.FwdMemNorm.algebraic,
   trivial, Cert.BwdMemNorm.algebraic,
   trivial, Cert.FwdCross.algebraic,
   trivial, Cert.BwdKeyNorm.algebraic⟩
